-- ==== Defs.lean ====
def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_RAttnIdeal (m : (ℓ : Loc Cert.RAttnIdeal.nD Cert.RAttnIdeal.τ Cert.RAttnIdeal.sig) → Buf (Elt Ideal) ℓ) : Prop :=
  True

def Pre_KRelu (m : (ℓ : Loc Cert.KRelu.nD Cert.KRelu.τ Cert.KRelu.sig) → Buf (Elt Bits) ℓ) : Prop :=
  True

def Pre_KReluIdeal (m : (ℓ : Loc Cert.KReluIdeal.nD Cert.KReluIdeal.τ Cert.KReluIdeal.sig) → Buf (Elt Ideal) ℓ) : Prop :=
  True

def Pre_RReluIdeal (m : (ℓ : Loc Cert.RReluIdeal.nD Cert.RReluIdeal.τ Cert.RReluIdeal.sig) → Buf (Elt Ideal) ℓ) : Prop :=
  True

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KAttnNorm (m : (ℓ : Loc Cert.KAttnNorm.nD Cert.KAttnNorm.τ Cert.KAttnNorm.sig) → Buf (Elt Bits) ℓ) : Prop :=
  True

def Pre_KAttnNormIdeal (m : (ℓ : Loc Cert.KAttnNormIdeal.nD Cert.KAttnNormIdeal.τ Cert.KAttnNormIdeal.sig) → Buf (Elt Ideal) ℓ) : Prop :=
  True

def Pre_RAttnNormIdeal (m : (ℓ : Loc Cert.RAttnNormIdeal.nD Cert.RAttnNormIdeal.τ Cert.RAttnNormIdeal.sig) → Buf (Elt Ideal) ℓ) : Prop :=
  True

def Pre_KNormOne (m : (ℓ : Loc Cert.KNormOne.nD Cert.KNormOne.τ Cert.KNormOne.sig) → Buf (Elt Bits) ℓ) : Prop :=
  True

def Pre_KNormOneIdeal (m : (ℓ : Loc Cert.KNormOneIdeal.nD Cert.KNormOneIdeal.τ Cert.KNormOneIdeal.sig) → Buf (Elt Ideal) ℓ) : Prop :=
  True

def Pre_RNormOneIdeal (m : (ℓ : Loc Cert.RNormOneIdeal.nD Cert.RNormOneIdeal.τ Cert.RNormOneIdeal.sig) → Buf (Elt Ideal) ℓ) : Prop :=
  True

def Pre_KNormTwo (m : (ℓ : Loc Cert.KNormTwo.nD Cert.KNormTwo.τ Cert.KNormTwo.sig) → Buf (Elt Bits) ℓ) : Prop :=
  True

def Pre_KNormTwoIdeal (m : (ℓ : Loc Cert.KNormTwoIdeal.nD Cert.KNormTwoIdeal.τ Cert.KNormTwoIdeal.sig) → Buf (Elt Ideal) ℓ) : Prop :=
  True

def Pre_RNormTwoIdeal (m : (ℓ : Loc Cert.RNormTwoIdeal.nD Cert.RNormTwoIdeal.τ Cert.RNormTwoIdeal.sig) → Buf (Elt Ideal) ℓ) : Prop :=
  True

def Pre_KGlu (m : (ℓ : Loc Cert.KGlu.nD Cert.KGlu.τ Cert.KGlu.sig) → Buf (Elt Bits) ℓ) : Prop :=
  True

def Pre_KGluIdeal (m : (ℓ : Loc Cert.KGluIdeal.nD Cert.KGluIdeal.τ Cert.KGluIdeal.sig) → Buf (Elt Ideal) ℓ) : Prop :=
  True

def Pre_RGluIdeal (m : (ℓ : Loc Cert.RGluIdeal.nD Cert.RGluIdeal.τ Cert.RGluIdeal.sig) → Buf (Elt Ideal) ℓ) : Prop :=
  True

def Pre_KGelu (m : (ℓ : Loc Cert.KGelu.nD Cert.KGelu.τ Cert.KGelu.sig) → Buf (Elt Bits) ℓ) : Prop :=
  True

def Pre_KGeluIdeal (m : (ℓ : Loc Cert.KGeluIdeal.nD Cert.KGeluIdeal.τ Cert.KGeluIdeal.sig) → Buf (Elt Ideal) ℓ) : Prop :=
  True

def Pre_RGeluIdeal (m : (ℓ : Loc Cert.RGeluIdeal.nD Cert.RGeluIdeal.τ Cert.RGeluIdeal.sig) → Buf (Elt Ideal) ℓ) : Prop :=
  True

def Pre_KZoh (m : (ℓ : Loc Cert.KZoh.nD Cert.KZoh.τ Cert.KZoh.sig) → Buf (Elt Bits) ℓ) : Prop :=
  True

def Pre_KZohIdeal (m : (ℓ : Loc Cert.KZohIdeal.nD Cert.KZohIdeal.τ Cert.KZohIdeal.sig) → Buf (Elt Ideal) ℓ) : Prop :=
  True

def Pre_RZohIdeal (m : (ℓ : Loc Cert.RZohIdeal.nD Cert.RZohIdeal.τ Cert.RZohIdeal.sig) → Buf (Elt Ideal) ℓ) : Prop :=
  True

def Pre_KMlpIn (m : (ℓ : Loc Cert.KMlpIn.nD Cert.KMlpIn.τ Cert.KMlpIn.sig) → Buf (Elt Bits) ℓ) : Prop :=
  True

def Pre_KMlpInIdeal (m : (ℓ : Loc Cert.KMlpInIdeal.nD Cert.KMlpInIdeal.τ Cert.KMlpInIdeal.sig) → Buf (Elt Ideal) ℓ) : Prop :=
  True

def Pre_RMlpInIdeal (m : (ℓ : Loc Cert.RMlpInIdeal.nD Cert.RMlpInIdeal.τ Cert.RMlpInIdeal.sig) → Buf (Elt Ideal) ℓ) : Prop :=
  True

def Pre_KOutProj (m : (ℓ : Loc Cert.KOutProj.nD Cert.KOutProj.τ Cert.KOutProj.sig) → Buf (Elt Bits) ℓ) : Prop :=
  True

def Pre_KOutProjIdeal (m : (ℓ : Loc Cert.KOutProjIdeal.nD Cert.KOutProjIdeal.τ Cert.KOutProjIdeal.sig) → Buf (Elt Ideal) ℓ) : Prop :=
  True

def Pre_ROutProjIdeal (m : (ℓ : Loc Cert.ROutProjIdeal.nD Cert.ROutProjIdeal.τ Cert.ROutProjIdeal.sig) → Buf (Elt Ideal) ℓ) : Prop :=
  True

def Pre_KGluGate (m : (ℓ : Loc Cert.KGluGate.nD Cert.KGluGate.τ Cert.KGluGate.sig) → Buf (Elt Bits) ℓ) : Prop :=
  True

def Pre_KGluGateIdeal (m : (ℓ : Loc Cert.KGluGateIdeal.nD Cert.KGluGateIdeal.τ Cert.KGluGateIdeal.sig) → Buf (Elt Ideal) ℓ) : Prop :=
  True

def Pre_RGluGateIdeal (m : (ℓ : Loc Cert.RGluGateIdeal.nD Cert.RGluGateIdeal.τ Cert.RGluGateIdeal.sig) → Buf (Elt Ideal) ℓ) : Prop :=
  True

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KPrep (m : (ℓ : Loc Cert.KPrep.nD Cert.KPrep.τ Cert.KPrep.sig) → Buf (Elt Bits) ℓ) : Prop :=
  True

def Pre_KPrepIdeal (m : (ℓ : Loc Cert.KPrepIdeal.nD Cert.KPrepIdeal.τ Cert.KPrepIdeal.sig) → Buf (Elt Ideal) ℓ) : Prop :=
  True

def Pre_RPrepIdeal (m : (ℓ : Loc Cert.RPrepIdeal.nD Cert.RPrepIdeal.τ Cert.RPrepIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_KProjIdeal_finite [hPre_finite : Cert.Pre_finite.Facts] (m : (ℓ : Loc Cert.KProjIdeal.nD Cert.KProjIdeal.τ Cert.KProjIdeal.sig) → Buf (Elt Ideal) ℓ) : Prop :=
  ∀ c : Dev Cert.KProjIdeal.nD,
    (Cert.Pre_finite.fn (F := Ideal) (m ((c.tc : Thread Cert.KProjIdeal.nD Cert.KProjIdeal.τ).loc Cert.KProjIdeal.main_arg0)) (m ((c.tc : Thread Cert.KProjIdeal.nD Cert.KProjIdeal.τ).loc Cert.KProjIdeal.main_arg1)) (m ((c.tc : Thread Cert.KProjIdeal.nD Cert.KProjIdeal.τ).loc Cert.KProjIdeal.main_arg2)) (m ((c.tc : Thread Cert.KProjIdeal.nD Cert.KProjIdeal.τ).loc Cert.KProjIdeal.main_arg3)) (m ((c.tc : Thread Cert.KProjIdeal.nD Cert.KProjIdeal.τ).loc Cert.KProjIdeal.main_arg4))) = (fun _ => 1#1)

def Pre_RProjIdeal (m : (ℓ : Loc Cert.RProjIdeal.nD Cert.RProjIdeal.τ Cert.RProjIdeal.sig) → Buf (Elt Ideal) ℓ) : Prop :=
  True

def Pre_RProjIdeal_finite [hPre_finite : Cert.Pre_finite.Facts] (m : (ℓ : Loc Cert.RProjIdeal.nD Cert.RProjIdeal.τ Cert.RProjIdeal.sig) → Buf (Elt Ideal) ℓ) : Prop :=
  ∀ c : Dev Cert.RProjIdeal.nD,
    (Cert.Pre_finite.fn (F := Ideal) (m ((c.tc : Thread Cert.RProjIdeal.nD Cert.RProjIdeal.τ).loc Cert.RProjIdeal.main_arg0)) (m ((c.tc : Thread Cert.RProjIdeal.nD Cert.RProjIdeal.τ).loc Cert.RProjIdeal.main_arg1)) (m ((c.tc : Thread Cert.RProjIdeal.nD Cert.RProjIdeal.τ).loc Cert.RProjIdeal.main_arg2)) (m ((c.tc : Thread Cert.RProjIdeal.nD Cert.RProjIdeal.τ).loc Cert.RProjIdeal.main_arg3)) (m ((c.tc : Thread Cert.RProjIdeal.nD Cert.RProjIdeal.τ).loc Cert.RProjIdeal.main_arg4))) = (fun _ => 1#1)

def Pre_KWeight (m : (ℓ : Loc Cert.KWeight.nD Cert.KWeight.τ Cert.KWeight.sig) → Buf (Elt Bits) ℓ) : Prop :=
  True

def Pre_KWeightIdeal (m : (ℓ : Loc Cert.KWeightIdeal.nD Cert.KWeightIdeal.τ Cert.KWeightIdeal.sig) → Buf (Elt Ideal) ℓ) : Prop :=
  True

def Pre_RWeightIdeal (m : (ℓ : Loc Cert.RWeightIdeal.nD Cert.RWeightIdeal.τ Cert.RWeightIdeal.sig) → Buf (Elt Ideal) ℓ) : Prop :=
  True

def Pre_KSmall (m : (ℓ : Loc Cert.KSmall.nD Cert.KSmall.τ Cert.KSmall.sig) → Buf (Elt Bits) ℓ) : Prop :=
  True

def Pre_KSmallIdeal (m : (ℓ : Loc Cert.KSmallIdeal.nD Cert.KSmallIdeal.τ Cert.KSmallIdeal.sig) → Buf (Elt Ideal) ℓ) : Prop :=
  True

def Pre_RSmallIdeal (m : (ℓ : Loc Cert.RSmallIdeal.nD Cert.RSmallIdeal.τ Cert.RSmallIdeal.sig) → Buf (Elt Ideal) ℓ) : Prop :=
  True

def Pre_KSsm (m : (ℓ : Loc Cert.KSsm.nD Cert.KSsm.τ Cert.KSsm.sig) → Buf (Elt Bits) ℓ) : Prop :=
  True

def Pre_KSsmIdeal (m : (ℓ : Loc Cert.KSsmIdeal.nD Cert.KSsmIdeal.τ Cert.KSsmIdeal.sig) → Buf (Elt Ideal) ℓ) : Prop :=
  True

def Pre_RSsmIdeal (m : (ℓ : Loc Cert.RSsmIdeal.nD Cert.RSsmIdeal.τ Cert.RSsmIdeal.sig) → Buf (Elt Ideal) ℓ) : Prop :=
  True

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3))
      ∧ r.2.sem = fun _ => 0)

def quiescent_KRelu [hKRelu : Cert.KRelu.Facts] : Prop :=
  ∀ (m : (ℓ : Loc Cert.KRelu.nD Cert.KRelu.τ Cert.KRelu.sig) → Buf (Elt Bits) ℓ) (g : Dev Cert.KRelu.nD → PrngReg), Pre_KRelu m →
    θ_run (Cert.KRelu.defs (F := Bits)) (onTc (τ := Cert.KRelu.τ) (Cert.KRelu.main (F := Bits))) ⟨m, fun _ => 0, g⟩ (fun r => (∀ c : Dev Cert.KRelu.nD,
      r.2.mem ((c.tc : Thread Cert.KRelu.nD Cert.KRelu.τ).loc Cert.KRelu.main_arg0) = m ((c.tc : Thread Cert.KRelu.nD Cert.KRelu.τ).loc Cert.KRelu.main_arg0)
      ∧ r.2.mem ((c.tc : Thread Cert.KRelu.nD Cert.KRelu.τ).loc Cert.KRelu.main_arg1) = m ((c.tc : Thread Cert.KRelu.nD Cert.KRelu.τ).loc Cert.KRelu.main_arg1)
      ∧ r.2.mem ((c.tc : Thread Cert.KRelu.nD Cert.KRelu.τ).loc Cert.KRelu.main_arg2) = m ((c.tc : Thread Cert.KRelu.nD Cert.KRelu.τ).loc Cert.KRelu.main_arg2))
      ∧ r.2.sem = fun _ => 0)

def quiescent_KReluIdeal [hKReluIdeal : Cert.KReluIdeal.Facts] : Prop :=
  ∀ (m : (ℓ : Loc Cert.KReluIdeal.nD Cert.KReluIdeal.τ Cert.KReluIdeal.sig) → Buf (Elt Ideal) ℓ) (g : Dev Cert.KReluIdeal.nD → PrngReg), Pre_KReluIdeal m →
    θ_run (Cert.KReluIdeal.defs (F := Ideal)) (onTc (τ := Cert.KReluIdeal.τ) (Cert.KReluIdeal.main (F := Ideal))) ⟨m, fun _ => 0, g⟩ (fun r => (∀ c : Dev Cert.KReluIdeal.nD,
      r.2.mem ((c.tc : Thread Cert.KReluIdeal.nD Cert.KReluIdeal.τ).loc Cert.KReluIdeal.main_arg0) = m ((c.tc : Thread Cert.KReluIdeal.nD Cert.KReluIdeal.τ).loc Cert.KReluIdeal.main_arg0)
      ∧ r.2.mem ((c.tc : Thread Cert.KReluIdeal.nD Cert.KReluIdeal.τ).loc Cert.KReluIdeal.main_arg1) = m ((c.tc : Thread Cert.KReluIdeal.nD Cert.KReluIdeal.τ).loc Cert.KReluIdeal.main_arg1)
      ∧ r.2.mem ((c.tc : Thread Cert.KReluIdeal.nD Cert.KReluIdeal.τ).loc Cert.KReluIdeal.main_arg2) = m ((c.tc : Thread Cert.KReluIdeal.nD Cert.KReluIdeal.τ).loc Cert.KReluIdeal.main_arg2))
      ∧ r.2.sem = fun _ => 0)

def quiescent_RReluIdeal [hRReluIdeal : Cert.RReluIdeal.Facts] : Prop :=
  ∀ (m : (ℓ : Loc Cert.RReluIdeal.nD Cert.RReluIdeal.τ Cert.RReluIdeal.sig) → Buf (Elt Ideal) ℓ) (g : Dev Cert.RReluIdeal.nD → PrngReg), Pre_RReluIdeal m →
    θ_run (Cert.RReluIdeal.defs (F := Ideal)) (onTc (τ := Cert.RReluIdeal.τ) (Cert.RReluIdeal.main (F := Ideal))) ⟨m, fun _ => 0, g⟩ (fun r => (∀ c : Dev Cert.RReluIdeal.nD,
      r.2.mem ((c.tc : Thread Cert.RReluIdeal.nD Cert.RReluIdeal.τ).loc Cert.RReluIdeal.main_arg0) = m ((c.tc : Thread Cert.RReluIdeal.nD Cert.RReluIdeal.τ).loc Cert.RReluIdeal.main_arg0)
      ∧ r.2.mem ((c.tc : Thread Cert.RReluIdeal.nD Cert.RReluIdeal.τ).loc Cert.RReluIdeal.main_arg1) = m ((c.tc : Thread Cert.RReluIdeal.nD Cert.RReluIdeal.τ).loc Cert.RReluIdeal.main_arg1)
      ∧ r.2.mem ((c.tc : Thread Cert.RReluIdeal.nD Cert.RReluIdeal.τ).loc Cert.RReluIdeal.main_arg2) = m ((c.tc : Thread Cert.RReluIdeal.nD Cert.RReluIdeal.τ).loc Cert.RReluIdeal.main_arg2))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2)
      ∧ r.2.mem ((c.tc : Thread Cert.KLoss.nD Cert.KLoss.τ).loc Cert.KLoss.main_arg3) = m ((c.tc : Thread Cert.KLoss.nD Cert.KLoss.τ).loc Cert.KLoss.main_arg3))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3))
      ∧ r.2.sem = fun _ => 0)

def quiescent_KAttnNorm [hKAttnNorm : Cert.KAttnNorm.Facts] : Prop :=
  ∀ (m : (ℓ : Loc Cert.KAttnNorm.nD Cert.KAttnNorm.τ Cert.KAttnNorm.sig) → Buf (Elt Bits) ℓ) (g : Dev Cert.KAttnNorm.nD → PrngReg), Pre_KAttnNorm m →
    θ_run (Cert.KAttnNorm.defs (F := Bits)) (onTc (τ := Cert.KAttnNorm.τ) (Cert.KAttnNorm.main (F := Bits))) ⟨m, fun _ => 0, g⟩ (fun r => (∀ c : Dev Cert.KAttnNorm.nD,
      r.2.mem ((c.tc : Thread Cert.KAttnNorm.nD Cert.KAttnNorm.τ).loc Cert.KAttnNorm.main_arg0) = m ((c.tc : Thread Cert.KAttnNorm.nD Cert.KAttnNorm.τ).loc Cert.KAttnNorm.main_arg0)
      ∧ r.2.mem ((c.tc : Thread Cert.KAttnNorm.nD Cert.KAttnNorm.τ).loc Cert.KAttnNorm.main_arg1) = m ((c.tc : Thread Cert.KAttnNorm.nD Cert.KAttnNorm.τ).loc Cert.KAttnNorm.main_arg1)
      ∧ r.2.mem ((c.tc : Thread Cert.KAttnNorm.nD Cert.KAttnNorm.τ).loc Cert.KAttnNorm.main_arg2) = m ((c.tc : Thread Cert.KAttnNorm.nD Cert.KAttnNorm.τ).loc Cert.KAttnNorm.main_arg2))
      ∧ r.2.sem = fun _ => 0)

def quiescent_KAttnNormIdeal [hKAttnNormIdeal : Cert.KAttnNormIdeal.Facts] : Prop :=
  ∀ (m : (ℓ : Loc Cert.KAttnNormIdeal.nD Cert.KAttnNormIdeal.τ Cert.KAttnNormIdeal.sig) → Buf (Elt Ideal) ℓ) (g : Dev Cert.KAttnNormIdeal.nD → PrngReg), Pre_KAttnNormIdeal m →
    θ_run (Cert.KAttnNormIdeal.defs (F := Ideal)) (onTc (τ := Cert.KAttnNormIdeal.τ) (Cert.KAttnNormIdeal.main (F := Ideal))) ⟨m, fun _ => 0, g⟩ (fun r => (∀ c : Dev Cert.KAttnNormIdeal.nD,
      r.2.mem ((c.tc : Thread Cert.KAttnNormIdeal.nD Cert.KAttnNormIdeal.τ).loc Cert.KAttnNormIdeal.main_arg0) = m ((c.tc : Thread Cert.KAttnNormIdeal.nD Cert.KAttnNormIdeal.τ).loc Cert.KAttnNormIdeal.main_arg0)
      ∧ r.2.mem ((c.tc : Thread Cert.KAttnNormIdeal.nD Cert.KAttnNormIdeal.τ).loc Cert.KAttnNormIdeal.main_arg1) = m ((c.tc : Thread Cert.KAttnNormIdeal.nD Cert.KAttnNormIdeal.τ).loc Cert.KAttnNormIdeal.main_arg1)
      ∧ r.2.mem ((c.tc : Thread Cert.KAttnNormIdeal.nD Cert.KAttnNormIdeal.τ).loc Cert.KAttnNormIdeal.main_arg2) = m ((c.tc : Thread Cert.KAttnNormIdeal.nD Cert.KAttnNormIdeal.τ).loc Cert.KAttnNormIdeal.main_arg2))
      ∧ r.2.sem = fun _ => 0)

def quiescent_RAttnNormIdeal [hRAttnNormIdeal : Cert.RAttnNormIdeal.Facts] : Prop :=
  ∀ (m : (ℓ : Loc Cert.RAttnNormIdeal.nD Cert.RAttnNormIdeal.τ Cert.RAttnNormIdeal.sig) → Buf (Elt Ideal) ℓ) (g : Dev Cert.RAttnNormIdeal.nD → PrngReg), Pre_RAttnNormIdeal m →
    θ_run (Cert.RAttnNormIdeal.defs (F := Ideal)) (onTc (τ := Cert.RAttnNormIdeal.τ) (Cert.RAttnNormIdeal.main (F := Ideal))) ⟨m, fun _ => 0, g⟩ (fun r => (∀ c : Dev Cert.RAttnNormIdeal.nD,
      r.2.mem ((c.tc : Thread Cert.RAttnNormIdeal.nD Cert.RAttnNormIdeal.τ).loc Cert.RAttnNormIdeal.main_arg0) = m ((c.tc : Thread Cert.RAttnNormIdeal.nD Cert.RAttnNormIdeal.τ).loc Cert.RAttnNormIdeal.main_arg0)
      ∧ r.2.mem ((c.tc : Thread Cert.RAttnNormIdeal.nD Cert.RAttnNormIdeal.τ).loc Cert.RAttnNormIdeal.main_arg1) = m ((c.tc : Thread Cert.RAttnNormIdeal.nD Cert.RAttnNormIdeal.τ).loc Cert.RAttnNormIdeal.main_arg1)
      ∧ r.2.mem ((c.tc : Thread Cert.RAttnNormIdeal.nD Cert.RAttnNormIdeal.τ).loc Cert.RAttnNormIdeal.main_arg2) = m ((c.tc : Thread Cert.RAttnNormIdeal.nD Cert.RAttnNormIdeal.τ).loc Cert.RAttnNormIdeal.main_arg2))
      ∧ r.2.sem = fun _ => 0)

def quiescent_KNormOne [hKNormOne : Cert.KNormOne.Facts] : Prop :=
  ∀ (m : (ℓ : Loc Cert.KNormOne.nD Cert.KNormOne.τ Cert.KNormOne.sig) → Buf (Elt Bits) ℓ) (g : Dev Cert.KNormOne.nD → PrngReg), Pre_KNormOne m →
    θ_run (Cert.KNormOne.defs (F := Bits)) (onTc (τ := Cert.KNormOne.τ) (Cert.KNormOne.main (F := Bits))) ⟨m, fun _ => 0, g⟩ (fun r => (∀ c : Dev Cert.KNormOne.nD,
      r.2.mem ((c.tc : Thread Cert.KNormOne.nD Cert.KNormOne.τ).loc Cert.KNormOne.main_arg0) = m ((c.tc : Thread Cert.KNormOne.nD Cert.KNormOne.τ).loc Cert.KNormOne.main_arg0)
      ∧ r.2.mem ((c.tc : Thread Cert.KNormOne.nD Cert.KNormOne.τ).loc Cert.KNormOne.main_arg1) = m ((c.tc : Thread Cert.KNormOne.nD Cert.KNormOne.τ).loc Cert.KNormOne.main_arg1)
      ∧ r.2.mem ((c.tc : Thread Cert.KNormOne.nD Cert.KNormOne.τ).loc Cert.KNormOne.main_arg2) = m ((c.tc : Thread Cert.KNormOne.nD Cert.KNormOne.τ).loc Cert.KNormOne.main_arg2)
      ∧ r.2.mem ((c.tc : Thread Cert.KNormOne.nD Cert.KNormOne.τ).loc Cert.KNormOne.main_arg3) = m ((c.tc : Thread Cert.KNormOne.nD Cert.KNormOne.τ).loc Cert.KNormOne.main_arg3)
      ∧ r.2.mem ((c.tc : Thread Cert.KNormOne.nD Cert.KNormOne.τ).loc Cert.KNormOne.main_arg4) = m ((c.tc : Thread Cert.KNormOne.nD Cert.KNormOne.τ).loc Cert.KNormOne.main_arg4))
      ∧ r.2.sem = fun _ => 0)

def quiescent_KNormOneIdeal [hKNormOneIdeal : Cert.KNormOneIdeal.Facts] : Prop :=
  ∀ (m : (ℓ : Loc Cert.KNormOneIdeal.nD Cert.KNormOneIdeal.τ Cert.KNormOneIdeal.sig) → Buf (Elt Ideal) ℓ) (g : Dev Cert.KNormOneIdeal.nD → PrngReg), Pre_KNormOneIdeal m →
    θ_run (Cert.KNormOneIdeal.defs (F := Ideal)) (onTc (τ := Cert.KNormOneIdeal.τ) (Cert.KNormOneIdeal.main (F := Ideal))) ⟨m, fun _ => 0, g⟩ (fun r => (∀ c : Dev Cert.KNormOneIdeal.nD,
      r.2.mem ((c.tc : Thread Cert.KNormOneIdeal.nD Cert.KNormOneIdeal.τ).loc Cert.KNormOneIdeal.main_arg0) = m ((c.tc : Thread Cert.KNormOneIdeal.nD Cert.KNormOneIdeal.τ).loc Cert.KNormOneIdeal.main_arg0)
      ∧ r.2.mem ((c.tc : Thread Cert.KNormOneIdeal.nD Cert.KNormOneIdeal.τ).loc Cert.KNormOneIdeal.main_arg1) = m ((c.tc : Thread Cert.KNormOneIdeal.nD Cert.KNormOneIdeal.τ).loc Cert.KNormOneIdeal.main_arg1)
      ∧ r.2.mem ((c.tc : Thread Cert.KNormOneIdeal.nD Cert.KNormOneIdeal.τ).loc Cert.KNormOneIdeal.main_arg2) = m ((c.tc : Thread Cert.KNormOneIdeal.nD Cert.KNormOneIdeal.τ).loc Cert.KNormOneIdeal.main_arg2)
      ∧ r.2.mem ((c.tc : Thread Cert.KNormOneIdeal.nD Cert.KNormOneIdeal.τ).loc Cert.KNormOneIdeal.main_arg3) = m ((c.tc : Thread Cert.KNormOneIdeal.nD Cert.KNormOneIdeal.τ).loc Cert.KNormOneIdeal.main_arg3)
      ∧ r.2.mem ((c.tc : Thread Cert.KNormOneIdeal.nD Cert.KNormOneIdeal.τ).loc Cert.KNormOneIdeal.main_arg4) = m ((c.tc : Thread Cert.KNormOneIdeal.nD Cert.KNormOneIdeal.τ).loc Cert.KNormOneIdeal.main_arg4))
      ∧ r.2.sem = fun _ => 0)

def quiescent_RNormOneIdeal [hRNormOneIdeal : Cert.RNormOneIdeal.Facts] : Prop :=
  ∀ (m : (ℓ : Loc Cert.RNormOneIdeal.nD Cert.RNormOneIdeal.τ Cert.RNormOneIdeal.sig) → Buf (Elt Ideal) ℓ) (g : Dev Cert.RNormOneIdeal.nD → PrngReg), Pre_RNormOneIdeal m →
    θ_run (Cert.RNormOneIdeal.defs (F := Ideal)) (onTc (τ := Cert.RNormOneIdeal.τ) (Cert.RNormOneIdeal.main (F := Ideal))) ⟨m, fun _ => 0, g⟩ (fun r => (∀ c : Dev Cert.RNormOneIdeal.nD,
      r.2.mem ((c.tc : Thread Cert.RNormOneIdeal.nD Cert.RNormOneIdeal.τ).loc Cert.RNormOneIdeal.main_arg0) = m ((c.tc : Thread Cert.RNormOneIdeal.nD Cert.RNormOneIdeal.τ).loc Cert.RNormOneIdeal.main_arg0)
      ∧ r.2.mem ((c.tc : Thread Cert.RNormOneIdeal.nD Cert.RNormOneIdeal.τ).loc Cert.RNormOneIdeal.main_arg1) = m ((c.tc : Thread Cert.RNormOneIdeal.nD Cert.RNormOneIdeal.τ).loc Cert.RNormOneIdeal.main_arg1)
      ∧ r.2.mem ((c.tc : Thread Cert.RNormOneIdeal.nD Cert.RNormOneIdeal.τ).loc Cert.RNormOneIdeal.main_arg2) = m ((c.tc : Thread Cert.RNormOneIdeal.nD Cert.RNormOneIdeal.τ).loc Cert.RNormOneIdeal.main_arg2)
      ∧ r.2.mem ((c.tc : Thread Cert.RNormOneIdeal.nD Cert.RNormOneIdeal.τ).loc Cert.RNormOneIdeal.main_arg3) = m ((c.tc : Thread Cert.RNormOneIdeal.nD Cert.RNormOneIdeal.τ).loc Cert.RNormOneIdeal.main_arg3)
      ∧ r.2.mem ((c.tc : Thread Cert.RNormOneIdeal.nD Cert.RNormOneIdeal.τ).loc Cert.RNormOneIdeal.main_arg4) = m ((c.tc : Thread Cert.RNormOneIdeal.nD Cert.RNormOneIdeal.τ).loc Cert.RNormOneIdeal.main_arg4))
      ∧ r.2.sem = fun _ => 0)

def quiescent_KNormTwo [hKNormTwo : Cert.KNormTwo.Facts] : Prop :=
  ∀ (m : (ℓ : Loc Cert.KNormTwo.nD Cert.KNormTwo.τ Cert.KNormTwo.sig) → Buf (Elt Bits) ℓ) (g : Dev Cert.KNormTwo.nD → PrngReg), Pre_KNormTwo m →
    θ_run (Cert.KNormTwo.defs (F := Bits)) (onTc (τ := Cert.KNormTwo.τ) (Cert.KNormTwo.main (F := Bits))) ⟨m, fun _ => 0, g⟩ (fun r => (∀ c : Dev Cert.KNormTwo.nD,
      r.2.mem ((c.tc : Thread Cert.KNormTwo.nD Cert.KNormTwo.τ).loc Cert.KNormTwo.main_arg0) = m ((c.tc : Thread Cert.KNormTwo.nD Cert.KNormTwo.τ).loc Cert.KNormTwo.main_arg0)
      ∧ r.2.mem ((c.tc : Thread Cert.KNormTwo.nD Cert.KNormTwo.τ).loc Cert.KNormTwo.main_arg1) = m ((c.tc : Thread Cert.KNormTwo.nD Cert.KNormTwo.τ).loc Cert.KNormTwo.main_arg1)
      ∧ r.2.mem ((c.tc : Thread Cert.KNormTwo.nD Cert.KNormTwo.τ).loc Cert.KNormTwo.main_arg2) = m ((c.tc : Thread Cert.KNormTwo.nD Cert.KNormTwo.τ).loc Cert.KNormTwo.main_arg2)
      ∧ r.2.mem ((c.tc : Thread Cert.KNormTwo.nD Cert.KNormTwo.τ).loc Cert.KNormTwo.main_arg3) = m ((c.tc : Thread Cert.KNormTwo.nD Cert.KNormTwo.τ).loc Cert.KNormTwo.main_arg3)
      ∧ r.2.mem ((c.tc : Thread Cert.KNormTwo.nD Cert.KNormTwo.τ).loc Cert.KNormTwo.main_arg4) = m ((c.tc : Thread Cert.KNormTwo.nD Cert.KNormTwo.τ).loc Cert.KNormTwo.main_arg4))
      ∧ r.2.sem = fun _ => 0)

def quiescent_KNormTwoIdeal [hKNormTwoIdeal : Cert.KNormTwoIdeal.Facts] : Prop :=
  ∀ (m : (ℓ : Loc Cert.KNormTwoIdeal.nD Cert.KNormTwoIdeal.τ Cert.KNormTwoIdeal.sig) → Buf (Elt Ideal) ℓ) (g : Dev Cert.KNormTwoIdeal.nD → PrngReg), Pre_KNormTwoIdeal m →
    θ_run (Cert.KNormTwoIdeal.defs (F := Ideal)) (onTc (τ := Cert.KNormTwoIdeal.τ) (Cert.KNormTwoIdeal.main (F := Ideal))) ⟨m, fun _ => 0, g⟩ (fun r => (∀ c : Dev Cert.KNormTwoIdeal.nD,
      r.2.mem ((c.tc : Thread Cert.KNormTwoIdeal.nD Cert.KNormTwoIdeal.τ).loc Cert.KNormTwoIdeal.main_arg0) = m ((c.tc : Thread Cert.KNormTwoIdeal.nD Cert.KNormTwoIdeal.τ).loc Cert.KNormTwoIdeal.main_arg0)
      ∧ r.2.mem ((c.tc : Thread Cert.KNormTwoIdeal.nD Cert.KNormTwoIdeal.τ).loc Cert.KNormTwoIdeal.main_arg1) = m ((c.tc : Thread Cert.KNormTwoIdeal.nD Cert.KNormTwoIdeal.τ).loc Cert.KNormTwoIdeal.main_arg1)
      ∧ r.2.mem ((c.tc : Thread Cert.KNormTwoIdeal.nD Cert.KNormTwoIdeal.τ).loc Cert.KNormTwoIdeal.main_arg2) = m ((c.tc : Thread Cert.KNormTwoIdeal.nD Cert.KNormTwoIdeal.τ).loc Cert.KNormTwoIdeal.main_arg2)
      ∧ r.2.mem ((c.tc : Thread Cert.KNormTwoIdeal.nD Cert.KNormTwoIdeal.τ).loc Cert.KNormTwoIdeal.main_arg3) = m ((c.tc : Thread Cert.KNormTwoIdeal.nD Cert.KNormTwoIdeal.τ).loc Cert.KNormTwoIdeal.main_arg3)
      ∧ r.2.mem ((c.tc : Thread Cert.KNormTwoIdeal.nD Cert.KNormTwoIdeal.τ).loc Cert.KNormTwoIdeal.main_arg4) = m ((c.tc : Thread Cert.KNormTwoIdeal.nD Cert.KNormTwoIdeal.τ).loc Cert.KNormTwoIdeal.main_arg4))
      ∧ r.2.sem = fun _ => 0)

def quiescent_RNormTwoIdeal [hRNormTwoIdeal : Cert.RNormTwoIdeal.Facts] : Prop :=
  ∀ (m : (ℓ : Loc Cert.RNormTwoIdeal.nD Cert.RNormTwoIdeal.τ Cert.RNormTwoIdeal.sig) → Buf (Elt Ideal) ℓ) (g : Dev Cert.RNormTwoIdeal.nD → PrngReg), Pre_RNormTwoIdeal m →
    θ_run (Cert.RNormTwoIdeal.defs (F := Ideal)) (onTc (τ := Cert.RNormTwoIdeal.τ) (Cert.RNormTwoIdeal.main (F := Ideal))) ⟨m, fun _ => 0, g⟩ (fun r => (∀ c : Dev Cert.RNormTwoIdeal.nD,
      r.2.mem ((c.tc : Thread Cert.RNormTwoIdeal.nD Cert.RNormTwoIdeal.τ).loc Cert.RNormTwoIdeal.main_arg0) = m ((c.tc : Thread Cert.RNormTwoIdeal.nD Cert.RNormTwoIdeal.τ).loc Cert.RNormTwoIdeal.main_arg0)
      ∧ r.2.mem ((c.tc : Thread Cert.RNormTwoIdeal.nD Cert.RNormTwoIdeal.τ).loc Cert.RNormTwoIdeal.main_arg1) = m ((c.tc : Thread Cert.RNormTwoIdeal.nD Cert.RNormTwoIdeal.τ).loc Cert.RNormTwoIdeal.main_arg1)
      ∧ r.2.mem ((c.tc : Thread Cert.RNormTwoIdeal.nD Cert.RNormTwoIdeal.τ).loc Cert.RNormTwoIdeal.main_arg2) = m ((c.tc : Thread Cert.RNormTwoIdeal.nD Cert.RNormTwoIdeal.τ).loc Cert.RNormTwoIdeal.main_arg2)
      ∧ r.2.mem ((c.tc : Thread Cert.RNormTwoIdeal.nD Cert.RNormTwoIdeal.τ).loc Cert.RNormTwoIdeal.main_arg3) = m ((c.tc : Thread Cert.RNormTwoIdeal.nD Cert.RNormTwoIdeal.τ).loc Cert.RNormTwoIdeal.main_arg3)
      ∧ r.2.mem ((c.tc : Thread Cert.RNormTwoIdeal.nD Cert.RNormTwoIdeal.τ).loc Cert.RNormTwoIdeal.main_arg4) = m ((c.tc : Thread Cert.RNormTwoIdeal.nD Cert.RNormTwoIdeal.τ).loc Cert.RNormTwoIdeal.main_arg4))
      ∧ r.2.sem = fun _ => 0)

def quiescent_KGlu [hKGlu : Cert.KGlu.Facts] : Prop :=
  ∀ (m : (ℓ : Loc Cert.KGlu.nD Cert.KGlu.τ Cert.KGlu.sig) → Buf (Elt Bits) ℓ) (g : Dev Cert.KGlu.nD → PrngReg), Pre_KGlu m →
    θ_run (Cert.KGlu.defs (F := Bits)) (onTc (τ := Cert.KGlu.τ) (Cert.KGlu.main (F := Bits))) ⟨m, fun _ => 0, g⟩ (fun r => (∀ c : Dev Cert.KGlu.nD,
      r.2.mem ((c.tc : Thread Cert.KGlu.nD Cert.KGlu.τ).loc Cert.KGlu.main_arg0) = m ((c.tc : Thread Cert.KGlu.nD Cert.KGlu.τ).loc Cert.KGlu.main_arg0)
      ∧ r.2.mem ((c.tc : Thread Cert.KGlu.nD Cert.KGlu.τ).loc Cert.KGlu.main_arg1) = m ((c.tc : Thread Cert.KGlu.nD Cert.KGlu.τ).loc Cert.KGlu.main_arg1)
      ∧ r.2.mem ((c.tc : Thread Cert.KGlu.nD Cert.KGlu.τ).loc Cert.KGlu.main_arg2) = m ((c.tc : Thread Cert.KGlu.nD Cert.KGlu.τ).loc Cert.KGlu.main_arg2)
      ∧ r.2.mem ((c.tc : Thread Cert.KGlu.nD Cert.KGlu.τ).loc Cert.KGlu.main_arg3) = m ((c.tc : Thread Cert.KGlu.nD Cert.KGlu.τ).loc Cert.KGlu.main_arg3)
      ∧ r.2.mem ((c.tc : Thread Cert.KGlu.nD Cert.KGlu.τ).loc Cert.KGlu.main_arg4) = m ((c.tc : Thread Cert.KGlu.nD Cert.KGlu.τ).loc Cert.KGlu.main_arg4))
      ∧ r.2.sem = fun _ => 0)

def quiescent_KGluIdeal [hKGluIdeal : Cert.KGluIdeal.Facts] : Prop :=
  ∀ (m : (ℓ : Loc Cert.KGluIdeal.nD Cert.KGluIdeal.τ Cert.KGluIdeal.sig) → Buf (Elt Ideal) ℓ) (g : Dev Cert.KGluIdeal.nD → PrngReg), Pre_KGluIdeal m →
    θ_run (Cert.KGluIdeal.defs (F := Ideal)) (onTc (τ := Cert.KGluIdeal.τ) (Cert.KGluIdeal.main (F := Ideal))) ⟨m, fun _ => 0, g⟩ (fun r => (∀ c : Dev Cert.KGluIdeal.nD,
      r.2.mem ((c.tc : Thread Cert.KGluIdeal.nD Cert.KGluIdeal.τ).loc Cert.KGluIdeal.main_arg0) = m ((c.tc : Thread Cert.KGluIdeal.nD Cert.KGluIdeal.τ).loc Cert.KGluIdeal.main_arg0)
      ∧ r.2.mem ((c.tc : Thread Cert.KGluIdeal.nD Cert.KGluIdeal.τ).loc Cert.KGluIdeal.main_arg1) = m ((c.tc : Thread Cert.KGluIdeal.nD Cert.KGluIdeal.τ).loc Cert.KGluIdeal.main_arg1)
      ∧ r.2.mem ((c.tc : Thread Cert.KGluIdeal.nD Cert.KGluIdeal.τ).loc Cert.KGluIdeal.main_arg2) = m ((c.tc : Thread Cert.KGluIdeal.nD Cert.KGluIdeal.τ).loc Cert.KGluIdeal.main_arg2)
      ∧ r.2.mem ((c.tc : Thread Cert.KGluIdeal.nD Cert.KGluIdeal.τ).loc Cert.KGluIdeal.main_arg3) = m ((c.tc : Thread Cert.KGluIdeal.nD Cert.KGluIdeal.τ).loc Cert.KGluIdeal.main_arg3)
      ∧ r.2.mem ((c.tc : Thread Cert.KGluIdeal.nD Cert.KGluIdeal.τ).loc Cert.KGluIdeal.main_arg4) = m ((c.tc : Thread Cert.KGluIdeal.nD Cert.KGluIdeal.τ).loc Cert.KGluIdeal.main_arg4))
      ∧ r.2.sem = fun _ => 0)

def quiescent_RGluIdeal [hRGluIdeal : Cert.RGluIdeal.Facts] : Prop :=
  ∀ (m : (ℓ : Loc Cert.RGluIdeal.nD Cert.RGluIdeal.τ Cert.RGluIdeal.sig) → Buf (Elt Ideal) ℓ) (g : Dev Cert.RGluIdeal.nD → PrngReg), Pre_RGluIdeal m →
    θ_run (Cert.RGluIdeal.defs (F := Ideal)) (onTc (τ := Cert.RGluIdeal.τ) (Cert.RGluIdeal.main (F := Ideal))) ⟨m, fun _ => 0, g⟩ (fun r => (∀ c : Dev Cert.RGluIdeal.nD,
      r.2.mem ((c.tc : Thread Cert.RGluIdeal.nD Cert.RGluIdeal.τ).loc Cert.RGluIdeal.main_arg0) = m ((c.tc : Thread Cert.RGluIdeal.nD Cert.RGluIdeal.τ).loc Cert.RGluIdeal.main_arg0)
      ∧ r.2.mem ((c.tc : Thread Cert.RGluIdeal.nD Cert.RGluIdeal.τ).loc Cert.RGluIdeal.main_arg1) = m ((c.tc : Thread Cert.RGluIdeal.nD Cert.RGluIdeal.τ).loc Cert.RGluIdeal.main_arg1)
      ∧ r.2.mem ((c.tc : Thread Cert.RGluIdeal.nD Cert.RGluIdeal.τ).loc Cert.RGluIdeal.main_arg2) = m ((c.tc : Thread Cert.RGluIdeal.nD Cert.RGluIdeal.τ).loc Cert.RGluIdeal.main_arg2)
      ∧ r.2.mem ((c.tc : Thread Cert.RGluIdeal.nD Cert.RGluIdeal.τ).loc Cert.RGluIdeal.main_arg3) = m ((c.tc : Thread Cert.RGluIdeal.nD Cert.RGluIdeal.τ).loc Cert.RGluIdeal.main_arg3)
      ∧ r.2.mem ((c.tc : Thread Cert.RGluIdeal.nD Cert.RGluIdeal.τ).loc Cert.RGluIdeal.main_arg4) = m ((c.tc : Thread Cert.RGluIdeal.nD Cert.RGluIdeal.τ).loc Cert.RGluIdeal.main_arg4))
      ∧ r.2.sem = fun _ => 0)

def quiescent_KGelu [hKGelu : Cert.KGelu.Facts] : Prop :=
  ∀ (m : (ℓ : Loc Cert.KGelu.nD Cert.KGelu.τ Cert.KGelu.sig) → Buf (Elt Bits) ℓ) (g : Dev Cert.KGelu.nD → PrngReg), Pre_KGelu m →
    θ_run (Cert.KGelu.defs (F := Bits)) (onTc (τ := Cert.KGelu.τ) (Cert.KGelu.main (F := Bits))) ⟨m, fun _ => 0, g⟩ (fun r => (∀ c : Dev Cert.KGelu.nD,
      r.2.mem ((c.tc : Thread Cert.KGelu.nD Cert.KGelu.τ).loc Cert.KGelu.main_arg0) = m ((c.tc : Thread Cert.KGelu.nD Cert.KGelu.τ).loc Cert.KGelu.main_arg0)
      ∧ r.2.mem ((c.tc : Thread Cert.KGelu.nD Cert.KGelu.τ).loc Cert.KGelu.main_arg1) = m ((c.tc : Thread Cert.KGelu.nD Cert.KGelu.τ).loc Cert.KGelu.main_arg1)
      ∧ r.2.mem ((c.tc : Thread Cert.KGelu.nD Cert.KGelu.τ).loc Cert.KGelu.main_arg2) = m ((c.tc : Thread Cert.KGelu.nD Cert.KGelu.τ).loc Cert.KGelu.main_arg2)
      ∧ r.2.mem ((c.tc : Thread Cert.KGelu.nD Cert.KGelu.τ).loc Cert.KGelu.main_arg3) = m ((c.tc : Thread Cert.KGelu.nD Cert.KGelu.τ).loc Cert.KGelu.main_arg3))
      ∧ r.2.sem = fun _ => 0)

def quiescent_KGeluIdeal [hKGeluIdeal : Cert.KGeluIdeal.Facts] : Prop :=
  ∀ (m : (ℓ : Loc Cert.KGeluIdeal.nD Cert.KGeluIdeal.τ Cert.KGeluIdeal.sig) → Buf (Elt Ideal) ℓ) (g : Dev Cert.KGeluIdeal.nD → PrngReg), Pre_KGeluIdeal m →
    θ_run (Cert.KGeluIdeal.defs (F := Ideal)) (onTc (τ := Cert.KGeluIdeal.τ) (Cert.KGeluIdeal.main (F := Ideal))) ⟨m, fun _ => 0, g⟩ (fun r => (∀ c : Dev Cert.KGeluIdeal.nD,
      r.2.mem ((c.tc : Thread Cert.KGeluIdeal.nD Cert.KGeluIdeal.τ).loc Cert.KGeluIdeal.main_arg0) = m ((c.tc : Thread Cert.KGeluIdeal.nD Cert.KGeluIdeal.τ).loc Cert.KGeluIdeal.main_arg0)
      ∧ r.2.mem ((c.tc : Thread Cert.KGeluIdeal.nD Cert.KGeluIdeal.τ).loc Cert.KGeluIdeal.main_arg1) = m ((c.tc : Thread Cert.KGeluIdeal.nD Cert.KGeluIdeal.τ).loc Cert.KGeluIdeal.main_arg1)
      ∧ r.2.mem ((c.tc : Thread Cert.KGeluIdeal.nD Cert.KGeluIdeal.τ).loc Cert.KGeluIdeal.main_arg2) = m ((c.tc : Thread Cert.KGeluIdeal.nD Cert.KGeluIdeal.τ).loc Cert.KGeluIdeal.main_arg2)
      ∧ r.2.mem ((c.tc : Thread Cert.KGeluIdeal.nD Cert.KGeluIdeal.τ).loc Cert.KGeluIdeal.main_arg3) = m ((c.tc : Thread Cert.KGeluIdeal.nD Cert.KGeluIdeal.τ).loc Cert.KGeluIdeal.main_arg3))
      ∧ r.2.sem = fun _ => 0)

def quiescent_RGeluIdeal [hRGeluIdeal : Cert.RGeluIdeal.Facts] : Prop :=
  ∀ (m : (ℓ : Loc Cert.RGeluIdeal.nD Cert.RGeluIdeal.τ Cert.RGeluIdeal.sig) → Buf (Elt Ideal) ℓ) (g : Dev Cert.RGeluIdeal.nD → PrngReg), Pre_RGeluIdeal m →
    θ_run (Cert.RGeluIdeal.defs (F := Ideal)) (onTc (τ := Cert.RGeluIdeal.τ) (Cert.RGeluIdeal.main (F := Ideal))) ⟨m, fun _ => 0, g⟩ (fun r => (∀ c : Dev Cert.RGeluIdeal.nD,
      r.2.mem ((c.tc : Thread Cert.RGeluIdeal.nD Cert.RGeluIdeal.τ).loc Cert.RGeluIdeal.main_arg0) = m ((c.tc : Thread Cert.RGeluIdeal.nD Cert.RGeluIdeal.τ).loc Cert.RGeluIdeal.main_arg0)
      ∧ r.2.mem ((c.tc : Thread Cert.RGeluIdeal.nD Cert.RGeluIdeal.τ).loc Cert.RGeluIdeal.main_arg1) = m ((c.tc : Thread Cert.RGeluIdeal.nD Cert.RGeluIdeal.τ).loc Cert.RGeluIdeal.main_arg1)
      ∧ r.2.mem ((c.tc : Thread Cert.RGeluIdeal.nD Cert.RGeluIdeal.τ).loc Cert.RGeluIdeal.main_arg2) = m ((c.tc : Thread Cert.RGeluIdeal.nD Cert.RGeluIdeal.τ).loc Cert.RGeluIdeal.main_arg2)
      ∧ r.2.mem ((c.tc : Thread Cert.RGeluIdeal.nD Cert.RGeluIdeal.τ).loc Cert.RGeluIdeal.main_arg3) = m ((c.tc : Thread Cert.RGeluIdeal.nD Cert.RGeluIdeal.τ).loc Cert.RGeluIdeal.main_arg3))
      ∧ r.2.sem = fun _ => 0)

def quiescent_KZoh [hKZoh : Cert.KZoh.Facts] : Prop :=
  ∀ (m : (ℓ : Loc Cert.KZoh.nD Cert.KZoh.τ Cert.KZoh.sig) → Buf (Elt Bits) ℓ) (g : Dev Cert.KZoh.nD → PrngReg), Pre_KZoh m →
    θ_run (Cert.KZoh.defs (F := Bits)) (onTc (τ := Cert.KZoh.τ) (Cert.KZoh.main (F := Bits))) ⟨m, fun _ => 0, g⟩ (fun r => (∀ c : Dev Cert.KZoh.nD,
      r.2.mem ((c.tc : Thread Cert.KZoh.nD Cert.KZoh.τ).loc Cert.KZoh.main_arg0) = m ((c.tc : Thread Cert.KZoh.nD Cert.KZoh.τ).loc Cert.KZoh.main_arg0)
      ∧ r.2.mem ((c.tc : Thread Cert.KZoh.nD Cert.KZoh.τ).loc Cert.KZoh.main_arg1) = m ((c.tc : Thread Cert.KZoh.nD Cert.KZoh.τ).loc Cert.KZoh.main_arg1)
      ∧ r.2.mem ((c.tc : Thread Cert.KZoh.nD Cert.KZoh.τ).loc Cert.KZoh.main_arg2) = m ((c.tc : Thread Cert.KZoh.nD Cert.KZoh.τ).loc Cert.KZoh.main_arg2)
      ∧ r.2.mem ((c.tc : Thread Cert.KZoh.nD Cert.KZoh.τ).loc Cert.KZoh.main_arg3) = m ((c.tc : Thread Cert.KZoh.nD Cert.KZoh.τ).loc Cert.KZoh.main_arg3)
      ∧ r.2.mem ((c.tc : Thread Cert.KZoh.nD Cert.KZoh.τ).loc Cert.KZoh.main_arg4) = m ((c.tc : Thread Cert.KZoh.nD Cert.KZoh.τ).loc Cert.KZoh.main_arg4)
      ∧ r.2.mem ((c.tc : Thread Cert.KZoh.nD Cert.KZoh.τ).loc Cert.KZoh.main_arg5) = m ((c.tc : Thread Cert.KZoh.nD Cert.KZoh.τ).loc Cert.KZoh.main_arg5)
      ∧ r.2.mem ((c.tc : Thread Cert.KZoh.nD Cert.KZoh.τ).loc Cert.KZoh.main_arg6) = m ((c.tc : Thread Cert.KZoh.nD Cert.KZoh.τ).loc Cert.KZoh.main_arg6)
      ∧ r.2.mem ((c.tc : Thread Cert.KZoh.nD Cert.KZoh.τ).loc Cert.KZoh.main_arg7) = m ((c.tc : Thread Cert.KZoh.nD Cert.KZoh.τ).loc Cert.KZoh.main_arg7)
      ∧ r.2.mem ((c.tc : Thread Cert.KZoh.nD Cert.KZoh.τ).loc Cert.KZoh.main_arg8) = m ((c.tc : Thread Cert.KZoh.nD Cert.KZoh.τ).loc Cert.KZoh.main_arg8))
      ∧ r.2.sem = fun _ => 0)

def quiescent_KZohIdeal [hKZohIdeal : Cert.KZohIdeal.Facts] : Prop :=
  ∀ (m : (ℓ : Loc Cert.KZohIdeal.nD Cert.KZohIdeal.τ Cert.KZohIdeal.sig) → Buf (Elt Ideal) ℓ) (g : Dev Cert.KZohIdeal.nD → PrngReg), Pre_KZohIdeal m →
    θ_run (Cert.KZohIdeal.defs (F := Ideal)) (onTc (τ := Cert.KZohIdeal.τ) (Cert.KZohIdeal.main (F := Ideal))) ⟨m, fun _ => 0, g⟩ (fun r => (∀ c : Dev Cert.KZohIdeal.nD,
      r.2.mem ((c.tc : Thread Cert.KZohIdeal.nD Cert.KZohIdeal.τ).loc Cert.KZohIdeal.main_arg0) = m ((c.tc : Thread Cert.KZohIdeal.nD Cert.KZohIdeal.τ).loc Cert.KZohIdeal.main_arg0)
      ∧ r.2.mem ((c.tc : Thread Cert.KZohIdeal.nD Cert.KZohIdeal.τ).loc Cert.KZohIdeal.main_arg1) = m ((c.tc : Thread Cert.KZohIdeal.nD Cert.KZohIdeal.τ).loc Cert.KZohIdeal.main_arg1)
      ∧ r.2.mem ((c.tc : Thread Cert.KZohIdeal.nD Cert.KZohIdeal.τ).loc Cert.KZohIdeal.main_arg2) = m ((c.tc : Thread Cert.KZohIdeal.nD Cert.KZohIdeal.τ).loc Cert.KZohIdeal.main_arg2)
      ∧ r.2.mem ((c.tc : Thread Cert.KZohIdeal.nD Cert.KZohIdeal.τ).loc Cert.KZohIdeal.main_arg3) = m ((c.tc : Thread Cert.KZohIdeal.nD Cert.KZohIdeal.τ).loc Cert.KZohIdeal.main_arg3)
      ∧ r.2.mem ((c.tc : Thread Cert.KZohIdeal.nD Cert.KZohIdeal.τ).loc Cert.KZohIdeal.main_arg4) = m ((c.tc : Thread Cert.KZohIdeal.nD Cert.KZohIdeal.τ).loc Cert.KZohIdeal.main_arg4)
      ∧ r.2.mem ((c.tc : Thread Cert.KZohIdeal.nD Cert.KZohIdeal.τ).loc Cert.KZohIdeal.main_arg5) = m ((c.tc : Thread Cert.KZohIdeal.nD Cert.KZohIdeal.τ).loc Cert.KZohIdeal.main_arg5)
      ∧ r.2.mem ((c.tc : Thread Cert.KZohIdeal.nD Cert.KZohIdeal.τ).loc Cert.KZohIdeal.main_arg6) = m ((c.tc : Thread Cert.KZohIdeal.nD Cert.KZohIdeal.τ).loc Cert.KZohIdeal.main_arg6)
      ∧ r.2.mem ((c.tc : Thread Cert.KZohIdeal.nD Cert.KZohIdeal.τ).loc Cert.KZohIdeal.main_arg7) = m ((c.tc : Thread Cert.KZohIdeal.nD Cert.KZohIdeal.τ).loc Cert.KZohIdeal.main_arg7)
      ∧ r.2.mem ((c.tc : Thread Cert.KZohIdeal.nD Cert.KZohIdeal.τ).loc Cert.KZohIdeal.main_arg8) = m ((c.tc : Thread Cert.KZohIdeal.nD Cert.KZohIdeal.τ).loc Cert.KZohIdeal.main_arg8))
      ∧ r.2.sem = fun _ => 0)

def quiescent_RZohIdeal [hRZohIdeal : Cert.RZohIdeal.Facts] : Prop :=
  ∀ (m : (ℓ : Loc Cert.RZohIdeal.nD Cert.RZohIdeal.τ Cert.RZohIdeal.sig) → Buf (Elt Ideal) ℓ) (g : Dev Cert.RZohIdeal.nD → PrngReg), Pre_RZohIdeal m →
    θ_run (Cert.RZohIdeal.defs (F := Ideal)) (onTc (τ := Cert.RZohIdeal.τ) (Cert.RZohIdeal.main (F := Ideal))) ⟨m, fun _ => 0, g⟩ (fun r => (∀ c : Dev Cert.RZohIdeal.nD,
      r.2.mem ((c.tc : Thread Cert.RZohIdeal.nD Cert.RZohIdeal.τ).loc Cert.RZohIdeal.main_arg0) = m ((c.tc : Thread Cert.RZohIdeal.nD Cert.RZohIdeal.τ).loc Cert.RZohIdeal.main_arg0)
      ∧ r.2.mem ((c.tc : Thread Cert.RZohIdeal.nD Cert.RZohIdeal.τ).loc Cert.RZohIdeal.main_arg1) = m ((c.tc : Thread Cert.RZohIdeal.nD Cert.RZohIdeal.τ).loc Cert.RZohIdeal.main_arg1)
      ∧ r.2.mem ((c.tc : Thread Cert.RZohIdeal.nD Cert.RZohIdeal.τ).loc Cert.RZohIdeal.main_arg2) = m ((c.tc : Thread Cert.RZohIdeal.nD Cert.RZohIdeal.τ).loc Cert.RZohIdeal.main_arg2)
      ∧ r.2.mem ((c.tc : Thread Cert.RZohIdeal.nD Cert.RZohIdeal.τ).loc Cert.RZohIdeal.main_arg3) = m ((c.tc : Thread Cert.RZohIdeal.nD Cert.RZohIdeal.τ).loc Cert.RZohIdeal.main_arg3)
      ∧ r.2.mem ((c.tc : Thread Cert.RZohIdeal.nD Cert.RZohIdeal.τ).loc Cert.RZohIdeal.main_arg4) = m ((c.tc : Thread Cert.RZohIdeal.nD Cert.RZohIdeal.τ).loc Cert.RZohIdeal.main_arg4)
      ∧ r.2.mem ((c.tc : Thread Cert.RZohIdeal.nD Cert.RZohIdeal.τ).loc Cert.RZohIdeal.main_arg5) = m ((c.tc : Thread Cert.RZohIdeal.nD Cert.RZohIdeal.τ).loc Cert.RZohIdeal.main_arg5)
      ∧ r.2.mem ((c.tc : Thread Cert.RZohIdeal.nD Cert.RZohIdeal.τ).loc Cert.RZohIdeal.main_arg6) = m ((c.tc : Thread Cert.RZohIdeal.nD Cert.RZohIdeal.τ).loc Cert.RZohIdeal.main_arg6)
      ∧ r.2.mem ((c.tc : Thread Cert.RZohIdeal.nD Cert.RZohIdeal.τ).loc Cert.RZohIdeal.main_arg7) = m ((c.tc : Thread Cert.RZohIdeal.nD Cert.RZohIdeal.τ).loc Cert.RZohIdeal.main_arg7)
      ∧ r.2.mem ((c.tc : Thread Cert.RZohIdeal.nD Cert.RZohIdeal.τ).loc Cert.RZohIdeal.main_arg8) = m ((c.tc : Thread Cert.RZohIdeal.nD Cert.RZohIdeal.τ).loc Cert.RZohIdeal.main_arg8))
      ∧ r.2.sem = fun _ => 0)

def quiescent_KMlpIn [hKMlpIn : Cert.KMlpIn.Facts] : Prop :=
  ∀ (m : (ℓ : Loc Cert.KMlpIn.nD Cert.KMlpIn.τ Cert.KMlpIn.sig) → Buf (Elt Bits) ℓ) (g : Dev Cert.KMlpIn.nD → PrngReg), Pre_KMlpIn m →
    θ_run (Cert.KMlpIn.defs (F := Bits)) (onTc (τ := Cert.KMlpIn.τ) (Cert.KMlpIn.main (F := Bits))) ⟨m, fun _ => 0, g⟩ (fun r => (∀ c : Dev Cert.KMlpIn.nD,
      r.2.mem ((c.tc : Thread Cert.KMlpIn.nD Cert.KMlpIn.τ).loc Cert.KMlpIn.main_arg0) = m ((c.tc : Thread Cert.KMlpIn.nD Cert.KMlpIn.τ).loc Cert.KMlpIn.main_arg0)
      ∧ r.2.mem ((c.tc : Thread Cert.KMlpIn.nD Cert.KMlpIn.τ).loc Cert.KMlpIn.main_arg1) = m ((c.tc : Thread Cert.KMlpIn.nD Cert.KMlpIn.τ).loc Cert.KMlpIn.main_arg1))
      ∧ r.2.sem = fun _ => 0)

def quiescent_KMlpInIdeal [hKMlpInIdeal : Cert.KMlpInIdeal.Facts] : Prop :=
  ∀ (m : (ℓ : Loc Cert.KMlpInIdeal.nD Cert.KMlpInIdeal.τ Cert.KMlpInIdeal.sig) → Buf (Elt Ideal) ℓ) (g : Dev Cert.KMlpInIdeal.nD → PrngReg), Pre_KMlpInIdeal m →
    θ_run (Cert.KMlpInIdeal.defs (F := Ideal)) (onTc (τ := Cert.KMlpInIdeal.τ) (Cert.KMlpInIdeal.main (F := Ideal))) ⟨m, fun _ => 0, g⟩ (fun r => (∀ c : Dev Cert.KMlpInIdeal.nD,
      r.2.mem ((c.tc : Thread Cert.KMlpInIdeal.nD Cert.KMlpInIdeal.τ).loc Cert.KMlpInIdeal.main_arg0) = m ((c.tc : Thread Cert.KMlpInIdeal.nD Cert.KMlpInIdeal.τ).loc Cert.KMlpInIdeal.main_arg0)
      ∧ r.2.mem ((c.tc : Thread Cert.KMlpInIdeal.nD Cert.KMlpInIdeal.τ).loc Cert.KMlpInIdeal.main_arg1) = m ((c.tc : Thread Cert.KMlpInIdeal.nD Cert.KMlpInIdeal.τ).loc Cert.KMlpInIdeal.main_arg1))
      ∧ r.2.sem = fun _ => 0)

def quiescent_RMlpInIdeal [hRMlpInIdeal : Cert.RMlpInIdeal.Facts] : Prop :=
  ∀ (m : (ℓ : Loc Cert.RMlpInIdeal.nD Cert.RMlpInIdeal.τ Cert.RMlpInIdeal.sig) → Buf (Elt Ideal) ℓ) (g : Dev Cert.RMlpInIdeal.nD → PrngReg), Pre_RMlpInIdeal m →
    θ_run (Cert.RMlpInIdeal.defs (F := Ideal)) (onTc (τ := Cert.RMlpInIdeal.τ) (Cert.RMlpInIdeal.main (F := Ideal))) ⟨m, fun _ => 0, g⟩ (fun r => (∀ c : Dev Cert.RMlpInIdeal.nD,
      r.2.mem ((c.tc : Thread Cert.RMlpInIdeal.nD Cert.RMlpInIdeal.τ).loc Cert.RMlpInIdeal.main_arg0) = m ((c.tc : Thread Cert.RMlpInIdeal.nD Cert.RMlpInIdeal.τ).loc Cert.RMlpInIdeal.main_arg0)
      ∧ r.2.mem ((c.tc : Thread Cert.RMlpInIdeal.nD Cert.RMlpInIdeal.τ).loc Cert.RMlpInIdeal.main_arg1) = m ((c.tc : Thread Cert.RMlpInIdeal.nD Cert.RMlpInIdeal.τ).loc Cert.RMlpInIdeal.main_arg1))
      ∧ r.2.sem = fun _ => 0)

def quiescent_KOutProj [hKOutProj : Cert.KOutProj.Facts] : Prop :=
  ∀ (m : (ℓ : Loc Cert.KOutProj.nD Cert.KOutProj.τ Cert.KOutProj.sig) → Buf (Elt Bits) ℓ) (g : Dev Cert.KOutProj.nD → PrngReg), Pre_KOutProj m →
    θ_run (Cert.KOutProj.defs (F := Bits)) (onTc (τ := Cert.KOutProj.τ) (Cert.KOutProj.main (F := Bits))) ⟨m, fun _ => 0, g⟩ (fun r => (∀ c : Dev Cert.KOutProj.nD,
      r.2.mem ((c.tc : Thread Cert.KOutProj.nD Cert.KOutProj.τ).loc Cert.KOutProj.main_arg0) = m ((c.tc : Thread Cert.KOutProj.nD Cert.KOutProj.τ).loc Cert.KOutProj.main_arg0)
      ∧ r.2.mem ((c.tc : Thread Cert.KOutProj.nD Cert.KOutProj.τ).loc Cert.KOutProj.main_arg1) = m ((c.tc : Thread Cert.KOutProj.nD Cert.KOutProj.τ).loc Cert.KOutProj.main_arg1)
      ∧ r.2.mem ((c.tc : Thread Cert.KOutProj.nD Cert.KOutProj.τ).loc Cert.KOutProj.main_arg2) = m ((c.tc : Thread Cert.KOutProj.nD Cert.KOutProj.τ).loc Cert.KOutProj.main_arg2)
      ∧ r.2.mem ((c.tc : Thread Cert.KOutProj.nD Cert.KOutProj.τ).loc Cert.KOutProj.main_arg3) = m ((c.tc : Thread Cert.KOutProj.nD Cert.KOutProj.τ).loc Cert.KOutProj.main_arg3))
      ∧ r.2.sem = fun _ => 0)

def quiescent_KOutProjIdeal [hKOutProjIdeal : Cert.KOutProjIdeal.Facts] : Prop :=
  ∀ (m : (ℓ : Loc Cert.KOutProjIdeal.nD Cert.KOutProjIdeal.τ Cert.KOutProjIdeal.sig) → Buf (Elt Ideal) ℓ) (g : Dev Cert.KOutProjIdeal.nD → PrngReg), Pre_KOutProjIdeal m →
    θ_run (Cert.KOutProjIdeal.defs (F := Ideal)) (onTc (τ := Cert.KOutProjIdeal.τ) (Cert.KOutProjIdeal.main (F := Ideal))) ⟨m, fun _ => 0, g⟩ (fun r => (∀ c : Dev Cert.KOutProjIdeal.nD,
      r.2.mem ((c.tc : Thread Cert.KOutProjIdeal.nD Cert.KOutProjIdeal.τ).loc Cert.KOutProjIdeal.main_arg0) = m ((c.tc : Thread Cert.KOutProjIdeal.nD Cert.KOutProjIdeal.τ).loc Cert.KOutProjIdeal.main_arg0)
      ∧ r.2.mem ((c.tc : Thread Cert.KOutProjIdeal.nD Cert.KOutProjIdeal.τ).loc Cert.KOutProjIdeal.main_arg1) = m ((c.tc : Thread Cert.KOutProjIdeal.nD Cert.KOutProjIdeal.τ).loc Cert.KOutProjIdeal.main_arg1)
      ∧ r.2.mem ((c.tc : Thread Cert.KOutProjIdeal.nD Cert.KOutProjIdeal.τ).loc Cert.KOutProjIdeal.main_arg2) = m ((c.tc : Thread Cert.KOutProjIdeal.nD Cert.KOutProjIdeal.τ).loc Cert.KOutProjIdeal.main_arg2)
      ∧ r.2.mem ((c.tc : Thread Cert.KOutProjIdeal.nD Cert.KOutProjIdeal.τ).loc Cert.KOutProjIdeal.main_arg3) = m ((c.tc : Thread Cert.KOutProjIdeal.nD Cert.KOutProjIdeal.τ).loc Cert.KOutProjIdeal.main_arg3))
      ∧ r.2.sem = fun _ => 0)

def quiescent_ROutProjIdeal [hROutProjIdeal : Cert.ROutProjIdeal.Facts] : Prop :=
  ∀ (m : (ℓ : Loc Cert.ROutProjIdeal.nD Cert.ROutProjIdeal.τ Cert.ROutProjIdeal.sig) → Buf (Elt Ideal) ℓ) (g : Dev Cert.ROutProjIdeal.nD → PrngReg), Pre_ROutProjIdeal m →
    θ_run (Cert.ROutProjIdeal.defs (F := Ideal)) (onTc (τ := Cert.ROutProjIdeal.τ) (Cert.ROutProjIdeal.main (F := Ideal))) ⟨m, fun _ => 0, g⟩ (fun r => (∀ c : Dev Cert.ROutProjIdeal.nD,
      r.2.mem ((c.tc : Thread Cert.ROutProjIdeal.nD Cert.ROutProjIdeal.τ).loc Cert.ROutProjIdeal.main_arg0) = m ((c.tc : Thread Cert.ROutProjIdeal.nD Cert.ROutProjIdeal.τ).loc Cert.ROutProjIdeal.main_arg0)
      ∧ r.2.mem ((c.tc : Thread Cert.ROutProjIdeal.nD Cert.ROutProjIdeal.τ).loc Cert.ROutProjIdeal.main_arg1) = m ((c.tc : Thread Cert.ROutProjIdeal.nD Cert.ROutProjIdeal.τ).loc Cert.ROutProjIdeal.main_arg1)
      ∧ r.2.mem ((c.tc : Thread Cert.ROutProjIdeal.nD Cert.ROutProjIdeal.τ).loc Cert.ROutProjIdeal.main_arg2) = m ((c.tc : Thread Cert.ROutProjIdeal.nD Cert.ROutProjIdeal.τ).loc Cert.ROutProjIdeal.main_arg2)
      ∧ r.2.mem ((c.tc : Thread Cert.ROutProjIdeal.nD Cert.ROutProjIdeal.τ).loc Cert.ROutProjIdeal.main_arg3) = m ((c.tc : Thread Cert.ROutProjIdeal.nD Cert.ROutProjIdeal.τ).loc Cert.ROutProjIdeal.main_arg3))
      ∧ r.2.sem = fun _ => 0)

def quiescent_KGluGate [hKGluGate : Cert.KGluGate.Facts] : Prop :=
  ∀ (m : (ℓ : Loc Cert.KGluGate.nD Cert.KGluGate.τ Cert.KGluGate.sig) → Buf (Elt Bits) ℓ) (g : Dev Cert.KGluGate.nD → PrngReg), Pre_KGluGate m →
    θ_run (Cert.KGluGate.defs (F := Bits)) (onTc (τ := Cert.KGluGate.τ) (Cert.KGluGate.main (F := Bits))) ⟨m, fun _ => 0, g⟩ (fun r => (∀ c : Dev Cert.KGluGate.nD,
      r.2.mem ((c.tc : Thread Cert.KGluGate.nD Cert.KGluGate.τ).loc Cert.KGluGate.main_arg0) = m ((c.tc : Thread Cert.KGluGate.nD Cert.KGluGate.τ).loc Cert.KGluGate.main_arg0)
      ∧ r.2.mem ((c.tc : Thread Cert.KGluGate.nD Cert.KGluGate.τ).loc Cert.KGluGate.main_arg1) = m ((c.tc : Thread Cert.KGluGate.nD Cert.KGluGate.τ).loc Cert.KGluGate.main_arg1)
      ∧ r.2.mem ((c.tc : Thread Cert.KGluGate.nD Cert.KGluGate.τ).loc Cert.KGluGate.main_arg2) = m ((c.tc : Thread Cert.KGluGate.nD Cert.KGluGate.τ).loc Cert.KGluGate.main_arg2)
      ∧ r.2.mem ((c.tc : Thread Cert.KGluGate.nD Cert.KGluGate.τ).loc Cert.KGluGate.main_arg3) = m ((c.tc : Thread Cert.KGluGate.nD Cert.KGluGate.τ).loc Cert.KGluGate.main_arg3))
      ∧ r.2.sem = fun _ => 0)

def quiescent_KGluGateIdeal [hKGluGateIdeal : Cert.KGluGateIdeal.Facts] : Prop :=
  ∀ (m : (ℓ : Loc Cert.KGluGateIdeal.nD Cert.KGluGateIdeal.τ Cert.KGluGateIdeal.sig) → Buf (Elt Ideal) ℓ) (g : Dev Cert.KGluGateIdeal.nD → PrngReg), Pre_KGluGateIdeal m →
    θ_run (Cert.KGluGateIdeal.defs (F := Ideal)) (onTc (τ := Cert.KGluGateIdeal.τ) (Cert.KGluGateIdeal.main (F := Ideal))) ⟨m, fun _ => 0, g⟩ (fun r => (∀ c : Dev Cert.KGluGateIdeal.nD,
      r.2.mem ((c.tc : Thread Cert.KGluGateIdeal.nD Cert.KGluGateIdeal.τ).loc Cert.KGluGateIdeal.main_arg0) = m ((c.tc : Thread Cert.KGluGateIdeal.nD Cert.KGluGateIdeal.τ).loc Cert.KGluGateIdeal.main_arg0)
      ∧ r.2.mem ((c.tc : Thread Cert.KGluGateIdeal.nD Cert.KGluGateIdeal.τ).loc Cert.KGluGateIdeal.main_arg1) = m ((c.tc : Thread Cert.KGluGateIdeal.nD Cert.KGluGateIdeal.τ).loc Cert.KGluGateIdeal.main_arg1)
      ∧ r.2.mem ((c.tc : Thread Cert.KGluGateIdeal.nD Cert.KGluGateIdeal.τ).loc Cert.KGluGateIdeal.main_arg2) = m ((c.tc : Thread Cert.KGluGateIdeal.nD Cert.KGluGateIdeal.τ).loc Cert.KGluGateIdeal.main_arg2)
      ∧ r.2.mem ((c.tc : Thread Cert.KGluGateIdeal.nD Cert.KGluGateIdeal.τ).loc Cert.KGluGateIdeal.main_arg3) = m ((c.tc : Thread Cert.KGluGateIdeal.nD Cert.KGluGateIdeal.τ).loc Cert.KGluGateIdeal.main_arg3))
      ∧ r.2.sem = fun _ => 0)

def quiescent_RGluGateIdeal [hRGluGateIdeal : Cert.RGluGateIdeal.Facts] : Prop :=
  ∀ (m : (ℓ : Loc Cert.RGluGateIdeal.nD Cert.RGluGateIdeal.τ Cert.RGluGateIdeal.sig) → Buf (Elt Ideal) ℓ) (g : Dev Cert.RGluGateIdeal.nD → PrngReg), Pre_RGluGateIdeal m →
    θ_run (Cert.RGluGateIdeal.defs (F := Ideal)) (onTc (τ := Cert.RGluGateIdeal.τ) (Cert.RGluGateIdeal.main (F := Ideal))) ⟨m, fun _ => 0, g⟩ (fun r => (∀ c : Dev Cert.RGluGateIdeal.nD,
      r.2.mem ((c.tc : Thread Cert.RGluGateIdeal.nD Cert.RGluGateIdeal.τ).loc Cert.RGluGateIdeal.main_arg0) = m ((c.tc : Thread Cert.RGluGateIdeal.nD Cert.RGluGateIdeal.τ).loc Cert.RGluGateIdeal.main_arg0)
      ∧ r.2.mem ((c.tc : Thread Cert.RGluGateIdeal.nD Cert.RGluGateIdeal.τ).loc Cert.RGluGateIdeal.main_arg1) = m ((c.tc : Thread Cert.RGluGateIdeal.nD Cert.RGluGateIdeal.τ).loc Cert.RGluGateIdeal.main_arg1)
      ∧ r.2.mem ((c.tc : Thread Cert.RGluGateIdeal.nD Cert.RGluGateIdeal.τ).loc Cert.RGluGateIdeal.main_arg2) = m ((c.tc : Thread Cert.RGluGateIdeal.nD Cert.RGluGateIdeal.τ).loc Cert.RGluGateIdeal.main_arg2)
      ∧ r.2.mem ((c.tc : Thread Cert.RGluGateIdeal.nD Cert.RGluGateIdeal.τ).loc Cert.RGluGateIdeal.main_arg3) = m ((c.tc : Thread Cert.RGluGateIdeal.nD Cert.RGluGateIdeal.τ).loc Cert.RGluGateIdeal.main_arg3))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2))
      ∧ r.2.sem = fun _ => 0)

def quiescent_KPrep [hKPrep : Cert.KPrep.Facts] : Prop :=
  ∀ (m : (ℓ : Loc Cert.KPrep.nD Cert.KPrep.τ Cert.KPrep.sig) → Buf (Elt Bits) ℓ) (g : Dev Cert.KPrep.nD → PrngReg), Pre_KPrep m →
    θ_run (Cert.KPrep.defs (F := Bits)) (onTc (τ := Cert.KPrep.τ) (Cert.KPrep.main (F := Bits))) ⟨m, fun _ => 0, g⟩ (fun r => (∀ c : Dev Cert.KPrep.nD,
      r.2.mem ((c.tc : Thread Cert.KPrep.nD Cert.KPrep.τ).loc Cert.KPrep.main_arg0) = m ((c.tc : Thread Cert.KPrep.nD Cert.KPrep.τ).loc Cert.KPrep.main_arg0)
      ∧ r.2.mem ((c.tc : Thread Cert.KPrep.nD Cert.KPrep.τ).loc Cert.KPrep.main_arg1) = m ((c.tc : Thread Cert.KPrep.nD Cert.KPrep.τ).loc Cert.KPrep.main_arg1)
      ∧ r.2.mem ((c.tc : Thread Cert.KPrep.nD Cert.KPrep.τ).loc Cert.KPrep.main_arg2) = m ((c.tc : Thread Cert.KPrep.nD Cert.KPrep.τ).loc Cert.KPrep.main_arg2)
      ∧ r.2.mem ((c.tc : Thread Cert.KPrep.nD Cert.KPrep.τ).loc Cert.KPrep.main_arg3) = m ((c.tc : Thread Cert.KPrep.nD Cert.KPrep.τ).loc Cert.KPrep.main_arg3)
      ∧ r.2.mem ((c.tc : Thread Cert.KPrep.nD Cert.KPrep.τ).loc Cert.KPrep.main_arg4) = m ((c.tc : Thread Cert.KPrep.nD Cert.KPrep.τ).loc Cert.KPrep.main_arg4))
      ∧ r.2.sem = fun _ => 0)

def quiescent_KPrepIdeal [hKPrepIdeal : Cert.KPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
      ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
      ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3)
      ∧ r.2.mem ((c.tc : Thread Cert.KPrepIdeal.nD Cert.KPrepIdeal.τ).loc Cert.KPrepIdeal.main_arg4) = m ((c.tc : Thread Cert.KPrepIdeal.nD Cert.KPrepIdeal.τ).loc Cert.KPrepIdeal.main_arg4))
      ∧ r.2.sem = fun _ => 0)

def quiescent_RPrepIdeal [hRPrepIdeal : Cert.RPrepIdeal.Facts] : Prop :=
  ∀ (m : (ℓ : Loc Cert.RPrepIdeal.nD Cert.RPrepIdeal.τ Cert.RPrepIdeal.sig) → Buf (Elt Ideal) ℓ) (g : Dev Cert.RPrepIdeal.nD → PrngReg), Pre_RPrepIdeal m →
    θ_run (Cert.RPrepIdeal.defs (F := Ideal)) (onTc (τ := Cert.RPrepIdeal.τ) (Cert.RPrepIdeal.main (F := Ideal))) ⟨m, fun _ => 0, g⟩ (fun r => (∀ c : Dev Cert.RPrepIdeal.nD,
      r.2.mem ((c.tc : Thread Cert.RPrepIdeal.nD Cert.RPrepIdeal.τ).loc Cert.RPrepIdeal.main_arg0) = m ((c.tc : Thread Cert.RPrepIdeal.nD Cert.RPrepIdeal.τ).loc Cert.RPrepIdeal.main_arg0)
      ∧ r.2.mem ((c.tc : Thread Cert.RPrepIdeal.nD Cert.RPrepIdeal.τ).loc Cert.RPrepIdeal.main_arg1) = m ((c.tc : Thread Cert.RPrepIdeal.nD Cert.RPrepIdeal.τ).loc Cert.RPrepIdeal.main_arg1)
      ∧ r.2.mem ((c.tc : Thread Cert.RPrepIdeal.nD Cert.RPrepIdeal.τ).loc Cert.RPrepIdeal.main_arg2) = m ((c.tc : Thread Cert.RPrepIdeal.nD Cert.RPrepIdeal.τ).loc Cert.RPrepIdeal.main_arg2)
      ∧ r.2.mem ((c.tc : Thread Cert.RPrepIdeal.nD Cert.RPrepIdeal.τ).loc Cert.RPrepIdeal.main_arg3) = m ((c.tc : Thread Cert.RPrepIdeal.nD Cert.RPrepIdeal.τ).loc Cert.RPrepIdeal.main_arg3)
      ∧ r.2.mem ((c.tc : Thread Cert.RPrepIdeal.nD Cert.RPrepIdeal.τ).loc Cert.RPrepIdeal.main_arg4) = m ((c.tc : Thread Cert.RPrepIdeal.nD Cert.RPrepIdeal.τ).loc Cert.RPrepIdeal.main_arg4))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2)
      ∧ r.2.mem ((c.tc : Thread Cert.KProj.nD Cert.KProj.τ).loc Cert.KProj.main_arg3) = m ((c.tc : Thread Cert.KProj.nD Cert.KProj.τ).loc Cert.KProj.main_arg3)
      ∧ r.2.mem ((c.tc : Thread Cert.KProj.nD Cert.KProj.τ).loc Cert.KProj.main_arg4) = m ((c.tc : Thread Cert.KProj.nD Cert.KProj.τ).loc Cert.KProj.main_arg4))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
      ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4))
      ∧ r.2.sem = fun _ => 0)

def quiescent_KProjIdeal_pre_finite [hKProjIdeal : Cert.KProjIdeal.Facts] [hPre_finite : Cert.Pre_finite.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal_finite m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
      ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3)
      ∧ r.2.mem ((c.tc : Thread Cert.RProjIdeal.nD Cert.RProjIdeal.τ).loc Cert.RProjIdeal.main_arg4) = m ((c.tc : Thread Cert.RProjIdeal.nD Cert.RProjIdeal.τ).loc Cert.RProjIdeal.main_arg4))
      ∧ r.2.sem = fun _ => 0)

def quiescent_RProjIdeal_pre_finite [hRProjIdeal : Cert.RProjIdeal.Facts] [hPre_finite : Cert.Pre_finite.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal_finite m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3)
      ∧ r.2.mem ((c.tc : Thread Cert.RProjIdeal.nD Cert.RProjIdeal.τ).loc Cert.RProjIdeal.main_arg4) = m ((c.tc : Thread Cert.RProjIdeal.nD Cert.RProjIdeal.τ).loc Cert.RProjIdeal.main_arg4))
      ∧ r.2.sem = fun _ => 0)

def quiescent_KWeight [hKWeight : Cert.KWeight.Facts] : Prop :=
  ∀ (m : (ℓ : Loc Cert.KWeight.nD Cert.KWeight.τ Cert.KWeight.sig) → Buf (Elt Bits) ℓ) (g : Dev Cert.KWeight.nD → PrngReg), Pre_KWeight m →
    θ_run (Cert.KWeight.defs (F := Bits)) (onTc (τ := Cert.KWeight.τ) (Cert.KWeight.main (F := Bits))) ⟨m, fun _ => 0, g⟩ (fun r => (∀ c : Dev Cert.KWeight.nD,
      r.2.mem ((c.tc : Thread Cert.KWeight.nD Cert.KWeight.τ).loc Cert.KWeight.main_arg0) = m ((c.tc : Thread Cert.KWeight.nD Cert.KWeight.τ).loc Cert.KWeight.main_arg0)
      ∧ r.2.mem ((c.tc : Thread Cert.KWeight.nD Cert.KWeight.τ).loc Cert.KWeight.main_arg1) = m ((c.tc : Thread Cert.KWeight.nD Cert.KWeight.τ).loc Cert.KWeight.main_arg1))
      ∧ r.2.sem = fun _ => 0)

def quiescent_KWeightIdeal [hKWeightIdeal : Cert.KWeightIdeal.Facts] : Prop :=
  ∀ (m : (ℓ : Loc Cert.KWeightIdeal.nD Cert.KWeightIdeal.τ Cert.KWeightIdeal.sig) → Buf (Elt Ideal) ℓ) (g : Dev Cert.KWeightIdeal.nD → PrngReg), Pre_KWeightIdeal m →
    θ_run (Cert.KWeightIdeal.defs (F := Ideal)) (onTc (τ := Cert.KWeightIdeal.τ) (Cert.KWeightIdeal.main (F := Ideal))) ⟨m, fun _ => 0, g⟩ (fun r => (∀ c : Dev Cert.KWeightIdeal.nD,
      r.2.mem ((c.tc : Thread Cert.KWeightIdeal.nD Cert.KWeightIdeal.τ).loc Cert.KWeightIdeal.main_arg0) = m ((c.tc : Thread Cert.KWeightIdeal.nD Cert.KWeightIdeal.τ).loc Cert.KWeightIdeal.main_arg0)
      ∧ r.2.mem ((c.tc : Thread Cert.KWeightIdeal.nD Cert.KWeightIdeal.τ).loc Cert.KWeightIdeal.main_arg1) = m ((c.tc : Thread Cert.KWeightIdeal.nD Cert.KWeightIdeal.τ).loc Cert.KWeightIdeal.main_arg1))
      ∧ r.2.sem = fun _ => 0)

def quiescent_RWeightIdeal [hRWeightIdeal : Cert.RWeightIdeal.Facts] : Prop :=
  ∀ (m : (ℓ : Loc Cert.RWeightIdeal.nD Cert.RWeightIdeal.τ Cert.RWeightIdeal.sig) → Buf (Elt Ideal) ℓ) (g : Dev Cert.RWeightIdeal.nD → PrngReg), Pre_RWeightIdeal m →
    θ_run (Cert.RWeightIdeal.defs (F := Ideal)) (onTc (τ := Cert.RWeightIdeal.τ) (Cert.RWeightIdeal.main (F := Ideal))) ⟨m, fun _ => 0, g⟩ (fun r => (∀ c : Dev Cert.RWeightIdeal.nD,
      r.2.mem ((c.tc : Thread Cert.RWeightIdeal.nD Cert.RWeightIdeal.τ).loc Cert.RWeightIdeal.main_arg0) = m ((c.tc : Thread Cert.RWeightIdeal.nD Cert.RWeightIdeal.τ).loc Cert.RWeightIdeal.main_arg0)
      ∧ r.2.mem ((c.tc : Thread Cert.RWeightIdeal.nD Cert.RWeightIdeal.τ).loc Cert.RWeightIdeal.main_arg1) = m ((c.tc : Thread Cert.RWeightIdeal.nD Cert.RWeightIdeal.τ).loc Cert.RWeightIdeal.main_arg1))
      ∧ r.2.sem = fun _ => 0)

def quiescent_KSmall [hKSmall : Cert.KSmall.Facts] : Prop :=
  ∀ (m : (ℓ : Loc Cert.KSmall.nD Cert.KSmall.τ Cert.KSmall.sig) → Buf (Elt Bits) ℓ) (g : Dev Cert.KSmall.nD → PrngReg), Pre_KSmall m →
    θ_run (Cert.KSmall.defs (F := Bits)) (onTc (τ := Cert.KSmall.τ) (Cert.KSmall.main (F := Bits))) ⟨m, fun _ => 0, g⟩ (fun r => (∀ c : Dev Cert.KSmall.nD,
      r.2.mem ((c.tc : Thread Cert.KSmall.nD Cert.KSmall.τ).loc Cert.KSmall.main_arg0) = m ((c.tc : Thread Cert.KSmall.nD Cert.KSmall.τ).loc Cert.KSmall.main_arg0)
      ∧ r.2.mem ((c.tc : Thread Cert.KSmall.nD Cert.KSmall.τ).loc Cert.KSmall.main_arg1) = m ((c.tc : Thread Cert.KSmall.nD Cert.KSmall.τ).loc Cert.KSmall.main_arg1)
      ∧ r.2.mem ((c.tc : Thread Cert.KSmall.nD Cert.KSmall.τ).loc Cert.KSmall.main_arg2) = m ((c.tc : Thread Cert.KSmall.nD Cert.KSmall.τ).loc Cert.KSmall.main_arg2)
      ∧ r.2.mem ((c.tc : Thread Cert.KSmall.nD Cert.KSmall.τ).loc Cert.KSmall.main_arg3) = m ((c.tc : Thread Cert.KSmall.nD Cert.KSmall.τ).loc Cert.KSmall.main_arg3))
      ∧ r.2.sem = fun _ => 0)

def quiescent_KSmallIdeal [hKSmallIdeal : Cert.KSmallIdeal.Facts] : Prop :=
  ∀ (m : (ℓ : Loc Cert.KSmallIdeal.nD Cert.KSmallIdeal.τ Cert.KSmallIdeal.sig) → Buf (Elt Ideal) ℓ) (g : Dev Cert.KSmallIdeal.nD → PrngReg), Pre_KSmallIdeal m →
    θ_run (Cert.KSmallIdeal.defs (F := Ideal)) (onTc (τ := Cert.KSmallIdeal.τ) (Cert.KSmallIdeal.main (F := Ideal))) ⟨m, fun _ => 0, g⟩ (fun r => (∀ c : Dev Cert.KSmallIdeal.nD,
      r.2.mem ((c.tc : Thread Cert.KSmallIdeal.nD Cert.KSmallIdeal.τ).loc Cert.KSmallIdeal.main_arg0) = m ((c.tc : Thread Cert.KSmallIdeal.nD Cert.KSmallIdeal.τ).loc Cert.KSmallIdeal.main_arg0)
      ∧ r.2.mem ((c.tc : Thread Cert.KSmallIdeal.nD Cert.KSmallIdeal.τ).loc Cert.KSmallIdeal.main_arg1) = m ((c.tc : Thread Cert.KSmallIdeal.nD Cert.KSmallIdeal.τ).loc Cert.KSmallIdeal.main_arg1)
      ∧ r.2.mem ((c.tc : Thread Cert.KSmallIdeal.nD Cert.KSmallIdeal.τ).loc Cert.KSmallIdeal.main_arg2) = m ((c.tc : Thread Cert.KSmallIdeal.nD Cert.KSmallIdeal.τ).loc Cert.KSmallIdeal.main_arg2)
      ∧ r.2.mem ((c.tc : Thread Cert.KSmallIdeal.nD Cert.KSmallIdeal.τ).loc Cert.KSmallIdeal.main_arg3) = m ((c.tc : Thread Cert.KSmallIdeal.nD Cert.KSmallIdeal.τ).loc Cert.KSmallIdeal.main_arg3))
      ∧ r.2.sem = fun _ => 0)

def quiescent_RSmallIdeal [hRSmallIdeal : Cert.RSmallIdeal.Facts] : Prop :=
  ∀ (m : (ℓ : Loc Cert.RSmallIdeal.nD Cert.RSmallIdeal.τ Cert.RSmallIdeal.sig) → Buf (Elt Ideal) ℓ) (g : Dev Cert.RSmallIdeal.nD → PrngReg), Pre_RSmallIdeal m →
    θ_run (Cert.RSmallIdeal.defs (F := Ideal)) (onTc (τ := Cert.RSmallIdeal.τ) (Cert.RSmallIdeal.main (F := Ideal))) ⟨m, fun _ => 0, g⟩ (fun r => (∀ c : Dev Cert.RSmallIdeal.nD,
      r.2.mem ((c.tc : Thread Cert.RSmallIdeal.nD Cert.RSmallIdeal.τ).loc Cert.RSmallIdeal.main_arg0) = m ((c.tc : Thread Cert.RSmallIdeal.nD Cert.RSmallIdeal.τ).loc Cert.RSmallIdeal.main_arg0)
      ∧ r.2.mem ((c.tc : Thread Cert.RSmallIdeal.nD Cert.RSmallIdeal.τ).loc Cert.RSmallIdeal.main_arg1) = m ((c.tc : Thread Cert.RSmallIdeal.nD Cert.RSmallIdeal.τ).loc Cert.RSmallIdeal.main_arg1)
      ∧ r.2.mem ((c.tc : Thread Cert.RSmallIdeal.nD Cert.RSmallIdeal.τ).loc Cert.RSmallIdeal.main_arg2) = m ((c.tc : Thread Cert.RSmallIdeal.nD Cert.RSmallIdeal.τ).loc Cert.RSmallIdeal.main_arg2)
      ∧ r.2.mem ((c.tc : Thread Cert.RSmallIdeal.nD Cert.RSmallIdeal.τ).loc Cert.RSmallIdeal.main_arg3) = m ((c.tc : Thread Cert.RSmallIdeal.nD Cert.RSmallIdeal.τ).loc Cert.RSmallIdeal.main_arg3))
      ∧ r.2.sem = fun _ => 0)

def quiescent_KSsm [hKSsm : Cert.KSsm.Facts] : Prop :=
  ∀ (m : (ℓ : Loc Cert.KSsm.nD Cert.KSsm.τ Cert.KSsm.sig) → Buf (Elt Bits) ℓ) (g : Dev Cert.KSsm.nD → PrngReg), Pre_KSsm m →
    θ_run (Cert.KSsm.defs (F := Bits)) (onTc (τ := Cert.KSsm.τ) (Cert.KSsm.main (F := Bits))) ⟨m, fun _ => 0, g⟩ (fun r => (∀ c : Dev Cert.KSsm.nD,
      r.2.mem ((c.tc : Thread Cert.KSsm.nD Cert.KSsm.τ).loc Cert.KSsm.main_arg0) = m ((c.tc : Thread Cert.KSsm.nD Cert.KSsm.τ).loc Cert.KSsm.main_arg0)
      ∧ r.2.mem ((c.tc : Thread Cert.KSsm.nD Cert.KSsm.τ).loc Cert.KSsm.main_arg1) = m ((c.tc : Thread Cert.KSsm.nD Cert.KSsm.τ).loc Cert.KSsm.main_arg1)
      ∧ r.2.mem ((c.tc : Thread Cert.KSsm.nD Cert.KSsm.τ).loc Cert.KSsm.main_arg2) = m ((c.tc : Thread Cert.KSsm.nD Cert.KSsm.τ).loc Cert.KSsm.main_arg2)
      ∧ r.2.mem ((c.tc : Thread Cert.KSsm.nD Cert.KSsm.τ).loc Cert.KSsm.main_arg3) = m ((c.tc : Thread Cert.KSsm.nD Cert.KSsm.τ).loc Cert.KSsm.main_arg3)
      ∧ r.2.mem ((c.tc : Thread Cert.KSsm.nD Cert.KSsm.τ).loc Cert.KSsm.main_arg4) = m ((c.tc : Thread Cert.KSsm.nD Cert.KSsm.τ).loc Cert.KSsm.main_arg4)
      ∧ r.2.mem ((c.tc : Thread Cert.KSsm.nD Cert.KSsm.τ).loc Cert.KSsm.main_arg5) = m ((c.tc : Thread Cert.KSsm.nD Cert.KSsm.τ).loc Cert.KSsm.main_arg5)
      ∧ r.2.mem ((c.tc : Thread Cert.KSsm.nD Cert.KSsm.τ).loc Cert.KSsm.main_arg6) = m ((c.tc : Thread Cert.KSsm.nD Cert.KSsm.τ).loc Cert.KSsm.main_arg6)
      ∧ r.2.mem ((c.tc : Thread Cert.KSsm.nD Cert.KSsm.τ).loc Cert.KSsm.main_arg7) = m ((c.tc : Thread Cert.KSsm.nD Cert.KSsm.τ).loc Cert.KSsm.main_arg7)
      ∧ r.2.mem ((c.tc : Thread Cert.KSsm.nD Cert.KSsm.τ).loc Cert.KSsm.main_arg8) = m ((c.tc : Thread Cert.KSsm.nD Cert.KSsm.τ).loc Cert.KSsm.main_arg8))
      ∧ r.2.sem = fun _ => 0)

def quiescent_KSsmIdeal [hKSsmIdeal : Cert.KSsmIdeal.Facts] : Prop :=
  ∀ (m : (ℓ : Loc Cert.KSsmIdeal.nD Cert.KSsmIdeal.τ Cert.KSsmIdeal.sig) → Buf (Elt Ideal) ℓ) (g : Dev Cert.KSsmIdeal.nD → PrngReg), Pre_KSsmIdeal m →
    θ_run (Cert.KSsmIdeal.defs (F := Ideal)) (onTc (τ := Cert.KSsmIdeal.τ) (Cert.KSsmIdeal.main (F := Ideal))) ⟨m, fun _ => 0, g⟩ (fun r => (∀ c : Dev Cert.KSsmIdeal.nD,
      r.2.mem ((c.tc : Thread Cert.KSsmIdeal.nD Cert.KSsmIdeal.τ).loc Cert.KSsmIdeal.main_arg0) = m ((c.tc : Thread Cert.KSsmIdeal.nD Cert.KSsmIdeal.τ).loc Cert.KSsmIdeal.main_arg0)
      ∧ r.2.mem ((c.tc : Thread Cert.KSsmIdeal.nD Cert.KSsmIdeal.τ).loc Cert.KSsmIdeal.main_arg1) = m ((c.tc : Thread Cert.KSsmIdeal.nD Cert.KSsmIdeal.τ).loc Cert.KSsmIdeal.main_arg1)
      ∧ r.2.mem ((c.tc : Thread Cert.KSsmIdeal.nD Cert.KSsmIdeal.τ).loc Cert.KSsmIdeal.main_arg2) = m ((c.tc : Thread Cert.KSsmIdeal.nD Cert.KSsmIdeal.τ).loc Cert.KSsmIdeal.main_arg2)
      ∧ r.2.mem ((c.tc : Thread Cert.KSsmIdeal.nD Cert.KSsmIdeal.τ).loc Cert.KSsmIdeal.main_arg3) = m ((c.tc : Thread Cert.KSsmIdeal.nD Cert.KSsmIdeal.τ).loc Cert.KSsmIdeal.main_arg3)
      ∧ r.2.mem ((c.tc : Thread Cert.KSsmIdeal.nD Cert.KSsmIdeal.τ).loc Cert.KSsmIdeal.main_arg4) = m ((c.tc : Thread Cert.KSsmIdeal.nD Cert.KSsmIdeal.τ).loc Cert.KSsmIdeal.main_arg4)
      ∧ r.2.mem ((c.tc : Thread Cert.KSsmIdeal.nD Cert.KSsmIdeal.τ).loc Cert.KSsmIdeal.main_arg5) = m ((c.tc : Thread Cert.KSsmIdeal.nD Cert.KSsmIdeal.τ).loc Cert.KSsmIdeal.main_arg5)
      ∧ r.2.mem ((c.tc : Thread Cert.KSsmIdeal.nD Cert.KSsmIdeal.τ).loc Cert.KSsmIdeal.main_arg6) = m ((c.tc : Thread Cert.KSsmIdeal.nD Cert.KSsmIdeal.τ).loc Cert.KSsmIdeal.main_arg6)
      ∧ r.2.mem ((c.tc : Thread Cert.KSsmIdeal.nD Cert.KSsmIdeal.τ).loc Cert.KSsmIdeal.main_arg7) = m ((c.tc : Thread Cert.KSsmIdeal.nD Cert.KSsmIdeal.τ).loc Cert.KSsmIdeal.main_arg7)
      ∧ r.2.mem ((c.tc : Thread Cert.KSsmIdeal.nD Cert.KSsmIdeal.τ).loc Cert.KSsmIdeal.main_arg8) = m ((c.tc : Thread Cert.KSsmIdeal.nD Cert.KSsmIdeal.τ).loc Cert.KSsmIdeal.main_arg8))
      ∧ r.2.sem = fun _ => 0)

def quiescent_RSsmIdeal [hRSsmIdeal : Cert.RSsmIdeal.Facts] : Prop :=
  ∀ (m : (ℓ : Loc Cert.RSsmIdeal.nD Cert.RSsmIdeal.τ Cert.RSsmIdeal.sig) → Buf (Elt Ideal) ℓ) (g : Dev Cert.RSsmIdeal.nD → PrngReg), Pre_RSsmIdeal m →
    θ_run (Cert.RSsmIdeal.defs (F := Ideal)) (onTc (τ := Cert.RSsmIdeal.τ) (Cert.RSsmIdeal.main (F := Ideal))) ⟨m, fun _ => 0, g⟩ (fun r => (∀ c : Dev Cert.RSsmIdeal.nD,
      r.2.mem ((c.tc : Thread Cert.RSsmIdeal.nD Cert.RSsmIdeal.τ).loc Cert.RSsmIdeal.main_arg0) = m ((c.tc : Thread Cert.RSsmIdeal.nD Cert.RSsmIdeal.τ).loc Cert.RSsmIdeal.main_arg0)
      ∧ r.2.mem ((c.tc : Thread Cert.RSsmIdeal.nD Cert.RSsmIdeal.τ).loc Cert.RSsmIdeal.main_arg1) = m ((c.tc : Thread Cert.RSsmIdeal.nD Cert.RSsmIdeal.τ).loc Cert.RSsmIdeal.main_arg1)
      ∧ r.2.mem ((c.tc : Thread Cert.RSsmIdeal.nD Cert.RSsmIdeal.τ).loc Cert.RSsmIdeal.main_arg2) = m ((c.tc : Thread Cert.RSsmIdeal.nD Cert.RSsmIdeal.τ).loc Cert.RSsmIdeal.main_arg2)
      ∧ r.2.mem ((c.tc : Thread Cert.RSsmIdeal.nD Cert.RSsmIdeal.τ).loc Cert.RSsmIdeal.main_arg3) = m ((c.tc : Thread Cert.RSsmIdeal.nD Cert.RSsmIdeal.τ).loc Cert.RSsmIdeal.main_arg3)
      ∧ r.2.mem ((c.tc : Thread Cert.RSsmIdeal.nD Cert.RSsmIdeal.τ).loc Cert.RSsmIdeal.main_arg4) = m ((c.tc : Thread Cert.RSsmIdeal.nD Cert.RSsmIdeal.τ).loc Cert.RSsmIdeal.main_arg4)
      ∧ r.2.mem ((c.tc : Thread Cert.RSsmIdeal.nD Cert.RSsmIdeal.τ).loc Cert.RSsmIdeal.main_arg5) = m ((c.tc : Thread Cert.RSsmIdeal.nD Cert.RSsmIdeal.τ).loc Cert.RSsmIdeal.main_arg5)
      ∧ r.2.mem ((c.tc : Thread Cert.RSsmIdeal.nD Cert.RSsmIdeal.τ).loc Cert.RSsmIdeal.main_arg6) = m ((c.tc : Thread Cert.RSsmIdeal.nD Cert.RSsmIdeal.τ).loc Cert.RSsmIdeal.main_arg6)
      ∧ r.2.mem ((c.tc : Thread Cert.RSsmIdeal.nD Cert.RSsmIdeal.τ).loc Cert.RSsmIdeal.main_arg7) = m ((c.tc : Thread Cert.RSsmIdeal.nD Cert.RSsmIdeal.τ).loc Cert.RSsmIdeal.main_arg7)
      ∧ r.2.mem ((c.tc : Thread Cert.RSsmIdeal.nD Cert.RSsmIdeal.τ).loc Cert.RSsmIdeal.main_arg8) = m ((c.tc : Thread Cert.RSsmIdeal.nD Cert.RSsmIdeal.τ).loc Cert.RSsmIdeal.main_arg8))
      ∧ r.2.sem = fun _ => 0)

def preserves_KAttn_KAttnIdeal : Prop :=
  True

def algebraic_KAttnIdeal_RAttnIdeal [hKAttnIdeal : Cert.KAttnIdeal.Facts] [hRAttnIdeal : Cert.RAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)
      ∧ m' ((c.tc : Thread Cert.RAttnIdeal.nD Cert.RAttnIdeal.τ).loc Cert.RAttnIdeal.main_arg3) = m ((c.tc : Thread Cert.KAttnIdeal.nD Cert.KAttnIdeal.τ).loc Cert.KAttnIdeal.main_arg3)) →
    ∃ (v0 : (c : Dev Cert.KAttnIdeal.nD) → Buf (Elt Ideal) ((c.tc : Thread Cert.KAttnIdeal.nD Cert.KAttnIdeal.τ).loc Cert.KAttnIdeal.main_v79_2)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v79_2) = v0 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
          ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v63) = v0 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2)
          ∧ r.2.mem ((c.tc : Thread Cert.RAttnIdeal.nD Cert.RAttnIdeal.τ).loc Cert.RAttnIdeal.main_arg3) = m' ((c.tc : Thread Cert.RAttnIdeal.nD Cert.RAttnIdeal.τ).loc Cert.RAttnIdeal.main_arg3))

def preserves_KRelu_KReluIdeal : Prop :=
  True

def algebraic_KReluIdeal_RReluIdeal [hKReluIdeal : Cert.KReluIdeal.Facts] [hRReluIdeal : Cert.RReluIdeal.Facts] : Prop :=
  ∀ (m : (ℓ : Loc Cert.KReluIdeal.nD Cert.KReluIdeal.τ Cert.KReluIdeal.sig) → Buf (Elt Ideal) ℓ) (g : Dev Cert.KReluIdeal.nD → PrngReg)
    (m' : (ℓ : Loc Cert.RReluIdeal.nD Cert.RReluIdeal.τ Cert.RReluIdeal.sig) → Buf (Elt Ideal) ℓ) (g' : Dev Cert.RReluIdeal.nD → PrngReg), Pre_KReluIdeal m →
    (∀ c : Dev Cert.KReluIdeal.nD,
      m' ((c.tc : Thread Cert.RReluIdeal.nD Cert.RReluIdeal.τ).loc Cert.RReluIdeal.main_arg0) = m ((c.tc : Thread Cert.KReluIdeal.nD Cert.KReluIdeal.τ).loc Cert.KReluIdeal.main_arg0)
      ∧ m' ((c.tc : Thread Cert.RReluIdeal.nD Cert.RReluIdeal.τ).loc Cert.RReluIdeal.main_arg1) = m ((c.tc : Thread Cert.KReluIdeal.nD Cert.KReluIdeal.τ).loc Cert.KReluIdeal.main_arg1)
      ∧ m' ((c.tc : Thread Cert.RReluIdeal.nD Cert.RReluIdeal.τ).loc Cert.RReluIdeal.main_arg2) = m ((c.tc : Thread Cert.KReluIdeal.nD Cert.KReluIdeal.τ).loc Cert.KReluIdeal.main_arg2)) →
    ∃ (v0 : (c : Dev Cert.KReluIdeal.nD) → Buf (Elt Ideal) ((c.tc : Thread Cert.KReluIdeal.nD Cert.KReluIdeal.τ).loc Cert.KReluIdeal.main_v0)),
      θ_run (Cert.KReluIdeal.defs (F := Ideal)) (onTc (τ := Cert.KReluIdeal.τ) (Cert.KReluIdeal.main (F := Ideal))) ⟨m, fun _ => 0, g⟩ (fun r => ∀ c : Dev Cert.KReluIdeal.nD,
          r.2.mem ((c.tc : Thread Cert.KReluIdeal.nD Cert.KReluIdeal.τ).loc Cert.KReluIdeal.main_v0) = v0 c
          ∧ r.2.mem ((c.tc : Thread Cert.KReluIdeal.nD Cert.KReluIdeal.τ).loc Cert.KReluIdeal.main_arg0) = m ((c.tc : Thread Cert.KReluIdeal.nD Cert.KReluIdeal.τ).loc Cert.KReluIdeal.main_arg0)
          ∧ r.2.mem ((c.tc : Thread Cert.KReluIdeal.nD Cert.KReluIdeal.τ).loc Cert.KReluIdeal.main_arg1) = m ((c.tc : Thread Cert.KReluIdeal.nD Cert.KReluIdeal.τ).loc Cert.KReluIdeal.main_arg1)
          ∧ r.2.mem ((c.tc : Thread Cert.KReluIdeal.nD Cert.KReluIdeal.τ).loc Cert.KReluIdeal.main_arg2) = m ((c.tc : Thread Cert.KReluIdeal.nD Cert.KReluIdeal.τ).loc Cert.KReluIdeal.main_arg2))
      ∧ θ_run (Cert.RReluIdeal.defs (F := Ideal)) (onTc (τ := Cert.RReluIdeal.τ) (Cert.RReluIdeal.main (F := Ideal))) ⟨m', fun _ => 0, g'⟩ (fun r => ∀ c : Dev Cert.RReluIdeal.nD,
          r.2.mem ((c.tc : Thread Cert.RReluIdeal.nD Cert.RReluIdeal.τ).loc Cert.RReluIdeal.main_v15) = v0 c
          ∧ r.2.mem ((c.tc : Thread Cert.RReluIdeal.nD Cert.RReluIdeal.τ).loc Cert.RReluIdeal.main_arg0) = m' ((c.tc : Thread Cert.RReluIdeal.nD Cert.RReluIdeal.τ).loc Cert.RReluIdeal.main_arg0)
          ∧ r.2.mem ((c.tc : Thread Cert.RReluIdeal.nD Cert.RReluIdeal.τ).loc Cert.RReluIdeal.main_arg1) = m' ((c.tc : Thread Cert.RReluIdeal.nD Cert.RReluIdeal.τ).loc Cert.RReluIdeal.main_arg1)
          ∧ r.2.mem ((c.tc : Thread Cert.RReluIdeal.nD Cert.RReluIdeal.τ).loc Cert.RReluIdeal.main_arg2) = m' ((c.tc : Thread Cert.RReluIdeal.nD Cert.RReluIdeal.τ).loc Cert.RReluIdeal.main_arg2))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)
      ∧ m' ((c.tc : Thread Cert.RLossIdeal.nD Cert.RLossIdeal.τ).loc Cert.RLossIdeal.main_arg3) = m ((c.tc : Thread Cert.KLossIdeal.nD Cert.KLossIdeal.τ).loc Cert.KLossIdeal.main_arg3)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)) (v2 : (c : Dev Cert.KLossIdeal.nD) → Buf (Elt Ideal) ((c.tc : Thread Cert.KLossIdeal.nD Cert.KLossIdeal.τ).loc Cert.KLossIdeal.main_v0_2)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_v0_2) = v2 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
          ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v18) = v0 c
          ∧ r.2.mem ((c.tc : Thread Cert.RLossIdeal.nD Cert.RLossIdeal.τ).loc Cert.RLossIdeal.main_v19) = v1 c
          ∧ r.2.mem ((c.tc : Thread Cert.RLossIdeal.nD Cert.RLossIdeal.τ).loc Cert.RLossIdeal.main_v20) = v2 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2)
          ∧ r.2.mem ((c.tc : Thread Cert.RLossIdeal.nD Cert.RLossIdeal.τ).loc Cert.RLossIdeal.main_arg3) = m' ((c.tc : Thread Cert.RLossIdeal.nD Cert.RLossIdeal.τ).loc Cert.RLossIdeal.main_arg3))

def preserves_KAttnNorm_KAttnNormIdeal : Prop :=
  True

def algebraic_KAttnNormIdeal_RAttnNormIdeal [hKAttnNormIdeal : Cert.KAttnNormIdeal.Facts] [hRAttnNormIdeal : Cert.RAttnNormIdeal.Facts] : Prop :=
  ∀ (m : (ℓ : Loc Cert.KAttnNormIdeal.nD Cert.KAttnNormIdeal.τ Cert.KAttnNormIdeal.sig) → Buf (Elt Ideal) ℓ) (g : Dev Cert.KAttnNormIdeal.nD → PrngReg)
    (m' : (ℓ : Loc Cert.RAttnNormIdeal.nD Cert.RAttnNormIdeal.τ Cert.RAttnNormIdeal.sig) → Buf (Elt Ideal) ℓ) (g' : Dev Cert.RAttnNormIdeal.nD → PrngReg), Pre_KAttnNormIdeal m →
    (∀ c : Dev Cert.KAttnNormIdeal.nD,
      m' ((c.tc : Thread Cert.RAttnNormIdeal.nD Cert.RAttnNormIdeal.τ).loc Cert.RAttnNormIdeal.main_arg0) = m ((c.tc : Thread Cert.KAttnNormIdeal.nD Cert.KAttnNormIdeal.τ).loc Cert.KAttnNormIdeal.main_arg0)
      ∧ m' ((c.tc : Thread Cert.RAttnNormIdeal.nD Cert.RAttnNormIdeal.τ).loc Cert.RAttnNormIdeal.main_arg1) = m ((c.tc : Thread Cert.KAttnNormIdeal.nD Cert.KAttnNormIdeal.τ).loc Cert.KAttnNormIdeal.main_arg1)
      ∧ m' ((c.tc : Thread Cert.RAttnNormIdeal.nD Cert.RAttnNormIdeal.τ).loc Cert.RAttnNormIdeal.main_arg2) = m ((c.tc : Thread Cert.KAttnNormIdeal.nD Cert.KAttnNormIdeal.τ).loc Cert.KAttnNormIdeal.main_arg2)) →
    ∃ (v0 : (c : Dev Cert.KAttnNormIdeal.nD) → Buf (Elt Ideal) ((c.tc : Thread Cert.KAttnNormIdeal.nD Cert.KAttnNormIdeal.τ).loc Cert.KAttnNormIdeal.main_v0_0)) (v1 : (c : Dev Cert.KAttnNormIdeal.nD) → Buf (Elt Ideal) ((c.tc : Thread Cert.KAttnNormIdeal.nD Cert.KAttnNormIdeal.τ).loc Cert.KAttnNormIdeal.main_v0_1)),
      θ_run (Cert.KAttnNormIdeal.defs (F := Ideal)) (onTc (τ := Cert.KAttnNormIdeal.τ) (Cert.KAttnNormIdeal.main (F := Ideal))) ⟨m, fun _ => 0, g⟩ (fun r => ∀ c : Dev Cert.KAttnNormIdeal.nD,
          r.2.mem ((c.tc : Thread Cert.KAttnNormIdeal.nD Cert.KAttnNormIdeal.τ).loc Cert.KAttnNormIdeal.main_v0_0) = v0 c
          ∧ r.2.mem ((c.tc : Thread Cert.KAttnNormIdeal.nD Cert.KAttnNormIdeal.τ).loc Cert.KAttnNormIdeal.main_v0_1) = v1 c
          ∧ r.2.mem ((c.tc : Thread Cert.KAttnNormIdeal.nD Cert.KAttnNormIdeal.τ).loc Cert.KAttnNormIdeal.main_arg0) = m ((c.tc : Thread Cert.KAttnNormIdeal.nD Cert.KAttnNormIdeal.τ).loc Cert.KAttnNormIdeal.main_arg0)
          ∧ r.2.mem ((c.tc : Thread Cert.KAttnNormIdeal.nD Cert.KAttnNormIdeal.τ).loc Cert.KAttnNormIdeal.main_arg1) = m ((c.tc : Thread Cert.KAttnNormIdeal.nD Cert.KAttnNormIdeal.τ).loc Cert.KAttnNormIdeal.main_arg1)
          ∧ r.2.mem ((c.tc : Thread Cert.KAttnNormIdeal.nD Cert.KAttnNormIdeal.τ).loc Cert.KAttnNormIdeal.main_arg2) = m ((c.tc : Thread Cert.KAttnNormIdeal.nD Cert.KAttnNormIdeal.τ).loc Cert.KAttnNormIdeal.main_arg2))
      ∧ θ_run (Cert.RAttnNormIdeal.defs (F := Ideal)) (onTc (τ := Cert.RAttnNormIdeal.τ) (Cert.RAttnNormIdeal.main (F := Ideal))) ⟨m', fun _ => 0, g'⟩ (fun r => ∀ c : Dev Cert.RAttnNormIdeal.nD,
          r.2.mem ((c.tc : Thread Cert.RAttnNormIdeal.nD Cert.RAttnNormIdeal.τ).loc Cert.RAttnNormIdeal.main_v34) = v0 c
          ∧ r.2.mem ((c.tc : Thread Cert.RAttnNormIdeal.nD Cert.RAttnNormIdeal.τ).loc Cert.RAttnNormIdeal.main_v18) = v1 c
          ∧ r.2.mem ((c.tc : Thread Cert.RAttnNormIdeal.nD Cert.RAttnNormIdeal.τ).loc Cert.RAttnNormIdeal.main_arg0) = m' ((c.tc : Thread Cert.RAttnNormIdeal.nD Cert.RAttnNormIdeal.τ).loc Cert.RAttnNormIdeal.main_arg0)
          ∧ r.2.mem ((c.tc : Thread Cert.RAttnNormIdeal.nD Cert.RAttnNormIdeal.τ).loc Cert.RAttnNormIdeal.main_arg1) = m' ((c.tc : Thread Cert.RAttnNormIdeal.nD Cert.RAttnNormIdeal.τ).loc Cert.RAttnNormIdeal.main_arg1)
          ∧ r.2.mem ((c.tc : Thread Cert.RAttnNormIdeal.nD Cert.RAttnNormIdeal.τ).loc Cert.RAttnNormIdeal.main_arg2) = m' ((c.tc : Thread Cert.RAttnNormIdeal.nD Cert.RAttnNormIdeal.τ).loc Cert.RAttnNormIdeal.main_arg2))

def preserves_KNormOne_KNormOneIdeal : Prop :=
  True

def algebraic_KNormOneIdeal_RNormOneIdeal [hKNormOneIdeal : Cert.KNormOneIdeal.Facts] [hRNormOneIdeal : Cert.RNormOneIdeal.Facts] : Prop :=
  ∀ (m : (ℓ : Loc Cert.KNormOneIdeal.nD Cert.KNormOneIdeal.τ Cert.KNormOneIdeal.sig) → Buf (Elt Ideal) ℓ) (g : Dev Cert.KNormOneIdeal.nD → PrngReg)
    (m' : (ℓ : Loc Cert.RNormOneIdeal.nD Cert.RNormOneIdeal.τ Cert.RNormOneIdeal.sig) → Buf (Elt Ideal) ℓ) (g' : Dev Cert.RNormOneIdeal.nD → PrngReg), Pre_KNormOneIdeal m →
    (∀ c : Dev Cert.KNormOneIdeal.nD,
      m' ((c.tc : Thread Cert.RNormOneIdeal.nD Cert.RNormOneIdeal.τ).loc Cert.RNormOneIdeal.main_arg0) = m ((c.tc : Thread Cert.KNormOneIdeal.nD Cert.KNormOneIdeal.τ).loc Cert.KNormOneIdeal.main_arg0)
      ∧ m' ((c.tc : Thread Cert.RNormOneIdeal.nD Cert.RNormOneIdeal.τ).loc Cert.RNormOneIdeal.main_arg1) = m ((c.tc : Thread Cert.KNormOneIdeal.nD Cert.KNormOneIdeal.τ).loc Cert.KNormOneIdeal.main_arg1)
      ∧ m' ((c.tc : Thread Cert.RNormOneIdeal.nD Cert.RNormOneIdeal.τ).loc Cert.RNormOneIdeal.main_arg2) = m ((c.tc : Thread Cert.KNormOneIdeal.nD Cert.KNormOneIdeal.τ).loc Cert.KNormOneIdeal.main_arg2)
      ∧ m' ((c.tc : Thread Cert.RNormOneIdeal.nD Cert.RNormOneIdeal.τ).loc Cert.RNormOneIdeal.main_arg3) = m ((c.tc : Thread Cert.KNormOneIdeal.nD Cert.KNormOneIdeal.τ).loc Cert.KNormOneIdeal.main_arg3)
      ∧ m' ((c.tc : Thread Cert.RNormOneIdeal.nD Cert.RNormOneIdeal.τ).loc Cert.RNormOneIdeal.main_arg4) = m ((c.tc : Thread Cert.KNormOneIdeal.nD Cert.KNormOneIdeal.τ).loc Cert.KNormOneIdeal.main_arg4)) →
    ∃ (v0 : (c : Dev Cert.KNormOneIdeal.nD) → Buf (Elt Ideal) ((c.tc : Thread Cert.KNormOneIdeal.nD Cert.KNormOneIdeal.τ).loc Cert.KNormOneIdeal.main_v0_0)) (v1 : (c : Dev Cert.KNormOneIdeal.nD) → Buf (Elt Ideal) ((c.tc : Thread Cert.KNormOneIdeal.nD Cert.KNormOneIdeal.τ).loc Cert.KNormOneIdeal.main_v0_1)),
      θ_run (Cert.KNormOneIdeal.defs (F := Ideal)) (onTc (τ := Cert.KNormOneIdeal.τ) (Cert.KNormOneIdeal.main (F := Ideal))) ⟨m, fun _ => 0, g⟩ (fun r => ∀ c : Dev Cert.KNormOneIdeal.nD,
          r.2.mem ((c.tc : Thread Cert.KNormOneIdeal.nD Cert.KNormOneIdeal.τ).loc Cert.KNormOneIdeal.main_v0_0) = v0 c
          ∧ r.2.mem ((c.tc : Thread Cert.KNormOneIdeal.nD Cert.KNormOneIdeal.τ).loc Cert.KNormOneIdeal.main_v0_1) = v1 c
          ∧ r.2.mem ((c.tc : Thread Cert.KNormOneIdeal.nD Cert.KNormOneIdeal.τ).loc Cert.KNormOneIdeal.main_arg0) = m ((c.tc : Thread Cert.KNormOneIdeal.nD Cert.KNormOneIdeal.τ).loc Cert.KNormOneIdeal.main_arg0)
          ∧ r.2.mem ((c.tc : Thread Cert.KNormOneIdeal.nD Cert.KNormOneIdeal.τ).loc Cert.KNormOneIdeal.main_arg1) = m ((c.tc : Thread Cert.KNormOneIdeal.nD Cert.KNormOneIdeal.τ).loc Cert.KNormOneIdeal.main_arg1)
          ∧ r.2.mem ((c.tc : Thread Cert.KNormOneIdeal.nD Cert.KNormOneIdeal.τ).loc Cert.KNormOneIdeal.main_arg2) = m ((c.tc : Thread Cert.KNormOneIdeal.nD Cert.KNormOneIdeal.τ).loc Cert.KNormOneIdeal.main_arg2)
          ∧ r.2.mem ((c.tc : Thread Cert.KNormOneIdeal.nD Cert.KNormOneIdeal.τ).loc Cert.KNormOneIdeal.main_arg3) = m ((c.tc : Thread Cert.KNormOneIdeal.nD Cert.KNormOneIdeal.τ).loc Cert.KNormOneIdeal.main_arg3)
          ∧ r.2.mem ((c.tc : Thread Cert.KNormOneIdeal.nD Cert.KNormOneIdeal.τ).loc Cert.KNormOneIdeal.main_arg4) = m ((c.tc : Thread Cert.KNormOneIdeal.nD Cert.KNormOneIdeal.τ).loc Cert.KNormOneIdeal.main_arg4))
      ∧ θ_run (Cert.RNormOneIdeal.defs (F := Ideal)) (onTc (τ := Cert.RNormOneIdeal.τ) (Cert.RNormOneIdeal.main (F := Ideal))) ⟨m', fun _ => 0, g'⟩ (fun r => ∀ c : Dev Cert.RNormOneIdeal.nD,
          r.2.mem ((c.tc : Thread Cert.RNormOneIdeal.nD Cert.RNormOneIdeal.τ).loc Cert.RNormOneIdeal.main_v38) = v0 c
          ∧ r.2.mem ((c.tc : Thread Cert.RNormOneIdeal.nD Cert.RNormOneIdeal.τ).loc Cert.RNormOneIdeal.main_v21) = v1 c
          ∧ r.2.mem ((c.tc : Thread Cert.RNormOneIdeal.nD Cert.RNormOneIdeal.τ).loc Cert.RNormOneIdeal.main_arg0) = m' ((c.tc : Thread Cert.RNormOneIdeal.nD Cert.RNormOneIdeal.τ).loc Cert.RNormOneIdeal.main_arg0)
          ∧ r.2.mem ((c.tc : Thread Cert.RNormOneIdeal.nD Cert.RNormOneIdeal.τ).loc Cert.RNormOneIdeal.main_arg1) = m' ((c.tc : Thread Cert.RNormOneIdeal.nD Cert.RNormOneIdeal.τ).loc Cert.RNormOneIdeal.main_arg1)
          ∧ r.2.mem ((c.tc : Thread Cert.RNormOneIdeal.nD Cert.RNormOneIdeal.τ).loc Cert.RNormOneIdeal.main_arg2) = m' ((c.tc : Thread Cert.RNormOneIdeal.nD Cert.RNormOneIdeal.τ).loc Cert.RNormOneIdeal.main_arg2)
          ∧ r.2.mem ((c.tc : Thread Cert.RNormOneIdeal.nD Cert.RNormOneIdeal.τ).loc Cert.RNormOneIdeal.main_arg3) = m' ((c.tc : Thread Cert.RNormOneIdeal.nD Cert.RNormOneIdeal.τ).loc Cert.RNormOneIdeal.main_arg3)
          ∧ r.2.mem ((c.tc : Thread Cert.RNormOneIdeal.nD Cert.RNormOneIdeal.τ).loc Cert.RNormOneIdeal.main_arg4) = m' ((c.tc : Thread Cert.RNormOneIdeal.nD Cert.RNormOneIdeal.τ).loc Cert.RNormOneIdeal.main_arg4))

def preserves_KNormTwo_KNormTwoIdeal : Prop :=
  True

def algebraic_KNormTwoIdeal_RNormTwoIdeal [hKNormTwoIdeal : Cert.KNormTwoIdeal.Facts] [hRNormTwoIdeal : Cert.RNormTwoIdeal.Facts] : Prop :=
  ∀ (m : (ℓ : Loc Cert.KNormTwoIdeal.nD Cert.KNormTwoIdeal.τ Cert.KNormTwoIdeal.sig) → Buf (Elt Ideal) ℓ) (g : Dev Cert.KNormTwoIdeal.nD → PrngReg)
    (m' : (ℓ : Loc Cert.RNormTwoIdeal.nD Cert.RNormTwoIdeal.τ Cert.RNormTwoIdeal.sig) → Buf (Elt Ideal) ℓ) (g' : Dev Cert.RNormTwoIdeal.nD → PrngReg), Pre_KNormTwoIdeal m →
    (∀ c : Dev Cert.KNormTwoIdeal.nD,
      m' ((c.tc : Thread Cert.RNormTwoIdeal.nD Cert.RNormTwoIdeal.τ).loc Cert.RNormTwoIdeal.main_arg0) = m ((c.tc : Thread Cert.KNormTwoIdeal.nD Cert.KNormTwoIdeal.τ).loc Cert.KNormTwoIdeal.main_arg0)
      ∧ m' ((c.tc : Thread Cert.RNormTwoIdeal.nD Cert.RNormTwoIdeal.τ).loc Cert.RNormTwoIdeal.main_arg1) = m ((c.tc : Thread Cert.KNormTwoIdeal.nD Cert.KNormTwoIdeal.τ).loc Cert.KNormTwoIdeal.main_arg1)
      ∧ m' ((c.tc : Thread Cert.RNormTwoIdeal.nD Cert.RNormTwoIdeal.τ).loc Cert.RNormTwoIdeal.main_arg2) = m ((c.tc : Thread Cert.KNormTwoIdeal.nD Cert.KNormTwoIdeal.τ).loc Cert.KNormTwoIdeal.main_arg2)
      ∧ m' ((c.tc : Thread Cert.RNormTwoIdeal.nD Cert.RNormTwoIdeal.τ).loc Cert.RNormTwoIdeal.main_arg3) = m ((c.tc : Thread Cert.KNormTwoIdeal.nD Cert.KNormTwoIdeal.τ).loc Cert.KNormTwoIdeal.main_arg3)
      ∧ m' ((c.tc : Thread Cert.RNormTwoIdeal.nD Cert.RNormTwoIdeal.τ).loc Cert.RNormTwoIdeal.main_arg4) = m ((c.tc : Thread Cert.KNormTwoIdeal.nD Cert.KNormTwoIdeal.τ).loc Cert.KNormTwoIdeal.main_arg4)) →
    ∃ (v0 : (c : Dev Cert.KNormTwoIdeal.nD) → Buf (Elt Ideal) ((c.tc : Thread Cert.KNormTwoIdeal.nD Cert.KNormTwoIdeal.τ).loc Cert.KNormTwoIdeal.main_v0_0)) (v1 : (c : Dev Cert.KNormTwoIdeal.nD) → Buf (Elt Ideal) ((c.tc : Thread Cert.KNormTwoIdeal.nD Cert.KNormTwoIdeal.τ).loc Cert.KNormTwoIdeal.main_v0_1)) (v2 : (c : Dev Cert.KNormTwoIdeal.nD) → Buf (Elt Ideal) ((c.tc : Thread Cert.KNormTwoIdeal.nD Cert.KNormTwoIdeal.τ).loc Cert.KNormTwoIdeal.main_v0_2)),
      θ_run (Cert.KNormTwoIdeal.defs (F := Ideal)) (onTc (τ := Cert.KNormTwoIdeal.τ) (Cert.KNormTwoIdeal.main (F := Ideal))) ⟨m, fun _ => 0, g⟩ (fun r => ∀ c : Dev Cert.KNormTwoIdeal.nD,
          r.2.mem ((c.tc : Thread Cert.KNormTwoIdeal.nD Cert.KNormTwoIdeal.τ).loc Cert.KNormTwoIdeal.main_v0_0) = v0 c
          ∧ r.2.mem ((c.tc : Thread Cert.KNormTwoIdeal.nD Cert.KNormTwoIdeal.τ).loc Cert.KNormTwoIdeal.main_v0_1) = v1 c
          ∧ r.2.mem ((c.tc : Thread Cert.KNormTwoIdeal.nD Cert.KNormTwoIdeal.τ).loc Cert.KNormTwoIdeal.main_v0_2) = v2 c
          ∧ r.2.mem ((c.tc : Thread Cert.KNormTwoIdeal.nD Cert.KNormTwoIdeal.τ).loc Cert.KNormTwoIdeal.main_arg0) = m ((c.tc : Thread Cert.KNormTwoIdeal.nD Cert.KNormTwoIdeal.τ).loc Cert.KNormTwoIdeal.main_arg0)
          ∧ r.2.mem ((c.tc : Thread Cert.KNormTwoIdeal.nD Cert.KNormTwoIdeal.τ).loc Cert.KNormTwoIdeal.main_arg1) = m ((c.tc : Thread Cert.KNormTwoIdeal.nD Cert.KNormTwoIdeal.τ).loc Cert.KNormTwoIdeal.main_arg1)
          ∧ r.2.mem ((c.tc : Thread Cert.KNormTwoIdeal.nD Cert.KNormTwoIdeal.τ).loc Cert.KNormTwoIdeal.main_arg2) = m ((c.tc : Thread Cert.KNormTwoIdeal.nD Cert.KNormTwoIdeal.τ).loc Cert.KNormTwoIdeal.main_arg2)
          ∧ r.2.mem ((c.tc : Thread Cert.KNormTwoIdeal.nD Cert.KNormTwoIdeal.τ).loc Cert.KNormTwoIdeal.main_arg3) = m ((c.tc : Thread Cert.KNormTwoIdeal.nD Cert.KNormTwoIdeal.τ).loc Cert.KNormTwoIdeal.main_arg3)
          ∧ r.2.mem ((c.tc : Thread Cert.KNormTwoIdeal.nD Cert.KNormTwoIdeal.τ).loc Cert.KNormTwoIdeal.main_arg4) = m ((c.tc : Thread Cert.KNormTwoIdeal.nD Cert.KNormTwoIdeal.τ).loc Cert.KNormTwoIdeal.main_arg4))
      ∧ θ_run (Cert.RNormTwoIdeal.defs (F := Ideal)) (onTc (τ := Cert.RNormTwoIdeal.τ) (Cert.RNormTwoIdeal.main (F := Ideal))) ⟨m', fun _ => 0, g'⟩ (fun r => ∀ c : Dev Cert.RNormTwoIdeal.nD,
          r.2.mem ((c.tc : Thread Cert.RNormTwoIdeal.nD Cert.RNormTwoIdeal.τ).loc Cert.RNormTwoIdeal.main_v38) = v0 c
          ∧ r.2.mem ((c.tc : Thread Cert.RNormTwoIdeal.nD Cert.RNormTwoIdeal.τ).loc Cert.RNormTwoIdeal.main_v39) = v1 c
          ∧ r.2.mem ((c.tc : Thread Cert.RNormTwoIdeal.nD Cert.RNormTwoIdeal.τ).loc Cert.RNormTwoIdeal.main_v21) = v2 c
          ∧ r.2.mem ((c.tc : Thread Cert.RNormTwoIdeal.nD Cert.RNormTwoIdeal.τ).loc Cert.RNormTwoIdeal.main_arg0) = m' ((c.tc : Thread Cert.RNormTwoIdeal.nD Cert.RNormTwoIdeal.τ).loc Cert.RNormTwoIdeal.main_arg0)
          ∧ r.2.mem ((c.tc : Thread Cert.RNormTwoIdeal.nD Cert.RNormTwoIdeal.τ).loc Cert.RNormTwoIdeal.main_arg1) = m' ((c.tc : Thread Cert.RNormTwoIdeal.nD Cert.RNormTwoIdeal.τ).loc Cert.RNormTwoIdeal.main_arg1)
          ∧ r.2.mem ((c.tc : Thread Cert.RNormTwoIdeal.nD Cert.RNormTwoIdeal.τ).loc Cert.RNormTwoIdeal.main_arg2) = m' ((c.tc : Thread Cert.RNormTwoIdeal.nD Cert.RNormTwoIdeal.τ).loc Cert.RNormTwoIdeal.main_arg2)
          ∧ r.2.mem ((c.tc : Thread Cert.RNormTwoIdeal.nD Cert.RNormTwoIdeal.τ).loc Cert.RNormTwoIdeal.main_arg3) = m' ((c.tc : Thread Cert.RNormTwoIdeal.nD Cert.RNormTwoIdeal.τ).loc Cert.RNormTwoIdeal.main_arg3)
          ∧ r.2.mem ((c.tc : Thread Cert.RNormTwoIdeal.nD Cert.RNormTwoIdeal.τ).loc Cert.RNormTwoIdeal.main_arg4) = m' ((c.tc : Thread Cert.RNormTwoIdeal.nD Cert.RNormTwoIdeal.τ).loc Cert.RNormTwoIdeal.main_arg4))

def preserves_KGlu_KGluIdeal : Prop :=
  True

def algebraic_KGluIdeal_RGluIdeal [hKGluIdeal : Cert.KGluIdeal.Facts] [hRGluIdeal : Cert.RGluIdeal.Facts] : Prop :=
  ∀ (m : (ℓ : Loc Cert.KGluIdeal.nD Cert.KGluIdeal.τ Cert.KGluIdeal.sig) → Buf (Elt Ideal) ℓ) (g : Dev Cert.KGluIdeal.nD → PrngReg)
    (m' : (ℓ : Loc Cert.RGluIdeal.nD Cert.RGluIdeal.τ Cert.RGluIdeal.sig) → Buf (Elt Ideal) ℓ) (g' : Dev Cert.RGluIdeal.nD → PrngReg), Pre_KGluIdeal m →
    (∀ c : Dev Cert.KGluIdeal.nD,
      m' ((c.tc : Thread Cert.RGluIdeal.nD Cert.RGluIdeal.τ).loc Cert.RGluIdeal.main_arg0) = m ((c.tc : Thread Cert.KGluIdeal.nD Cert.KGluIdeal.τ).loc Cert.KGluIdeal.main_arg0)
      ∧ m' ((c.tc : Thread Cert.RGluIdeal.nD Cert.RGluIdeal.τ).loc Cert.RGluIdeal.main_arg1) = m ((c.tc : Thread Cert.KGluIdeal.nD Cert.KGluIdeal.τ).loc Cert.KGluIdeal.main_arg1)
      ∧ m' ((c.tc : Thread Cert.RGluIdeal.nD Cert.RGluIdeal.τ).loc Cert.RGluIdeal.main_arg2) = m ((c.tc : Thread Cert.KGluIdeal.nD Cert.KGluIdeal.τ).loc Cert.KGluIdeal.main_arg2)
      ∧ m' ((c.tc : Thread Cert.RGluIdeal.nD Cert.RGluIdeal.τ).loc Cert.RGluIdeal.main_arg3) = m ((c.tc : Thread Cert.KGluIdeal.nD Cert.KGluIdeal.τ).loc Cert.KGluIdeal.main_arg3)
      ∧ m' ((c.tc : Thread Cert.RGluIdeal.nD Cert.RGluIdeal.τ).loc Cert.RGluIdeal.main_arg4) = m ((c.tc : Thread Cert.KGluIdeal.nD Cert.KGluIdeal.τ).loc Cert.KGluIdeal.main_arg4)) →
    ∃ (v0 : (c : Dev Cert.KGluIdeal.nD) → Buf (Elt Ideal) ((c.tc : Thread Cert.KGluIdeal.nD Cert.KGluIdeal.τ).loc Cert.KGluIdeal.main_v0_0)) (v1 : (c : Dev Cert.KGluIdeal.nD) → Buf (Elt Ideal) ((c.tc : Thread Cert.KGluIdeal.nD Cert.KGluIdeal.τ).loc Cert.KGluIdeal.main_v0_1)) (v2 : (c : Dev Cert.KGluIdeal.nD) → Buf (Elt Ideal) ((c.tc : Thread Cert.KGluIdeal.nD Cert.KGluIdeal.τ).loc Cert.KGluIdeal.main_v0_2)) (v3 : (c : Dev Cert.KGluIdeal.nD) → Buf (Elt Ideal) ((c.tc : Thread Cert.KGluIdeal.nD Cert.KGluIdeal.τ).loc Cert.KGluIdeal.main_v0_3)),
      θ_run (Cert.KGluIdeal.defs (F := Ideal)) (onTc (τ := Cert.KGluIdeal.τ) (Cert.KGluIdeal.main (F := Ideal))) ⟨m, fun _ => 0, g⟩ (fun r => ∀ c : Dev Cert.KGluIdeal.nD,
          r.2.mem ((c.tc : Thread Cert.KGluIdeal.nD Cert.KGluIdeal.τ).loc Cert.KGluIdeal.main_v0_0) = v0 c
          ∧ r.2.mem ((c.tc : Thread Cert.KGluIdeal.nD Cert.KGluIdeal.τ).loc Cert.KGluIdeal.main_v0_1) = v1 c
          ∧ r.2.mem ((c.tc : Thread Cert.KGluIdeal.nD Cert.KGluIdeal.τ).loc Cert.KGluIdeal.main_v0_2) = v2 c
          ∧ r.2.mem ((c.tc : Thread Cert.KGluIdeal.nD Cert.KGluIdeal.τ).loc Cert.KGluIdeal.main_v0_3) = v3 c
          ∧ r.2.mem ((c.tc : Thread Cert.KGluIdeal.nD Cert.KGluIdeal.τ).loc Cert.KGluIdeal.main_arg0) = m ((c.tc : Thread Cert.KGluIdeal.nD Cert.KGluIdeal.τ).loc Cert.KGluIdeal.main_arg0)
          ∧ r.2.mem ((c.tc : Thread Cert.KGluIdeal.nD Cert.KGluIdeal.τ).loc Cert.KGluIdeal.main_arg1) = m ((c.tc : Thread Cert.KGluIdeal.nD Cert.KGluIdeal.τ).loc Cert.KGluIdeal.main_arg1)
          ∧ r.2.mem ((c.tc : Thread Cert.KGluIdeal.nD Cert.KGluIdeal.τ).loc Cert.KGluIdeal.main_arg2) = m ((c.tc : Thread Cert.KGluIdeal.nD Cert.KGluIdeal.τ).loc Cert.KGluIdeal.main_arg2)
          ∧ r.2.mem ((c.tc : Thread Cert.KGluIdeal.nD Cert.KGluIdeal.τ).loc Cert.KGluIdeal.main_arg3) = m ((c.tc : Thread Cert.KGluIdeal.nD Cert.KGluIdeal.τ).loc Cert.KGluIdeal.main_arg3)
          ∧ r.2.mem ((c.tc : Thread Cert.KGluIdeal.nD Cert.KGluIdeal.τ).loc Cert.KGluIdeal.main_arg4) = m ((c.tc : Thread Cert.KGluIdeal.nD Cert.KGluIdeal.τ).loc Cert.KGluIdeal.main_arg4))
      ∧ θ_run (Cert.RGluIdeal.defs (F := Ideal)) (onTc (τ := Cert.RGluIdeal.τ) (Cert.RGluIdeal.main (F := Ideal))) ⟨m', fun _ => 0, g'⟩ (fun r => ∀ c : Dev Cert.RGluIdeal.nD,
          r.2.mem ((c.tc : Thread Cert.RGluIdeal.nD Cert.RGluIdeal.τ).loc Cert.RGluIdeal.main_v73) = v0 c
          ∧ r.2.mem ((c.tc : Thread Cert.RGluIdeal.nD Cert.RGluIdeal.τ).loc Cert.RGluIdeal.main_v229) = v1 c
          ∧ r.2.mem ((c.tc : Thread Cert.RGluIdeal.nD Cert.RGluIdeal.τ).loc Cert.RGluIdeal.main_v191) = v2 c
          ∧ r.2.mem ((c.tc : Thread Cert.RGluIdeal.nD Cert.RGluIdeal.τ).loc Cert.RGluIdeal.main_v228) = v3 c
          ∧ r.2.mem ((c.tc : Thread Cert.RGluIdeal.nD Cert.RGluIdeal.τ).loc Cert.RGluIdeal.main_arg0) = m' ((c.tc : Thread Cert.RGluIdeal.nD Cert.RGluIdeal.τ).loc Cert.RGluIdeal.main_arg0)
          ∧ r.2.mem ((c.tc : Thread Cert.RGluIdeal.nD Cert.RGluIdeal.τ).loc Cert.RGluIdeal.main_arg1) = m' ((c.tc : Thread Cert.RGluIdeal.nD Cert.RGluIdeal.τ).loc Cert.RGluIdeal.main_arg1)
          ∧ r.2.mem ((c.tc : Thread Cert.RGluIdeal.nD Cert.RGluIdeal.τ).loc Cert.RGluIdeal.main_arg2) = m' ((c.tc : Thread Cert.RGluIdeal.nD Cert.RGluIdeal.τ).loc Cert.RGluIdeal.main_arg2)
          ∧ r.2.mem ((c.tc : Thread Cert.RGluIdeal.nD Cert.RGluIdeal.τ).loc Cert.RGluIdeal.main_arg3) = m' ((c.tc : Thread Cert.RGluIdeal.nD Cert.RGluIdeal.τ).loc Cert.RGluIdeal.main_arg3)
          ∧ r.2.mem ((c.tc : Thread Cert.RGluIdeal.nD Cert.RGluIdeal.τ).loc Cert.RGluIdeal.main_arg4) = m' ((c.tc : Thread Cert.RGluIdeal.nD Cert.RGluIdeal.τ).loc Cert.RGluIdeal.main_arg4))

def preserves_KGelu_KGeluIdeal : Prop :=
  True

def algebraic_KGeluIdeal_RGeluIdeal [hKGeluIdeal : Cert.KGeluIdeal.Facts] [hRGeluIdeal : Cert.RGeluIdeal.Facts] : Prop :=
  ∀ (m : (ℓ : Loc Cert.KGeluIdeal.nD Cert.KGeluIdeal.τ Cert.KGeluIdeal.sig) → Buf (Elt Ideal) ℓ) (g : Dev Cert.KGeluIdeal.nD → PrngReg)
    (m' : (ℓ : Loc Cert.RGeluIdeal.nD Cert.RGeluIdeal.τ Cert.RGeluIdeal.sig) → Buf (Elt Ideal) ℓ) (g' : Dev Cert.RGeluIdeal.nD → PrngReg), Pre_KGeluIdeal m →
    (∀ c : Dev Cert.KGeluIdeal.nD,
      m' ((c.tc : Thread Cert.RGeluIdeal.nD Cert.RGeluIdeal.τ).loc Cert.RGeluIdeal.main_arg0) = m ((c.tc : Thread Cert.KGeluIdeal.nD Cert.KGeluIdeal.τ).loc Cert.KGeluIdeal.main_arg0)
      ∧ m' ((c.tc : Thread Cert.RGeluIdeal.nD Cert.RGeluIdeal.τ).loc Cert.RGeluIdeal.main_arg1) = m ((c.tc : Thread Cert.KGeluIdeal.nD Cert.KGeluIdeal.τ).loc Cert.KGeluIdeal.main_arg1)
      ∧ m' ((c.tc : Thread Cert.RGeluIdeal.nD Cert.RGeluIdeal.τ).loc Cert.RGeluIdeal.main_arg2) = m ((c.tc : Thread Cert.KGeluIdeal.nD Cert.KGeluIdeal.τ).loc Cert.KGeluIdeal.main_arg2)
      ∧ m' ((c.tc : Thread Cert.RGeluIdeal.nD Cert.RGeluIdeal.τ).loc Cert.RGeluIdeal.main_arg3) = m ((c.tc : Thread Cert.KGeluIdeal.nD Cert.KGeluIdeal.τ).loc Cert.KGeluIdeal.main_arg3)) →
    ∃ (v0 : (c : Dev Cert.KGeluIdeal.nD) → Buf (Elt Ideal) ((c.tc : Thread Cert.KGeluIdeal.nD Cert.KGeluIdeal.τ).loc Cert.KGeluIdeal.main_v0)),
      θ_run (Cert.KGeluIdeal.defs (F := Ideal)) (onTc (τ := Cert.KGeluIdeal.τ) (Cert.KGeluIdeal.main (F := Ideal))) ⟨m, fun _ => 0, g⟩ (fun r => ∀ c : Dev Cert.KGeluIdeal.nD,
          r.2.mem ((c.tc : Thread Cert.KGeluIdeal.nD Cert.KGeluIdeal.τ).loc Cert.KGeluIdeal.main_v0) = v0 c
          ∧ r.2.mem ((c.tc : Thread Cert.KGeluIdeal.nD Cert.KGeluIdeal.τ).loc Cert.KGeluIdeal.main_arg0) = m ((c.tc : Thread Cert.KGeluIdeal.nD Cert.KGeluIdeal.τ).loc Cert.KGeluIdeal.main_arg0)
          ∧ r.2.mem ((c.tc : Thread Cert.KGeluIdeal.nD Cert.KGeluIdeal.τ).loc Cert.KGeluIdeal.main_arg1) = m ((c.tc : Thread Cert.KGeluIdeal.nD Cert.KGeluIdeal.τ).loc Cert.KGeluIdeal.main_arg1)
          ∧ r.2.mem ((c.tc : Thread Cert.KGeluIdeal.nD Cert.KGeluIdeal.τ).loc Cert.KGeluIdeal.main_arg2) = m ((c.tc : Thread Cert.KGeluIdeal.nD Cert.KGeluIdeal.τ).loc Cert.KGeluIdeal.main_arg2)
          ∧ r.2.mem ((c.tc : Thread Cert.KGeluIdeal.nD Cert.KGeluIdeal.τ).loc Cert.KGeluIdeal.main_arg3) = m ((c.tc : Thread Cert.KGeluIdeal.nD Cert.KGeluIdeal.τ).loc Cert.KGeluIdeal.main_arg3))
      ∧ θ_run (Cert.RGeluIdeal.defs (F := Ideal)) (onTc (τ := Cert.RGeluIdeal.τ) (Cert.RGeluIdeal.main (F := Ideal))) ⟨m', fun _ => 0, g'⟩ (fun r => ∀ c : Dev Cert.RGeluIdeal.nD,
          r.2.mem ((c.tc : Thread Cert.RGeluIdeal.nD Cert.RGeluIdeal.τ).loc Cert.RGeluIdeal.main_v37) = v0 c
          ∧ r.2.mem ((c.tc : Thread Cert.RGeluIdeal.nD Cert.RGeluIdeal.τ).loc Cert.RGeluIdeal.main_arg0) = m' ((c.tc : Thread Cert.RGeluIdeal.nD Cert.RGeluIdeal.τ).loc Cert.RGeluIdeal.main_arg0)
          ∧ r.2.mem ((c.tc : Thread Cert.RGeluIdeal.nD Cert.RGeluIdeal.τ).loc Cert.RGeluIdeal.main_arg1) = m' ((c.tc : Thread Cert.RGeluIdeal.nD Cert.RGeluIdeal.τ).loc Cert.RGeluIdeal.main_arg1)
          ∧ r.2.mem ((c.tc : Thread Cert.RGeluIdeal.nD Cert.RGeluIdeal.τ).loc Cert.RGeluIdeal.main_arg2) = m' ((c.tc : Thread Cert.RGeluIdeal.nD Cert.RGeluIdeal.τ).loc Cert.RGeluIdeal.main_arg2)
          ∧ r.2.mem ((c.tc : Thread Cert.RGeluIdeal.nD Cert.RGeluIdeal.τ).loc Cert.RGeluIdeal.main_arg3) = m' ((c.tc : Thread Cert.RGeluIdeal.nD Cert.RGeluIdeal.τ).loc Cert.RGeluIdeal.main_arg3))

def preserves_KZoh_KZohIdeal : Prop :=
  True

def algebraic_KZohIdeal_RZohIdeal [hKZohIdeal : Cert.KZohIdeal.Facts] [hRZohIdeal : Cert.RZohIdeal.Facts] : Prop :=
  ∀ (m : (ℓ : Loc Cert.KZohIdeal.nD Cert.KZohIdeal.τ Cert.KZohIdeal.sig) → Buf (Elt Ideal) ℓ) (g : Dev Cert.KZohIdeal.nD → PrngReg)
    (m' : (ℓ : Loc Cert.RZohIdeal.nD Cert.RZohIdeal.τ Cert.RZohIdeal.sig) → Buf (Elt Ideal) ℓ) (g' : Dev Cert.RZohIdeal.nD → PrngReg), Pre_KZohIdeal m →
    (∀ c : Dev Cert.KZohIdeal.nD,
      m' ((c.tc : Thread Cert.RZohIdeal.nD Cert.RZohIdeal.τ).loc Cert.RZohIdeal.main_arg0) = m ((c.tc : Thread Cert.KZohIdeal.nD Cert.KZohIdeal.τ).loc Cert.KZohIdeal.main_arg0)
      ∧ m' ((c.tc : Thread Cert.RZohIdeal.nD Cert.RZohIdeal.τ).loc Cert.RZohIdeal.main_arg1) = m ((c.tc : Thread Cert.KZohIdeal.nD Cert.KZohIdeal.τ).loc Cert.KZohIdeal.main_arg1)
      ∧ m' ((c.tc : Thread Cert.RZohIdeal.nD Cert.RZohIdeal.τ).loc Cert.RZohIdeal.main_arg2) = m ((c.tc : Thread Cert.KZohIdeal.nD Cert.KZohIdeal.τ).loc Cert.KZohIdeal.main_arg2)
      ∧ m' ((c.tc : Thread Cert.RZohIdeal.nD Cert.RZohIdeal.τ).loc Cert.RZohIdeal.main_arg3) = m ((c.tc : Thread Cert.KZohIdeal.nD Cert.KZohIdeal.τ).loc Cert.KZohIdeal.main_arg3)
      ∧ m' ((c.tc : Thread Cert.RZohIdeal.nD Cert.RZohIdeal.τ).loc Cert.RZohIdeal.main_arg4) = m ((c.tc : Thread Cert.KZohIdeal.nD Cert.KZohIdeal.τ).loc Cert.KZohIdeal.main_arg4)
      ∧ m' ((c.tc : Thread Cert.RZohIdeal.nD Cert.RZohIdeal.τ).loc Cert.RZohIdeal.main_arg5) = m ((c.tc : Thread Cert.KZohIdeal.nD Cert.KZohIdeal.τ).loc Cert.KZohIdeal.main_arg5)
      ∧ m' ((c.tc : Thread Cert.RZohIdeal.nD Cert.RZohIdeal.τ).loc Cert.RZohIdeal.main_arg6) = m ((c.tc : Thread Cert.KZohIdeal.nD Cert.KZohIdeal.τ).loc Cert.KZohIdeal.main_arg6)
      ∧ m' ((c.tc : Thread Cert.RZohIdeal.nD Cert.RZohIdeal.τ).loc Cert.RZohIdeal.main_arg7) = m ((c.tc : Thread Cert.KZohIdeal.nD Cert.KZohIdeal.τ).loc Cert.KZohIdeal.main_arg7)
      ∧ m' ((c.tc : Thread Cert.RZohIdeal.nD Cert.RZohIdeal.τ).loc Cert.RZohIdeal.main_arg8) = m ((c.tc : Thread Cert.KZohIdeal.nD Cert.KZohIdeal.τ).loc Cert.KZohIdeal.main_arg8)) →
    ∃ (v0 : (c : Dev Cert.KZohIdeal.nD) → Buf (Elt Ideal) ((c.tc : Thread Cert.KZohIdeal.nD Cert.KZohIdeal.τ).loc Cert.KZohIdeal.main_v9_0)) (v1 : (c : Dev Cert.KZohIdeal.nD) → Buf (Elt Ideal) ((c.tc : Thread Cert.KZohIdeal.nD Cert.KZohIdeal.τ).loc Cert.KZohIdeal.main_v9_1)) (v2 : (c : Dev Cert.KZohIdeal.nD) → Buf (Elt Ideal) ((c.tc : Thread Cert.KZohIdeal.nD Cert.KZohIdeal.τ).loc Cert.KZohIdeal.main_v9_2)) (v3 : (c : Dev Cert.KZohIdeal.nD) → Buf (Elt Ideal) ((c.tc : Thread Cert.KZohIdeal.nD Cert.KZohIdeal.τ).loc Cert.KZohIdeal.main_v9_3)) (v4 : (c : Dev Cert.KZohIdeal.nD) → Buf (Elt Ideal) ((c.tc : Thread Cert.KZohIdeal.nD Cert.KZohIdeal.τ).loc Cert.KZohIdeal.main_v9_4)),
      θ_run (Cert.KZohIdeal.defs (F := Ideal)) (onTc (τ := Cert.KZohIdeal.τ) (Cert.KZohIdeal.main (F := Ideal))) ⟨m, fun _ => 0, g⟩ (fun r => ∀ c : Dev Cert.KZohIdeal.nD,
          r.2.mem ((c.tc : Thread Cert.KZohIdeal.nD Cert.KZohIdeal.τ).loc Cert.KZohIdeal.main_v9_0) = v0 c
          ∧ r.2.mem ((c.tc : Thread Cert.KZohIdeal.nD Cert.KZohIdeal.τ).loc Cert.KZohIdeal.main_v9_1) = v1 c
          ∧ r.2.mem ((c.tc : Thread Cert.KZohIdeal.nD Cert.KZohIdeal.τ).loc Cert.KZohIdeal.main_v9_2) = v2 c
          ∧ r.2.mem ((c.tc : Thread Cert.KZohIdeal.nD Cert.KZohIdeal.τ).loc Cert.KZohIdeal.main_v9_3) = v3 c
          ∧ r.2.mem ((c.tc : Thread Cert.KZohIdeal.nD Cert.KZohIdeal.τ).loc Cert.KZohIdeal.main_v9_4) = v4 c
          ∧ r.2.mem ((c.tc : Thread Cert.KZohIdeal.nD Cert.KZohIdeal.τ).loc Cert.KZohIdeal.main_arg0) = m ((c.tc : Thread Cert.KZohIdeal.nD Cert.KZohIdeal.τ).loc Cert.KZohIdeal.main_arg0)
          ∧ r.2.mem ((c.tc : Thread Cert.KZohIdeal.nD Cert.KZohIdeal.τ).loc Cert.KZohIdeal.main_arg1) = m ((c.tc : Thread Cert.KZohIdeal.nD Cert.KZohIdeal.τ).loc Cert.KZohIdeal.main_arg1)
          ∧ r.2.mem ((c.tc : Thread Cert.KZohIdeal.nD Cert.KZohIdeal.τ).loc Cert.KZohIdeal.main_arg2) = m ((c.tc : Thread Cert.KZohIdeal.nD Cert.KZohIdeal.τ).loc Cert.KZohIdeal.main_arg2)
          ∧ r.2.mem ((c.tc : Thread Cert.KZohIdeal.nD Cert.KZohIdeal.τ).loc Cert.KZohIdeal.main_arg3) = m ((c.tc : Thread Cert.KZohIdeal.nD Cert.KZohIdeal.τ).loc Cert.KZohIdeal.main_arg3)
          ∧ r.2.mem ((c.tc : Thread Cert.KZohIdeal.nD Cert.KZohIdeal.τ).loc Cert.KZohIdeal.main_arg4) = m ((c.tc : Thread Cert.KZohIdeal.nD Cert.KZohIdeal.τ).loc Cert.KZohIdeal.main_arg4)
          ∧ r.2.mem ((c.tc : Thread Cert.KZohIdeal.nD Cert.KZohIdeal.τ).loc Cert.KZohIdeal.main_arg5) = m ((c.tc : Thread Cert.KZohIdeal.nD Cert.KZohIdeal.τ).loc Cert.KZohIdeal.main_arg5)
          ∧ r.2.mem ((c.tc : Thread Cert.KZohIdeal.nD Cert.KZohIdeal.τ).loc Cert.KZohIdeal.main_arg6) = m ((c.tc : Thread Cert.KZohIdeal.nD Cert.KZohIdeal.τ).loc Cert.KZohIdeal.main_arg6)
          ∧ r.2.mem ((c.tc : Thread Cert.KZohIdeal.nD Cert.KZohIdeal.τ).loc Cert.KZohIdeal.main_arg7) = m ((c.tc : Thread Cert.KZohIdeal.nD Cert.KZohIdeal.τ).loc Cert.KZohIdeal.main_arg7)
          ∧ r.2.mem ((c.tc : Thread Cert.KZohIdeal.nD Cert.KZohIdeal.τ).loc Cert.KZohIdeal.main_arg8) = m ((c.tc : Thread Cert.KZohIdeal.nD Cert.KZohIdeal.τ).loc Cert.KZohIdeal.main_arg8))
      ∧ θ_run (Cert.RZohIdeal.defs (F := Ideal)) (onTc (τ := Cert.RZohIdeal.τ) (Cert.RZohIdeal.main (F := Ideal))) ⟨m', fun _ => 0, g'⟩ (fun r => ∀ c : Dev Cert.RZohIdeal.nD,
          r.2.mem ((c.tc : Thread Cert.RZohIdeal.nD Cert.RZohIdeal.τ).loc Cert.RZohIdeal.main_v141) = v0 c
          ∧ r.2.mem ((c.tc : Thread Cert.RZohIdeal.nD Cert.RZohIdeal.τ).loc Cert.RZohIdeal.main_v142) = v1 c
          ∧ r.2.mem ((c.tc : Thread Cert.RZohIdeal.nD Cert.RZohIdeal.τ).loc Cert.RZohIdeal.main_v143) = v2 c
          ∧ r.2.mem ((c.tc : Thread Cert.RZohIdeal.nD Cert.RZohIdeal.τ).loc Cert.RZohIdeal.main_v144) = v3 c
          ∧ r.2.mem ((c.tc : Thread Cert.RZohIdeal.nD Cert.RZohIdeal.τ).loc Cert.RZohIdeal.main_v145) = v4 c
          ∧ r.2.mem ((c.tc : Thread Cert.RZohIdeal.nD Cert.RZohIdeal.τ).loc Cert.RZohIdeal.main_arg0) = m' ((c.tc : Thread Cert.RZohIdeal.nD Cert.RZohIdeal.τ).loc Cert.RZohIdeal.main_arg0)
          ∧ r.2.mem ((c.tc : Thread Cert.RZohIdeal.nD Cert.RZohIdeal.τ).loc Cert.RZohIdeal.main_arg1) = m' ((c.tc : Thread Cert.RZohIdeal.nD Cert.RZohIdeal.τ).loc Cert.RZohIdeal.main_arg1)
          ∧ r.2.mem ((c.tc : Thread Cert.RZohIdeal.nD Cert.RZohIdeal.τ).loc Cert.RZohIdeal.main_arg2) = m' ((c.tc : Thread Cert.RZohIdeal.nD Cert.RZohIdeal.τ).loc Cert.RZohIdeal.main_arg2)
          ∧ r.2.mem ((c.tc : Thread Cert.RZohIdeal.nD Cert.RZohIdeal.τ).loc Cert.RZohIdeal.main_arg3) = m' ((c.tc : Thread Cert.RZohIdeal.nD Cert.RZohIdeal.τ).loc Cert.RZohIdeal.main_arg3)
          ∧ r.2.mem ((c.tc : Thread Cert.RZohIdeal.nD Cert.RZohIdeal.τ).loc Cert.RZohIdeal.main_arg4) = m' ((c.tc : Thread Cert.RZohIdeal.nD Cert.RZohIdeal.τ).loc Cert.RZohIdeal.main_arg4)
          ∧ r.2.mem ((c.tc : Thread Cert.RZohIdeal.nD Cert.RZohIdeal.τ).loc Cert.RZohIdeal.main_arg5) = m' ((c.tc : Thread Cert.RZohIdeal.nD Cert.RZohIdeal.τ).loc Cert.RZohIdeal.main_arg5)
          ∧ r.2.mem ((c.tc : Thread Cert.RZohIdeal.nD Cert.RZohIdeal.τ).loc Cert.RZohIdeal.main_arg6) = m' ((c.tc : Thread Cert.RZohIdeal.nD Cert.RZohIdeal.τ).loc Cert.RZohIdeal.main_arg6)
          ∧ r.2.mem ((c.tc : Thread Cert.RZohIdeal.nD Cert.RZohIdeal.τ).loc Cert.RZohIdeal.main_arg7) = m' ((c.tc : Thread Cert.RZohIdeal.nD Cert.RZohIdeal.τ).loc Cert.RZohIdeal.main_arg7)
          ∧ r.2.mem ((c.tc : Thread Cert.RZohIdeal.nD Cert.RZohIdeal.τ).loc Cert.RZohIdeal.main_arg8) = m' ((c.tc : Thread Cert.RZohIdeal.nD Cert.RZohIdeal.τ).loc Cert.RZohIdeal.main_arg8))

def preserves_KMlpIn_KMlpInIdeal : Prop :=
  True

def algebraic_KMlpInIdeal_RMlpInIdeal [hKMlpInIdeal : Cert.KMlpInIdeal.Facts] [hRMlpInIdeal : Cert.RMlpInIdeal.Facts] : Prop :=
  ∀ (m : (ℓ : Loc Cert.KMlpInIdeal.nD Cert.KMlpInIdeal.τ Cert.KMlpInIdeal.sig) → Buf (Elt Ideal) ℓ) (g : Dev Cert.KMlpInIdeal.nD → PrngReg)
    (m' : (ℓ : Loc Cert.RMlpInIdeal.nD Cert.RMlpInIdeal.τ Cert.RMlpInIdeal.sig) → Buf (Elt Ideal) ℓ) (g' : Dev Cert.RMlpInIdeal.nD → PrngReg), Pre_KMlpInIdeal m →
    (∀ c : Dev Cert.KMlpInIdeal.nD,
      m' ((c.tc : Thread Cert.RMlpInIdeal.nD Cert.RMlpInIdeal.τ).loc Cert.RMlpInIdeal.main_arg0) = m ((c.tc : Thread Cert.KMlpInIdeal.nD Cert.KMlpInIdeal.τ).loc Cert.KMlpInIdeal.main_arg0)
      ∧ m' ((c.tc : Thread Cert.RMlpInIdeal.nD Cert.RMlpInIdeal.τ).loc Cert.RMlpInIdeal.main_arg1) = m ((c.tc : Thread Cert.KMlpInIdeal.nD Cert.KMlpInIdeal.τ).loc Cert.KMlpInIdeal.main_arg1)) →
    ∃ (v0 : (c : Dev Cert.KMlpInIdeal.nD) → Buf (Elt Ideal) ((c.tc : Thread Cert.KMlpInIdeal.nD Cert.KMlpInIdeal.τ).loc Cert.KMlpInIdeal.main_v0_0)) (v1 : (c : Dev Cert.KMlpInIdeal.nD) → Buf (Elt Ideal) ((c.tc : Thread Cert.KMlpInIdeal.nD Cert.KMlpInIdeal.τ).loc Cert.KMlpInIdeal.main_v0_1)),
      θ_run (Cert.KMlpInIdeal.defs (F := Ideal)) (onTc (τ := Cert.KMlpInIdeal.τ) (Cert.KMlpInIdeal.main (F := Ideal))) ⟨m, fun _ => 0, g⟩ (fun r => ∀ c : Dev Cert.KMlpInIdeal.nD,
          r.2.mem ((c.tc : Thread Cert.KMlpInIdeal.nD Cert.KMlpInIdeal.τ).loc Cert.KMlpInIdeal.main_v0_0) = v0 c
          ∧ r.2.mem ((c.tc : Thread Cert.KMlpInIdeal.nD Cert.KMlpInIdeal.τ).loc Cert.KMlpInIdeal.main_v0_1) = v1 c
          ∧ r.2.mem ((c.tc : Thread Cert.KMlpInIdeal.nD Cert.KMlpInIdeal.τ).loc Cert.KMlpInIdeal.main_arg0) = m ((c.tc : Thread Cert.KMlpInIdeal.nD Cert.KMlpInIdeal.τ).loc Cert.KMlpInIdeal.main_arg0)
          ∧ r.2.mem ((c.tc : Thread Cert.KMlpInIdeal.nD Cert.KMlpInIdeal.τ).loc Cert.KMlpInIdeal.main_arg1) = m ((c.tc : Thread Cert.KMlpInIdeal.nD Cert.KMlpInIdeal.τ).loc Cert.KMlpInIdeal.main_arg1))
      ∧ θ_run (Cert.RMlpInIdeal.defs (F := Ideal)) (onTc (τ := Cert.RMlpInIdeal.τ) (Cert.RMlpInIdeal.main (F := Ideal))) ⟨m', fun _ => 0, g'⟩ (fun r => ∀ c : Dev Cert.RMlpInIdeal.nD,
          r.2.mem ((c.tc : Thread Cert.RMlpInIdeal.nD Cert.RMlpInIdeal.τ).loc Cert.RMlpInIdeal.main_v5) = v0 c
          ∧ r.2.mem ((c.tc : Thread Cert.RMlpInIdeal.nD Cert.RMlpInIdeal.τ).loc Cert.RMlpInIdeal.main_v6) = v1 c
          ∧ r.2.mem ((c.tc : Thread Cert.RMlpInIdeal.nD Cert.RMlpInIdeal.τ).loc Cert.RMlpInIdeal.main_arg0) = m' ((c.tc : Thread Cert.RMlpInIdeal.nD Cert.RMlpInIdeal.τ).loc Cert.RMlpInIdeal.main_arg0)
          ∧ r.2.mem ((c.tc : Thread Cert.RMlpInIdeal.nD Cert.RMlpInIdeal.τ).loc Cert.RMlpInIdeal.main_arg1) = m' ((c.tc : Thread Cert.RMlpInIdeal.nD Cert.RMlpInIdeal.τ).loc Cert.RMlpInIdeal.main_arg1))

def preserves_KOutProj_KOutProjIdeal : Prop :=
  True

def algebraic_KOutProjIdeal_ROutProjIdeal [hKOutProjIdeal : Cert.KOutProjIdeal.Facts] [hROutProjIdeal : Cert.ROutProjIdeal.Facts] : Prop :=
  ∀ (m : (ℓ : Loc Cert.KOutProjIdeal.nD Cert.KOutProjIdeal.τ Cert.KOutProjIdeal.sig) → Buf (Elt Ideal) ℓ) (g : Dev Cert.KOutProjIdeal.nD → PrngReg)
    (m' : (ℓ : Loc Cert.ROutProjIdeal.nD Cert.ROutProjIdeal.τ Cert.ROutProjIdeal.sig) → Buf (Elt Ideal) ℓ) (g' : Dev Cert.ROutProjIdeal.nD → PrngReg), Pre_KOutProjIdeal m →
    (∀ c : Dev Cert.KOutProjIdeal.nD,
      m' ((c.tc : Thread Cert.ROutProjIdeal.nD Cert.ROutProjIdeal.τ).loc Cert.ROutProjIdeal.main_arg0) = m ((c.tc : Thread Cert.KOutProjIdeal.nD Cert.KOutProjIdeal.τ).loc Cert.KOutProjIdeal.main_arg0)
      ∧ m' ((c.tc : Thread Cert.ROutProjIdeal.nD Cert.ROutProjIdeal.τ).loc Cert.ROutProjIdeal.main_arg1) = m ((c.tc : Thread Cert.KOutProjIdeal.nD Cert.KOutProjIdeal.τ).loc Cert.KOutProjIdeal.main_arg1)
      ∧ m' ((c.tc : Thread Cert.ROutProjIdeal.nD Cert.ROutProjIdeal.τ).loc Cert.ROutProjIdeal.main_arg2) = m ((c.tc : Thread Cert.KOutProjIdeal.nD Cert.KOutProjIdeal.τ).loc Cert.KOutProjIdeal.main_arg2)
      ∧ m' ((c.tc : Thread Cert.ROutProjIdeal.nD Cert.ROutProjIdeal.τ).loc Cert.ROutProjIdeal.main_arg3) = m ((c.tc : Thread Cert.KOutProjIdeal.nD Cert.KOutProjIdeal.τ).loc Cert.KOutProjIdeal.main_arg3)) →
    ∃ (v0 : (c : Dev Cert.KOutProjIdeal.nD) → Buf (Elt Ideal) ((c.tc : Thread Cert.KOutProjIdeal.nD Cert.KOutProjIdeal.τ).loc Cert.KOutProjIdeal.main_v0_0)) (v1 : (c : Dev Cert.KOutProjIdeal.nD) → Buf (Elt Ideal) ((c.tc : Thread Cert.KOutProjIdeal.nD Cert.KOutProjIdeal.τ).loc Cert.KOutProjIdeal.main_v0_1)),
      θ_run (Cert.KOutProjIdeal.defs (F := Ideal)) (onTc (τ := Cert.KOutProjIdeal.τ) (Cert.KOutProjIdeal.main (F := Ideal))) ⟨m, fun _ => 0, g⟩ (fun r => ∀ c : Dev Cert.KOutProjIdeal.nD,
          r.2.mem ((c.tc : Thread Cert.KOutProjIdeal.nD Cert.KOutProjIdeal.τ).loc Cert.KOutProjIdeal.main_v0_0) = v0 c
          ∧ r.2.mem ((c.tc : Thread Cert.KOutProjIdeal.nD Cert.KOutProjIdeal.τ).loc Cert.KOutProjIdeal.main_v0_1) = v1 c
          ∧ r.2.mem ((c.tc : Thread Cert.KOutProjIdeal.nD Cert.KOutProjIdeal.τ).loc Cert.KOutProjIdeal.main_arg0) = m ((c.tc : Thread Cert.KOutProjIdeal.nD Cert.KOutProjIdeal.τ).loc Cert.KOutProjIdeal.main_arg0)
          ∧ r.2.mem ((c.tc : Thread Cert.KOutProjIdeal.nD Cert.KOutProjIdeal.τ).loc Cert.KOutProjIdeal.main_arg1) = m ((c.tc : Thread Cert.KOutProjIdeal.nD Cert.KOutProjIdeal.τ).loc Cert.KOutProjIdeal.main_arg1)
          ∧ r.2.mem ((c.tc : Thread Cert.KOutProjIdeal.nD Cert.KOutProjIdeal.τ).loc Cert.KOutProjIdeal.main_arg2) = m ((c.tc : Thread Cert.KOutProjIdeal.nD Cert.KOutProjIdeal.τ).loc Cert.KOutProjIdeal.main_arg2)
          ∧ r.2.mem ((c.tc : Thread Cert.KOutProjIdeal.nD Cert.KOutProjIdeal.τ).loc Cert.KOutProjIdeal.main_arg3) = m ((c.tc : Thread Cert.KOutProjIdeal.nD Cert.KOutProjIdeal.τ).loc Cert.KOutProjIdeal.main_arg3))
      ∧ θ_run (Cert.ROutProjIdeal.defs (F := Ideal)) (onTc (τ := Cert.ROutProjIdeal.τ) (Cert.ROutProjIdeal.main (F := Ideal))) ⟨m', fun _ => 0, g'⟩ (fun r => ∀ c : Dev Cert.ROutProjIdeal.nD,
          r.2.mem ((c.tc : Thread Cert.ROutProjIdeal.nD Cert.ROutProjIdeal.τ).loc Cert.ROutProjIdeal.main_v3) = v0 c
          ∧ r.2.mem ((c.tc : Thread Cert.ROutProjIdeal.nD Cert.ROutProjIdeal.τ).loc Cert.ROutProjIdeal.main_v16) = v1 c
          ∧ r.2.mem ((c.tc : Thread Cert.ROutProjIdeal.nD Cert.ROutProjIdeal.τ).loc Cert.ROutProjIdeal.main_arg0) = m' ((c.tc : Thread Cert.ROutProjIdeal.nD Cert.ROutProjIdeal.τ).loc Cert.ROutProjIdeal.main_arg0)
          ∧ r.2.mem ((c.tc : Thread Cert.ROutProjIdeal.nD Cert.ROutProjIdeal.τ).loc Cert.ROutProjIdeal.main_arg1) = m' ((c.tc : Thread Cert.ROutProjIdeal.nD Cert.ROutProjIdeal.τ).loc Cert.ROutProjIdeal.main_arg1)
          ∧ r.2.mem ((c.tc : Thread Cert.ROutProjIdeal.nD Cert.ROutProjIdeal.τ).loc Cert.ROutProjIdeal.main_arg2) = m' ((c.tc : Thread Cert.ROutProjIdeal.nD Cert.ROutProjIdeal.τ).loc Cert.ROutProjIdeal.main_arg2)
          ∧ r.2.mem ((c.tc : Thread Cert.ROutProjIdeal.nD Cert.ROutProjIdeal.τ).loc Cert.ROutProjIdeal.main_arg3) = m' ((c.tc : Thread Cert.ROutProjIdeal.nD Cert.ROutProjIdeal.τ).loc Cert.ROutProjIdeal.main_arg3))

def preserves_KGluGate_KGluGateIdeal : Prop :=
  True

def algebraic_KGluGateIdeal_RGluGateIdeal [hKGluGateIdeal : Cert.KGluGateIdeal.Facts] [hRGluGateIdeal : Cert.RGluGateIdeal.Facts] : Prop :=
  ∀ (m : (ℓ : Loc Cert.KGluGateIdeal.nD Cert.KGluGateIdeal.τ Cert.KGluGateIdeal.sig) → Buf (Elt Ideal) ℓ) (g : Dev Cert.KGluGateIdeal.nD → PrngReg)
    (m' : (ℓ : Loc Cert.RGluGateIdeal.nD Cert.RGluGateIdeal.τ Cert.RGluGateIdeal.sig) → Buf (Elt Ideal) ℓ) (g' : Dev Cert.RGluGateIdeal.nD → PrngReg), Pre_KGluGateIdeal m →
    (∀ c : Dev Cert.KGluGateIdeal.nD,
      m' ((c.tc : Thread Cert.RGluGateIdeal.nD Cert.RGluGateIdeal.τ).loc Cert.RGluGateIdeal.main_arg0) = m ((c.tc : Thread Cert.KGluGateIdeal.nD Cert.KGluGateIdeal.τ).loc Cert.KGluGateIdeal.main_arg0)
      ∧ m' ((c.tc : Thread Cert.RGluGateIdeal.nD Cert.RGluGateIdeal.τ).loc Cert.RGluGateIdeal.main_arg1) = m ((c.tc : Thread Cert.KGluGateIdeal.nD Cert.KGluGateIdeal.τ).loc Cert.KGluGateIdeal.main_arg1)
      ∧ m' ((c.tc : Thread Cert.RGluGateIdeal.nD Cert.RGluGateIdeal.τ).loc Cert.RGluGateIdeal.main_arg2) = m ((c.tc : Thread Cert.KGluGateIdeal.nD Cert.KGluGateIdeal.τ).loc Cert.KGluGateIdeal.main_arg2)
      ∧ m' ((c.tc : Thread Cert.RGluGateIdeal.nD Cert.RGluGateIdeal.τ).loc Cert.RGluGateIdeal.main_arg3) = m ((c.tc : Thread Cert.KGluGateIdeal.nD Cert.KGluGateIdeal.τ).loc Cert.KGluGateIdeal.main_arg3)) →
    ∃ (v0 : (c : Dev Cert.KGluGateIdeal.nD) → Buf (Elt Ideal) ((c.tc : Thread Cert.KGluGateIdeal.nD Cert.KGluGateIdeal.τ).loc Cert.KGluGateIdeal.main_v14_0)) (v1 : (c : Dev Cert.KGluGateIdeal.nD) → Buf (Elt Ideal) ((c.tc : Thread Cert.KGluGateIdeal.nD Cert.KGluGateIdeal.τ).loc Cert.KGluGateIdeal.main_v14_1)),
      θ_run (Cert.KGluGateIdeal.defs (F := Ideal)) (onTc (τ := Cert.KGluGateIdeal.τ) (Cert.KGluGateIdeal.main (F := Ideal))) ⟨m, fun _ => 0, g⟩ (fun r => ∀ c : Dev Cert.KGluGateIdeal.nD,
          r.2.mem ((c.tc : Thread Cert.KGluGateIdeal.nD Cert.KGluGateIdeal.τ).loc Cert.KGluGateIdeal.main_v14_0) = v0 c
          ∧ r.2.mem ((c.tc : Thread Cert.KGluGateIdeal.nD Cert.KGluGateIdeal.τ).loc Cert.KGluGateIdeal.main_v14_1) = v1 c
          ∧ r.2.mem ((c.tc : Thread Cert.KGluGateIdeal.nD Cert.KGluGateIdeal.τ).loc Cert.KGluGateIdeal.main_arg0) = m ((c.tc : Thread Cert.KGluGateIdeal.nD Cert.KGluGateIdeal.τ).loc Cert.KGluGateIdeal.main_arg0)
          ∧ r.2.mem ((c.tc : Thread Cert.KGluGateIdeal.nD Cert.KGluGateIdeal.τ).loc Cert.KGluGateIdeal.main_arg1) = m ((c.tc : Thread Cert.KGluGateIdeal.nD Cert.KGluGateIdeal.τ).loc Cert.KGluGateIdeal.main_arg1)
          ∧ r.2.mem ((c.tc : Thread Cert.KGluGateIdeal.nD Cert.KGluGateIdeal.τ).loc Cert.KGluGateIdeal.main_arg2) = m ((c.tc : Thread Cert.KGluGateIdeal.nD Cert.KGluGateIdeal.τ).loc Cert.KGluGateIdeal.main_arg2)
          ∧ r.2.mem ((c.tc : Thread Cert.KGluGateIdeal.nD Cert.KGluGateIdeal.τ).loc Cert.KGluGateIdeal.main_arg3) = m ((c.tc : Thread Cert.KGluGateIdeal.nD Cert.KGluGateIdeal.τ).loc Cert.KGluGateIdeal.main_arg3))
      ∧ θ_run (Cert.RGluGateIdeal.defs (F := Ideal)) (onTc (τ := Cert.RGluGateIdeal.τ) (Cert.RGluGateIdeal.main (F := Ideal))) ⟨m', fun _ => 0, g'⟩ (fun r => ∀ c : Dev Cert.RGluGateIdeal.nD,
          r.2.mem ((c.tc : Thread Cert.RGluGateIdeal.nD Cert.RGluGateIdeal.τ).loc Cert.RGluGateIdeal.main_v14) = v0 c
          ∧ r.2.mem ((c.tc : Thread Cert.RGluGateIdeal.nD Cert.RGluGateIdeal.τ).loc Cert.RGluGateIdeal.main_v36) = v1 c
          ∧ r.2.mem ((c.tc : Thread Cert.RGluGateIdeal.nD Cert.RGluGateIdeal.τ).loc Cert.RGluGateIdeal.main_arg0) = m' ((c.tc : Thread Cert.RGluGateIdeal.nD Cert.RGluGateIdeal.τ).loc Cert.RGluGateIdeal.main_arg0)
          ∧ r.2.mem ((c.tc : Thread Cert.RGluGateIdeal.nD Cert.RGluGateIdeal.τ).loc Cert.RGluGateIdeal.main_arg1) = m' ((c.tc : Thread Cert.RGluGateIdeal.nD Cert.RGluGateIdeal.τ).loc Cert.RGluGateIdeal.main_arg1)
          ∧ r.2.mem ((c.tc : Thread Cert.RGluGateIdeal.nD Cert.RGluGateIdeal.τ).loc Cert.RGluGateIdeal.main_arg2) = m' ((c.tc : Thread Cert.RGluGateIdeal.nD Cert.RGluGateIdeal.τ).loc Cert.RGluGateIdeal.main_arg2)
          ∧ r.2.mem ((c.tc : Thread Cert.RGluGateIdeal.nD Cert.RGluGateIdeal.τ).loc Cert.RGluGateIdeal.main_arg3) = m' ((c.tc : Thread Cert.RGluGateIdeal.nD Cert.RGluGateIdeal.τ).loc Cert.RGluGateIdeal.main_arg3))

def preserves_KMix_KMixIdeal : Prop :=
  True

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)) →
    ∃ (v0 : (c : Dev Cert.KMixIdeal.nD) → Buf (Elt Ideal) ((c.tc : Thread Cert.KMixIdeal.nD Cert.KMixIdeal.τ).loc Cert.KMixIdeal.main_v8)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v8) = v0 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v14) = v0 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2))

def preserves_KPrep_KPrepIdeal : Prop :=
  True

def algebraic_KPrepIdeal_RPrepIdeal [hKPrepIdeal : Cert.KPrepIdeal.Facts] [hRPrepIdeal : Cert.RPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg)
    (m' : (ℓ : Loc Cert.RPrepIdeal.nD Cert.RPrepIdeal.τ Cert.RPrepIdeal.sig) → Buf (Elt Ideal) ℓ) (g' : Dev Cert.RPrepIdeal.nD → PrngReg), Pre_KPrepIdeal m →
    (∀ c : Dev Cert.KPrepIdeal.nD,
      m' ((c.tc : Thread Cert.RPrepIdeal.nD Cert.RPrepIdeal.τ).loc Cert.RPrepIdeal.main_arg0) = m ((c.tc : Thread Cert.KPrepIdeal.nD Cert.KPrepIdeal.τ).loc Cert.KPrepIdeal.main_arg0)
      ∧ m' ((c.tc : Thread Cert.RPrepIdeal.nD Cert.RPrepIdeal.τ).loc Cert.RPrepIdeal.main_arg1) = m ((c.tc : Thread Cert.KPrepIdeal.nD Cert.KPrepIdeal.τ).loc Cert.KPrepIdeal.main_arg1)
      ∧ m' ((c.tc : Thread Cert.RPrepIdeal.nD Cert.RPrepIdeal.τ).loc Cert.RPrepIdeal.main_arg2) = m ((c.tc : Thread Cert.KPrepIdeal.nD Cert.KPrepIdeal.τ).loc Cert.KPrepIdeal.main_arg2)
      ∧ m' ((c.tc : Thread Cert.RPrepIdeal.nD Cert.RPrepIdeal.τ).loc Cert.RPrepIdeal.main_arg3) = m ((c.tc : Thread Cert.KPrepIdeal.nD Cert.KPrepIdeal.τ).loc Cert.KPrepIdeal.main_arg3)
      ∧ m' ((c.tc : Thread Cert.RPrepIdeal.nD Cert.RPrepIdeal.τ).loc Cert.RPrepIdeal.main_arg4) = m ((c.tc : Thread Cert.KPrepIdeal.nD Cert.KPrepIdeal.τ).loc Cert.KPrepIdeal.main_arg4)) →
    ∃ (v0 : (c : Dev Cert.KPrepIdeal.nD) → Buf (Elt Ideal) ((c.tc : Thread Cert.KPrepIdeal.nD Cert.KPrepIdeal.τ).loc Cert.KPrepIdeal.main_v5_0)) (v1 : (c : Dev Cert.KPrepIdeal.nD) → Buf (Elt Ideal) ((c.tc : Thread Cert.KPrepIdeal.nD Cert.KPrepIdeal.τ).loc Cert.KPrepIdeal.main_v5_1)) (v2 : (c : Dev Cert.KPrepIdeal.nD) → Buf (Elt Ideal) ((c.tc : Thread Cert.KPrepIdeal.nD Cert.KPrepIdeal.τ).loc Cert.KPrepIdeal.main_v5_2)) (v3 : (c : Dev Cert.KPrepIdeal.nD) → Buf (Elt Ideal) ((c.tc : Thread Cert.KPrepIdeal.nD Cert.KPrepIdeal.τ).loc Cert.KPrepIdeal.main_v5_3)),
      θ_run (Cert.KPrepIdeal.defs (F := Ideal)) (onTc (τ := Cert.KPrepIdeal.τ) (Cert.KPrepIdeal.main (F := Ideal))) ⟨m, fun _ => 0, g⟩ (fun r => ∀ c : Dev Cert.KPrepIdeal.nD,
          r.2.mem ((c.tc : Thread Cert.KPrepIdeal.nD Cert.KPrepIdeal.τ).loc Cert.KPrepIdeal.main_v5_0) = v0 c
          ∧ r.2.mem ((c.tc : Thread Cert.KPrepIdeal.nD Cert.KPrepIdeal.τ).loc Cert.KPrepIdeal.main_v5_1) = v1 c
          ∧ r.2.mem ((c.tc : Thread Cert.KPrepIdeal.nD Cert.KPrepIdeal.τ).loc Cert.KPrepIdeal.main_v5_2) = v2 c
          ∧ r.2.mem ((c.tc : Thread Cert.KPrepIdeal.nD Cert.KPrepIdeal.τ).loc Cert.KPrepIdeal.main_v5_3) = v3 c
          ∧ r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
          ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
          ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
          ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3)
          ∧ r.2.mem ((c.tc : Thread Cert.KPrepIdeal.nD Cert.KPrepIdeal.τ).loc Cert.KPrepIdeal.main_arg4) = m ((c.tc : Thread Cert.KPrepIdeal.nD Cert.KPrepIdeal.τ).loc Cert.KPrepIdeal.main_arg4))
      ∧ θ_run (Cert.RPrepIdeal.defs (F := Ideal)) (onTc (τ := Cert.RPrepIdeal.τ) (Cert.RPrepIdeal.main (F := Ideal))) ⟨m', fun _ => 0, g'⟩ (fun r => ∀ c : Dev Cert.RPrepIdeal.nD,
          r.2.mem ((c.tc : Thread Cert.RPrepIdeal.nD Cert.RPrepIdeal.τ).loc Cert.RPrepIdeal.main_v40) = v0 c
          ∧ r.2.mem ((c.tc : Thread Cert.RPrepIdeal.nD Cert.RPrepIdeal.τ).loc Cert.RPrepIdeal.main_v41) = v1 c
          ∧ r.2.mem ((c.tc : Thread Cert.RPrepIdeal.nD Cert.RPrepIdeal.τ).loc Cert.RPrepIdeal.main_v42) = v2 c
          ∧ r.2.mem ((c.tc : Thread Cert.RPrepIdeal.nD Cert.RPrepIdeal.τ).loc Cert.RPrepIdeal.main_v43) = v3 c
          ∧ r.2.mem ((c.tc : Thread Cert.RPrepIdeal.nD Cert.RPrepIdeal.τ).loc Cert.RPrepIdeal.main_arg0) = m' ((c.tc : Thread Cert.RPrepIdeal.nD Cert.RPrepIdeal.τ).loc Cert.RPrepIdeal.main_arg0)
          ∧ r.2.mem ((c.tc : Thread Cert.RPrepIdeal.nD Cert.RPrepIdeal.τ).loc Cert.RPrepIdeal.main_arg1) = m' ((c.tc : Thread Cert.RPrepIdeal.nD Cert.RPrepIdeal.τ).loc Cert.RPrepIdeal.main_arg1)
          ∧ r.2.mem ((c.tc : Thread Cert.RPrepIdeal.nD Cert.RPrepIdeal.τ).loc Cert.RPrepIdeal.main_arg2) = m' ((c.tc : Thread Cert.RPrepIdeal.nD Cert.RPrepIdeal.τ).loc Cert.RPrepIdeal.main_arg2)
          ∧ r.2.mem ((c.tc : Thread Cert.RPrepIdeal.nD Cert.RPrepIdeal.τ).loc Cert.RPrepIdeal.main_arg3) = m' ((c.tc : Thread Cert.RPrepIdeal.nD Cert.RPrepIdeal.τ).loc Cert.RPrepIdeal.main_arg3)
          ∧ r.2.mem ((c.tc : Thread Cert.RPrepIdeal.nD Cert.RPrepIdeal.τ).loc Cert.RPrepIdeal.main_arg4) = m' ((c.tc : Thread Cert.RPrepIdeal.nD Cert.RPrepIdeal.τ).loc Cert.RPrepIdeal.main_arg4))

def preserves_KProj_KProjIdeal : Prop :=
  True

def algebraic_KProjIdeal_RProjIdeal_pre_finite [hKProjIdeal : Cert.KProjIdeal.Facts] [hRProjIdeal : Cert.RProjIdeal.Facts] [hPre_finite : Cert.Pre_finite.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal_finite m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)
      ∧ m' ((c.tc : Thread Cert.RProjIdeal.nD Cert.RProjIdeal.τ).loc Cert.RProjIdeal.main_arg3) = m ((c.tc : Thread Cert.KProjIdeal.nD Cert.KProjIdeal.τ).loc Cert.KProjIdeal.main_arg3)
      ∧ m' ((c.tc : Thread Cert.RProjIdeal.nD Cert.RProjIdeal.τ).loc Cert.RProjIdeal.main_arg4) = m ((c.tc : Thread Cert.KProjIdeal.nD Cert.KProjIdeal.τ).loc Cert.KProjIdeal.main_arg4)) →
    ∃ (v0 : (c : Dev Cert.KProjIdeal.nD) → Buf (Elt Ideal) ((c.tc : Thread Cert.KProjIdeal.nD Cert.KProjIdeal.τ).loc Cert.KProjIdeal.main_v10_0)) (v1 : (c : Dev Cert.KProjIdeal.nD) → Buf (Elt Ideal) ((c.tc : Thread Cert.KProjIdeal.nD Cert.KProjIdeal.τ).loc Cert.KProjIdeal.main_v10_1)) (v2 : (c : Dev Cert.KProjIdeal.nD) → Buf (Elt Ideal) ((c.tc : Thread Cert.KProjIdeal.nD Cert.KProjIdeal.τ).loc Cert.KProjIdeal.main_v10_2)) (v3 : (c : Dev Cert.KProjIdeal.nD) → Buf (Elt Ideal) ((c.tc : Thread Cert.KProjIdeal.nD Cert.KProjIdeal.τ).loc Cert.KProjIdeal.main_v10_3)) (v4 : (c : Dev Cert.KProjIdeal.nD) → Buf (Elt Ideal) ((c.tc : Thread Cert.KProjIdeal.nD Cert.KProjIdeal.τ).loc Cert.KProjIdeal.main_v10_4)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v10_0) = v0 c
          ∧ r.2.mem ((c.tc : Thread Cert.KProjIdeal.nD Cert.KProjIdeal.τ).loc Cert.KProjIdeal.main_v10_1) = v1 c
          ∧ r.2.mem ((c.tc : Thread Cert.KProjIdeal.nD Cert.KProjIdeal.τ).loc Cert.KProjIdeal.main_v10_2) = v2 c
          ∧ r.2.mem ((c.tc : Thread Cert.KProjIdeal.nD Cert.KProjIdeal.τ).loc Cert.KProjIdeal.main_v10_3) = v3 c
          ∧ r.2.mem ((c.tc : Thread Cert.KProjIdeal.nD Cert.KProjIdeal.τ).loc Cert.KProjIdeal.main_v10_4) = v4 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
          ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
          ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v13) = v0 c
          ∧ r.2.mem ((c.tc : Thread Cert.RProjIdeal.nD Cert.RProjIdeal.τ).loc Cert.RProjIdeal.main_v48) = v1 c
          ∧ r.2.mem ((c.tc : Thread Cert.RProjIdeal.nD Cert.RProjIdeal.τ).loc Cert.RProjIdeal.main_v50) = v2 c
          ∧ r.2.mem ((c.tc : Thread Cert.RProjIdeal.nD Cert.RProjIdeal.τ).loc Cert.RProjIdeal.main_v51) = v3 c
          ∧ r.2.mem ((c.tc : Thread Cert.RProjIdeal.nD Cert.RProjIdeal.τ).loc Cert.RProjIdeal.main_v52) = v4 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2)
          ∧ r.2.mem ((c.tc : Thread Cert.RProjIdeal.nD Cert.RProjIdeal.τ).loc Cert.RProjIdeal.main_arg3) = m' ((c.tc : Thread Cert.RProjIdeal.nD Cert.RProjIdeal.τ).loc Cert.RProjIdeal.main_arg3)
          ∧ r.2.mem ((c.tc : Thread Cert.RProjIdeal.nD Cert.RProjIdeal.τ).loc Cert.RProjIdeal.main_arg4) = m' ((c.tc : Thread Cert.RProjIdeal.nD Cert.RProjIdeal.τ).loc Cert.RProjIdeal.main_arg4))

def preserves_KWeight_KWeightIdeal : Prop :=
  True

def algebraic_KWeightIdeal_RWeightIdeal [hKWeightIdeal : Cert.KWeightIdeal.Facts] [hRWeightIdeal : Cert.RWeightIdeal.Facts] : Prop :=
  ∀ (m : (ℓ : Loc Cert.KWeightIdeal.nD Cert.KWeightIdeal.τ Cert.KWeightIdeal.sig) → Buf (Elt Ideal) ℓ) (g : Dev Cert.KWeightIdeal.nD → PrngReg)
    (m' : (ℓ : Loc Cert.RWeightIdeal.nD Cert.RWeightIdeal.τ Cert.RWeightIdeal.sig) → Buf (Elt Ideal) ℓ) (g' : Dev Cert.RWeightIdeal.nD → PrngReg), Pre_KWeightIdeal m →
    (∀ c : Dev Cert.KWeightIdeal.nD,
      m' ((c.tc : Thread Cert.RWeightIdeal.nD Cert.RWeightIdeal.τ).loc Cert.RWeightIdeal.main_arg0) = m ((c.tc : Thread Cert.KWeightIdeal.nD Cert.KWeightIdeal.τ).loc Cert.KWeightIdeal.main_arg0)
      ∧ m' ((c.tc : Thread Cert.RWeightIdeal.nD Cert.RWeightIdeal.τ).loc Cert.RWeightIdeal.main_arg1) = m ((c.tc : Thread Cert.KWeightIdeal.nD Cert.KWeightIdeal.τ).loc Cert.KWeightIdeal.main_arg1)) →
    ∃ (v0 : (c : Dev Cert.KWeightIdeal.nD) → Buf (Elt Ideal) ((c.tc : Thread Cert.KWeightIdeal.nD Cert.KWeightIdeal.τ).loc Cert.KWeightIdeal.main_v0_0)) (v1 : (c : Dev Cert.KWeightIdeal.nD) → Buf (Elt Ideal) ((c.tc : Thread Cert.KWeightIdeal.nD Cert.KWeightIdeal.τ).loc Cert.KWeightIdeal.main_v0_1)),
      θ_run (Cert.KWeightIdeal.defs (F := Ideal)) (onTc (τ := Cert.KWeightIdeal.τ) (Cert.KWeightIdeal.main (F := Ideal))) ⟨m, fun _ => 0, g⟩ (fun r => ∀ c : Dev Cert.KWeightIdeal.nD,
          r.2.mem ((c.tc : Thread Cert.KWeightIdeal.nD Cert.KWeightIdeal.τ).loc Cert.KWeightIdeal.main_v0_0) = v0 c
          ∧ r.2.mem ((c.tc : Thread Cert.KWeightIdeal.nD Cert.KWeightIdeal.τ).loc Cert.KWeightIdeal.main_v0_1) = v1 c
          ∧ r.2.mem ((c.tc : Thread Cert.KWeightIdeal.nD Cert.KWeightIdeal.τ).loc Cert.KWeightIdeal.main_arg0) = m ((c.tc : Thread Cert.KWeightIdeal.nD Cert.KWeightIdeal.τ).loc Cert.KWeightIdeal.main_arg0)
          ∧ r.2.mem ((c.tc : Thread Cert.KWeightIdeal.nD Cert.KWeightIdeal.τ).loc Cert.KWeightIdeal.main_arg1) = m ((c.tc : Thread Cert.KWeightIdeal.nD Cert.KWeightIdeal.τ).loc Cert.KWeightIdeal.main_arg1))
      ∧ θ_run (Cert.RWeightIdeal.defs (F := Ideal)) (onTc (τ := Cert.RWeightIdeal.τ) (Cert.RWeightIdeal.main (F := Ideal))) ⟨m', fun _ => 0, g'⟩ (fun r => ∀ c : Dev Cert.RWeightIdeal.nD,
          r.2.mem ((c.tc : Thread Cert.RWeightIdeal.nD Cert.RWeightIdeal.τ).loc Cert.RWeightIdeal.main_v5) = v0 c
          ∧ r.2.mem ((c.tc : Thread Cert.RWeightIdeal.nD Cert.RWeightIdeal.τ).loc Cert.RWeightIdeal.main_v6) = v1 c
          ∧ r.2.mem ((c.tc : Thread Cert.RWeightIdeal.nD Cert.RWeightIdeal.τ).loc Cert.RWeightIdeal.main_arg0) = m' ((c.tc : Thread Cert.RWeightIdeal.nD Cert.RWeightIdeal.τ).loc Cert.RWeightIdeal.main_arg0)
          ∧ r.2.mem ((c.tc : Thread Cert.RWeightIdeal.nD Cert.RWeightIdeal.τ).loc Cert.RWeightIdeal.main_arg1) = m' ((c.tc : Thread Cert.RWeightIdeal.nD Cert.RWeightIdeal.τ).loc Cert.RWeightIdeal.main_arg1))

def preserves_KSmall_KSmallIdeal : Prop :=
  True

def algebraic_KSmallIdeal_RSmallIdeal [hKSmallIdeal : Cert.KSmallIdeal.Facts] [hRSmallIdeal : Cert.RSmallIdeal.Facts] : Prop :=
  ∀ (m : (ℓ : Loc Cert.KSmallIdeal.nD Cert.KSmallIdeal.τ Cert.KSmallIdeal.sig) → Buf (Elt Ideal) ℓ) (g : Dev Cert.KSmallIdeal.nD → PrngReg)
    (m' : (ℓ : Loc Cert.RSmallIdeal.nD Cert.RSmallIdeal.τ Cert.RSmallIdeal.sig) → Buf (Elt Ideal) ℓ) (g' : Dev Cert.RSmallIdeal.nD → PrngReg), Pre_KSmallIdeal m →
    (∀ c : Dev Cert.KSmallIdeal.nD,
      m' ((c.tc : Thread Cert.RSmallIdeal.nD Cert.RSmallIdeal.τ).loc Cert.RSmallIdeal.main_arg0) = m ((c.tc : Thread Cert.KSmallIdeal.nD Cert.KSmallIdeal.τ).loc Cert.KSmallIdeal.main_arg0)
      ∧ m' ((c.tc : Thread Cert.RSmallIdeal.nD Cert.RSmallIdeal.τ).loc Cert.RSmallIdeal.main_arg1) = m ((c.tc : Thread Cert.KSmallIdeal.nD Cert.KSmallIdeal.τ).loc Cert.KSmallIdeal.main_arg1)
      ∧ m' ((c.tc : Thread Cert.RSmallIdeal.nD Cert.RSmallIdeal.τ).loc Cert.RSmallIdeal.main_arg2) = m ((c.tc : Thread Cert.KSmallIdeal.nD Cert.KSmallIdeal.τ).loc Cert.KSmallIdeal.main_arg2)
      ∧ m' ((c.tc : Thread Cert.RSmallIdeal.nD Cert.RSmallIdeal.τ).loc Cert.RSmallIdeal.main_arg3) = m ((c.tc : Thread Cert.KSmallIdeal.nD Cert.KSmallIdeal.τ).loc Cert.KSmallIdeal.main_arg3)) →
    ∃ (v0 : (c : Dev Cert.KSmallIdeal.nD) → Buf (Elt Ideal) ((c.tc : Thread Cert.KSmallIdeal.nD Cert.KSmallIdeal.τ).loc Cert.KSmallIdeal.main_v0_0)) (v1 : (c : Dev Cert.KSmallIdeal.nD) → Buf (Elt Ideal) ((c.tc : Thread Cert.KSmallIdeal.nD Cert.KSmallIdeal.τ).loc Cert.KSmallIdeal.main_v0_1)) (v2 : (c : Dev Cert.KSmallIdeal.nD) → Buf (Elt Ideal) ((c.tc : Thread Cert.KSmallIdeal.nD Cert.KSmallIdeal.τ).loc Cert.KSmallIdeal.main_v0_2)) (v3 : (c : Dev Cert.KSmallIdeal.nD) → Buf (Elt Ideal) ((c.tc : Thread Cert.KSmallIdeal.nD Cert.KSmallIdeal.τ).loc Cert.KSmallIdeal.main_v0_3)),
      θ_run (Cert.KSmallIdeal.defs (F := Ideal)) (onTc (τ := Cert.KSmallIdeal.τ) (Cert.KSmallIdeal.main (F := Ideal))) ⟨m, fun _ => 0, g⟩ (fun r => ∀ c : Dev Cert.KSmallIdeal.nD,
          r.2.mem ((c.tc : Thread Cert.KSmallIdeal.nD Cert.KSmallIdeal.τ).loc Cert.KSmallIdeal.main_v0_0) = v0 c
          ∧ r.2.mem ((c.tc : Thread Cert.KSmallIdeal.nD Cert.KSmallIdeal.τ).loc Cert.KSmallIdeal.main_v0_1) = v1 c
          ∧ r.2.mem ((c.tc : Thread Cert.KSmallIdeal.nD Cert.KSmallIdeal.τ).loc Cert.KSmallIdeal.main_v0_2) = v2 c
          ∧ r.2.mem ((c.tc : Thread Cert.KSmallIdeal.nD Cert.KSmallIdeal.τ).loc Cert.KSmallIdeal.main_v0_3) = v3 c
          ∧ r.2.mem ((c.tc : Thread Cert.KSmallIdeal.nD Cert.KSmallIdeal.τ).loc Cert.KSmallIdeal.main_arg0) = m ((c.tc : Thread Cert.KSmallIdeal.nD Cert.KSmallIdeal.τ).loc Cert.KSmallIdeal.main_arg0)
          ∧ r.2.mem ((c.tc : Thread Cert.KSmallIdeal.nD Cert.KSmallIdeal.τ).loc Cert.KSmallIdeal.main_arg1) = m ((c.tc : Thread Cert.KSmallIdeal.nD Cert.KSmallIdeal.τ).loc Cert.KSmallIdeal.main_arg1)
          ∧ r.2.mem ((c.tc : Thread Cert.KSmallIdeal.nD Cert.KSmallIdeal.τ).loc Cert.KSmallIdeal.main_arg2) = m ((c.tc : Thread Cert.KSmallIdeal.nD Cert.KSmallIdeal.τ).loc Cert.KSmallIdeal.main_arg2)
          ∧ r.2.mem ((c.tc : Thread Cert.KSmallIdeal.nD Cert.KSmallIdeal.τ).loc Cert.KSmallIdeal.main_arg3) = m ((c.tc : Thread Cert.KSmallIdeal.nD Cert.KSmallIdeal.τ).loc Cert.KSmallIdeal.main_arg3))
      ∧ θ_run (Cert.RSmallIdeal.defs (F := Ideal)) (onTc (τ := Cert.RSmallIdeal.τ) (Cert.RSmallIdeal.main (F := Ideal))) ⟨m', fun _ => 0, g'⟩ (fun r => ∀ c : Dev Cert.RSmallIdeal.nD,
          r.2.mem ((c.tc : Thread Cert.RSmallIdeal.nD Cert.RSmallIdeal.τ).loc Cert.RSmallIdeal.main_v0) = v0 c
          ∧ r.2.mem ((c.tc : Thread Cert.RSmallIdeal.nD Cert.RSmallIdeal.τ).loc Cert.RSmallIdeal.main_v24) = v1 c
          ∧ r.2.mem ((c.tc : Thread Cert.RSmallIdeal.nD Cert.RSmallIdeal.τ).loc Cert.RSmallIdeal.main_v5) = v2 c
          ∧ r.2.mem ((c.tc : Thread Cert.RSmallIdeal.nD Cert.RSmallIdeal.τ).loc Cert.RSmallIdeal.main_v11) = v3 c
          ∧ r.2.mem ((c.tc : Thread Cert.RSmallIdeal.nD Cert.RSmallIdeal.τ).loc Cert.RSmallIdeal.main_arg0) = m' ((c.tc : Thread Cert.RSmallIdeal.nD Cert.RSmallIdeal.τ).loc Cert.RSmallIdeal.main_arg0)
          ∧ r.2.mem ((c.tc : Thread Cert.RSmallIdeal.nD Cert.RSmallIdeal.τ).loc Cert.RSmallIdeal.main_arg1) = m' ((c.tc : Thread Cert.RSmallIdeal.nD Cert.RSmallIdeal.τ).loc Cert.RSmallIdeal.main_arg1)
          ∧ r.2.mem ((c.tc : Thread Cert.RSmallIdeal.nD Cert.RSmallIdeal.τ).loc Cert.RSmallIdeal.main_arg2) = m' ((c.tc : Thread Cert.RSmallIdeal.nD Cert.RSmallIdeal.τ).loc Cert.RSmallIdeal.main_arg2)
          ∧ r.2.mem ((c.tc : Thread Cert.RSmallIdeal.nD Cert.RSmallIdeal.τ).loc Cert.RSmallIdeal.main_arg3) = m' ((c.tc : Thread Cert.RSmallIdeal.nD Cert.RSmallIdeal.τ).loc Cert.RSmallIdeal.main_arg3))

def preserves_KSsm_KSsmIdeal : Prop :=
  True

def algebraic_KSsmIdeal_RSsmIdeal [hKSsmIdeal : Cert.KSsmIdeal.Facts] [hRSsmIdeal : Cert.RSsmIdeal.Facts] : Prop :=
  ∀ (m : (ℓ : Loc Cert.KSsmIdeal.nD Cert.KSsmIdeal.τ Cert.KSsmIdeal.sig) → Buf (Elt Ideal) ℓ) (g : Dev Cert.KSsmIdeal.nD → PrngReg)
    (m' : (ℓ : Loc Cert.RSsmIdeal.nD Cert.RSsmIdeal.τ Cert.RSsmIdeal.sig) → Buf (Elt Ideal) ℓ) (g' : Dev Cert.RSsmIdeal.nD → PrngReg), Pre_KSsmIdeal m →
    (∀ c : Dev Cert.KSsmIdeal.nD,
      m' ((c.tc : Thread Cert.RSsmIdeal.nD Cert.RSsmIdeal.τ).loc Cert.RSsmIdeal.main_arg0) = m ((c.tc : Thread Cert.KSsmIdeal.nD Cert.KSsmIdeal.τ).loc Cert.KSsmIdeal.main_arg0)
      ∧ m' ((c.tc : Thread Cert.RSsmIdeal.nD Cert.RSsmIdeal.τ).loc Cert.RSsmIdeal.main_arg1) = m ((c.tc : Thread Cert.KSsmIdeal.nD Cert.KSsmIdeal.τ).loc Cert.KSsmIdeal.main_arg1)
      ∧ m' ((c.tc : Thread Cert.RSsmIdeal.nD Cert.RSsmIdeal.τ).loc Cert.RSsmIdeal.main_arg2) = m ((c.tc : Thread Cert.KSsmIdeal.nD Cert.KSsmIdeal.τ).loc Cert.KSsmIdeal.main_arg2)
      ∧ m' ((c.tc : Thread Cert.RSsmIdeal.nD Cert.RSsmIdeal.τ).loc Cert.RSsmIdeal.main_arg3) = m ((c.tc : Thread Cert.KSsmIdeal.nD Cert.KSsmIdeal.τ).loc Cert.KSsmIdeal.main_arg3)
      ∧ m' ((c.tc : Thread Cert.RSsmIdeal.nD Cert.RSsmIdeal.τ).loc Cert.RSsmIdeal.main_arg4) = m ((c.tc : Thread Cert.KSsmIdeal.nD Cert.KSsmIdeal.τ).loc Cert.KSsmIdeal.main_arg4)
      ∧ m' ((c.tc : Thread Cert.RSsmIdeal.nD Cert.RSsmIdeal.τ).loc Cert.RSsmIdeal.main_arg5) = m ((c.tc : Thread Cert.KSsmIdeal.nD Cert.KSsmIdeal.τ).loc Cert.KSsmIdeal.main_arg5)
      ∧ m' ((c.tc : Thread Cert.RSsmIdeal.nD Cert.RSsmIdeal.τ).loc Cert.RSsmIdeal.main_arg6) = m ((c.tc : Thread Cert.KSsmIdeal.nD Cert.KSsmIdeal.τ).loc Cert.KSsmIdeal.main_arg6)
      ∧ m' ((c.tc : Thread Cert.RSsmIdeal.nD Cert.RSsmIdeal.τ).loc Cert.RSsmIdeal.main_arg7) = m ((c.tc : Thread Cert.KSsmIdeal.nD Cert.KSsmIdeal.τ).loc Cert.KSsmIdeal.main_arg7)
      ∧ m' ((c.tc : Thread Cert.RSsmIdeal.nD Cert.RSsmIdeal.τ).loc Cert.RSsmIdeal.main_arg8) = m ((c.tc : Thread Cert.KSsmIdeal.nD Cert.KSsmIdeal.τ).loc Cert.KSsmIdeal.main_arg8)) →
    ∃ (v0 : (c : Dev Cert.KSsmIdeal.nD) → Buf (Elt Ideal) ((c.tc : Thread Cert.KSsmIdeal.nD Cert.KSsmIdeal.τ).loc Cert.KSsmIdeal.main_v338_5)),
      θ_run (Cert.KSsmIdeal.defs (F := Ideal)) (onTc (τ := Cert.KSsmIdeal.τ) (Cert.KSsmIdeal.main (F := Ideal))) ⟨m, fun _ => 0, g⟩ (fun r => ∀ c : Dev Cert.KSsmIdeal.nD,
          r.2.mem ((c.tc : Thread Cert.KSsmIdeal.nD Cert.KSsmIdeal.τ).loc Cert.KSsmIdeal.main_v338_5) = v0 c
          ∧ r.2.mem ((c.tc : Thread Cert.KSsmIdeal.nD Cert.KSsmIdeal.τ).loc Cert.KSsmIdeal.main_arg0) = m ((c.tc : Thread Cert.KSsmIdeal.nD Cert.KSsmIdeal.τ).loc Cert.KSsmIdeal.main_arg0)
          ∧ r.2.mem ((c.tc : Thread Cert.KSsmIdeal.nD Cert.KSsmIdeal.τ).loc Cert.KSsmIdeal.main_arg1) = m ((c.tc : Thread Cert.KSsmIdeal.nD Cert.KSsmIdeal.τ).loc Cert.KSsmIdeal.main_arg1)
          ∧ r.2.mem ((c.tc : Thread Cert.KSsmIdeal.nD Cert.KSsmIdeal.τ).loc Cert.KSsmIdeal.main_arg2) = m ((c.tc : Thread Cert.KSsmIdeal.nD Cert.KSsmIdeal.τ).loc Cert.KSsmIdeal.main_arg2)
          ∧ r.2.mem ((c.tc : Thread Cert.KSsmIdeal.nD Cert.KSsmIdeal.τ).loc Cert.KSsmIdeal.main_arg3) = m ((c.tc : Thread Cert.KSsmIdeal.nD Cert.KSsmIdeal.τ).loc Cert.KSsmIdeal.main_arg3)
          ∧ r.2.mem ((c.tc : Thread Cert.KSsmIdeal.nD Cert.KSsmIdeal.τ).loc Cert.KSsmIdeal.main_arg4) = m ((c.tc : Thread Cert.KSsmIdeal.nD Cert.KSsmIdeal.τ).loc Cert.KSsmIdeal.main_arg4)
          ∧ r.2.mem ((c.tc : Thread Cert.KSsmIdeal.nD Cert.KSsmIdeal.τ).loc Cert.KSsmIdeal.main_arg5) = m ((c.tc : Thread Cert.KSsmIdeal.nD Cert.KSsmIdeal.τ).loc Cert.KSsmIdeal.main_arg5)
          ∧ r.2.mem ((c.tc : Thread Cert.KSsmIdeal.nD Cert.KSsmIdeal.τ).loc Cert.KSsmIdeal.main_arg6) = m ((c.tc : Thread Cert.KSsmIdeal.nD Cert.KSsmIdeal.τ).loc Cert.KSsmIdeal.main_arg6)
          ∧ r.2.mem ((c.tc : Thread Cert.KSsmIdeal.nD Cert.KSsmIdeal.τ).loc Cert.KSsmIdeal.main_arg7) = m ((c.tc : Thread Cert.KSsmIdeal.nD Cert.KSsmIdeal.τ).loc Cert.KSsmIdeal.main_arg7)
          ∧ r.2.mem ((c.tc : Thread Cert.KSsmIdeal.nD Cert.KSsmIdeal.τ).loc Cert.KSsmIdeal.main_arg8) = m ((c.tc : Thread Cert.KSsmIdeal.nD Cert.KSsmIdeal.τ).loc Cert.KSsmIdeal.main_arg8))
      ∧ θ_run (Cert.RSsmIdeal.defs (F := Ideal)) (onTc (τ := Cert.RSsmIdeal.τ) (Cert.RSsmIdeal.main (F := Ideal))) ⟨m', fun _ => 0, g'⟩ (fun r => ∀ c : Dev Cert.RSsmIdeal.nD,
          r.2.mem ((c.tc : Thread Cert.RSsmIdeal.nD Cert.RSsmIdeal.τ).loc Cert.RSsmIdeal.main_v10) = v0 c
          ∧ r.2.mem ((c.tc : Thread Cert.RSsmIdeal.nD Cert.RSsmIdeal.τ).loc Cert.RSsmIdeal.main_arg0) = m' ((c.tc : Thread Cert.RSsmIdeal.nD Cert.RSsmIdeal.τ).loc Cert.RSsmIdeal.main_arg0)
          ∧ r.2.mem ((c.tc : Thread Cert.RSsmIdeal.nD Cert.RSsmIdeal.τ).loc Cert.RSsmIdeal.main_arg1) = m' ((c.tc : Thread Cert.RSsmIdeal.nD Cert.RSsmIdeal.τ).loc Cert.RSsmIdeal.main_arg1)
          ∧ r.2.mem ((c.tc : Thread Cert.RSsmIdeal.nD Cert.RSsmIdeal.τ).loc Cert.RSsmIdeal.main_arg2) = m' ((c.tc : Thread Cert.RSsmIdeal.nD Cert.RSsmIdeal.τ).loc Cert.RSsmIdeal.main_arg2)
          ∧ r.2.mem ((c.tc : Thread Cert.RSsmIdeal.nD Cert.RSsmIdeal.τ).loc Cert.RSsmIdeal.main_arg3) = m' ((c.tc : Thread Cert.RSsmIdeal.nD Cert.RSsmIdeal.τ).loc Cert.RSsmIdeal.main_arg3)
          ∧ r.2.mem ((c.tc : Thread Cert.RSsmIdeal.nD Cert.RSsmIdeal.τ).loc Cert.RSsmIdeal.main_arg4) = m' ((c.tc : Thread Cert.RSsmIdeal.nD Cert.RSsmIdeal.τ).loc Cert.RSsmIdeal.main_arg4)
          ∧ r.2.mem ((c.tc : Thread Cert.RSsmIdeal.nD Cert.RSsmIdeal.τ).loc Cert.RSsmIdeal.main_arg5) = m' ((c.tc : Thread Cert.RSsmIdeal.nD Cert.RSsmIdeal.τ).loc Cert.RSsmIdeal.main_arg5)
          ∧ r.2.mem ((c.tc : Thread Cert.RSsmIdeal.nD Cert.RSsmIdeal.τ).loc Cert.RSsmIdeal.main_arg6) = m' ((c.tc : Thread Cert.RSsmIdeal.nD Cert.RSsmIdeal.τ).loc Cert.RSsmIdeal.main_arg6)
          ∧ r.2.mem ((c.tc : Thread Cert.RSsmIdeal.nD Cert.RSsmIdeal.τ).loc Cert.RSsmIdeal.main_arg7) = m' ((c.tc : Thread Cert.RSsmIdeal.nD Cert.RSsmIdeal.τ).loc Cert.RSsmIdeal.main_arg7)
          ∧ r.2.mem ((c.tc : Thread Cert.RSsmIdeal.nD Cert.RSsmIdeal.τ).loc Cert.RSsmIdeal.main_arg8) = m' ((c.tc : Thread Cert.RSsmIdeal.nD Cert.RSsmIdeal.τ).loc Cert.RSsmIdeal.main_arg8))

def Claim : Prop :=
  ∃ (hKAttn : Cert.KAttn.Facts) (hKAttnIdeal : Cert.KAttnIdeal.Facts) (hRAttnIdeal : Cert.RAttnIdeal.Facts) (hKRelu : Cert.KRelu.Facts) (hKReluIdeal : Cert.KReluIdeal.Facts) (hRReluIdeal : Cert.RReluIdeal.Facts) (hKLoss : Cert.KLoss.Facts) (hKLossIdeal : Cert.KLossIdeal.Facts) (hRLossIdeal : Cert.RLossIdeal.Facts) (hKAttnNorm : Cert.KAttnNorm.Facts) (hKAttnNormIdeal : Cert.KAttnNormIdeal.Facts) (hRAttnNormIdeal : Cert.RAttnNormIdeal.Facts) (hKNormOne : Cert.KNormOne.Facts) (hKNormOneIdeal : Cert.KNormOneIdeal.Facts) (hRNormOneIdeal : Cert.RNormOneIdeal.Facts) (hKNormTwo : Cert.KNormTwo.Facts) (hKNormTwoIdeal : Cert.KNormTwoIdeal.Facts) (hRNormTwoIdeal : Cert.RNormTwoIdeal.Facts) (hKGlu : Cert.KGlu.Facts) (hKGluIdeal : Cert.KGluIdeal.Facts) (hRGluIdeal : Cert.RGluIdeal.Facts) (hKGelu : Cert.KGelu.Facts) (hKGeluIdeal : Cert.KGeluIdeal.Facts) (hRGeluIdeal : Cert.RGeluIdeal.Facts) (hKZoh : Cert.KZoh.Facts) (hKZohIdeal : Cert.KZohIdeal.Facts) (hRZohIdeal : Cert.RZohIdeal.Facts) (hKMlpIn : Cert.KMlpIn.Facts) (hKMlpInIdeal : Cert.KMlpInIdeal.Facts) (hRMlpInIdeal : Cert.RMlpInIdeal.Facts) (hKOutProj : Cert.KOutProj.Facts) (hKOutProjIdeal : Cert.KOutProjIdeal.Facts) (hROutProjIdeal : Cert.ROutProjIdeal.Facts) (hKGluGate : Cert.KGluGate.Facts) (hKGluGateIdeal : Cert.KGluGateIdeal.Facts) (hRGluGateIdeal : Cert.RGluGateIdeal.Facts) (hKMix : Cert.KMix.Facts) (hKMixIdeal : Cert.KMixIdeal.Facts) (hRMixIdeal : Cert.RMixIdeal.Facts) (hKPrep : Cert.KPrep.Facts) (hKPrepIdeal : Cert.KPrepIdeal.Facts) (hRPrepIdeal : Cert.RPrepIdeal.Facts) (hKProj : Cert.KProj.Facts) (hKProjIdeal : Cert.KProjIdeal.Facts) (hRProjIdeal : Cert.RProjIdeal.Facts) (hKWeight : Cert.KWeight.Facts) (hKWeightIdeal : Cert.KWeightIdeal.Facts) (hRWeightIdeal : Cert.RWeightIdeal.Facts) (hKSmall : Cert.KSmall.Facts) (hKSmallIdeal : Cert.KSmallIdeal.Facts) (hRSmallIdeal : Cert.RSmallIdeal.Facts) (hKSsm : Cert.KSsm.Facts) (hKSsmIdeal : Cert.KSsmIdeal.Facts) (hRSsmIdeal : Cert.RSsmIdeal.Facts) (hPre_finite : Cert.Pre_finite.Facts),
    quiescent_KAttn (hKAttn := hKAttn)
    ∧ quiescent_KAttnIdeal (hKAttnIdeal := hKAttnIdeal)
    ∧ quiescent_RAttnIdeal (hRAttnIdeal := hRAttnIdeal)
    ∧ quiescent_KRelu (hKRelu := hKRelu)
    ∧ quiescent_KReluIdeal (hKReluIdeal := hKReluIdeal)
    ∧ quiescent_RReluIdeal (hRReluIdeal := hRReluIdeal)
    ∧ quiescent_KLoss (hKLoss := hKLoss)
    ∧ quiescent_KLossIdeal (hKLossIdeal := hKLossIdeal)
    ∧ quiescent_RLossIdeal (hRLossIdeal := hRLossIdeal)
    ∧ quiescent_KAttnNorm (hKAttnNorm := hKAttnNorm)
    ∧ quiescent_KAttnNormIdeal (hKAttnNormIdeal := hKAttnNormIdeal)
    ∧ quiescent_RAttnNormIdeal (hRAttnNormIdeal := hRAttnNormIdeal)
    ∧ quiescent_KNormOne (hKNormOne := hKNormOne)
    ∧ quiescent_KNormOneIdeal (hKNormOneIdeal := hKNormOneIdeal)
    ∧ quiescent_RNormOneIdeal (hRNormOneIdeal := hRNormOneIdeal)
    ∧ quiescent_KNormTwo (hKNormTwo := hKNormTwo)
    ∧ quiescent_KNormTwoIdeal (hKNormTwoIdeal := hKNormTwoIdeal)
    ∧ quiescent_RNormTwoIdeal (hRNormTwoIdeal := hRNormTwoIdeal)
    ∧ quiescent_KGlu (hKGlu := hKGlu)
    ∧ quiescent_KGluIdeal (hKGluIdeal := hKGluIdeal)
    ∧ quiescent_RGluIdeal (hRGluIdeal := hRGluIdeal)
    ∧ quiescent_KGelu (hKGelu := hKGelu)
    ∧ quiescent_KGeluIdeal (hKGeluIdeal := hKGeluIdeal)
    ∧ quiescent_RGeluIdeal (hRGeluIdeal := hRGeluIdeal)
    ∧ quiescent_KZoh (hKZoh := hKZoh)
    ∧ quiescent_KZohIdeal (hKZohIdeal := hKZohIdeal)
    ∧ quiescent_RZohIdeal (hRZohIdeal := hRZohIdeal)
    ∧ quiescent_KMlpIn (hKMlpIn := hKMlpIn)
    ∧ quiescent_KMlpInIdeal (hKMlpInIdeal := hKMlpInIdeal)
    ∧ quiescent_RMlpInIdeal (hRMlpInIdeal := hRMlpInIdeal)
    ∧ quiescent_KOutProj (hKOutProj := hKOutProj)
    ∧ quiescent_KOutProjIdeal (hKOutProjIdeal := hKOutProjIdeal)
    ∧ quiescent_ROutProjIdeal (hROutProjIdeal := hROutProjIdeal)
    ∧ quiescent_KGluGate (hKGluGate := hKGluGate)
    ∧ quiescent_KGluGateIdeal (hKGluGateIdeal := hKGluGateIdeal)
    ∧ quiescent_RGluGateIdeal (hRGluGateIdeal := hRGluGateIdeal)
    ∧ quiescent_KMix (hKMix := hKMix)
    ∧ quiescent_KMixIdeal (hKMixIdeal := hKMixIdeal)
    ∧ quiescent_RMixIdeal (hRMixIdeal := hRMixIdeal)
    ∧ quiescent_KPrep (hKPrep := hKPrep)
    ∧ quiescent_KPrepIdeal (hKPrepIdeal := hKPrepIdeal)
    ∧ quiescent_RPrepIdeal (hRPrepIdeal := hRPrepIdeal)
    ∧ quiescent_KProj (hKProj := hKProj)
    ∧ quiescent_KProjIdeal (hKProjIdeal := hKProjIdeal)
    ∧ quiescent_KProjIdeal_pre_finite (hKProjIdeal := hKProjIdeal) (hPre_finite := hPre_finite)
    ∧ quiescent_RProjIdeal (hRProjIdeal := hRProjIdeal)
    ∧ quiescent_RProjIdeal_pre_finite (hRProjIdeal := hRProjIdeal) (hPre_finite := hPre_finite)
    ∧ quiescent_KWeight (hKWeight := hKWeight)
    ∧ quiescent_KWeightIdeal (hKWeightIdeal := hKWeightIdeal)
    ∧ quiescent_RWeightIdeal (hRWeightIdeal := hRWeightIdeal)
    ∧ quiescent_KSmall (hKSmall := hKSmall)
    ∧ quiescent_KSmallIdeal (hKSmallIdeal := hKSmallIdeal)
    ∧ quiescent_RSmallIdeal (hRSmallIdeal := hRSmallIdeal)
    ∧ quiescent_KSsm (hKSsm := hKSsm)
    ∧ quiescent_KSsmIdeal (hKSsmIdeal := hKSsmIdeal)
    ∧ quiescent_RSsmIdeal (hRSsmIdeal := hRSsmIdeal)
    ∧ preserves_KAttn_KAttnIdeal
    ∧ algebraic_KAttnIdeal_RAttnIdeal (hKAttnIdeal := hKAttnIdeal) (hRAttnIdeal := hRAttnIdeal)
    ∧ preserves_KRelu_KReluIdeal
    ∧ algebraic_KReluIdeal_RReluIdeal (hKReluIdeal := hKReluIdeal) (hRReluIdeal := hRReluIdeal)
    ∧ preserves_KLoss_KLossIdeal
    ∧ algebraic_KLossIdeal_RLossIdeal (hKLossIdeal := hKLossIdeal) (hRLossIdeal := hRLossIdeal)
    ∧ preserves_KAttnNorm_KAttnNormIdeal
    ∧ algebraic_KAttnNormIdeal_RAttnNormIdeal (hKAttnNormIdeal := hKAttnNormIdeal) (hRAttnNormIdeal := hRAttnNormIdeal)
    ∧ preserves_KNormOne_KNormOneIdeal
    ∧ algebraic_KNormOneIdeal_RNormOneIdeal (hKNormOneIdeal := hKNormOneIdeal) (hRNormOneIdeal := hRNormOneIdeal)
    ∧ preserves_KNormTwo_KNormTwoIdeal
    ∧ algebraic_KNormTwoIdeal_RNormTwoIdeal (hKNormTwoIdeal := hKNormTwoIdeal) (hRNormTwoIdeal := hRNormTwoIdeal)
    ∧ preserves_KGlu_KGluIdeal
    ∧ algebraic_KGluIdeal_RGluIdeal (hKGluIdeal := hKGluIdeal) (hRGluIdeal := hRGluIdeal)
    ∧ preserves_KGelu_KGeluIdeal
    ∧ algebraic_KGeluIdeal_RGeluIdeal (hKGeluIdeal := hKGeluIdeal) (hRGeluIdeal := hRGeluIdeal)
    ∧ preserves_KZoh_KZohIdeal
    ∧ algebraic_KZohIdeal_RZohIdeal (hKZohIdeal := hKZohIdeal) (hRZohIdeal := hRZohIdeal)
    ∧ preserves_KMlpIn_KMlpInIdeal
    ∧ algebraic_KMlpInIdeal_RMlpInIdeal (hKMlpInIdeal := hKMlpInIdeal) (hRMlpInIdeal := hRMlpInIdeal)
    ∧ preserves_KOutProj_KOutProjIdeal
    ∧ algebraic_KOutProjIdeal_ROutProjIdeal (hKOutProjIdeal := hKOutProjIdeal) (hROutProjIdeal := hROutProjIdeal)
    ∧ preserves_KGluGate_KGluGateIdeal
    ∧ algebraic_KGluGateIdeal_RGluGateIdeal (hKGluGateIdeal := hKGluGateIdeal) (hRGluGateIdeal := hRGluGateIdeal)
    ∧ preserves_KMix_KMixIdeal
    ∧ algebraic_KMixIdeal_RMixIdeal (hKMixIdeal := hKMixIdeal) (hRMixIdeal := hRMixIdeal)
    ∧ preserves_KPrep_KPrepIdeal
    ∧ algebraic_KPrepIdeal_RPrepIdeal (hKPrepIdeal := hKPrepIdeal) (hRPrepIdeal := hRPrepIdeal)
    ∧ preserves_KProj_KProjIdeal
    ∧ algebraic_KProjIdeal_RProjIdeal_pre_finite (hKProjIdeal := hKProjIdeal) (hRProjIdeal := hRProjIdeal) (hPre_finite := hPre_finite)
    ∧ preserves_KWeight_KWeightIdeal
    ∧ algebraic_KWeightIdeal_RWeightIdeal (hKWeightIdeal := hKWeightIdeal) (hRWeightIdeal := hRWeightIdeal)
    ∧ preserves_KSmall_KSmallIdeal
    ∧ algebraic_KSmallIdeal_RSmallIdeal (hKSmallIdeal := hKSmallIdeal) (hRSmallIdeal := hRSmallIdeal)
    ∧ preserves_KSsm_KSsmIdeal
    ∧ algebraic_KSsmIdeal_RSsmIdeal (hKSsmIdeal := hKSsmIdeal) (hRSsmIdeal := hRSsmIdeal)
-- ==== Pre_finite.lean ====
abbrev S4096x1024 : Shape := ⟨2, ![4096, 1024]⟩
abbrev S1024x2048 : Shape := ⟨2, ![1024, 2048]⟩
abbrev S1x1024 : Shape := ⟨2, ![1, 1024]⟩
abbrev S1x64 : Shape := ⟨2, ![1, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S1024x2048 .bf16) (main_arg2 : FVec F S1x1024 .f32) (main_arg3 : FVec F S1x64 .f32) (main_arg4 : FVec F S1x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2048 .f32 := (extf .f32 · bitsLt_bf16_f32) main_arg1
  let main_v5 : FVec F S1024x2048 .f32 := Host.absf main_v4
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_c_1 : IVec S_ 1 := constantI S_ 1 1#1
  let main_v8 : IVec S_ 1 := (fun x v => Host.reduce IntOp.andi x v reducesTo_S1024x2048_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  main_v14
-- ==== KAttn.lean ====
abbrev S4096x2048 : Shape := ⟨2, ![4096, 2048]⟩
abbrev S64 : Shape := ⟨1, ![64]⟩
abbrev S4096x512 : Shape := ⟨2, ![4096, 512]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S2x2048x8x64 : Shape := ⟨4, ![2, 2048, 8, 64]⟩
abbrev S2x8x2048x64 : Shape := ⟨4, ![2, 8, 2048, 64]⟩
abbrev S_ : Shape := ⟨0, ![]⟩
abbrev S2x8x2048 : Shape := ⟨3, ![2, 8, 2048]⟩
abbrev S2x8x2048x1 : Shape := ⟨4, ![2, 8, 2048, 1]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x2x8x2x128x8x256 : Shape := ⟨8, ![2, 4, 2, 8, 2, 128, 8, 256]⟩
abbrev S2x4x8x8x2x2x128x256 : Shape := ⟨8, ![2, 4, 8, 8, 2, 2, 128, 256]⟩
abbrev S8x8x8x4x128x256 : Shape := ⟨6, ![8, 8, 8, 4, 128, 256]⟩
abbrev S1x128 : Shape := ⟨2, ![1, 128]⟩
abbrev S2048x128 : Shape := ⟨2, ![2048, 128]⟩
abbrev S2x2048x64 : Shape := ⟨3, ![2, 2048, 64]⟩
abbrev S128x2048 : Shape := ⟨2, ![128, 2048]⟩
abbrev S256x256 : Shape := ⟨2, ![256, 256]⟩
abbrev S3x4x128x256 : Shape := ⟨4, ![3, 4, 128, 256]⟩
abbrev S3 : Shape := ⟨1, ![3]⟩
abbrev S128x64 : Shape := ⟨2, ![128, 64]⟩
abbrev S1x128x64 : Shape := ⟨3, ![1, 128, 64]⟩
abbrev S128x128 : Shape := ⟨2, ![128, 128]⟩
abbrev S256x128 : Shape := ⟨2, ![256, 128]⟩
abbrev S128x256 : Shape := ⟨2, ![128, 256]⟩
abbrev S64x256 : Shape := ⟨2, ![64, 256]⟩
abbrev S128x1 : Shape := ⟨2, ![128, 1]⟩
abbrev S1 : Shape := ⟨1, ![1]⟩
abbrev S1x4x128x256 : Shape := ⟨4, ![1, 4, 128, 256]⟩
abbrev S4x128x256 : Shape := ⟨3, ![4, 128, 256]⟩
abbrev S1x1x1x4x128x256 : Shape := ⟨6, ![1, 1, 1, 4, 128, 256]⟩
abbrev S1x256x64 : Shape := ⟨3, ![1, 256, 64]⟩
abbrev S256x64 : Shape := ⟨2, ![256, 64]⟩
abbrev S1x1x128x256 : Shape := ⟨4, ![1, 1, 128, 256]⟩
abbrev S128 : Shape := ⟨1, ![128]⟩

abbrev nBuf : Space → Nat
  | .hbm => 134
  | .vmem => 30
  | .smem => 0
  | _ => 0

abbrev hbmTy0_0 (i : Nat) : BufTy := match i % 128 with
  | 0 => ⟨S4096x2048, .f32⟩
  | 1 => ⟨S64, .f32⟩
  | 2 => ⟨S64, .f32⟩
  | 3 => ⟨S4096x512, .f32⟩
  | 4 => ⟨S1x64, .f32⟩
  | 5 => ⟨S1x1x1x64, .f32⟩
  | 6 => ⟨S1x1x8x64, .f32⟩
  | 7 => ⟨S1x512, .f32⟩
  | 8 => ⟨S1x64, .f32⟩
  | 9 => ⟨S1x1x1x64, .f32⟩
  | 10 => ⟨S1x1x8x64, .f32⟩
  | 11 => ⟨S1x512, .f32⟩
  | 12 => ⟨S4096x512, .f32⟩
  | 13 => ⟨S2x2048x8x64, .f32⟩
  | 14 => ⟨S2x8x2048x64, .f32⟩
  | 15 => ⟨S4096x512, .f32⟩
  | 16 => ⟨S2x2048x8x64, .f32⟩
  | 17 => ⟨S2x8x2048x64, .f32⟩
  | 18 => ⟨S4096x512, .f32⟩
  | 19 => ⟨S2x2048x8x64, .f32⟩
  | 20 => ⟨S2x8x2048x64, .f32⟩
  | 21 => ⟨S2x8x2048x64, .f32⟩
  | 22 => ⟨S_, .f32⟩
  | 23 => ⟨S2x8x2048, .f32⟩
  | 24 => ⟨S2x8x2048x1, .f32⟩
  | 25 => ⟨S_, .f32⟩
  | 26 => ⟨S2x8x2048x1, .f32⟩
  | 27 => ⟨S2x8x2048x1, .f32⟩
  | 28 => ⟨S_, .f32⟩
  | 29 => ⟨S2x8x2048x1, .f32⟩
  | 30 => ⟨S2x8x2048x1, .f32⟩
  | 31 => ⟨S2x8x2048x1, .f32⟩
  | 32 => ⟨S2x8x2048x64, .f32⟩
  | 33 => ⟨S2x8x2048x64, .f32⟩
  | 34 => ⟨S1x1x1x64, .f32⟩
  | 35 => ⟨S2x8x2048x64, .f32⟩
  | 36 => ⟨S2x8x2048x64, .f32⟩
  | 37 => ⟨S2x8x2048x64, .f32⟩
  | 38 => ⟨S_, .f32⟩
  | 39 => ⟨S2x8x2048, .f32⟩
  | 40 => ⟨S2x8x2048x1, .f32⟩
  | 41 => ⟨S_, .f32⟩
  | 42 => ⟨S2x8x2048x1, .f32⟩
  | 43 => ⟨S2x8x2048x1, .f32⟩
  | 44 => ⟨S_, .f32⟩
  | 45 => ⟨S2x8x2048x1, .f32⟩
  | 46 => ⟨S2x8x2048x1, .f32⟩
  | 47 => ⟨S2x8x2048x1, .f32⟩
  | 48 => ⟨S2x8x2048x64, .f32⟩
  | 49 => ⟨S2x8x2048x64, .f32⟩
  | 50 => ⟨S1x1x1x64, .f32⟩
  | 51 => ⟨S2x8x2048x64, .f32⟩
  | 52 => ⟨S2x8x2048x64, .f32⟩
  | 53 => ⟨S2x8x2048x2048, .f32⟩
  | 54 => ⟨S_, .f32⟩
  | 55 => ⟨S2x8x2048x2048, .f32⟩
  | 56 => ⟨S2x8x2048x2048, .f32⟩
  | 57 => ⟨S2048, .i32⟩
  | 58 => ⟨S1x2048, .i32⟩
  | 59 => ⟨S2048, .i32⟩
  | 60 => ⟨S2048x1, .i32⟩
  | 61 => ⟨S2048x2048, .i32⟩
  | 62 => ⟨S2048x2048, .i32⟩
  | 63 => ⟨S2048x2048, .i1⟩
  | 64 => ⟨S_, .f32⟩
  | 65 => ⟨S2x8x2048x2048, .f32⟩
  | 66 => ⟨S2x8x2048x2048, .f32⟩
  | 67 => ⟨S2x8x2048x2048, .f32⟩
  | 68 => ⟨S2x8x2048x2048, .f32⟩
  | 69 => ⟨S2x8x2048x2048, .i1⟩
  | 70 => ⟨S2x8x2048x2048, .f32⟩
  | 71 => ⟨S2x8x2048x2048, .f32⟩
  | 72 => ⟨S2x8x2048x2048, .f32⟩
  | 73 => ⟨S2x8x2048x2048, .f32⟩
  | 74 => ⟨S2x8x2048x2048, .f32⟩
  | 75 => ⟨S2x8x2048x2048, .f32⟩
  | 76 => ⟨S2x8x2048x2048, .f32⟩
  | 77 => ⟨S2x8x2048x2048, .f32⟩
  | 78 => ⟨S2x8x2048x2048, .f32⟩
  | 79 => ⟨S_, .f32⟩
  | 80 => ⟨S_, .f32⟩
  | 81 => ⟨S2x8x2048x2048, .i1⟩
  | 82 => ⟨S2x8x2048x2048, .f32⟩
  | 83 => ⟨S2x8x2048x2048, .f32⟩
  | 84 => ⟨S_, .f32⟩
  | 85 => ⟨S_, .f32⟩
  | 86 => ⟨S2x8x2048x2048, .f32⟩
  | 87 => ⟨S2x8x2048x2048, .f32⟩
  | 88 => ⟨S2x8x2048x2048, .f32⟩
  | 89 => ⟨S_, .f32⟩
  | 90 => ⟨S2x8x2048x2048, .f32⟩
  | 91 => ⟨S2x8x2048x2048, .f32⟩
  | 92 => ⟨S2x8x2048x2048, .f32⟩
  | 93 => ⟨S2x8x2048x2048, .f32⟩
  | 94 => ⟨S2x8x2048x2048, .i1⟩
  | 95 => ⟨S2x8x2048x2048, .f32⟩
  | 96 => ⟨S2x8x2048x2048, .f32⟩
  | 97 => ⟨S2x8x2048x2048, .f32⟩
  | 98 => ⟨S2x8x2048x2048, .f32⟩
  | 99 => ⟨S2x8x2048x2048, .f32⟩
  | 100 => ⟨S2x8x2048x2048, .f32⟩
  | 101 => ⟨S2x8x2048x2048, .f32⟩
  | 102 => ⟨S2x8x2048x2048, .f32⟩
  | 103 => ⟨S2x8x2048x2048, .f32⟩
  | 104 => ⟨S2x8x2048x2048, .f32⟩
  | 105 => ⟨S2x8x2048x2048, .f32⟩
  | 106 => ⟨S_, .f32⟩
  | 107 => ⟨S_, .f32⟩
  | 108 => ⟨S2x8x2048x2048, .i1⟩
  | 109 => ⟨S2x8x2048x2048, .f32⟩
  | 110 => ⟨S2x8x2048x2048, .f32⟩
  | 111 => ⟨S2x4x2x8x2x128x8x256, .f32⟩
  | 112 => ⟨S2x4x8x8x2x2x128x256, .f32⟩
  | 113 => ⟨S8x8x8x4x128x256, .f32⟩
  | 114 => ⟨S_, .f32⟩
  | 115 => ⟨S2x8x2048x64, .f32⟩
  | 116 => ⟨S2x8x2048x64, .f32⟩
  | 117 => ⟨S2x2048x8x64, .f32⟩
  | 118 => ⟨S4096x512, .f32⟩
  | 119 => ⟨S4096x512, .bf16⟩
  | 120 => ⟨S2x2048x8x64, .f32⟩
  | 121 => ⟨S4096x512, .f32⟩
  | 122 => ⟨S4096x512, .bf16⟩
  | 123 => ⟨S2x2048x8x64, .f32⟩
  | 124 => ⟨S4096x512, .f32⟩
  | 125 => ⟨S4096x512, .bf16⟩
  | 126 => ⟨S8x8x8x4x128x256, .bf16⟩
  | 127 => ⟨S1x128, .f32⟩
  | _ => ⟨S4096x2048, .f32⟩

abbrev hbmTy0_1 (i : Nat) : BufTy := match i % 128 with
  | 0 => ⟨S1x128, .f32⟩
  | 1 => ⟨S4096x512, .bf16⟩
  | 2 => ⟨S4096x512, .bf16⟩
  | 3 => ⟨S4096x512, .bf16⟩
  | 4 => ⟨S1x64, .f32⟩
  | 5 => ⟨S1x64, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x128, .f32⟩
  | .local _ .vmem, ⟨13, _⟩ => ⟨S1x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x64, .f32⟩
  | .local _ .vmem, ⟨21, _⟩ => ⟨S1x64, .f32⟩
  | .local _ .vmem, ⟨22, _⟩ => ⟨S2x2048x64, .bf16⟩
  | .local _ .vmem, ⟨23, _⟩ => ⟨S2x2048x64, .bf16⟩
  | .local _ .vmem, ⟨24, _⟩ => ⟨S2x2048x64, .bf16⟩
  | .local _ .vmem, ⟨25, _⟩ => ⟨S128x2048, .bf16⟩
  | .local _ .vmem, ⟨26, _⟩ => ⟨S128x2048, .f32⟩
  | .local _ .vmem, ⟨27, _⟩ => ⟨S128x2048, .f32⟩
  | .local _ .vmem, ⟨28, _⟩ => ⟨S256x256, .bf16⟩
  | .local _ .vmem, ⟨29, _⟩ => ⟨S3x4x128x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_v56 : Ref sig .tc := ⟨.hbm, 86, rfl⟩
abbrev main_v57 : Ref sig .tc := ⟨.hbm, 87, rfl⟩
abbrev main_call3_v0 : Ref sig .tc := ⟨.hbm, 88, rfl⟩
abbrev main_call3_call0_cst : Ref sig .tc := ⟨.hbm, 89, rfl⟩
abbrev main_call3_call0_v0 : Ref sig .tc := ⟨.hbm, 90, rfl⟩
abbrev main_call3_call0_v1 : Ref sig .tc := ⟨.hbm, 91, rfl⟩
abbrev main_call3_call0_v2 : Ref sig .tc := ⟨.hbm, 92, rfl⟩
abbrev main_call3_call0_v3 : Ref sig .tc := ⟨.hbm, 93, rfl⟩
abbrev main_call3_call0_v4 : Ref sig .tc := ⟨.hbm, 94, rfl⟩
abbrev main_call3_call0_v5 : Ref sig .tc := ⟨.hbm, 95, rfl⟩
abbrev main_call3_call0_v6 : Ref sig .tc := ⟨.hbm, 96, rfl⟩
abbrev main_call3_call0_v7 : Ref sig .tc := ⟨.hbm, 97, rfl⟩
abbrev main_call3_call0_v8 : Ref sig .tc := ⟨.hbm, 98, rfl⟩
abbrev main_call3_call0_v9 : Ref sig .tc := ⟨.hbm, 99, rfl⟩
abbrev main_call3_call0_v10 : Ref sig .tc := ⟨.hbm, 100, rfl⟩
abbrev main_call3_call0_v11 : Ref sig .tc := ⟨.hbm, 101, rfl⟩
abbrev main_call3_v1 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_7 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_8 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79_0 : Ref sig .tc := ⟨.hbm, 129, rfl⟩
abbrev main_v79_1 : Ref sig .tc := ⟨.hbm, 130, rfl⟩
abbrev main_v79_2 : Ref sig .tc := ⟨.hbm, 131, rfl⟩
abbrev main_v79_3 : Ref sig .tc := ⟨.hbm, 132, rfl⟩
abbrev main_v79_4 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg25 : BitVec 32 := Scf.iv c0_i32 c1_i32 k0_t1
  let c128_i32 : BitVec 32 := 128#32
  let v56 : BitVec 32 := Scalar.muli arg25 c128_i32
  v56
def k0_off1 (k0_t1 : Fin k0_t1_loop.trips) : Fin 2 → Nat :=
  let c0_i32 : BitVec 32 := 0#32
  let c1_i32 : BitVec 32 := 1#32
  let arg25 : BitVec 32 := Scf.iv c0_i32 c1_i32 k0_t1
  let c128_i32 : BitVec 32 := 128#32
  let v56 : BitVec 32 := Scalar.muli arg25 c128_i32
  let v57 : BitVec 32 := v56
  let v58 : Index := Scalar.indexCast v57
  let c0_32 : Index := 0#32
  ![v58.toNat, 0]
def k0_off2 (k0_t1 : Fin k0_t1_loop.trips) : Fin 3 → Nat :=
  let c0_33 : Index := 0#32
  let c0_i32 : BitVec 32 := 0#32
  let c1_i32 : BitVec 32 := 1#32
  let arg25 : BitVec 32 := Scf.iv c0_i32 c1_i32 k0_t1
  let c128_i32 : BitVec 32 := 128#32
  let v56 : BitVec 32 := Scalar.muli arg25 c128_i32
  let v57 : BitVec 32 := v56
  let v61 : Index := Scalar.indexCast v57
  let c0_34 : Index := 0#32
  ![0, v61.toNat, 0]
def k0_off3 (k0_t1 : Fin k0_t1_loop.trips) : Fin 2 → Nat :=
  let c0_i32 : BitVec 32 := 0#32
  let c1_i32 : BitVec 32 := 1#32
  let arg25 : BitVec 32 := Scf.iv c0_i32 c1_i32 k0_t1
  let c128_i32 : BitVec 32 := 128#32
  let v56 : BitVec 32 := Scalar.muli arg25 c128_i32
  let v57 : BitVec 32 := v56
  let v65 : Index := Scalar.indexCast v57
  let c64 : Index := 64#32
  ![v65.toNat, 64]
def k0_off4 (k0_t1 : Fin k0_t1_loop.trips) : Fin 3 → Nat :=
  let c1 : Index := 1#32
  let c0_i32 : BitVec 32 := 0#32
  let c1_i32 : BitVec 32 := 1#32
  let arg25 : BitVec 32 := Scf.iv c0_i32 c1_i32 k0_t1
  let c128_i32 : BitVec 32 := 128#32
  let v56 : BitVec 32 := Scalar.muli arg25 c128_i32
  let v57 : BitVec 32 := v56
  let v68 : Index := Scalar.indexCast v57
  let c0_35 : Index := 0#32
  ![1, v68.toNat, 0]
@[reducible] def k0_t2_loop : Scf.Loop 32 :=
  let c0_i32_2 : BitVec 32 := 0#32
  let c16_i32_3 : BitVec 32 := 16#32
  let v13 : BitVec 32 := Scalar.addi c0_i32_2 c16_i32_3
  let c1_i32_4 : BitVec 32 := 1#32
  ⟨c0_i32_2, v13, c1_i32_4⟩
def k0_mult2 (k0_t2 : Fin k0_t2_loop.trips) : BitVec 32 :=
  let c0_i32_2 : BitVec 32 := 0#32
  let c1_i32_4 : BitVec 32 := 1#32
  let arg25 : BitVec 32 := Scf.iv c0_i32_2 c1_i32_4 k0_t2
  let c128_i32 : BitVec 32 := 128#32
  let v56 : BitVec 32 := Scalar.muli arg25 c128_i32
  v56
def k0_off5 (k0_t2 : Fin k0_t2_loop.trips) : Fin 2 → Nat :=
  let c0_i32_2 : BitVec 32 := 0#32
  let c1_i32_4 : BitVec 32 := 1#32
  let arg25 : BitVec 32 := Scf.iv c0_i32_2 c1_i32_4 k0_t2
  let c128_i32 : BitVec 32 := 128#32
  let v56 : BitVec 32 := Scalar.muli arg25 c128_i32
  let v57 : BitVec 32 := v56
  let v58 : Index := Scalar.indexCast v57
  let c0_32 : Index := 0#32
  ![v58.toNat, 0]
def k0_off6 (k0_t2 : Fin k0_t2_loop.trips) : Fin 2 → Nat :=
  let c0_33 : Index := 0#32
  let c0_i32_2 : BitVec 32 := 0#32
  let c1_i32_4 : BitVec 32 := 1#32
  let arg25 : BitVec 32 := Scf.iv c0_i32_2 c1_i32_4 k0_t2
  let c128_i32 : BitVec 32 := 128#32
  let v56 : BitVec 32 := Scalar.muli arg25 c128_i32
  let v57 : BitVec 32 := v56
  let v64 : Index := Scalar.indexCast v57
  ![0, v64.toNat]
@[reducible] def k0_t3_loop : Scf.Loop 32 :=
  let c0_i32_13 : BitVec 32 := 0#32
  let c8_i32 : BitVec 32 := 8#32
  let v32 : BitVec 32 := Scalar.addi c0_i32_13 c8_i32
  let c1_i32_14 : BitVec 32 := 1#32
  ⟨c0_i32_13, v32, c1_i32_14⟩
def k0_mult3 (k0_t3 : Fin k0_t3_loop.trips) : BitVec 32 :=
  let c0_i32_13 : BitVec 32 := 0#32
  let c1_i32_14 : BitVec 32 := 1#32
  let arg25 : BitVec 32 := Scf.iv c0_i32_13 c1_i32_14 k0_t3
  let c2_i32 : BitVec 32 := 2#32
  let v56 : BitVec 32 := Scalar.muli arg25 c2_i32
  let c0_i32_32 : BitVec 32 := 0#32
  let v57 : BitVec 32 := Scalar.addi v56 c0_i32_32
  let c128_i32 : BitVec 32 := 128#32
  let v58 : BitVec 32 := Scalar.muli v57 c128_i32
  v58
def k0_mult4 (k0_t3 : Fin k0_t3_loop.trips) : BitVec 32 :=
  let c0_i32_13 : BitVec 32 := 0#32
  let c1_i32_14 : BitVec 32 := 1#32
  let arg25 : BitVec 32 := Scf.iv c0_i32_13 c1_i32_14 k0_t3
  let c2_i32_33 : BitVec 32 := 2#32
  let v60 : BitVec 32 := Scalar.muli arg25 c2_i32_33
  let c1_i32_34 : BitVec 32 := 1#32
  let v61 : BitVec 32 := Scalar.addi v60 c1_i32_34
  let c128_i32_35 : BitVec 32 := 128#32
  let v62 : BitVec 32 := Scalar.muli v61 c128_i32_35
  v62
def k0_mult5 (k0_t3 : Fin k0_t3_loop.trips) : BitVec 32 :=
  let c0_i32_13 : BitVec 32 := 0#32
  let c1_i32_14 : BitVec 32 := 1#32
  let arg25 : BitVec 32 := Scf.iv c0_i32_13 c1_i32_14 k0_t3
  let c256_i32 : BitVec 32 := 256#32
  let v64 : BitVec 32 := Scalar.muli arg25 c256_i32
  v64
def k0_off7 (k0_t3 : Fin k0_t3_loop.trips) : Fin 2 → Nat :=
  let c0_i32_13 : BitVec 32 := 0#32
  let c1_i32_14 : BitVec 32 := 1#32
  let arg25 : BitVec 32 := Scf.iv c0_i32_13 c1_i32_14 k0_t3
  let c256_i32 : BitVec 32 := 256#32
  let v64 : BitVec 32 := Scalar.muli arg25 c256_i32
  let v65 : BitVec 32 := v64
  let v66 : Index := Scalar.indexCast v65
  let c0_36 : Index := 0#32
  ![v66.toNat, 0]
def k0_off8 (k0_t3 : Fin k0_t3_loop.trips) (c0_i32_32 : BitVec 32) : Fin 3 → Nat :=
  let c0_37 : Index := 0#32
  let c0_i32_13 : BitVec 32 := 0#32
  let c1_i32_14 : BitVec 32 := 1#32
  let arg25 : BitVec 32 := Scf.iv c0_i32_13 c1_i32_14 k0_t3
  let c2_i32 : BitVec 32 := 2#32
  let v56 : BitVec 32 := Scalar.muli arg25 c2_i32
  let v57 : BitVec 32 := Scalar.addi v56 c0_i32_32
  let c128_i32 : BitVec 32 := 128#32
  let v58 : BitVec 32 := Scalar.muli v57 c128_i32
  let v59 : BitVec 32 := v58
  let v70 : Index := Scalar.indexCast v59
  let c0_38 : Index := 0#32
  ![0, v70.toNat, 0]
def k0_off9 (k0_t3 : Fin k0_t3_loop.trips) (c0_i32_32 : BitVec 32) : Fin 3 → Nat :=
  let c1 : Index := 1#32
  let c0_i32_13 : BitVec 32 := 0#32
  let c1_i32_14 : BitVec 32 := 1#32
  let arg25 : BitVec 32 := Scf.iv c0_i32_13 c1_i32_14 k0_t3
  let c2_i32 : BitVec 32 := 2#32
  let v56 : BitVec 32 := Scalar.muli arg25 c2_i32
  let v57 : BitVec 32 := Scalar.addi v56 c0_i32_32
  let c128_i32 : BitVec 32 := 128#32
  let v58 : BitVec 32 := Scalar.muli v57 c128_i32
  let v59 : BitVec 32 := v58
  let v76 : Index := Scalar.indexCast v59
  let c0_41 : Index := 0#32
  ![1, v76.toNat, 0]
def k0_off10 (k0_t3 : Fin k0_t3_loop.trips) : Fin 2 → Nat :=
  let c0_44 : Index := 0#32
  let c0_i32_13 : BitVec 32 := 0#32
  let c1_i32_14 : BitVec 32 := 1#32
  let arg25 : BitVec 32 := Scf.iv c0_i32_13 c1_i32_14 k0_t3
  let c256_i32 : BitVec 32 := 256#32
  let v64 : BitVec 32 := Scalar.muli arg25 c256_i32
  let v65 : BitVec 32 := v64
  let v90 : Index := Scalar.indexCast v65
  ![0, v90.toNat]
def k0_off11 (k0_t3 : Fin k0_t3_loop.trips) : Fin 2 → Nat :=
  let c64 : Index := 64#32
  let c0_i32_13 : BitVec 32 := 0#32
  let c1_i32_14 : BitVec 32 := 1#32
  let arg25 : BitVec 32 := Scf.iv c0_i32_13 c1_i32_14 k0_t3
  let c256_i32 : BitVec 32 := 256#32
  let v64 : BitVec 32 := Scalar.muli arg25 c256_i32
  let v65 : BitVec 32 := v64
  let v92 : Index := Scalar.indexCast v65
  ![64, v92.toNat]
def k0_off12 : Fin 1 → Nat :=
  let c0_i32_47 : BitVec 32 := 0#32
  let c3_i32 : BitVec 32 := 3#32
  let v98 : BitVec 32 := Scalar.remsi c0_i32_47 c3_i32
  ![v98.toNat]
def k0_off13 : Fin 4 → Nat :=
  let c0_i32_47 : BitVec 32 := 0#32
  let c3_i32 : BitVec 32 := 3#32
  let v98 : BitVec 32 := Scalar.remsi c0_i32_47 c3_i32
  let c0_i32_49 : BitVec 32 := 0#32
  let c0_i32_50 : BitVec 32 := 0#32
  let c0_i32_51 : BitVec 32 := 0#32
  ![v98.toNat, 0, 0, 0]
def k0_off14 (i : grid0.Coords) (k0_t3 : Fin k0_t3_loop.trips) : Fin 6 → Nat :=
  let arg0 : BitVec 32 := BitVec.ofNat 32 (i 0).val
  let c4_i32 : BitVec 32 := 4#32
  let v1 : BitVec 32 := Scalar.muli arg0 c4_i32
  let arg1 : BitVec 32 := BitVec.ofNat 32 (i 1).val
  let v2 : BitVec 32 := Scalar.addi v1 arg1
  let c0_i32_13 : BitVec 32 := 0#32
  let c1_i32_14 : BitVec 32 := 1#32
  let arg25 : BitVec 32 := Scf.iv c0_i32_13 c1_i32_14 k0_t3
  let c0_i32_48 : BitVec 32 := 0#32
  let c0_i32_52 : BitVec 32 := 0#32
  let c0_i32_53 : BitVec 32 := 0#32
  let c0_i32_54 : BitVec 32 := 0#32
  ![v2.toNat, arg25.toNat, 0, 0, 0, 0]
def k0_cond1 (k0_t3 : Fin k0_t3_loop.trips) : BitVec 1 :=
  let c0_i32_13 : BitVec 32 := 0#32
  let c1_i32_14 : BitVec 32 := 1#32
  let arg25 : BitVec 32 := Scf.iv c0_i32_13 c1_i32_14 k0_t3
  let c1_i32_55 : BitVec 32 := 1#32
  let v105 : BitVec 1 := Scalar.cmpi .sge arg25 c1_i32_55
  let v106 : BitVec 32 := Scalar.extui v105
  let c0_i32_56 : BitVec 32 := 0#32
  let v107 : BitVec 1 := Scalar.cmpi .ne v106 c0_i32_56
  v107

def k0_off15 : Fin 1 → Nat :=
  let c1_i32_170 : BitVec 32 := 1#32
  let c3_i32_171 : BitVec 32 := 3#32
  let v383 : BitVec 32 := Scalar.remsi c1_i32_170 c3_i32_171
  ![v383.toNat]
def k0_off16 : Fin 4 → Nat :=
  let c1_i32_170 : BitVec 32 := 1#32
  let c3_i32_171 : BitVec 32 := 3#32
  let v383 : BitVec 32 := Scalar.remsi c1_i32_170 c3_i32_171
  let c0_i32_173 : BitVec 32 := 0#32
  let c0_i32_174 : BitVec 32 := 0#32
  let c0_i32_175 : BitVec 32 := 0#32
  ![v383.toNat, 0, 0, 0]
def k0_off17 (i : grid0.Coords) (k0_t3 : Fin k0_t3_loop.trips) : Fin 6 → Nat :=
  let arg0 : BitVec 32 := BitVec.ofNat 32 (i 0).val
  let c4_i32 : BitVec 32 := 4#32
  let v1 : BitVec 32 := Scalar.muli arg0 c4_i32
  let arg1 : BitVec 32 := BitVec.ofNat 32 (i 1).val
  let v2 : BitVec 32 := Scalar.addi v1 arg1
  let c0_i32_13 : BitVec 32 := 0#32
  let c1_i32_14 : BitVec 32 := 1#32
  let arg25 : BitVec 32 := Scf.iv c0_i32_13 c1_i32_14 k0_t3
  let c1_i32_172 : BitVec 32 := 1#32
  let c0_i32_176 : BitVec 32 := 0#32
  let c0_i32_177 : BitVec 32 := 0#32
  let c0_i32_178 : BitVec 32 := 0#32
  ![v2.toNat, arg25.toNat, 1, 0, 0, 0]
@[reducible] def k0_t4_loop (k0_t3 : Fin k0_t3_loop.trips) : Scf.Loop 32 :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_59 : BitVec 32 := 1#32
  ⟨c0_i32_57, v112, c1_i32_59⟩
def k0_mult6 (k0_t3 : Fin k0_t3_loop.trips) (k0_t4 : Fin (k0_t4_loop k0_t3).trips) : BitVec 32 :=
  let c0_i32_57 : BitVec 32 := 0#32
  let c1_i32_59 : BitVec 32 := 1#32
  let arg27 : BitVec 32 := Scf.iv c0_i32_57 c1_i32_59 k0_t4
  let c256_i32_170 : BitVec 32 := 256#32
  let v383 : BitVec 32 := Scalar.muli arg27 c256_i32_170
  v383
def k0_cond2 (k0_t3 : Fin k0_t3_loop.trips) (k0_t4 : Fin (k0_t4_loop k0_t3).trips) : BitVec 1 :=
  let c0_i32_57 : BitVec 32 := 0#32
  let c1_i32_59 : BitVec 32 := 1#32
  let arg27 : BitVec 32 := Scf.iv c0_i32_57 c1_i32_59 k0_t4
  let c2_i32_171 : BitVec 32 := 2#32
  let v385 : BitVec 32 := Scalar.addi arg27 c2_i32_171
  let c0_i32_13 : BitVec 32 := 0#32
  let c1_i32_14 : BitVec 32 := 1#32
  let arg25 : BitVec 32 := Scf.iv c0_i32_13 c1_i32_14 k0_t3
  let v386 : BitVec 1 := Scalar.cmpi .sle v385 arg25
  let v387 : BitVec 32 := Scalar.extui v386
  let c0_i32_172 : BitVec 32 := 0#32
  let v388 : BitVec 1 := Scalar.cmpi .ne v387 c0_i32_172
  v388

def k0_off18 (k0_t3 : Fin k0_t3_loop.trips) (k0_t4 : Fin (k0_t4_loop k0_t3).trips) : Fin 1 → Nat :=
  let c0_i32_57 : BitVec 32 := 0#32
  let c1_i32_59 : BitVec 32 := 1#32
  let arg27 : BitVec 32 := Scf.iv c0_i32_57 c1_i32_59 k0_t4
  let c2_i32_249 : BitVec 32 := 2#32
  let v547 : BitVec 32 := Scalar.addi arg27 c2_i32_249
  let c3_i32_250 : BitVec 32 := 3#32
  let v548 : BitVec 32 := Scalar.remsi v547 c3_i32_250
  ![v548.toNat]
def k0_off19 (k0_t3 : Fin k0_t3_loop.trips) (k0_t4 : Fin (k0_t4_loop k0_t3).trips) : Fin 4 → Nat :=
  let c0_i32_57 : BitVec 32 := 0#32
  let c1_i32_59 : BitVec 32 := 1#32
  let arg27 : BitVec 32 := Scf.iv c0_i32_57 c1_i32_59 k0_t4
  let c2_i32_249 : BitVec 32 := 2#32
  let v547 : BitVec 32 := Scalar.addi arg27 c2_i32_249
  let c3_i32_250 : BitVec 32 := 3#32
  let v548 : BitVec 32 := Scalar.remsi v547 c3_i32_250
  let c0_i32_251 : BitVec 32 := 0#32
  let c0_i32_252 : BitVec 32 := 0#32
  let c0_i32_253 : BitVec 32 := 0#32
  ![v548.toNat, 0, 0, 0]
def k0_off20 (i : grid0.Coords) (k0_t3 : Fin k0_t3_loop.trips) (k0_t4 : Fin (k0_t4_loop k0_t3).trips) : Fin 6 → Nat :=
  let arg0 : BitVec 32 := BitVec.ofNat 32 (i 0).val
  let c4_i32 : BitVec 32 := 4#32
  let v1 : BitVec 32 := Scalar.muli arg0 c4_i32
  let arg1 : BitVec 32 := BitVec.ofNat 32 (i 1).val
  let v2 : BitVec 32 := Scalar.addi v1 arg1
  let c0_i32_13 : BitVec 32 := 0#32
  let c1_i32_14 : BitVec 32 := 1#32
  let arg25 : BitVec 32 := Scf.iv c0_i32_13 c1_i32_14 k0_t3
  let c0_i32_57 : BitVec 32 := 0#32
  let c1_i32_59 : BitVec 32 := 1#32
  let arg27 : BitVec 32 := Scf.iv c0_i32_57 c1_i32_59 k0_t4
  let c2_i32_249 : BitVec 32 := 2#32
  let v547 : BitVec 32 := Scalar.addi arg27 c2_i32_249
  let c0_i32_254 : BitVec 32 := 0#32
  let c0_i32_255 : BitVec 32 := 0#32
  let c0_i32_256 : BitVec 32 := 0#32
  ![v2.toNat, arg25.toNat, v547.toNat, 0, 0, 0]
def k0_off21 (k0_t3 : Fin k0_t3_loop.trips) (k0_t4 : Fin (k0_t4_loop k0_t3).trips) : Fin 1 → Nat :=
  let c0_i32_57 : BitVec 32 := 0#32
  let c1_i32_59 : BitVec 32 := 1#32
  let arg27 : BitVec 32 := Scf.iv c0_i32_57 c1_i32_59 k0_t4
  let c3_i32_173 : BitVec 32 := 3#32
  let v389 : BitVec 32 := Scalar.remsi arg27 c3_i32_173
  ![v389.toNat]
def k0_off22 (k0_t3 : Fin k0_t3_loop.trips) (k0_t4 : Fin (k0_t4_loop k0_t3).trips) : Fin 4 → Nat :=
  let c0_i32_57 : BitVec 32 := 0#32
  let c1_i32_59 : BitVec 32 := 1#32
  let arg27 : BitVec 32 := Scf.iv c0_i32_57 c1_i32_59 k0_t4
  let c3_i32_173 : BitVec 32 := 3#32
  let v389 : BitVec 32 := Scalar.remsi arg27 c3_i32_173
  let c0_i32_174 : BitVec 32 := 0#32
  let c0_i32_175 : BitVec 32 := 0#32
  let c0_i32_176 : BitVec 32 := 0#32
  ![v389.toNat, 0, 0, 0]
def k0_off23 (i : grid0.Coords) (k0_t3 : Fin k0_t3_loop.trips) (k0_t4 : Fin (k0_t4_loop k0_t3).trips) : Fin 6 → Nat :=
  let arg0 : BitVec 32 := BitVec.ofNat 32 (i 0).val
  let c4_i32 : BitVec 32 := 4#32
  let v1 : BitVec 32 := Scalar.muli arg0 c4_i32
  let arg1 : BitVec 32 := BitVec.ofNat 32 (i 1).val
  let v2 : BitVec 32 := Scalar.addi v1 arg1
  let c0_i32_13 : BitVec 32 := 0#32
  let c1_i32_14 : BitVec 32 := 1#32
  let arg25 : BitVec 32 := Scf.iv c0_i32_13 c1_i32_14 k0_t3
  let c0_i32_57 : BitVec 32 := 0#32
  let c1_i32_59 : BitVec 32 := 1#32
  let arg27 : BitVec 32 := Scf.iv c0_i32_57 c1_i32_59 k0_t4
  let c0_i32_177 : BitVec 32 := 0#32
  let c0_i32_178 : BitVec 32 := 0#32
  let c0_i32_179 : BitVec 32 := 0#32
  ![v2.toNat, arg25.toNat, arg27.toNat, 0, 0, 0]
def k0_off24 (k0_t3 : Fin k0_t3_loop.trips) (k0_t4 : Fin (k0_t4_loop k0_t3).trips) : Fin 3 → Nat :=
  let c0_181 : Index := 0#32
  let c0_i32_57 : BitVec 32 := 0#32
  let c1_i32_59 : BitVec 32 := 1#32
  let arg27 : BitVec 32 := Scf.iv c0_i32_57 c1_i32_59 k0_t4
  let c256_i32_170 : BitVec 32 := 256#32
  let v383 : BitVec 32 := Scalar.muli arg27 c256_i32_170
  let v384 : BitVec 32 := v383
  let v397 : Index := Scalar.indexCast v384
  let c0_182 : Index := 0#32
  ![0, v397.toNat, 0]
def k0_off25 (k0_t3 : Fin k0_t3_loop.trips) (k0_t4 : Fin (k0_t4_loop k0_t3).trips) : Fin 3 → Nat :=
  let c1_183 : Index := 1#32
  let c0_i32_57 : BitVec 32 := 0#32
  let c1_i32_59 : BitVec 32 := 1#32
  let arg27 : BitVec 32 := Scf.iv c0_i32_57 c1_i32_59 k0_t4
  let c256_i32_170 : BitVec 32 := 256#32
  let v383 : BitVec 32 := Scalar.muli arg27 c256_i32_170
  let v384 : BitVec 32 := v383
  let v400 : Index := Scalar.indexCast v384
  let c0_184 : Index := 0#32
  ![1, v400.toNat, 0]
def k0_off26 (k0_t3 : Fin k0_t3_loop.trips) (k0_t4 : Fin (k0_t4_loop k0_t3).trips) : Fin 4 → Nat :=
  let c0_i32_57 : BitVec 32 := 0#32
  let c1_i32_59 : BitVec 32 := 1#32
  let arg27 : BitVec 32 := Scf.iv c0_i32_57 c1_i32_59 k0_t4
  let c3_i32_180 : BitVec 32 := 3#32
  let v396 : BitVec 32 := Scalar.remsi arg27 c3_i32_180
  let v423 : Index := Scalar.indexCast v396
  let c0_201 : Index := 0#32
  let c0_202 : Index := 0#32
  let c0_203 : Index := 0#32
  ![v423.toNat, 0, 0, 0]
def k0_off27 (k0_t3 : Fin k0_t3_loop.trips) (k0_t4 : Fin (k0_t4_loop k0_t3).trips) : Fin 4 → Nat :=
  let c0_i32_57 : BitVec 32 := 0#32
  let c1_i32_59 : BitVec 32 := 1#32
  let arg27 : BitVec 32 := Scf.iv c0_i32_57 c1_i32_59 k0_t4
  let c3_i32_180 : BitVec 32 := 3#32
  let v396 : BitVec 32 := Scalar.remsi arg27 c3_i32_180
  let v426 : Index := Scalar.indexCast v396
  let c1_204 : Index := 1#32
  let c0_205 : Index := 0#32
  let c0_206 : Index := 0#32
  ![v426.toNat, 1, 0, 0]
def k0_off28 (k0_t3 : Fin k0_t3_loop.trips) (k0_t4 : Fin (k0_t4_loop k0_t3).trips) : Fin 4 → Nat :=
  let c0_i32_57 : BitVec 32 := 0#32
  let c1_i32_59 : BitVec 32 := 1#32
  let arg27 : BitVec 32 := Scf.iv c0_i32_57 c1_i32_59 k0_t4
  let c3_i32_180 : BitVec 32 := 3#32
  let v396 : BitVec 32 := Scalar.remsi arg27 c3_i32_180
  let v429 : Index := Scalar.indexCast v396
  let c2_207 : Index := 2#32
  let c0_208 : Index := 0#32
  let c0_209 : Index := 0#32
  ![v429.toNat, 2, 0, 0]
def k0_off29 (k0_t3 : Fin k0_t3_loop.trips) (k0_t4 : Fin (k0_t4_loop k0_t3).trips) : Fin 4 → Nat :=
  let c0_i32_57 : BitVec 32 := 0#32
  let c1_i32_59 : BitVec 32 := 1#32
  let arg27 : BitVec 32 := Scf.iv c0_i32_57 c1_i32_59 k0_t4
  let c3_i32_180 : BitVec 32 := 3#32
  let v396 : BitVec 32 := Scalar.remsi arg27 c3_i32_180
  let v432 : Index := Scalar.indexCast v396
  let c3_210 : Index := 3#32
  let c0_211 : Index := 0#32
  let c0_212 : Index := 0#32
  ![v432.toNat, 3, 0, 0]
def k0_off30 (k0_t3 : Fin k0_t3_loop.trips) (k0_t4 : Fin (k0_t4_loop k0_t3).trips) : Fin 2 → Nat :=
  let c0_213 : Index := 0#32
  let c0_i32_57 : BitVec 32 := 0#32
  let c1_i32_59 : BitVec 32 := 1#32
  let arg27 : BitVec 32 := Scf.iv c0_i32_57 c1_i32_59 k0_t4
  let c256_i32_170 : BitVec 32 := 256#32
  let v383 : BitVec 32 := Scalar.muli arg27 c256_i32_170
  let v384 : BitVec 32 := v383
  let v444 : Index := Scalar.indexCast v384
  ![0, v444.toNat]
def k0_off31 (k0_t3 : Fin k0_t3_loop.trips) (k0_t4 : Fin (k0_t4_loop k0_t3).trips) : Fin 2 → Nat :=
  let c64_216 : Index := 64#32
  let c0_i32_57 : BitVec 32 := 0#32
  let c1_i32_59 : BitVec 32 := 1#32
  let arg27 : BitVec 32 := Scf.iv c0_i32_57 c1_i32_59 k0_t4
  let c256_i32_170 : BitVec 32 := 256#32
  let v383 : BitVec 32 := Scalar.muli arg27 c256_i32_170
  let v384 : BitVec 32 := v383
  let v453 : Index := Scalar.indexCast v384
  ![64, v453.toNat]
@[reducible] def k0_t5_loop (k0_t3 : Fin k0_t3_loop.trips) : Scf.Loop 32 :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let v109 : BitVec 32 := Scalar.addi c0_i32_57 v108
  let c1_i32_60 : BitVec 32 := 1#32
  ⟨v112, v109, c1_i32_60⟩
def k0_mult7 (k0_t3 : Fin k0_t3_loop.trips) (k0_t5 : Fin (k0_t5_loop k0_t3).trips) : BitVec 32 :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c256_i32_170 : BitVec 32 := 256#32
  let v383 : BitVec 32 := Scalar.muli arg27 c256_i32_170
  v383
def k0_cond3 (k0_t3 : Fin k0_t3_loop.trips) (k0_t5 : Fin (k0_t5_loop k0_t3).trips) : BitVec 1 :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c2_i32_171 : BitVec 32 := 2#32
  let v385 : BitVec 32 := Scalar.addi arg27 c2_i32_171
  let v386 : BitVec 1 := Scalar.cmpi .sle v385 arg25
  let v387 : BitVec 32 := Scalar.extui v386
  let c0_i32_172 : BitVec 32 := 0#32
  let v388 : BitVec 1 := Scalar.cmpi .ne v387 c0_i32_172
  v388

def k0_off32 (k0_t3 : Fin k0_t3_loop.trips) (k0_t5 : Fin (k0_t5_loop k0_t3).trips) : Fin 1 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c2_i32_249 : BitVec 32 := 2#32
  let v547 : BitVec 32 := Scalar.addi arg27 c2_i32_249
  let c3_i32_250 : BitVec 32 := 3#32
  let v548 : BitVec 32 := Scalar.remsi v547 c3_i32_250
  ![v548.toNat]
def k0_off33 (k0_t3 : Fin k0_t3_loop.trips) (k0_t5 : Fin (k0_t5_loop k0_t3).trips) : Fin 4 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c2_i32_249 : BitVec 32 := 2#32
  let v547 : BitVec 32 := Scalar.addi arg27 c2_i32_249
  let c3_i32_250 : BitVec 32 := 3#32
  let v548 : BitVec 32 := Scalar.remsi v547 c3_i32_250
  let c0_i32_251 : BitVec 32 := 0#32
  let c0_i32_252 : BitVec 32 := 0#32
  let c0_i32_253 : BitVec 32 := 0#32
  ![v548.toNat, 0, 0, 0]
def k0_off34 (i : grid0.Coords) (k0_t3 : Fin k0_t3_loop.trips) (k0_t5 : Fin (k0_t5_loop k0_t3).trips) : Fin 6 → Nat :=
  let arg0 : BitVec 32 := BitVec.ofNat 32 (i 0).val
  let c4_i32 : BitVec 32 := 4#32
  let v1 : BitVec 32 := Scalar.muli arg0 c4_i32
  let arg1 : BitVec 32 := BitVec.ofNat 32 (i 1).val
  let v2 : BitVec 32 := Scalar.addi v1 arg1
  let c0_i32_13 : BitVec 32 := 0#32
  let c1_i32_14 : BitVec 32 := 1#32
  let arg25 : BitVec 32 := Scf.iv c0_i32_13 c1_i32_14 k0_t3
  let c0_i32_57 : BitVec 32 := 0#32
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c2_i32_249 : BitVec 32 := 2#32
  let v547 : BitVec 32 := Scalar.addi arg27 c2_i32_249
  let c0_i32_254 : BitVec 32 := 0#32
  let c0_i32_255 : BitVec 32 := 0#32
  let c0_i32_256 : BitVec 32 := 0#32
  ![v2.toNat, arg25.toNat, v547.toNat, 0, 0, 0]
def k0_off35 (k0_t3 : Fin k0_t3_loop.trips) (k0_t5 : Fin (k0_t5_loop k0_t3).trips) : Fin 1 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c3_i32_173 : BitVec 32 := 3#32
  let v389 : BitVec 32 := Scalar.remsi arg27 c3_i32_173
  ![v389.toNat]
def k0_off36 (k0_t3 : Fin k0_t3_loop.trips) (k0_t5 : Fin (k0_t5_loop k0_t3).trips) : Fin 4 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c3_i32_173 : BitVec 32 := 3#32
  let v389 : BitVec 32 := Scalar.remsi arg27 c3_i32_173
  let c0_i32_174 : BitVec 32 := 0#32
  let c0_i32_175 : BitVec 32 := 0#32
  let c0_i32_176 : BitVec 32 := 0#32
  ![v389.toNat, 0, 0, 0]
def k0_off37 (i : grid0.Coords) (k0_t3 : Fin k0_t3_loop.trips) (k0_t5 : Fin (k0_t5_loop k0_t3).trips) : Fin 6 → Nat :=
  let arg0 : BitVec 32 := BitVec.ofNat 32 (i 0).val
  let c4_i32 : BitVec 32 := 4#32
  let v1 : BitVec 32 := Scalar.muli arg0 c4_i32
  let arg1 : BitVec 32 := BitVec.ofNat 32 (i 1).val
  let v2 : BitVec 32 := Scalar.addi v1 arg1
  let c0_i32_13 : BitVec 32 := 0#32
  let c1_i32_14 : BitVec 32 := 1#32
  let arg25 : BitVec 32 := Scf.iv c0_i32_13 c1_i32_14 k0_t3
  let c0_i32_57 : BitVec 32 := 0#32
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c0_i32_177 : BitVec 32 := 0#32
  let c0_i32_178 : BitVec 32 := 0#32
  let c0_i32_179 : BitVec 32 := 0#32
  ![v2.toNat, arg25.toNat, arg27.toNat, 0, 0, 0]
def k0_off38 (k0_t3 : Fin k0_t3_loop.trips) (k0_t5 : Fin (k0_t5_loop k0_t3).trips) : Fin 3 → Nat :=
  let c0_181 : Index := 0#32
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c256_i32_170 : BitVec 32 := 256#32
  let v383 : BitVec 32 := Scalar.muli arg27 c256_i32_170
  let v384 : BitVec 32 := v383
  let v397 : Index := Scalar.indexCast v384
  let c0_182 : Index := 0#32
  ![0, v397.toNat, 0]
def k0_off39 (k0_t3 : Fin k0_t3_loop.trips) (k0_t5 : Fin (k0_t5_loop k0_t3).trips) : Fin 3 → Nat :=
  let c1_183 : Index := 1#32
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c256_i32_170 : BitVec 32 := 256#32
  let v383 : BitVec 32 := Scalar.muli arg27 c256_i32_170
  let v384 : BitVec 32 := v383
  let v400 : Index := Scalar.indexCast v384
  let c0_184 : Index := 0#32
  ![1, v400.toNat, 0]
def k0_off40 (k0_t3 : Fin k0_t3_loop.trips) (k0_t5 : Fin (k0_t5_loop k0_t3).trips) : Fin 4 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c3_i32_180 : BitVec 32 := 3#32
  let v396 : BitVec 32 := Scalar.remsi arg27 c3_i32_180
  let v423 : Index := Scalar.indexCast v396
  let c0_201 : Index := 0#32
  let c0_202 : Index := 0#32
  let c0_203 : Index := 0#32
  ![v423.toNat, 0, 0, 0]
def k0_off41 (k0_t3 : Fin k0_t3_loop.trips) (k0_t5 : Fin (k0_t5_loop k0_t3).trips) : Fin 4 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c3_i32_180 : BitVec 32 := 3#32
  let v396 : BitVec 32 := Scalar.remsi arg27 c3_i32_180
  let v426 : Index := Scalar.indexCast v396
  let c1_204 : Index := 1#32
  let c0_205 : Index := 0#32
  let c0_206 : Index := 0#32
  ![v426.toNat, 1, 0, 0]
def k0_off42 (k0_t3 : Fin k0_t3_loop.trips) (k0_t5 : Fin (k0_t5_loop k0_t3).trips) : Fin 4 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c3_i32_180 : BitVec 32 := 3#32
  let v396 : BitVec 32 := Scalar.remsi arg27 c3_i32_180
  let v429 : Index := Scalar.indexCast v396
  let c2_207 : Index := 2#32
  let c0_208 : Index := 0#32
  let c0_209 : Index := 0#32
  ![v429.toNat, 2, 0, 0]
def k0_off43 (k0_t3 : Fin k0_t3_loop.trips) (k0_t5 : Fin (k0_t5_loop k0_t3).trips) : Fin 4 → Nat :=
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c3_i32_180 : BitVec 32 := 3#32
  let v396 : BitVec 32 := Scalar.remsi arg27 c3_i32_180
  let v432 : Index := Scalar.indexCast v396
  let c3_210 : Index := 3#32
  let c0_211 : Index := 0#32
  let c0_212 : Index := 0#32
  ![v432.toNat, 3, 0, 0]
def k0_off44 (k0_t3 : Fin k0_t3_loop.trips) (k0_t5 : Fin (k0_t5_loop k0_t3).trips) : Fin 2 → Nat :=
  let c0_213 : Index := 0#32
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c256_i32_170 : BitVec 32 := 256#32
  let v383 : BitVec 32 := Scalar.muli arg27 c256_i32_170
  let v384 : BitVec 32 := v383
  let v444 : Index := Scalar.indexCast v384
  ![0, v444.toNat]
def k0_off45 (k0_t3 : Fin k0_t3_loop.trips) (k0_t5 : Fin (k0_t5_loop k0_t3).trips) : Fin 2 → Nat :=
  let c64_216 : Index := 64#32
  let c0_i32_57 : BitVec 32 := 0#32
  let c0_i32_13 : BitVec 32 := 0#32
  let c1_i32_14 : BitVec 32 := 1#32
  let arg25 : BitVec 32 := Scf.iv c0_i32_13 c1_i32_14 k0_t3
  let v108 : BitVec 32 := Scalar.subi arg25 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg27 : BitVec 32 := Scf.iv v112 c1_i32_60 k0_t5
  let c256_i32_170 : BitVec 32 := 256#32
  let v383 : BitVec 32 := Scalar.muli arg27 c256_i32_170
  let v384 : BitVec 32 := v383
  let v453 : Index := Scalar.indexCast v384
  ![64, v453.toNat]
def k0_mult8 (k0_t3 : Fin k0_t3_loop.trips) : BitVec 32 :=
  let c0_i32_13 : BitVec 32 := 0#32
  let c1_i32_14 : BitVec 32 := 1#32
  let arg25 : BitVec 32 := Scf.iv c0_i32_13 c1_i32_14 k0_t3
  let c256_i32_61 : BitVec 32 := 256#32
  let v115 : BitVec 32 := Scalar.muli arg25 c256_i32_61
  v115
def k0_off46 (k0_t3 : Fin k0_t3_loop.trips) : Fin 1 → Nat :=
  let c0_i32_13 : BitVec 32 := 0#32
  let c1_i32_14 : BitVec 32 := 1#32
  let arg25 : BitVec 32 := Scf.iv c0_i32_13 c1_i32_14 k0_t3
  let c3_i32_70 : BitVec 32 := 3#32
  let v137 : BitVec 32 := Scalar.remsi arg25 c3_i32_70
  ![v137.toNat]
def k0_off47 (k0_t3 : Fin k0_t3_loop.trips) : Fin 4 → Nat :=
  let c0_i32_13 : BitVec 32 := 0#32
  let c1_i32_14 : BitVec 32 := 1#32
  let arg25 : BitVec 32 := Scf.iv c0_i32_13 c1_i32_14 k0_t3
  let c3_i32_70 : BitVec 32 := 3#32
  let v137 : BitVec 32 := Scalar.remsi arg25 c3_i32_70
  let c0_i32_71 : BitVec 32 := 0#32
  let c0_i32_72 : BitVec 32 := 0#32
  let c0_i32_73 : BitVec 32 := 0#32
  ![v137.toNat, 0, 0, 0]
def k0_off48 (i : grid0.Coords) (k0_t3 : Fin k0_t3_loop.trips) : Fin 6 → Nat :=
  let arg0 : BitVec 32 := BitVec.ofNat 32 (i 0).val
  let c4_i32 : BitVec 32 := 4#32
  let v1 : BitVec 32 := Scalar.muli arg0 c4_i32
  let arg1 : BitVec 32 := BitVec.ofNat 32 (i 1).val
  let v2 : BitVec 32 := Scalar.addi v1 arg1
  let c0_i32_13 : BitVec 32 := 0#32
  let c1_i32_14 : BitVec 32 := 1#32
  let arg25 : BitVec 32 := Scf.iv c0_i32_13 c1_i32_14 k0_t3
  let c0_i32_74 : BitVec 32 := 0#32
  let c0_i32_75 : BitVec 32 := 0#32
  let c0_i32_76 : BitVec 32 := 0#32
  ![v2.toNat, arg25.toNat, arg25.toNat, 0, 0, 0]
def k0_off49 (k0_t3 : Fin k0_t3_loop.trips) : Fin 3 → Nat :=
  let c0_78 : Index := 0#32
  let c0_i32_13 : BitVec 32 := 0#32
  let c1_i32_14 : BitVec 32 := 1#32
  let arg25 : BitVec 32 := Scf.iv c0_i32_13 c1_i32_14 k0_t3
  let c256_i32_61 : BitVec 32 := 256#32
  let v115 : BitVec 32 := Scalar.muli arg25 c256_i32_61
  let v116 : BitVec 32 := v115
  let v145 : Index := Scalar.indexCast v116
  let c0_79 : Index := 0#32
  ![0, v145.toNat, 0]
def k0_off50 (k0_t3 : Fin k0_t3_loop.trips) : Fin 3 → Nat :=
  let c1_80 : Index := 1#32
  let c0_i32_13 : BitVec 32 := 0#32
  let c1_i32_14 : BitVec 32 := 1#32
  let arg25 : BitVec 32 := Scf.iv c0_i32_13 c1_i32_14 k0_t3
  let c256_i32_61 : BitVec 32 := 256#32
  let v115 : BitVec 32 := Scalar.muli arg25 c256_i32_61
  let v116 : BitVec 32 := v115
  let v148 : Index := Scalar.indexCast v116
  let c0_81 : Index := 0#32
  ![1, v148.toNat, 0]
def k0_off51 (k0_t3 : Fin k0_t3_loop.trips) : Fin 4 → Nat :=
  let c0_i32_13 : BitVec 32 := 0#32
  let c1_i32_14 : BitVec 32 := 1#32
  let arg25 : BitVec 32 := Scf.iv c0_i32_13 c1_i32_14 k0_t3
  let c3_i32_77 : BitVec 32 := 3#32
  let v144 : BitVec 32 := Scalar.remsi arg25 c3_i32_77
  let v171 : Index := Scalar.indexCast v144
  let c0_98 : Index := 0#32
  let c0_99 : Index := 0#32
  let c0_100 : Index := 0#32
  ![v171.toNat, 0, 0, 0]
def k0_off52 (k0_t3 : Fin k0_t3_loop.trips) : Fin 4 → Nat :=
  let c0_i32_13 : BitVec 32 := 0#32
  let c1_i32_14 : BitVec 32 := 1#32
  let arg25 : BitVec 32 := Scf.iv c0_i32_13 c1_i32_14 k0_t3
  let c3_i32_77 : BitVec 32 := 3#32
  let v144 : BitVec 32 := Scalar.remsi arg25 c3_i32_77
  let v174 : Index := Scalar.indexCast v144
  let c1_101 : Index := 1#32
  let c0_102 : Index := 0#32
  let c0_103 : Index := 0#32
  ![v174.toNat, 1, 0, 0]
def k0_off53 (k0_t3 : Fin k0_t3_loop.trips) : Fin 4 → Nat :=
  let c0_i32_13 : BitVec 32 := 0#32
  let c1_i32_14 : BitVec 32 := 1#32
  let arg25 : BitVec 32 := Scf.iv c0_i32_13 c1_i32_14 k0_t3
  let c3_i32_77 : BitVec 32 := 3#32
  let v144 : BitVec 32 := Scalar.remsi arg25 c3_i32_77
  let v177 : Index := Scalar.indexCast v144
  let c2 : Index := 2#32
  let c0_104 : Index := 0#32
  let c0_105 : Index := 0#32
  ![v177.toNat, 2, 0, 0]
def k0_off54 (k0_t3 : Fin k0_t3_loop.trips) : Fin 4 → Nat :=
  let c0_i32_13 : BitVec 32 := 0#32
  let c1_i32_14 : BitVec 32 := 1#32
  let arg25 : BitVec 32 := Scf.iv c0_i32_13 c1_i32_14 k0_t3
  let c3_i32_77 : BitVec 32 := 3#32
  let v144 : BitVec 32 := Scalar.remsi arg25 c3_i32_77
  let v180 : Index := Scalar.indexCast v144
  let c3 : Index := 3#32
  let c0_106 : Index := 0#32
  let c0_107 : Index := 0#32
  ![v180.toNat, 3, 0, 0]
def k0_off55 (k0_t3 : Fin k0_t3_loop.trips) (c0_i32_32 : BitVec 32) : Fin 2 → Nat :=
  let c0_i32_13 : BitVec 32 := 0#32
  let c1_i32_14 : BitVec 32 := 1#32
  let arg25 : BitVec 32 := Scf.iv c0_i32_13 c1_i32_14 k0_t3
  let c2_i32 : BitVec 32 := 2#32
  let v56 : BitVec 32 := Scalar.muli arg25 c2_i32
  let v57 : BitVec 32 := Scalar.addi v56 c0_i32_32
  let c128_i32 : BitVec 32 := 128#32
  let v58 : BitVec 32 := Scalar.muli v57 c128_i32
  let v59 : BitVec 32 := v58
  let v294 : Index := Scalar.indexCast v59
  let c0_145 : Index := 0#32
  ![v294.toNat, 0]
@[reducible] def k0_t6_loop : Scf.Loop 32 :=
  let c0_i32_17 : BitVec 32 := 0#32
  let c16_i32_18 : BitVec 32 := 16#32
  let v35 : BitVec 32 := Scalar.addi c0_i32_17 c16_i32_18
  let c1_i32_19 : BitVec 32 := 1#32
  ⟨c0_i32_17, v35, c1_i32_19⟩
def k0_mult9 (k0_t6 : Fin k0_t6_loop.trips) : BitVec 32 :=
  let c0_i32_17 : BitVec 32 := 0#32
  let c1_i32_19 : BitVec 32 := 1#32
  let arg25 : BitVec 32 := Scf.iv c0_i32_17 c1_i32_19 k0_t6
  let c128_i32 : BitVec 32 := 128#32
  let v56 : BitVec 32 := Scalar.muli arg25 c128_i32
  v56
def k0_off56 (k0_t6 : Fin k0_t6_loop.trips) : Fin 2 → Nat :=
  let c0_i32_17 : BitVec 32 := 0#32
  let c1_i32_19 : BitVec 32 := 1#32
  let arg25 : BitVec 32 := Scf.iv c0_i32_17 c1_i32_19 k0_t6
  let c128_i32 : BitVec 32 := 128#32
  let v56 : BitVec 32 := Scalar.muli arg25 c128_i32
  let v57 : BitVec 32 := v56
  let v58 : Index := Scalar.indexCast v57
  let c0_32 : Index := 0#32
  ![v58.toNat, 0]
def k0_off57 (k0_t6 : Fin k0_t6_loop.trips) : Fin 2 → Nat :=
  let c0_35 : Index := 0#32
  let c0_i32_17 : BitVec 32 := 0#32
  let c1_i32_19 : BitVec 32 := 1#32
  let arg25 : BitVec 32 := Scf.iv c0_i32_17 c1_i32_19 k0_t6
  let c128_i32 : BitVec 32 := 128#32
  let v56 : BitVec 32 := Scalar.muli arg25 c128_i32
  let v57 : BitVec 32 := v56
  let v62 : Index := Scalar.indexCast v57
  ![0, v62.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== RAttnIdeal.lean ====
abbrev S4096x2048 : Shape := ⟨2, ![4096, 2048]⟩
abbrev S64 : Shape := ⟨1, ![64]⟩
abbrev S4096x512 : Shape := ⟨2, ![4096, 512]⟩
abbrev S2x2048x8x64 : Shape := ⟨4, ![2, 2048, 8, 64]⟩
abbrev S2x8x2048x64 : Shape := ⟨4, ![2, 8, 2048, 64]⟩
abbrev S_ : Shape := ⟨0, ![]⟩
abbrev S2x8x2048 : Shape := ⟨3, ![2, 8, 2048]⟩
abbrev S2x8x2048x1 : Shape := ⟨4, ![2, 8, 2048, 1]⟩
abbrev S1x1x1x64 : Shape := ⟨4, ![1, 1, 1, 64]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩

abbrev nBuf : Space → Nat
  | .hbm => 113
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S64, .f32⟩
  | .hbm, ⟨2, _⟩ => ⟨S64, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S2x2048x8x64, .f32⟩
  | .hbm, ⟨7, _⟩ => ⟨S2x8x2048x64, .f32⟩
  | .hbm, ⟨8, _⟩ => ⟨S2x8x2048x64, .f32⟩
  | .hbm, ⟨9, _⟩ => ⟨S_, .f32⟩
  | .hbm, ⟨10, _⟩ => ⟨S2x8x2048, .f32⟩
  | .hbm, ⟨11, _⟩ => ⟨S2x8x2048x1, .f32⟩
  | .hbm, ⟨12, _⟩ => ⟨S_, .f32⟩
  | .hbm, ⟨13, _⟩ => ⟨S2x8x2048x1, .f32⟩
  | .hbm, ⟨14, _⟩ => ⟨S2x8x2048x1, .f32⟩
  | .hbm, ⟨15, _⟩ => ⟨S_, .f32⟩
  | .hbm, ⟨16, _⟩ => ⟨S2x8x2048x1, .f32⟩
  | .hbm, ⟨17, _⟩ => ⟨S2x8x2048x1, .f32⟩
  | .hbm, ⟨18, _⟩ => ⟨S2x8x2048x1, .f32⟩
  | .hbm, ⟨19, _⟩ => ⟨S2x8x2048x64, .f32⟩
  | .hbm, ⟨20, _⟩ => ⟨S2x8x2048x64, .f32⟩
  | .hbm, ⟨21, _⟩ => ⟨S1x1x1x64, .f32⟩
  | .hbm, ⟨22, _⟩ => ⟨S2x8x2048x64, .f32⟩
  | .hbm, ⟨23, _⟩ => ⟨S2x8x2048x64, .f32⟩
  | .hbm, ⟨24, _⟩ => ⟨S4096x512, .f32⟩
  | .hbm, ⟨25, _⟩ => ⟨S2x2048x8x64, .f32⟩
  | .hbm, ⟨26, _⟩ => ⟨S2x8x2048x64, .f32⟩
  | .hbm, ⟨27, _⟩ => ⟨S2x8x2048x64, .f32⟩
  | .hbm, ⟨28, _⟩ => ⟨S_, .f32⟩
  | .hbm, ⟨29, _⟩ => ⟨S2x8x2048, .f32⟩
  | .hbm, ⟨30, _⟩ => ⟨S2x8x2048x1, .f32⟩
  | .hbm, ⟨31, _⟩ => ⟨S_, .f32⟩
  | .hbm, ⟨32, _⟩ => ⟨S2x8x2048x1, .f32⟩
  | .hbm, ⟨33, _⟩ => ⟨S2x8x2048x1, .f32⟩
  | .hbm, ⟨34, _⟩ => ⟨S_, .f32⟩
  | .hbm, ⟨35, _⟩ => ⟨S2x8x2048x1, .f32⟩
  | .hbm, ⟨36, _⟩ => ⟨S2x8x2048x1, .f32⟩
  | .hbm, ⟨37, _⟩ => ⟨S2x8x2048x1, .f32⟩
  | .hbm, ⟨38, _⟩ => ⟨S2x8x2048x64, .f32⟩
  | .hbm, ⟨39, _⟩ => ⟨S2x8x2048x64, .f32⟩
  | .hbm, ⟨40, _⟩ => ⟨S1x1x1x64, .f32⟩
  | .hbm, ⟨41, _⟩ => ⟨S2x8x2048x64, .f32⟩
  | .hbm, ⟨42, _⟩ => ⟨S2x8x2048x64, .f32⟩
  | .hbm, ⟨43, _⟩ => ⟨S2x8x2048x2048, .f32⟩
  | .hbm, ⟨44, _⟩ => ⟨S_, .f32⟩
  | .hbm, ⟨45, _⟩ => ⟨S2x8x2048x2048, .f32⟩
  | .hbm, ⟨46, _⟩ => ⟨S2x8x2048x2048, .f32⟩
  | .hbm, ⟨47, _⟩ => ⟨S2048, .i32⟩
  | .hbm, ⟨48, _⟩ => ⟨S1x2048, .i32⟩
  | .hbm, ⟨49, _⟩ => ⟨S2048, .i32⟩
  | .hbm, ⟨50, _⟩ => ⟨S2048x1, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S_, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .i1⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S2x8x2048x2048, .f32⟩
  | .hbm, ⟨69, _⟩ => ⟨S_, .f32⟩
  | .hbm, ⟨70, _⟩ => ⟨S_, .f32⟩
  | .hbm, ⟨71, _⟩ => ⟨S2x8x2048x2048, .i1⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S_, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048x2048, .f32⟩
  | .hbm, ⟨81, _⟩ => ⟨S2x8x2048x2048, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .i1⟩
  | .hbm, ⟨85, _⟩ => ⟨S2x8x2048x2048, .f32⟩
  | .hbm, ⟨86, _⟩ => ⟨S2x8x2048x2048, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .f32⟩
  | .hbm, ⟨90, _⟩ => ⟨S2x8x2048x2048, .f32⟩
  | .hbm, ⟨91, _⟩ => ⟨S2x8x2048x2048, .f32⟩
  | .hbm, ⟨92, _⟩ => ⟨S2x8x2048x2048, .f32⟩
  | .hbm, ⟨93, _⟩ => ⟨S2x8x2048x2048, .f32⟩
  | .hbm, ⟨94, _⟩ => ⟨S2x8x2048x2048, .f32⟩
  | .hbm, ⟨95, _⟩ => ⟨S2x8x2048x2048, .f32⟩
  | .hbm, ⟨96, _⟩ => ⟨S_, .f32⟩
  | .hbm, ⟨97, _⟩ => ⟨S_, .f32⟩
  | .hbm, ⟨98, _⟩ => ⟨S2x8x2048x2048, .i1⟩
  | .hbm, ⟨99, _⟩ => ⟨S2x8x2048x2048, .f32⟩
  | .hbm, ⟨100, _⟩ => ⟨S2x8x2048x2048, .f32⟩
  | .hbm, ⟨101, _⟩ => ⟨S2x2048x8x64, .f32⟩
  | .hbm, ⟨102, _⟩ => ⟨S2x8x2048x64, .f32⟩
  | .hbm, ⟨103, _⟩ => ⟨S2x8x2048x64, .f32⟩
  | .hbm, ⟨104, _⟩ => ⟨S2x2048x8x64, .f32⟩
  | .hbm, ⟨105, _⟩ => ⟨S4096x512, .f32⟩
  | .hbm, ⟨106, _⟩ => ⟨S2x2048x8x64, .f32⟩
  | .hbm, ⟨107, _⟩ => ⟨S2x8x2048x64, .f32⟩
  | .hbm, ⟨108, _⟩ => ⟨S2x8x64x2048, .f32⟩
  | .hbm, ⟨109, _⟩ => ⟨S2x8x2048x64, .f32⟩
  | .hbm, ⟨110, _⟩ => ⟨S2x2048x8x64, .f32⟩
  | .hbm, ⟨111, _⟩ => ⟨S4096x512, .f32⟩
  | .hbm, ⟨112, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_7 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩

abbrev nD : Nat := 1
abbrev τ : Topo := Topo.v7x

variable {F : FTy → Type} [FloatOps F]
-- ==== KRelu.lean ====
abbrev S4096x1024 : Shape := ⟨2, ![4096, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RReluIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KLoss.lean ====
abbrev S4096x4096 : Shape := ⟨2, ![4096, 4096]⟩
abbrev S4096x1024 : Shape := ⟨2, ![4096, 1024]⟩
abbrev S1x1 : Shape := ⟨2, ![1, 1]⟩
abbrev S512x4096 : Shape := ⟨2, ![512, 4096]⟩
abbrev S512x1024 : Shape := ⟨2, ![512, 1024]⟩
abbrev S1024 : Shape := ⟨1, ![1024]⟩
abbrev S1x1024 : Shape := ⟨2, ![1, 1024]⟩
abbrev S1 : Shape := ⟨1, ![1]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== RLossIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S1x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== KAttnNorm.lean ====
abbrev S4096x512 : Shape := ⟨2, ![4096, 512]⟩
abbrev S4096x1024 : Shape := ⟨2, ![4096, 1024]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x512, .f32⟩
  | .hbm, ⟨3, _⟩ => ⟨S4096x512, .f32⟩
  | .hbm, ⟨4, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RAttnNormIdeal.lean ====
abbrev S4096x512 : Shape := ⟨2, ![4096, 512]⟩
abbrev S4096x1024 : Shape := ⟨2, ![4096, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 46
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KNormOne.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== RNormOneIdeal.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KNormTwo.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== RNormTwoIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KGlu.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S4096x512, .f32⟩
  | .hbm, ⟨6, _⟩ => ⟨S4096x512, .bf16⟩
  | .hbm, ⟨7, _⟩ => ⟨S1x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RGluIdeal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 293
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S1x512, .f32⟩
  | 4 => ⟨S1x512, .f32⟩
  | 5 => ⟨S4096x512, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096, .f32⟩
  | 68 => ⟨S4096x1, .f32⟩
  | 69 => ⟨S4096x512, .f32⟩
  | 70 => ⟨S4096x512, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S_, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S4096x512, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S_, .f32⟩
  | 126 => ⟨S4096x512, .f32⟩
  | 127 => ⟨S4096x512, .f32⟩
  | _ => ⟨S4096x512, .f32⟩

abbrev hbmTy0_1 (i : Nat) : BufTy := match i % 128 with
  | 0 => ⟨S4096x512, .f32⟩
  | 1 => ⟨S4096x512, .f32⟩
  | 2 => ⟨S4096x512, .f32⟩
  | 3 => ⟨S_, .f32⟩
  | 4 => ⟨S4096, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S_, .f32⟩
  | 25 => ⟨S4096, .f32⟩
  | 26 => ⟨S4096x1, .f32⟩
  | 27 => ⟨S4096x512, .f32⟩
  | 28 => ⟨S4096x512, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S4096, .f32⟩
  | 98 => ⟨S4096x1, .f32⟩
  | 99 => ⟨S4096x512, .f32⟩
  | 100 => ⟨S4096x512, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S4096x512, .f32⟩
  | 114 => ⟨S_, .f32⟩
  | 115 => ⟨S512, .f32⟩
  | 116 => ⟨S1x512, .f32⟩
  | 117 => ⟨S4096x512, .f32⟩
  | 118 => ⟨S4096x512, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S4096x512, .f32⟩
  | _ => ⟨S4096x512, .f32⟩

abbrev hbmTy0_2 (i : Nat) : BufTy := match i % 128 with
  | 0 => ⟨S4096x512, .f32⟩
  | 1 => ⟨S_, .f32⟩
  | 2 => ⟨S4096x512, .f32⟩
  | 3 => ⟨S4096x512, .f32⟩
  | 4 => ⟨S4096x512, .f32⟩
  | 5 => ⟨S_, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S512, .f32⟩
  | 35 => ⟨S1x512, .f32⟩
  | 36 => ⟨S4096x512, .bf16⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_17 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_18 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_cst_20 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_21 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_22 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_23 : Ref sig .tc := ⟨.hbm, 122, rfl⟩
abbrev main_v93 : Ref sig .tc := ⟨.hbm, 123, rfl⟩
abbrev main_v94 : Ref sig .tc := ⟨.hbm, 124, rfl⟩
abbrev main_cst_24 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_25 : Ref sig .tc := ⟨.hbm, 131, rfl⟩
abbrev main_v100 : Ref sig .tc := ⟨.hbm, 132, rfl⟩
abbrev main_v101 : Ref sig .tc := ⟨.hbm, 133, rfl⟩
abbrev main_cst_26 : Ref sig .tc := ⟨.hbm, 134, rfl⟩
abbrev main_v102 : Ref sig .tc := ⟨.hbm, 135, rfl⟩
abbrev main_v103 : Ref sig .tc := ⟨.hbm, 136, rfl⟩
abbrev main_cst_27 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_28 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_29 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_30 : Ref sig .tc := ⟨.hbm, 158, rfl⟩
abbrev main_v122 : Ref sig .tc := ⟨.hbm, 159, rfl⟩
abbrev main_v123 : Ref sig .tc := ⟨.hbm, 160, rfl⟩
abbrev main_cst_31 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_32 : Ref sig .tc := ⟨.hbm, 174, rfl⟩
abbrev main_v136 : Ref sig .tc := ⟨.hbm, 175, rfl⟩
abbrev main_v137 : Ref sig .tc := ⟨.hbm, 176, rfl⟩
abbrev main_cst_33 : Ref sig .tc := ⟨.hbm, 177, rfl⟩
abbrev main_v138 : Ref sig .tc := ⟨.hbm, 178, rfl⟩
abbrev main_v139 : Ref sig .tc := ⟨.hbm, 179, rfl⟩
abbrev main_cst_34 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_35 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_36 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_37 : Ref sig .tc := ⟨.hbm, 194, rfl⟩
abbrev main_v151 : Ref sig .tc := ⟨.hbm, 195, rfl⟩
abbrev main_v152 : Ref sig .tc := ⟨.hbm, 196, rfl⟩
abbrev main_cst_38 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_39 : Ref sig .tc := ⟨.hbm, 203, rfl⟩
abbrev main_v158 : Ref sig .tc := ⟨.hbm, 204, rfl⟩
abbrev main_v159 : Ref sig .tc := ⟨.hbm, 205, rfl⟩
abbrev main_cst_40 : Ref sig .tc := ⟨.hbm, 206, rfl⟩
abbrev main_v160 : Ref sig .tc := ⟨.hbm, 207, rfl⟩
abbrev main_v161 : Ref sig .tc := ⟨.hbm, 208, rfl⟩
abbrev main_cst_41 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_42 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_43 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_44 : Ref sig .tc := ⟨.hbm, 230, rfl⟩
abbrev main_v180 : Ref sig .tc := ⟨.hbm, 231, rfl⟩
abbrev main_v181 : Ref sig .tc := ⟨.hbm, 232, rfl⟩
abbrev main_cst_45 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_cst_46 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_cst_47 : Ref sig .tc := ⟨.hbm, 249, rfl⟩
abbrev main_v196 : Ref sig .tc := ⟨.hbm, 250, rfl⟩
abbrev main_v197 : Ref sig .tc := ⟨.hbm, 251, rfl⟩
abbrev main_cst_48 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_cst_49 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_cst_50 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_cst_51 : Ref sig .tc := ⟨.hbm, 265, rfl⟩
abbrev main_v208 : Ref sig .tc := ⟨.hbm, 266, rfl⟩
abbrev main_v209 : Ref sig .tc := ⟨.hbm, 267, rfl⟩
abbrev main_cst_52 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_53 : Ref sig .tc := ⟨.hbm, 274, rfl⟩
abbrev main_v215 : Ref sig .tc := ⟨.hbm, 275, rfl⟩
abbrev main_v216 : Ref sig .tc := ⟨.hbm, 276, rfl⟩
abbrev main_cst_54 : Ref sig .tc := ⟨.hbm, 277, rfl⟩
abbrev main_v217 : Ref sig .tc := ⟨.hbm, 278, rfl⟩
abbrev main_v218 : Ref sig .tc := ⟨.hbm, 279, rfl⟩
abbrev main_cst_55 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_56 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩

abbrev nD : Nat := 1
abbrev τ : Topo := Topo.v7x

variable {F : FTy → Type} [FloatOps F]
-- ==== KGelu.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S4096x512, .f32⟩
  | .hbm, ⟨4, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RGeluIdeal.lean ====
abbrev S4096x512 : Shape := ⟨2, ![4096, 512]⟩
abbrev S512x512 : Shape := ⟨2, ![512, 512]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S4096x512, .f32⟩
  | .hbm, ⟨4, _⟩ => ⟨S512x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== KZoh.lean ====
abbrev S32x64 : Shape := ⟨2, ![32, 64]⟩
abbrev S32 : Shape := ⟨1, ![32]⟩
abbrev S32x64x16 : Shape := ⟨3, ![32, 64, 16]⟩
abbrev S32x1x64 : Shape := ⟨3, ![32, 1, 64]⟩
abbrev S32x1x1 : Shape := ⟨3, ![32, 1, 1]⟩
abbrev S32x16x64 : Shape := ⟨3, ![32, 16, 64]⟩
abbrev S32x1 : Shape := ⟨2, ![32, 1]⟩

abbrev nBuf : Space → Nat
  | .hbm => 23
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x1x64, .f32⟩
  | .hbm, ⟨10, _⟩ => ⟨S32x1x64, .f32⟩
  | .hbm, ⟨11, _⟩ => ⟨S32x1x1, .f32⟩
  | .hbm, ⟨12, _⟩ => ⟨S32x16x64, .f32⟩
  | .hbm, ⟨13, _⟩ => ⟨S32x16x64, .f32⟩
  | .hbm, ⟨14, _⟩ => ⟨S32x1x64, .f32⟩
  | .hbm, ⟨15, _⟩ => ⟨S32x1x64, .f32⟩
  | .hbm, ⟨16, _⟩ => ⟨S32x16x64, .f32⟩
  | .hbm, ⟨17, _⟩ => ⟨S32x16x64, .f32⟩
  | .hbm, ⟨18, _⟩ => ⟨S32x1x64, .f32⟩
  | .hbm, ⟨19, _⟩ => ⟨S32x1x64, .f32⟩
  | .hbm, ⟨20, _⟩ => ⟨S32x1x1, .f32⟩
  | .hbm, ⟨21, _⟩ => ⟨S32x16x64, .f32⟩
  | .hbm, ⟨22, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x16x64, .f32⟩
  | .local _ .vmem, ⟨4, _⟩ => ⟨S32x16x64, .f32⟩
  | .local _ .vmem, ⟨5, _⟩ => ⟨S32x1x64, .f32⟩
  | .local _ .vmem, ⟨6, _⟩ => ⟨S32x1x64, .f32⟩
  | .local _ .vmem, ⟨7, _⟩ => ⟨S32x16x64, .f32⟩
  | .local _ .vmem, ⟨8, _⟩ => ⟨S32x16x64, .f32⟩
  | .local _ .vmem, ⟨9, _⟩ => ⟨S32x1x64, .f32⟩
  | .local _ .vmem, ⟨10, _⟩ => ⟨S32x1x64, .f32⟩
  | .local _ .vmem, ⟨11, _⟩ => ⟨S32x1x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== RZohIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x1x1 : Shape := ⟨3, ![32, 1, 1]⟩
abbrev S32x16x64 : Shape := ⟨3, ![32, 16, 64]⟩

abbrev nBuf : Space → Nat
  | .hbm => 169
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x64x1, .f32⟩
  | 50 => ⟨S32x64x1, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S_, .f32⟩
  | 67 => ⟨S32x64, .f32⟩
  | 68 => ⟨S32x64x1, .f32⟩
  | 69 => ⟨S32x64x16, .f32⟩
  | 70 => ⟨S32x64x16, .f32⟩
  | 71 => ⟨S32x64x16, .f32⟩
  | 72 => ⟨S_, .f32⟩
  | 73 => ⟨S32x64, .f32⟩
  | 74 => ⟨S32x64x1, .f32⟩
  | 75 => ⟨S32x64x16, .f32⟩
  | 76 => ⟨S32x64x16, .f32⟩
  | 77 => ⟨S32x64x16, .f32⟩
  | 78 => ⟨S32x64x16, .f32⟩
  | 79 => ⟨S32x64x16, .f32⟩
  | 80 => ⟨S32x64x16, .f32⟩
  | 81 => ⟨S_, .f32⟩
  | 82 => ⟨S32x64, .f32⟩
  | 83 => ⟨S32x64x1, .f32⟩
  | 84 => ⟨S32x64x1, .f32⟩
  | 85 => ⟨S32x64x16, .f32⟩
  | 86 => ⟨S32x64x16, .f32⟩
  | 87 => ⟨S32x64x16, .f32⟩
  | 88 => ⟨S32x64x16, .f32⟩
  | 89 => ⟨S_, .f32⟩
  | 90 => ⟨S32x64, .f32⟩
  | 91 => ⟨S32x64x1, .f32⟩
  | 92 => ⟨S32x64x1, .f32⟩
  | 93 => ⟨S_, .f32⟩
  | 94 => ⟨S32x64, .f32⟩
  | 95 => ⟨S_, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S_, .f32⟩
  | 6 => ⟨S32, .f32⟩
  | 7 => ⟨S32x1, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S_, .f32⟩
  | 18 => ⟨S32, .f32⟩
  | 19 => ⟨S32x1, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32, .f32⟩
  | 28 => ⟨S32x1, .f32⟩
  | 29 => ⟨S32x1, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32, .f32⟩
  | 36 => ⟨S32x1x64, .f32⟩
  | 37 => ⟨S32x1x64, .f32⟩
  | 38 => ⟨S32x1x1, .f32⟩
  | 39 => ⟨S32x16x64, .f32⟩
  | 40 => ⟨S32x16x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_9 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩

abbrev nD : Nat := 1
abbrev τ : Topo := Topo.v7x

variable {F : FTy → Type} [FloatOps F]
-- ==== KMlpIn.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RMlpInIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KOutProj.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ROutProjIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KGluGate.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩
abbrev S1024x512 : Shape := ⟨2, ![1024, 512]⟩
abbrev S1024 : Shape := ⟨1, ![1024]⟩
abbrev S1024x1 : Shape := ⟨2, ![1024, 1]⟩

abbrev nBuf : Space → Nat
  | .hbm => 24
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== RGluGateIdeal.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S512x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KMix.lean ====
abbrev S4096x512 : Shape := ⟨2, ![4096, 512]⟩
abbrev S1x512 : Shape := ⟨2, ![1, 512]⟩
abbrev S2x2048x512 : Shape := ⟨3, ![2, 2048, 512]⟩
abbrev S2x8x256x512 : Shape := ⟨4, ![2, 8, 256, 512]⟩
abbrev S2x256x8x512 : Shape := ⟨4, ![2, 256, 8, 512]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S1x512, .f32⟩
  | .hbm, ⟨3, _⟩ => ⟨S2x2048x512, .bf16⟩
  | .hbm, ⟨4, _⟩ => ⟨S2x8x256x512, .bf16⟩
  | .hbm, ⟨5, _⟩ => ⟨S2x256x8x512, .bf16⟩
  | .hbm, ⟨6, _⟩ => ⟨S2x2048x512, .bf16⟩
  | .hbm, ⟨7, _⟩ => ⟨S4096x512, .bf16⟩
  | .hbm, ⟨8, _⟩ => ⟨S2x256x8x512, .bf16⟩
  | .hbm, ⟨9, _⟩ => ⟨S2x8x256x512, .bf16⟩
  | .hbm, ⟨10, _⟩ => ⟨S4096x512, .bf16⟩
  | .hbm, ⟨11, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S512x1024, .bf16⟩
  | .local _ .vmem, ⟨6, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RMixIdeal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x1024, .f32⟩
  | .hbm, ⟨20, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KPrep.lean ====
abbrev S32x64 : Shape := ⟨2, ![32, 64]⟩
abbrev S32 : Shape := ⟨1, ![32]⟩
abbrev S32x64x16 : Shape := ⟨3, ![32, 64, 16]⟩
abbrev S32x1x64 : Shape := ⟨3, ![32, 1, 64]⟩
abbrev S32x1x1 : Shape := ⟨3, ![32, 1, 1]⟩
abbrev S32x16x64 : Shape := ⟨3, ![32, 16, 64]⟩

abbrev nBuf : Space → Nat
  | .hbm => 14
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1x64, .f32⟩
  | .hbm, ⟨6, _⟩ => ⟨S32x1x64, .f32⟩
  | .hbm, ⟨7, _⟩ => ⟨S32x1x1, .f32⟩
  | .hbm, ⟨8, _⟩ => ⟨S32x16x64, .f32⟩
  | .hbm, ⟨9, _⟩ => ⟨S32x16x64, .f32⟩
  | .hbm, ⟨10, _⟩ => ⟨S32x1x64, .f32⟩
  | .hbm, ⟨11, _⟩ => ⟨S32x1x64, .f32⟩
  | .hbm, ⟨12, _⟩ => ⟨S32x16x64, .f32⟩
  | .hbm, ⟨13, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x16x64, .f32⟩
  | .local _ .vmem, ⟨4, _⟩ => ⟨S32x16x64, .f32⟩
  | .local _ .vmem, ⟨5, _⟩ => ⟨S32x1x64, .f32⟩
  | .local _ .vmem, ⟨6, _⟩ => ⟨S32x1x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== RPrepIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x16x64 : Shape := ⟨3, ![32, 16, 64]⟩

abbrev nBuf : Space → Nat
  | .hbm => 51
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x1, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S32x1x64, .f32⟩
  | .hbm, ⟨48, _⟩ => ⟨S32x1x64, .f32⟩
  | .hbm, ⟨49, _⟩ => ⟨S32x16x64, .f32⟩
  | .hbm, ⟨50, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== KProj.lean ====
abbrev S4096x1024 : Shape := ⟨2, ![4096, 1024]⟩
abbrev S1024x2048 : Shape := ⟨2, ![1024, 2048]⟩
abbrev S1x1024 : Shape := ⟨2, ![1, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S_ : Shape := ⟨0, ![]⟩
abbrev S1x2048 : Shape := ⟨2, ![1, 2048]⟩
abbrev S4096x2048 : Shape := ⟨2, ![4096, 2048]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1x1024, .f32⟩
  | .hbm, ⟨3, _⟩ => ⟨S1x64, .f32⟩
  | .hbm, ⟨4, _⟩ => ⟨S1x64, .f32⟩
  | .hbm, ⟨5, _⟩ => ⟨S1x1x1x64, .f32⟩
  | .hbm, ⟨6, _⟩ => ⟨S1x1x8x64, .f32⟩
  | .hbm, ⟨7, _⟩ => ⟨S1x512, .f32⟩
  | .hbm, ⟨8, _⟩ => ⟨S1x1x1x64, .f32⟩
  | .hbm, ⟨9, _⟩ => ⟨S1x1x8x64, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S_, .f32⟩
  | .hbm, ⟨15, _⟩ => ⟨S1x1024, .f32⟩
  | .hbm, ⟨16, _⟩ => ⟨S1x2048, .f32⟩
  | .hbm, ⟨17, _⟩ => ⟨S4096x2048, .f32⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x1024, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== RProjIdeal.lean ====
abbrev S4096x1024 : Shape := ⟨2, ![4096, 1024]⟩
abbrev S1024x2048 : Shape := ⟨2, ![1024, 2048]⟩
abbrev S1x1024 : Shape := ⟨2, ![1, 1024]⟩
abbrev S1x64 : Shape := ⟨2, ![1, 64]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S4096x8x64 : Shape := ⟨3, ![4096, 8, 64]⟩
abbrev S4096x8 : Shape := ⟨2, ![4096, 8]⟩
abbrev S4096x8x1 : Shape := ⟨3, ![4096, 8, 1]⟩
abbrev S1x1x64 : Shape := ⟨3, ![1, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1x1024, .f32⟩
  | .hbm, ⟨3, _⟩ => ⟨S1x64, .f32⟩
  | .hbm, ⟨4, _⟩ => ⟨S1x64, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x2048, .f32⟩
  | .hbm, ⟨21, _⟩ => ⟨S4096x2048, .f32⟩
  | .hbm, ⟨22, _⟩ => ⟨S4096x512, .f32⟩
  | .hbm, ⟨23, _⟩ => ⟨S4096x8x64, .f32⟩
  | .hbm, ⟨24, _⟩ => ⟨S4096x512, .f32⟩
  | .hbm, ⟨25, _⟩ => ⟨S4096x8x64, .f32⟩
  | .hbm, ⟨26, _⟩ => ⟨S4096x512, .f32⟩
  | .hbm, ⟨27, _⟩ => ⟨S4096x8x64, .f32⟩
  | .hbm, ⟨28, _⟩ => ⟨S_, .f32⟩
  | .hbm, ⟨29, _⟩ => ⟨S4096x8, .f32⟩
  | .hbm, ⟨30, _⟩ => ⟨S4096x8x1, .f32⟩
  | .hbm, ⟨31, _⟩ => ⟨S_, .f32⟩
  | .hbm, ⟨32, _⟩ => ⟨S4096x8x1, .f32⟩
  | .hbm, ⟨33, _⟩ => ⟨S4096x8x1, .f32⟩
  | .hbm, ⟨34, _⟩ => ⟨S_, .f32⟩
  | .hbm, ⟨35, _⟩ => ⟨S4096x8x1, .f32⟩
  | .hbm, ⟨36, _⟩ => ⟨S4096x8x1, .f32⟩
  | .hbm, ⟨37, _⟩ => ⟨S4096x8x1, .f32⟩
  | .hbm, ⟨38, _⟩ => ⟨S4096x8x64, .f32⟩
  | .hbm, ⟨39, _⟩ => ⟨S4096x8x64, .f32⟩
  | .hbm, ⟨40, _⟩ => ⟨S1x1x64, .f32⟩
  | .hbm, ⟨41, _⟩ => ⟨S4096x8x64, .f32⟩
  | .hbm, ⟨42, _⟩ => ⟨S4096x8x64, .f32⟩
  | .hbm, ⟨43, _⟩ => ⟨S_, .f32⟩
  | .hbm, ⟨44, _⟩ => ⟨S4096x8x64, .f32⟩
  | .hbm, ⟨45, _⟩ => ⟨S4096x8x64, .f32⟩
  | .hbm, ⟨46, _⟩ => ⟨S4096x8x64, .f32⟩
  | .hbm, ⟨47, _⟩ => ⟨S_, .f32⟩
  | .hbm, ⟨48, _⟩ => ⟨S4096x8, .f32⟩
  | .hbm, ⟨49, _⟩ => ⟨S4096x8x1, .f32⟩
  | .hbm, ⟨50, _⟩ => ⟨S_, .f32⟩
  | .hbm, ⟨51, _⟩ => ⟨S4096x8x1, .f32⟩
  | .hbm, ⟨52, _⟩ => ⟨S4096x8x1, .f32⟩
  | .hbm, ⟨53, _⟩ => ⟨S_, .f32⟩
  | .hbm, ⟨54, _⟩ => ⟨S4096x8x1, .f32⟩
  | .hbm, ⟨55, _⟩ => ⟨S4096x8x1, .f32⟩
  | .hbm, ⟨56, _⟩ => ⟨S4096x8x1, .f32⟩
  | .hbm, ⟨57, _⟩ => ⟨S4096x8x64, .f32⟩
  | .hbm, ⟨58, _⟩ => ⟨S4096x8x64, .f32⟩
  | .hbm, ⟨59, _⟩ => ⟨S1x1x64, .f32⟩
  | .hbm, ⟨60, _⟩ => ⟨S4096x8x64, .f32⟩
  | .hbm, ⟨61, _⟩ => ⟨S4096x8x64, .f32⟩
  | .hbm, ⟨62, _⟩ => ⟨S4096x512, .f32⟩
  | .hbm, ⟨63, _⟩ => ⟨S4096x512, .bf16⟩
  | .hbm, ⟨64, _⟩ => ⟨S4096x512, .f32⟩
  | .hbm, ⟨65, _⟩ => ⟨S4096x512, .bf16⟩
  | .hbm, ⟨66, _⟩ => ⟨S4096x512, .bf16⟩
  | .hbm, ⟨67, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== KWeight.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RWeightIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KSmall.lean ====
abbrev S8x144x1024 : Shape := ⟨3, ![8, 144, 1024]⟩
abbrev S144x1024 : Shape := ⟨2, ![144, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S8x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RSmallIdeal.lean ====
abbrev S8x144x1024 : Shape := ⟨3, ![8, 144, 1024]⟩
abbrev S144x1024 : Shape := ⟨2, ![144, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S_, .f32⟩
  | .hbm, ⟨18, _⟩ => ⟨S144x1024, .f32⟩
  | .hbm, ⟨19, _⟩ => ⟨S144x1024, .f32⟩
  | .hbm, ⟨20, _⟩ => ⟨S144x1024, .f32⟩
  | .hbm, ⟨21, _⟩ => ⟨S_, .f32⟩
  | .hbm, ⟨22, _⟩ => ⟨S144x1024, .f32⟩
  | .hbm, ⟨23, _⟩ => ⟨S144x1024, .f32⟩
  | .hbm, ⟨24, _⟩ => ⟨S_, .f32⟩
  | .hbm, ⟨25, _⟩ => ⟨S144x1024, .f32⟩
  | .hbm, ⟨26, _⟩ => ⟨S144x1024, .f32⟩
  | .hbm, ⟨27, _⟩ => ⟨S144x1024, .f32⟩
  | .hbm, ⟨28, _⟩ => ⟨S_, .f32⟩
  | .hbm, ⟨29, _⟩ => ⟨S144x1024, .f32⟩
  | .hbm, ⟨30, _⟩ => ⟨S144x1024, .f32⟩
  | .hbm, ⟨31, _⟩ => ⟨S144x1024, .f32⟩
  | .hbm, ⟨32, _⟩ => ⟨S_, .f32⟩
  | .hbm, ⟨33, _⟩ => ⟨S144x1024, .f32⟩
  | .hbm, ⟨34, _⟩ => ⟨S144x1024, .f32⟩
  | .hbm, ⟨35, _⟩ => ⟨S144x1024, .f32⟩
  | .hbm, ⟨36, _⟩ => ⟨S_, .f32⟩
  | .hbm, ⟨37, _⟩ => ⟨S144x1024, .f32⟩
  | .hbm, ⟨38, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KSsm.lean ====
abbrev S4096x512 : Shape := ⟨2, ![4096, 512]⟩
abbrev S32x64 : Shape := ⟨2, ![32, 64]⟩
abbrev S32x16x64 : Shape := ⟨3, ![32, 16, 64]⟩
abbrev S32x16 : Shape := ⟨2, ![32, 16]⟩
abbrev S4x8x16x64 : Shape := ⟨4, ![4, 8, 16, 64]⟩
abbrev S4x8x16x1x64 : Shape := ⟨5, ![4, 8, 16, 1, 64]⟩
abbrev S8x8 : Shape := ⟨2, ![8, 8]⟩
abbrev S_ : Shape := ⟨0, ![]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x1024x128 : Shape := ⟨3, ![4, 1024, 128]⟩
abbrev S4x1x512 : Shape := ⟨3, ![4, 1, 512]⟩
abbrev S4x8x512 : Shape := ⟨3, ![4, 8, 512]⟩
abbrev S2x2048x32x16 : Shape := ⟨4, ![2, 2048, 32, 16]⟩
abbrev S32x64x2x2048 : Shape := ⟨4, ![32, 64, 2, 2048]⟩
abbrev S2x2048x32x64 : Shape := ⟨4, ![2, 2048, 32, 64]⟩
abbrev S2x2048x32x64x1 : Shape := ⟨5, ![2, 2048, 32, 64, 1]⟩
abbrev S2x2048x32x64x9 : Shape := ⟨5, ![2, 2048, 32, 64, 9]⟩
abbrev S2x2048x32x64x3x3 : Shape := ⟨6, ![2, 2048, 32, 64, 3, 3]⟩
abbrev S2x1024x32x64x3x3 : Shape := ⟨6, ![2, 1024, 32, 64, 3, 3]⟩
abbrev S2x1024x32x64x3x3x1 : Shape := ⟨7, ![2, 1024, 32, 64, 3, 3, 1]⟩
abbrev S2x1024x32x64x1x3x3 : Shape := ⟨7, ![2, 1024, 32, 64, 1, 3, 3]⟩
abbrev S2x1024x32x64x3x3x3 : Shape := ⟨7, ![2, 1024, 32, 64, 3, 3, 3]⟩
abbrev S2x512x32x64x3x3 : Shape := ⟨6, ![2, 512, 32, 64, 3, 3]⟩
abbrev S2x512x32x64x3x3x1 : Shape := ⟨7, ![2, 512, 32, 64, 3, 3, 1]⟩
abbrev S2x512x32x64x1x3x3 : Shape := ⟨7, ![2, 512, 32, 64, 1, 3, 3]⟩
abbrev S2x512x32x64x3x3x3 : Shape := ⟨7, ![2, 512, 32, 64, 3, 3, 3]⟩
abbrev S2x256x32x64x3x3 : Shape := ⟨6, ![2, 256, 32, 64, 3, 3]⟩
abbrev S2x256x32x64x3x3x1 : Shape := ⟨7, ![2, 256, 32, 64, 3, 3, 1]⟩
abbrev S2x256x32x64x1x3x3 : Shape := ⟨7, ![2, 256, 32, 64, 1, 3, 3]⟩
abbrev S2x256x32x64x3x3x3 : Shape := ⟨7, ![2, 256, 32, 64, 3, 3, 3]⟩
abbrev S2x128x32x64x3x3 : Shape := ⟨6, ![2, 128, 32, 64, 3, 3]⟩
abbrev S2x128x32x64x3x3x1 : Shape := ⟨7, ![2, 128, 32, 64, 3, 3, 1]⟩
abbrev S2x128x32x64x1x3x3 : Shape := ⟨7, ![2, 128, 32, 64, 1, 3, 3]⟩
abbrev S2x128x32x64x3x3x3 : Shape := ⟨7, ![2, 128, 32, 64, 3, 3, 3]⟩
abbrev S2x64x32x64x3x3 : Shape := ⟨6, ![2, 64, 32, 64, 3, 3]⟩
abbrev S2x64x32x64x3x3x1 : Shape := ⟨7, ![2, 64, 32, 64, 3, 3, 1]⟩
abbrev S2x64x32x64x1x3x3 : Shape := ⟨7, ![2, 64, 32, 64, 1, 3, 3]⟩
abbrev S2x64x32x64x3x3x3 : Shape := ⟨7, ![2, 64, 32, 64, 3, 3, 3]⟩
abbrev S2x32x32x64x3x3 : Shape := ⟨6, ![2, 32, 32, 64, 3, 3]⟩
abbrev S2x32x32x64x3x3x1 : Shape := ⟨7, ![2, 32, 32, 64, 3, 3, 1]⟩
abbrev S2x32x32x64x1x3x3 : Shape := ⟨7, ![2, 32, 32, 64, 1, 3, 3]⟩
abbrev S2x32x32x64x3x3x3 : Shape := ⟨7, ![2, 32, 32, 64, 3, 3, 3]⟩
abbrev S2x16x32x64x3x3 : Shape := ⟨6, ![2, 16, 32, 64, 3, 3]⟩
abbrev S2x16x32x64x3x3x1 : Shape := ⟨7, ![2, 16, 32, 64, 3, 3, 1]⟩
abbrev S2x16x32x64x1x3x3 : Shape := ⟨7, ![2, 16, 32, 64, 1, 3, 3]⟩
abbrev S2x16x32x64x3x3x3 : Shape := ⟨7, ![2, 16, 32, 64, 3, 3, 3]⟩
abbrev S2x8x32x64x3x3 : Shape := ⟨6, ![2, 8, 32, 64, 3, 3]⟩
abbrev S2x8x32x64x3x3x1 : Shape := ⟨7, ![2, 8, 32, 64, 3, 3, 1]⟩
abbrev S2x8x32x64x1x3x3 : Shape := ⟨7, ![2, 8, 32, 64, 1, 3, 3]⟩
abbrev S2x8x32x64x3x3x3 : Shape := ⟨7, ![2, 8, 32, 64, 3, 3, 3]⟩
abbrev S2x4x32x64x3x3 : Shape := ⟨6, ![2, 4, 32, 64, 3, 3]⟩
abbrev S2x4x32x64x3x3x1 : Shape := ⟨7, ![2, 4, 32, 64, 3, 3, 1]⟩
abbrev S2x4x32x64x1x3x3 : Shape := ⟨7, ![2, 4, 32, 64, 1, 3, 3]⟩
abbrev S2x4x32x64x3x3x3 : Shape := ⟨7, ![2, 4, 32, 64, 3, 3, 3]⟩
abbrev S2x2x32x64x3x3 : Shape := ⟨6, ![2, 2, 32, 64, 3, 3]⟩
abbrev S2x2x32x64x3x3x1 : Shape := ⟨7, ![2, 2, 32, 64, 3, 3, 1]⟩
abbrev S2x2x32x64x1x3x3 : Shape := ⟨7, ![2, 2, 32, 64, 1, 3, 3]⟩
abbrev S2x2x32x64x3x3x3 : Shape := ⟨7, ![2, 2, 32, 64, 3, 3, 3]⟩
abbrev S2x1x32x64x3x3 : Shape := ⟨6, ![2, 1, 32, 64, 3, 3]⟩
abbrev S2x1x32x64x3x3x1 : Shape := ⟨7, ![2, 1, 32, 64, 3, 3, 1]⟩
abbrev S2x1x32x64x1x3x3 : Shape := ⟨7, ![2, 1, 32, 64, 1, 3, 3]⟩
abbrev S2x1x32x64x3x3x3 : Shape := ⟨7, ![2, 1, 32, 64, 3, 3, 3]⟩
abbrev S2x0x32x64x3x3 : Shape := ⟨6, ![2, 0, 32, 64, 3, 3]⟩
abbrev S2x0x32x64x3x3x1 : Shape := ⟨7, ![2, 0, 32, 64, 3, 3, 1]⟩
abbrev S2x0x32x64x1x3x3 : Shape := ⟨7, ![2, 0, 32, 64, 1, 3, 3]⟩
abbrev S2x0x32x64x3x3x3 : Shape := ⟨7, ![2, 0, 32, 64, 3, 3, 3]⟩
abbrev S2x3x32x64x3x3 : Shape := ⟨6, ![2, 3, 32, 64, 3, 3]⟩
abbrev S2x3x32x64x3x3x1 : Shape := ⟨7, ![2, 3, 32, 64, 3, 3, 1]⟩
abbrev S2x3x32x64x1x3x3 : Shape := ⟨7, ![2, 3, 32, 64, 1, 3, 3]⟩
abbrev S2x3x32x64x3x3x3 : Shape := ⟨7, ![2, 3, 32, 64, 3, 3, 3]⟩
abbrev S2x7x32x64x3x3 : Shape := ⟨6, ![2, 7, 32, 64, 3, 3]⟩
abbrev S2x7x32x64x3x3x1 : Shape := ⟨7, ![2, 7, 32, 64, 3, 3, 1]⟩
abbrev S2x7x32x64x1x3x3 : Shape := ⟨7, ![2, 7, 32, 64, 1, 3, 3]⟩
abbrev S2x7x32x64x3x3x3 : Shape := ⟨7, ![2, 7, 32, 64, 3, 3, 3]⟩
abbrev S2x15x32x64x3x3 : Shape := ⟨6, ![2, 15, 32, 64, 3, 3]⟩
abbrev S2x15x32x64x3x3x1 : Shape := ⟨7, ![2, 15, 32, 64, 3, 3, 1]⟩
abbrev S2x15x32x64x1x3x3 : Shape := ⟨7, ![2, 15, 32, 64, 1, 3, 3]⟩
abbrev S2x15x32x64x3x3x3 : Shape := ⟨7, ![2, 15, 32, 64, 3, 3, 3]⟩
abbrev S2x31x32x64x3x3 : Shape := ⟨6, ![2, 31, 32, 64, 3, 3]⟩
abbrev S2x31x32x64x3x3x1 : Shape := ⟨7, ![2, 31, 32, 64, 3, 3, 1]⟩
abbrev S2x31x32x64x1x3x3 : Shape := ⟨7, ![2, 31, 32, 64, 1, 3, 3]⟩
abbrev S2x31x32x64x3x3x3 : Shape := ⟨7, ![2, 31, 32, 64, 3, 3, 3]⟩
abbrev S2x63x32x64x3x3 : Shape := ⟨6, ![2, 63, 32, 64, 3, 3]⟩
abbrev S2x63x32x64x3x3x1 : Shape := ⟨7, ![2, 63, 32, 64, 3, 3, 1]⟩
abbrev S2x63x32x64x1x3x3 : Shape := ⟨7, ![2, 63, 32, 64, 1, 3, 3]⟩
abbrev S2x63x32x64x3x3x3 : Shape := ⟨7, ![2, 63, 32, 64, 3, 3, 3]⟩
abbrev S2x127x32x64x3x3 : Shape := ⟨6, ![2, 127, 32, 64, 3, 3]⟩
abbrev S2x127x32x64x3x3x1 : Shape := ⟨7, ![2, 127, 32, 64, 3, 3, 1]⟩
abbrev S2x127x32x64x1x3x3 : Shape := ⟨7, ![2, 127, 32, 64, 1, 3, 3]⟩
abbrev S2x127x32x64x3x3x3 : Shape := ⟨7, ![2, 127, 32, 64, 3, 3, 3]⟩
abbrev S2x255x32x64x3x3 : Shape := ⟨6, ![2, 255, 32, 64, 3, 3]⟩
abbrev S2x255x32x64x3x3x1 : Shape := ⟨7, ![2, 255, 32, 64, 3, 3, 1]⟩
abbrev S2x255x32x64x1x3x3 : Shape := ⟨7, ![2, 255, 32, 64, 1, 3, 3]⟩
abbrev S2x255x32x64x3x3x3 : Shape := ⟨7, ![2, 255, 32, 64, 3, 3, 3]⟩
abbrev S2x511x32x64x3x3 : Shape := ⟨6, ![2, 511, 32, 64, 3, 3]⟩
abbrev S2x511x32x64x3x3x1 : Shape := ⟨7, ![2, 511, 32, 64, 3, 3, 1]⟩
abbrev S2x511x32x64x1x3x3 : Shape := ⟨7, ![2, 511, 32, 64, 1, 3, 3]⟩
abbrev S2x511x32x64x3x3x3 : Shape := ⟨7, ![2, 511, 32, 64, 3, 3, 3]⟩
abbrev S2x1023x32x64x3x3 : Shape := ⟨6, ![2, 1023, 32, 64, 3, 3]⟩
abbrev S2x1023x32x64x3x3x1 : Shape := ⟨7, ![2, 1023, 32, 64, 3, 3, 1]⟩
abbrev S2x1023x32x64x1x3x3 : Shape := ⟨7, ![2, 1023, 32, 64, 1, 3, 3]⟩
abbrev S2x1023x32x64x3x3x3 : Shape := ⟨7, ![2, 1023, 32, 64, 3, 3, 3]⟩
abbrev S2x2048x32x64x1x1 : Shape := ⟨6, ![2, 2048, 32, 64, 1, 1]⟩
abbrev S1x2x2048x32x64 : Shape := ⟨5, ![1, 2, 2048, 32, 64]⟩
abbrev S2x2x2048x32x64 : Shape := ⟨5, ![2, 2, 2048, 32, 64]⟩
abbrev S2x2x2048x4x512 : Shape := ⟨5, ![2, 2, 2048, 4, 512]⟩
abbrev S2x2048x4x2x512 : Shape := ⟨5, ![2, 2048, 4, 2, 512]⟩
abbrev S4096x4096 : Shape := ⟨2, ![4096, 4096]⟩
abbrev S2x8x256x4096 : Shape := ⟨4, ![2, 8, 256, 4096]⟩
abbrev S2x256x8x4096 : Shape := ⟨4, ![2, 256, 8, 4096]⟩
abbrev S2x2048x4096 : Shape := ⟨3, ![2, 2048, 4096]⟩
abbrev S2x7x4096 : Shape := ⟨3, ![2, 7, 4096]⟩
abbrev S2x1x4096 : Shape := ⟨3, ![2, 1, 4096]⟩
abbrev S2x8x4096 : Shape := ⟨3, ![2, 8, 4096]⟩
abbrev S2x8x4x1024 : Shape := ⟨4, ![2, 8, 4, 1024]⟩
abbrev S2x4x8x1024 : Shape := ⟨4, ![2, 4, 8, 1024]⟩
abbrev S2x8x256x512 : Shape := ⟨4, ![2, 8, 256, 512]⟩
abbrev S2x256x8x512 : Shape := ⟨4, ![2, 256, 8, 512]⟩
abbrev S2x2048x512 : Shape := ⟨3, ![2, 2048, 512]⟩
abbrev S1x512 : Shape := ⟨2, ![1, 512]⟩
abbrev S1x2048x128 : Shape := ⟨3, ![1, 2048, 128]⟩
abbrev S1x2048x1024 : Shape := ⟨3, ![1, 2048, 1024]⟩
abbrev S1x1x8x1024 : Shape := ⟨4, ![1, 1, 8, 1024]⟩
abbrev S1x1024x128 : Shape := ⟨3, ![1, 1024, 128]⟩
abbrev S1x8x512 : Shape := ⟨3, ![1, 8, 512]⟩
abbrev S1x128x1024 : Shape := ⟨3, ![1, 128, 1024]⟩
abbrev S1x128 : Shape := ⟨2, ![1, 128]⟩
abbrev S1x1x512 : Shape := ⟨3, ![1, 1, 512]⟩
abbrev S2048x1024 : Shape := ⟨2, ![2048, 1024]⟩
abbrev S8x1024 : Shape := ⟨2, ![8, 1024]⟩
abbrev S8x512 : Shape := ⟨2, ![8, 512]⟩
abbrev S128x1024 : Shape := ⟨2, ![128, 1024]⟩
abbrev S1024x128 : Shape := ⟨2, ![1024, 128]⟩
abbrev S2048x128 : Shape := ⟨2, ![2048, 128]⟩
abbrev S1x1024 : Shape := ⟨2, ![1, 1024]⟩
abbrev S128 : Shape := ⟨1, ![128]⟩
abbrev S512 : Shape := ⟨1, ![512]⟩

abbrev nBuf : Space → Nat
  | .hbm => 404
  | .vmem => 36
  | .smem => 0
  | _ => 0

abbrev hbmTy0_0 (i : Nat) : BufTy := match i % 128 with
  | 0 => ⟨S4096x512, .f32⟩
  | 1 => ⟨S32x64, .f32⟩
  | 2 => ⟨S32x64, .f32⟩
  | 3 => ⟨S32x16x64, .f32⟩
  | 4 => ⟨S32x16x64, .f32⟩
  | 5 => ⟨S32x16x64, .f32⟩
  | 6 => ⟨S32x16x64, .f32⟩
  | 7 => ⟨S32x16, .f32⟩
  | 8 => ⟨S4096x512, .f32⟩
  | 9 => ⟨S4x8x16x64, .f32⟩
  | 10 => ⟨S4x8x16x1x64, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S1x8x1x8x1, .f32⟩
  | 19 => ⟨S4x8x16x8x64, .f32⟩
  | 20 => ⟨S4x8x16x8x64, .f32⟩
  | 21 => ⟨S4x8x16x8x64, .f32⟩
  | 22 => ⟨S4x128x512, .f32⟩
  | 23 => ⟨S4x8x16x64, .f32⟩
  | 24 => ⟨S4x8x16x1x64, .f32⟩
  | 25 => ⟨S8x8, .i32⟩
  | 26 => ⟨S8x8, .i32⟩
  | 27 => ⟨S_, .i32⟩
  | 28 => ⟨S8x8, .i32⟩
  | 29 => ⟨S8x8, .i32⟩
  | 30 => ⟨S8x8, .i1⟩
  | 31 => ⟨S8x8, .f32⟩
  | 32 => ⟨S1x8x1x8x1, .f32⟩
  | 33 => ⟨S4x8x16x8x64, .f32⟩
  | 34 => ⟨S4x8x16x8x64, .f32⟩
  | 35 => ⟨S4x8x16x8x64, .f32⟩
  | 36 => ⟨S4x128x512, .f32⟩
  | 37 => ⟨S4x128x1024, .f32⟩
  | 38 => ⟨S4x8x16x64, .f32⟩
  | 39 => ⟨S4x8x16x1x64, .f32⟩
  | 40 => ⟨S8x8, .i32⟩
  | 41 => ⟨S8x8, .i32⟩
  | 42 => ⟨S_, .i32⟩
  | 43 => ⟨S8x8, .i32⟩
  | 44 => ⟨S8x8, .i32⟩
  | 45 => ⟨S8x8, .i1⟩
  | 46 => ⟨S8x8, .f32⟩
  | 47 => ⟨S1x8x1x8x1, .f32⟩
  | 48 => ⟨S4x8x16x8x64, .f32⟩
  | 49 => ⟨S4x8x16x8x64, .f32⟩
  | 50 => ⟨S4x8x16x8x64, .f32⟩
  | 51 => ⟨S4x128x512, .f32⟩
  | 52 => ⟨S4x8x16x64, .f32⟩
  | 53 => ⟨S4x8x16x1x64, .f32⟩
  | 54 => ⟨S8x8, .i32⟩
  | 55 => ⟨S8x8, .i32⟩
  | 56 => ⟨S_, .i32⟩
  | 57 => ⟨S8x8, .i32⟩
  | 58 => ⟨S8x8, .i32⟩
  | 59 => ⟨S8x8, .i1⟩
  | 60 => ⟨S8x8, .f32⟩
  | 61 => ⟨S1x8x1x8x1, .f32⟩
  | 62 => ⟨S4x8x16x8x64, .f32⟩
  | 63 => ⟨S4x8x16x8x64, .f32⟩
  | 64 => ⟨S4x8x16x8x64, .f32⟩
  | 65 => ⟨S4x128x512, .f32⟩
  | 66 => ⟨S4x128x512, .f32⟩
  | 67 => ⟨S4x128x1024, .f32⟩
  | 68 => ⟨S4x1024x128, .f32⟩
  | 69 => ⟨S4x1x512, .f32⟩
  | 70 => ⟨S4x8x512, .f32⟩
  | 71 => ⟨S4x1x512, .f32⟩
  | 72 => ⟨S4x8x512, .f32⟩
  | 73 => ⟨S2x2048x32x16, .f32⟩
  | 74 => ⟨S32x64x2x2048, .f32⟩
  | 75 => ⟨S2x2048x32x64, .f32⟩
  | 76 => ⟨S32x64x2x2048, .f32⟩
  | 77 => ⟨S2x2048x32x64, .f32⟩
  | 78 => ⟨S2x2048x32x64, .f32⟩
  | 79 => ⟨S2x2048x32x64, .f32⟩
  | 80 => ⟨S_, .f32⟩
  | 81 => ⟨S2x2048x32x64, .f32⟩
  | 82 => ⟨S_, .f32⟩
  | 83 => ⟨S2x2048x32x64, .f32⟩
  | 84 => ⟨S2x2048x32x64, .f32⟩
  | 85 => ⟨S2x2048x32x64x1, .f32⟩
  | 86 => ⟨S2x2048x32x64x1, .f32⟩
  | 87 => ⟨S2x2048x32x64x1, .f32⟩
  | 88 => ⟨S2x2048x32x64x1, .f32⟩
  | 89 => ⟨S2x2048x32x64x1, .f32⟩
  | 90 => ⟨S2x2048x32x64x1, .f32⟩
  | 91 => ⟨S2x2048x32x64x1, .f32⟩
  | 92 => ⟨S2x2048x32x64x1, .f32⟩
  | 93 => ⟨S2x2048x32x64x1, .f32⟩
  | 94 => ⟨S2x2048x32x64x9, .f32⟩
  | 95 => ⟨S2x2048x32x64x3x3, .f32⟩
  | 96 => ⟨S2x1024x32x64x3x3, .f32⟩
  | 97 => ⟨S2x1024x32x64x3x3, .f32⟩
  | 98 => ⟨S2x1024x32x64x3x3x1, .f32⟩
  | 99 => ⟨S2x1024x32x64x1x3x3, .f32⟩
  | 100 => ⟨S2x1024x32x64x3x3x3, .f32⟩
  | 101 => ⟨S2x1024x32x64x3x3x3, .f32⟩
  | 102 => ⟨S2x1024x32x64x3x3x3, .f32⟩
  | 103 => ⟨S_, .f32⟩
  | 104 => ⟨S2x1024x32x64x3x3, .f32⟩
  | 105 => ⟨S2x512x32x64x3x3, .f32⟩
  | 106 => ⟨S2x512x32x64x3x3, .f32⟩
  | 107 => ⟨S2x512x32x64x3x3x1, .f32⟩
  | 108 => ⟨S2x512x32x64x1x3x3, .f32⟩
  | 109 => ⟨S2x512x32x64x3x3x3, .f32⟩
  | 110 => ⟨S2x512x32x64x3x3x3, .f32⟩
  | 111 => ⟨S2x512x32x64x3x3x3, .f32⟩
  | 112 => ⟨S_, .f32⟩
  | 113 => ⟨S2x512x32x64x3x3, .f32⟩
  | 114 => ⟨S2x256x32x64x3x3, .f32⟩
  | 115 => ⟨S2x256x32x64x3x3, .f32⟩
  | 116 => ⟨S2x256x32x64x3x3x1, .f32⟩
  | 117 => ⟨S2x256x32x64x1x3x3, .f32⟩
  | 118 => ⟨S2x256x32x64x3x3x3, .f32⟩
  | 119 => ⟨S2x256x32x64x3x3x3, .f32⟩
  | 120 => ⟨S2x256x32x64x3x3x3, .f32⟩
  | 121 => ⟨S_, .f32⟩
  | 122 => ⟨S2x256x32x64x3x3, .f32⟩
  | 123 => ⟨S2x128x32x64x3x3, .f32⟩
  | 124 => ⟨S2x128x32x64x3x3, .f32⟩
  | 125 => ⟨S2x128x32x64x3x3x1, .f32⟩
  | 126 => ⟨S2x128x32x64x1x3x3, .f32⟩
  | 127 => ⟨S2x128x32x64x3x3x3, .f32⟩
  | _ => ⟨S4096x512, .f32⟩

abbrev hbmTy0_1 (i : Nat) : BufTy := match i % 128 with
  | 0 => ⟨S2x128x32x64x3x3x3, .f32⟩
  | 1 => ⟨S2x128x32x64x3x3x3, .f32⟩
  | 2 => ⟨S_, .f32⟩
  | 3 => ⟨S2x128x32x64x3x3, .f32⟩
  | 4 => ⟨S2x64x32x64x3x3, .f32⟩
  | 5 => ⟨S2x64x32x64x3x3, .f32⟩
  | 6 => ⟨S2x64x32x64x3x3x1, .f32⟩
  | 7 => ⟨S2x64x32x64x1x3x3, .f32⟩
  | 8 => ⟨S2x64x32x64x3x3x3, .f32⟩
  | 9 => ⟨S2x64x32x64x3x3x3, .f32⟩
  | 10 => ⟨S2x64x32x64x3x3x3, .f32⟩
  | 11 => ⟨S_, .f32⟩
  | 12 => ⟨S2x64x32x64x3x3, .f32⟩
  | 13 => ⟨S2x32x32x64x3x3, .f32⟩
  | 14 => ⟨S2x32x32x64x3x3, .f32⟩
  | 15 => ⟨S2x32x32x64x3x3x1, .f32⟩
  | 16 => ⟨S2x32x32x64x1x3x3, .f32⟩
  | 17 => ⟨S2x32x32x64x3x3x3, .f32⟩
  | 18 => ⟨S2x32x32x64x3x3x3, .f32⟩
  | 19 => ⟨S2x32x32x64x3x3x3, .f32⟩
  | 20 => ⟨S_, .f32⟩
  | 21 => ⟨S2x32x32x64x3x3, .f32⟩
  | 22 => ⟨S2x16x32x64x3x3, .f32⟩
  | 23 => ⟨S2x16x32x64x3x3, .f32⟩
  | 24 => ⟨S2x16x32x64x3x3x1, .f32⟩
  | 25 => ⟨S2x16x32x64x1x3x3, .f32⟩
  | 26 => ⟨S2x16x32x64x3x3x3, .f32⟩
  | 27 => ⟨S2x16x32x64x3x3x3, .f32⟩
  | 28 => ⟨S2x16x32x64x3x3x3, .f32⟩
  | 29 => ⟨S_, .f32⟩
  | 30 => ⟨S2x16x32x64x3x3, .f32⟩
  | 31 => ⟨S2x8x32x64x3x3, .f32⟩
  | 32 => ⟨S2x8x32x64x3x3, .f32⟩
  | 33 => ⟨S2x8x32x64x3x3x1, .f32⟩
  | 34 => ⟨S2x8x32x64x1x3x3, .f32⟩
  | 35 => ⟨S2x8x32x64x3x3x3, .f32⟩
  | 36 => ⟨S2x8x32x64x3x3x3, .f32⟩
  | 37 => ⟨S2x8x32x64x3x3x3, .f32⟩
  | 38 => ⟨S_, .f32⟩
  | 39 => ⟨S2x8x32x64x3x3, .f32⟩
  | 40 => ⟨S2x4x32x64x3x3, .f32⟩
  | 41 => ⟨S2x4x32x64x3x3, .f32⟩
  | 42 => ⟨S2x4x32x64x3x3x1, .f32⟩
  | 43 => ⟨S2x4x32x64x1x3x3, .f32⟩
  | 44 => ⟨S2x4x32x64x3x3x3, .f32⟩
  | 45 => ⟨S2x4x32x64x3x3x3, .f32⟩
  | 46 => ⟨S2x4x32x64x3x3x3, .f32⟩
  | 47 => ⟨S_, .f32⟩
  | 48 => ⟨S2x4x32x64x3x3, .f32⟩
  | 49 => ⟨S2x2x32x64x3x3, .f32⟩
  | 50 => ⟨S2x2x32x64x3x3, .f32⟩
  | 51 => ⟨S2x2x32x64x3x3x1, .f32⟩
  | 52 => ⟨S2x2x32x64x1x3x3, .f32⟩
  | 53 => ⟨S2x2x32x64x3x3x3, .f32⟩
  | 54 => ⟨S2x2x32x64x3x3x3, .f32⟩
  | 55 => ⟨S2x2x32x64x3x3x3, .f32⟩
  | 56 => ⟨S_, .f32⟩
  | 57 => ⟨S2x2x32x64x3x3, .f32⟩
  | 58 => ⟨S2x1x32x64x3x3, .f32⟩
  | 59 => ⟨S2x1x32x64x3x3, .f32⟩
  | 60 => ⟨S2x1x32x64x3x3x1, .f32⟩
  | 61 => ⟨S2x1x32x64x1x3x3, .f32⟩
  | 62 => ⟨S2x1x32x64x3x3x3, .f32⟩
  | 63 => ⟨S2x1x32x64x3x3x3, .f32⟩
  | 64 => ⟨S2x1x32x64x3x3x3, .f32⟩
  | 65 => ⟨S_, .f32⟩
  | 66 => ⟨S2x1x32x64x3x3, .f32⟩
  | 67 => ⟨S2x0x32x64x3x3, .f32⟩
  | 68 => ⟨S2x0x32x64x3x3, .f32⟩
  | 69 => ⟨S2x0x32x64x3x3x1, .f32⟩
  | 70 => ⟨S2x0x32x64x1x3x3, .f32⟩
  | 71 => ⟨S2x0x32x64x3x3x3, .f32⟩
  | 72 => ⟨S2x0x32x64x3x3x3, .f32⟩
  | 73 => ⟨S2x0x32x64x3x3x3, .f32⟩
  | 74 => ⟨S_, .f32⟩
  | 75 => ⟨S2x0x32x64x3x3, .f32⟩
  | 76 => ⟨S2x1x32x64x3x3, .f32⟩
  | 77 => ⟨S2x1x32x64x3x3, .f32⟩
  | 78 => ⟨S_, .f32⟩
  | 79 => ⟨S2x2x32x64x3x3, .f32⟩
  | 80 => ⟨S_, .f32⟩
  | 81 => ⟨S2x2x32x64x3x3, .f32⟩
  | 82 => ⟨S2x2x32x64x3x3, .f32⟩
  | 83 => ⟨S2x1x32x64x3x3, .f32⟩
  | 84 => ⟨S2x1x32x64x3x3, .f32⟩
  | 85 => ⟨S2x1x32x64x3x3x1, .f32⟩
  | 86 => ⟨S2x1x32x64x1x3x3, .f32⟩
  | 87 => ⟨S2x1x32x64x3x3x3, .f32⟩
  | 88 => ⟨S2x1x32x64x3x3x3, .f32⟩
  | 89 => ⟨S2x1x32x64x3x3x3, .f32⟩
  | 90 => ⟨S_, .f32⟩
  | 91 => ⟨S2x1x32x64x3x3, .f32⟩
  | 92 => ⟨S2x1x32x64x3x3, .f32⟩
  | 93 => ⟨S2x2x32x64x3x3, .f32⟩
  | 94 => ⟨S_, .f32⟩
  | 95 => ⟨S2x4x32x64x3x3, .f32⟩
  | 96 => ⟨S_, .f32⟩
  | 97 => ⟨S2x4x32x64x3x3, .f32⟩
  | 98 => ⟨S2x4x32x64x3x3, .f32⟩
  | 99 => ⟨S2x3x32x64x3x3, .f32⟩
  | 100 => ⟨S2x3x32x64x3x3, .f32⟩
  | 101 => ⟨S2x3x32x64x3x3x1, .f32⟩
  | 102 => ⟨S2x3x32x64x1x3x3, .f32⟩
  | 103 => ⟨S2x3x32x64x3x3x3, .f32⟩
  | 104 => ⟨S2x3x32x64x3x3x3, .f32⟩
  | 105 => ⟨S2x3x32x64x3x3x3, .f32⟩
  | 106 => ⟨S_, .f32⟩
  | 107 => ⟨S2x3x32x64x3x3, .f32⟩
  | 108 => ⟨S2x1x32x64x3x3, .f32⟩
  | 109 => ⟨S2x4x32x64x3x3, .f32⟩
  | 110 => ⟨S_, .f32⟩
  | 111 => ⟨S2x8x32x64x3x3, .f32⟩
  | 112 => ⟨S_, .f32⟩
  | 113 => ⟨S2x8x32x64x3x3, .f32⟩
  | 114 => ⟨S2x8x32x64x3x3, .f32⟩
  | 115 => ⟨S2x7x32x64x3x3, .f32⟩
  | 116 => ⟨S2x7x32x64x3x3, .f32⟩
  | 117 => ⟨S2x7x32x64x3x3x1, .f32⟩
  | 118 => ⟨S2x7x32x64x1x3x3, .f32⟩
  | 119 => ⟨S2x7x32x64x3x3x3, .f32⟩
  | 120 => ⟨S2x7x32x64x3x3x3, .f32⟩
  | 121 => ⟨S2x7x32x64x3x3x3, .f32⟩
  | 122 => ⟨S_, .f32⟩
  | 123 => ⟨S2x7x32x64x3x3, .f32⟩
  | 124 => ⟨S2x1x32x64x3x3, .f32⟩
  | 125 => ⟨S2x8x32x64x3x3, .f32⟩
  | 126 => ⟨S_, .f32⟩
  | 127 => ⟨S2x16x32x64x3x3, .f32⟩
  | _ => ⟨S4096x512, .f32⟩

abbrev hbmTy0_2 (i : Nat) : BufTy := match i % 128 with
  | 0 => ⟨S_, .f32⟩
  | 1 => ⟨S2x16x32x64x3x3, .f32⟩
  | 2 => ⟨S2x16x32x64x3x3, .f32⟩
  | 3 => ⟨S2x15x32x64x3x3, .f32⟩
  | 4 => ⟨S2x15x32x64x3x3, .f32⟩
  | 5 => ⟨S2x15x32x64x3x3x1, .f32⟩
  | 6 => ⟨S2x15x32x64x1x3x3, .f32⟩
  | 7 => ⟨S2x15x32x64x3x3x3, .f32⟩
  | 8 => ⟨S2x15x32x64x3x3x3, .f32⟩
  | 9 => ⟨S2x15x32x64x3x3x3, .f32⟩
  | 10 => ⟨S_, .f32⟩
  | 11 => ⟨S2x15x32x64x3x3, .f32⟩
  | 12 => ⟨S2x1x32x64x3x3, .f32⟩
  | 13 => ⟨S2x16x32x64x3x3, .f32⟩
  | 14 => ⟨S_, .f32⟩
  | 15 => ⟨S2x32x32x64x3x3, .f32⟩
  | 16 => ⟨S_, .f32⟩
  | 17 => ⟨S2x32x32x64x3x3, .f32⟩
  | 18 => ⟨S2x32x32x64x3x3, .f32⟩
  | 19 => ⟨S2x31x32x64x3x3, .f32⟩
  | 20 => ⟨S2x31x32x64x3x3, .f32⟩
  | 21 => ⟨S2x31x32x64x3x3x1, .f32⟩
  | 22 => ⟨S2x31x32x64x1x3x3, .f32⟩
  | 23 => ⟨S2x31x32x64x3x3x3, .f32⟩
  | 24 => ⟨S2x31x32x64x3x3x3, .f32⟩
  | 25 => ⟨S2x31x32x64x3x3x3, .f32⟩
  | 26 => ⟨S_, .f32⟩
  | 27 => ⟨S2x31x32x64x3x3, .f32⟩
  | 28 => ⟨S2x1x32x64x3x3, .f32⟩
  | 29 => ⟨S2x32x32x64x3x3, .f32⟩
  | 30 => ⟨S_, .f32⟩
  | 31 => ⟨S2x64x32x64x3x3, .f32⟩
  | 32 => ⟨S_, .f32⟩
  | 33 => ⟨S2x64x32x64x3x3, .f32⟩
  | 34 => ⟨S2x64x32x64x3x3, .f32⟩
  | 35 => ⟨S2x63x32x64x3x3, .f32⟩
  | 36 => ⟨S2x63x32x64x3x3, .f32⟩
  | 37 => ⟨S2x63x32x64x3x3x1, .f32⟩
  | 38 => ⟨S2x63x32x64x1x3x3, .f32⟩
  | 39 => ⟨S2x63x32x64x3x3x3, .f32⟩
  | 40 => ⟨S2x63x32x64x3x3x3, .f32⟩
  | 41 => ⟨S2x63x32x64x3x3x3, .f32⟩
  | 42 => ⟨S_, .f32⟩
  | 43 => ⟨S2x63x32x64x3x3, .f32⟩
  | 44 => ⟨S2x1x32x64x3x3, .f32⟩
  | 45 => ⟨S2x64x32x64x3x3, .f32⟩
  | 46 => ⟨S_, .f32⟩
  | 47 => ⟨S2x128x32x64x3x3, .f32⟩
  | 48 => ⟨S_, .f32⟩
  | 49 => ⟨S2x128x32x64x3x3, .f32⟩
  | 50 => ⟨S2x128x32x64x3x3, .f32⟩
  | 51 => ⟨S2x127x32x64x3x3, .f32⟩
  | 52 => ⟨S2x127x32x64x3x3, .f32⟩
  | 53 => ⟨S2x127x32x64x3x3x1, .f32⟩
  | 54 => ⟨S2x127x32x64x1x3x3, .f32⟩
  | 55 => ⟨S2x127x32x64x3x3x3, .f32⟩
  | 56 => ⟨S2x127x32x64x3x3x3, .f32⟩
  | 57 => ⟨S2x127x32x64x3x3x3, .f32⟩
  | 58 => ⟨S_, .f32⟩
  | 59 => ⟨S2x127x32x64x3x3, .f32⟩
  | 60 => ⟨S2x1x32x64x3x3, .f32⟩
  | 61 => ⟨S2x128x32x64x3x3, .f32⟩
  | 62 => ⟨S_, .f32⟩
  | 63 => ⟨S2x256x32x64x3x3, .f32⟩
  | 64 => ⟨S_, .f32⟩
  | 65 => ⟨S2x256x32x64x3x3, .f32⟩
  | 66 => ⟨S2x256x32x64x3x3, .f32⟩
  | 67 => ⟨S2x255x32x64x3x3, .f32⟩
  | 68 => ⟨S2x255x32x64x3x3, .f32⟩
  | 69 => ⟨S2x255x32x64x3x3x1, .f32⟩
  | 70 => ⟨S2x255x32x64x1x3x3, .f32⟩
  | 71 => ⟨S2x255x32x64x3x3x3, .f32⟩
  | 72 => ⟨S2x255x32x64x3x3x3, .f32⟩
  | 73 => ⟨S2x255x32x64x3x3x3, .f32⟩
  | 74 => ⟨S_, .f32⟩
  | 75 => ⟨S2x255x32x64x3x3, .f32⟩
  | 76 => ⟨S2x1x32x64x3x3, .f32⟩
  | 77 => ⟨S2x256x32x64x3x3, .f32⟩
  | 78 => ⟨S_, .f32⟩
  | 79 => ⟨S2x512x32x64x3x3, .f32⟩
  | 80 => ⟨S_, .f32⟩
  | 81 => ⟨S2x512x32x64x3x3, .f32⟩
  | 82 => ⟨S2x512x32x64x3x3, .f32⟩
  | 83 => ⟨S2x511x32x64x3x3, .f32⟩
  | 84 => ⟨S2x511x32x64x3x3, .f32⟩
  | 85 => ⟨S2x511x32x64x3x3x1, .f32⟩
  | 86 => ⟨S2x511x32x64x1x3x3, .f32⟩
  | 87 => ⟨S2x511x32x64x3x3x3, .f32⟩
  | 88 => ⟨S2x511x32x64x3x3x3, .f32⟩
  | 89 => ⟨S2x511x32x64x3x3x3, .f32⟩
  | 90 => ⟨S_, .f32⟩
  | 91 => ⟨S2x511x32x64x3x3, .f32⟩
  | 92 => ⟨S2x1x32x64x3x3, .f32⟩
  | 93 => ⟨S2x512x32x64x3x3, .f32⟩
  | 94 => ⟨S_, .f32⟩
  | 95 => ⟨S2x1024x32x64x3x3, .f32⟩
  | 96 => ⟨S_, .f32⟩
  | 97 => ⟨S2x1024x32x64x3x3, .f32⟩
  | 98 => ⟨S2x1024x32x64x3x3, .f32⟩
  | 99 => ⟨S2x1023x32x64x3x3, .f32⟩
  | 100 => ⟨S2x1023x32x64x3x3, .f32⟩
  | 101 => ⟨S2x1023x32x64x3x3x1, .f32⟩
  | 102 => ⟨S2x1023x32x64x1x3x3, .f32⟩
  | 103 => ⟨S2x1023x32x64x3x3x3, .f32⟩
  | 104 => ⟨S2x1023x32x64x3x3x3, .f32⟩
  | 105 => ⟨S2x1023x32x64x3x3x3, .f32⟩
  | 106 => ⟨S_, .f32⟩
  | 107 => ⟨S2x1023x32x64x3x3, .f32⟩
  | 108 => ⟨S2x1x32x64x3x3, .f32⟩
  | 109 => ⟨S2x1024x32x64x3x3, .f32⟩
  | 110 => ⟨S_, .f32⟩
  | 111 => ⟨S2x2048x32x64x3x3, .f32⟩
  | 112 => ⟨S_, .f32⟩
  | 113 => ⟨S2x2048x32x64x3x3, .f32⟩
  | 114 => ⟨S2x2048x32x64x3x3, .f32⟩
  | 115 => ⟨S2x2048x32x64x1x1, .f32⟩
  | 116 => ⟨S2x2048x32x64, .f32⟩
  | 117 => ⟨S2x2048x32x64x1x1, .f32⟩
  | 118 => ⟨S2x2048x32x64, .f32⟩
  | 119 => ⟨S1x2x2048x32x64, .f32⟩
  | 120 => ⟨S1x2x2048x32x64, .f32⟩
  | 121 => ⟨S2x2x2048x32x64, .f32⟩
  | 122 => ⟨S2x2x2048x4x512, .f32⟩
  | 123 => ⟨S2x2048x4x2x512, .f32⟩
  | 124 => ⟨S4096x4096, .f32⟩
  | 125 => ⟨S2x8x256x4096, .f32⟩
  | 126 => ⟨S2x256x8x4096, .f32⟩
  | 127 => ⟨S2x2048x4096, .f32⟩
  | _ => ⟨S4096x512, .f32⟩

abbrev hbmTy0_3 (i : Nat) : BufTy := match i % 128 with
  | 0 => ⟨S2x7x4096, .f32⟩
  | 1 => ⟨S_, .f32⟩
  | 2 => ⟨S2x1x4096, .f32⟩
  | 3 => ⟨S2x8x4096, .f32⟩
  | 4 => ⟨S2x8x4x1024, .f32⟩
  | 5 => ⟨S2x4x8x1024, .f32⟩
  | 6 => ⟨S2x8x256x512, .f32⟩
  | 7 => ⟨S2x256x8x512, .f32⟩
  | 8 => ⟨S2x2048x512, .f32⟩
  | 9 => ⟨S2x8x256x512, .f32⟩
  | 10 => ⟨S2x256x8x512, .f32⟩
  | 11 => ⟨S2x2048x512, .f32⟩
  | 12 => ⟨S1x512, .f32⟩
  | 13 => ⟨S2x256x8x4096, .f32⟩
  | 14 => ⟨S2x2048x512, .bf16⟩
  | 15 => ⟨S4x128x1024, .f32⟩
  | 16 => ⟨S4x1024x128, .f32⟩
  | 17 => ⟨S4x1x512, .f32⟩
  | 18 => ⟨S4x1x512, .f32⟩
  | 19 => ⟨S1x512, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x1x8x1024, .f32⟩
  | .local _ .vmem, ⟨9, _⟩ => ⟨S1x1x8x1024, .f32⟩
  | .local _ .vmem, ⟨10, _⟩ => ⟨S1x1024x128, .f32⟩
  | .local _ .vmem, ⟨11, _⟩ => ⟨S1x1024x128, .f32⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x512, .f32⟩
  | .local _ .vmem, ⟨16, _⟩ => ⟨S1x128x1024, .f32⟩
  | .local _ .vmem, ⟨17, _⟩ => ⟨S1x128x1024, .f32⟩
  | .local _ .vmem, ⟨18, _⟩ => ⟨S1x128, .f32⟩
  | .local _ .vmem, ⟨19, _⟩ => ⟨S1x128, .f32⟩
  | .local _ .vmem, ⟨20, _⟩ => ⟨S1x2048x128, .bf16⟩
  | .local _ .vmem, ⟨21, _⟩ => ⟨S1x2048x128, .bf16⟩
  | .local _ .vmem, ⟨22, _⟩ => ⟨S1x128x1024, .f32⟩
  | .local _ .vmem, ⟨23, _⟩ => ⟨S1x128x1024, .f32⟩
  | .local _ .vmem, ⟨24, _⟩ => ⟨S1x1024x128, .f32⟩
  | .local _ .vmem, ⟨25, _⟩ => ⟨S1x1024x128, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x1x512, .f32⟩
  | .local _ .vmem, ⟨30, _⟩ => ⟨S1x128, .f32⟩
  | .local _ .vmem, ⟨31, _⟩ => ⟨S1x128, .f32⟩
  | .local _ .vmem, ⟨32, _⟩ => ⟨S1x2048x1024, .f32⟩
  | .local _ .vmem, ⟨33, _⟩ => ⟨S2048x1024, .f32⟩
  | .local _ .vmem, ⟨34, _⟩ => ⟨S8x1024, .f32⟩
  | .local _ .vmem, ⟨35, _⟩ => ⟨S8x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_4 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_5 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_6 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_7 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_8 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_9 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_10 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_11 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_cst_12 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_cst_13 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_cst_14 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_cst_15 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_cst_16 : Ref sig .tc := ⟨.hbm, 206, rfl⟩
abbrev main_v179 : Ref sig .tc := ⟨.hbm, 207, rfl⟩
abbrev main_cst_17 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_cst_18 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_cst_19 : Ref sig .tc := ⟨.hbm, 222, rfl⟩
abbrev main_v192 : Ref sig .tc := ⟨.hbm, 223, rfl⟩
abbrev main_cst_20 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_cst_21 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_cst_22 : Ref sig .tc := ⟨.hbm, 238, rfl⟩
abbrev main_v205 : Ref sig .tc := ⟨.hbm, 239, rfl⟩
abbrev main_cst_23 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_cst_24 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_25 : Ref sig .tc := ⟨.hbm, 254, rfl⟩
abbrev main_v218 : Ref sig .tc := ⟨.hbm, 255, rfl⟩
abbrev main_cst_26 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_cst_27 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_cst_28 : Ref sig .tc := ⟨.hbm, 270, rfl⟩
abbrev main_v231 : Ref sig .tc := ⟨.hbm, 271, rfl⟩
abbrev main_cst_29 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_cst_30 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_cst_31 : Ref sig .tc := ⟨.hbm, 286, rfl⟩
abbrev main_v244 : Ref sig .tc := ⟨.hbm, 287, rfl⟩
abbrev main_cst_32 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_cst_33 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_cst_34 : Ref sig .tc := ⟨.hbm, 302, rfl⟩
abbrev main_v257 : Ref sig .tc := ⟨.hbm, 303, rfl⟩
abbrev main_cst_35 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_cst_36 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_cst_37 : Ref sig .tc := ⟨.hbm, 318, rfl⟩
abbrev main_v270 : Ref sig .tc := ⟨.hbm, 319, rfl⟩
abbrev main_cst_38 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_cst_39 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_cst_40 : Ref sig .tc := ⟨.hbm, 334, rfl⟩
abbrev main_v283 : Ref sig .tc := ⟨.hbm, 335, rfl⟩
abbrev main_cst_41 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_cst_42 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_cst_43 : Ref sig .tc := ⟨.hbm, 350, rfl⟩
abbrev main_v296 : Ref sig .tc := ⟨.hbm, 351, rfl⟩
abbrev main_cst_44 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_cst_45 : Ref sig .tc := ⟨.hbm, 362, rfl⟩
abbrev main_v306 : Ref sig .tc := ⟨.hbm, 363, rfl⟩
abbrev main_v307 : Ref sig .tc := ⟨.hbm, 364, rfl⟩
abbrev main_v308 : Ref sig .tc := ⟨.hbm, 365, rfl⟩
abbrev main_cst_46 : Ref sig .tc := ⟨.hbm, 366, rfl⟩
abbrev main_v309 : Ref sig .tc := ⟨.hbm, 367, rfl⟩
abbrev main_cst_47 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_cst_48 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338_0 : Ref sig .tc := ⟨.hbm, 398, rfl⟩
abbrev main_v338_1 : Ref sig .tc := ⟨.hbm, 399, rfl⟩
abbrev main_v338_2 : Ref sig .tc := ⟨.hbm, 400, rfl⟩
abbrev main_v338_3 : Ref sig .tc := ⟨.hbm, 401, rfl⟩
abbrev main_v338_4 : Ref sig .tc := ⟨.hbm, 402, rfl⟩
abbrev main_v338_5 : Ref sig .tc := ⟨.hbm, 403, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨4, ![4, 2, 2, 1], ![false, false, false, false]⟩

def k0_cond3 (i : grid0.Coords) : BitVec 1 :=
  let arg2 : BitVec 32 := BitVec.ofNat 32 (i 2).val
  let c0_i32_12 : BitVec 32 := 0#32
  let v19 : BitVec 1 := Scalar.cmpi .eq arg2 c0_i32_12
  let v20 : BitVec 32 := Scalar.extui v19
  let c0_i32_13 : BitVec 32 := 0#32
  let v21 : BitVec 1 := Scalar.cmpi .ne v20 c0_i32_13
  v21

def k0_off1 (i : grid0.Coords) : Fin 3 → Nat :=
  let arg3 : BitVec 32 := BitVec.ofNat 32 (i 3).val
  let v35 : Index := Scalar.indexCast arg3
  let c0_24 : Index := 0#32
  let c0_25 : Index := 0#32
  ![v35.toNat, 0, 0]
def k0_cond4 (i : grid0.Coords) : BitVec 1 :=
  let arg2 : BitVec 32 := BitVec.ofNat 32 (i 2).val
  let c0_i32_14 : BitVec 32 := 0#32
  let v22 : BitVec 1 := Scalar.cmpi .eq arg2 c0_i32_14
  let v23 : BitVec 32 := Scalar.extui v22
  let c0_i32_15 : BitVec 32 := 0#32
  let v24 : BitVec 1 := Scalar.cmpi .ne v23 c0_i32_15
  v24

@[reducible] def k0_t1_loop : Scf.Loop 32 :=
  let c0_i32_20 : BitVec 32 := 0#32
  let c256_i32 : BitVec 32 := 256#32
  let v30 : BitVec 32 := Scalar.addi c0_i32_20 c256_i32
  let c1_i32_21 : BitVec 32 := 1#32
  ⟨c0_i32_20, v30, c1_i32_21⟩
def k0_mult1 (k0_t1 : Fin k0_t1_loop.trips) : BitVec 32 :=
  let c255_i32 : BitVec 32 := 255#32
  let c0_i32_20 : BitVec 32 := 0#32
  let c1_i32_21 : BitVec 32 := 1#32
  let arg24 : BitVec 32 := Scf.iv c0_i32_20 c1_i32_21 k0_t1
  let v41 : BitVec 32 := Scalar.subi c255_i32 arg24
  let c8_i32 : BitVec 32 := 8#32
  let v42 : BitVec 32 := Scalar.muli v41 c8_i32
  v42
def k0_off2 (i : grid0.Coords) (k0_t1 : Fin k0_t1_loop.trips) : Fin 3 → Nat :=
  let arg3 : BitVec 32 := BitVec.ofNat 32 (i 3).val
  let v47 : Index := Scalar.indexCast arg3
  let c255_i32 : BitVec 32 := 255#32
  let c0_i32_20 : BitVec 32 := 0#32
  let c1_i32_21 : BitVec 32 := 1#32
  let arg24 : BitVec 32 := Scf.iv c0_i32_20 c1_i32_21 k0_t1
  let v41 : BitVec 32 := Scalar.subi c255_i32 arg24
  let c8_i32 : BitVec 32 := 8#32
  let v42 : BitVec 32 := Scalar.muli v41 c8_i32
  let v43 : BitVec 32 := v42
  let v48 : Index := Scalar.indexCast v43
  let c0_29 : Index := 0#32
  ![v47.toNat, v48.toNat, 0]
def k0_off3 (i : grid0.Coords) (k0_t1 : Fin k0_t1_loop.trips) : Fin 3 → Nat :=
  let arg3 : BitVec 32 := BitVec.ofNat 32 (i 3).val
  let v55 : Index := Scalar.indexCast arg3
  let c255_i32 : BitVec 32 := 255#32
  let c0_i32_20 : BitVec 32 := 0#32
  let c1_i32_21 : BitVec 32 := 1#32
  let arg24 : BitVec 32 := Scf.iv c0_i32_20 c1_i32_21 k0_t1
  let v41 : BitVec 32 := Scalar.subi c255_i32 arg24
  let c8_i32 : BitVec 32 := 8#32
  let v42 : BitVec 32 := Scalar.muli v41 c8_i32
  let v43 : BitVec 32 := v42
  let v56 : Index := Scalar.indexCast v43
  let c512_30 : Index := 512#32
  ![v55.toNat, v56.toNat, 512]
def k0_cond6 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_16 : BitVec 32 := 0#32
  let v27 : BitVec 1 := Scalar.cmpi .ne v26 c0_i32_16
  v27

@[reducible] def k0_t2_loop : Scf.Loop 32 :=
  let c0_i32_20 : BitVec 32 := 0#32
  let c256_i32 : BitVec 32 := 256#32
  let v30 : BitVec 32 := Scalar.addi c0_i32_20 c256_i32
  let c1_i32_21 : BitVec 32 := 1#32
  ⟨c0_i32_20, v30, c1_i32_21⟩
def k0_mult2 (k0_t2 : Fin k0_t2_loop.trips) : BitVec 32 :=
  let c255_i32_93 : BitVec 32 := 255#32
  let c0_i32_20 : BitVec 32 := 0#32
  let c1_i32_21 : BitVec 32 := 1#32
  let arg24 : BitVec 32 := Scf.iv c0_i32_20 c1_i32_21 k0_t2
  let v118 : BitVec 32 := Scalar.subi c255_i32_93 arg24
  let c8_i32 : BitVec 32 := 8#32
  let v119 : BitVec 32 := Scalar.muli v118 c8_i32
  v119
def k0_off4 (i : grid0.Coords) (k0_t2 : Fin k0_t2_loop.trips) : Fin 3 → Nat :=
  let arg3 : BitVec 32 := BitVec.ofNat 32 (i 3).val
  let v124 : Index := Scalar.indexCast arg3
  let c255_i32_93 : BitVec 32 := 255#32
  let c0_i32_20 : BitVec 32 := 0#32
  let c1_i32_21 : BitVec 32 := 1#32
  let arg24 : BitVec 32 := Scf.iv c0_i32_20 c1_i32_21 k0_t2
  let v118 : BitVec 32 := Scalar.subi c255_i32_93 arg24
  let c8_i32 : BitVec 32 := 8#32
  let v119 : BitVec 32 := Scalar.muli v118 c8_i32
  let v120 : BitVec 32 := v119
  let v125 : Index := Scalar.indexCast v120
  let c0_94 : Index := 0#32
  ![v124.toNat, v125.toNat, 0]
def k0_off5 (i : grid0.Coords) (k0_t2 : Fin k0_t2_loop.trips) : Fin 3 → Nat :=
  let arg3 : BitVec 32 := BitVec.ofNat 32 (i 3).val
  let v132 : Index := Scalar.indexCast arg3
  let c255_i32_93 : BitVec 32 := 255#32
  let c0_i32_20 : BitVec 32 := 0#32
  let c1_i32_21 : BitVec 32 := 1#32
  let arg24 : BitVec 32 := Scf.iv c0_i32_20 c1_i32_21 k0_t2
  let v118 : BitVec 32 := Scalar.subi c255_i32_93 arg24
  let c8_i32 : BitVec 32 := 8#32
  let v119 : BitVec 32 := Scalar.muli v118 c8_i32
  let v120 : BitVec 32 := v119
  let v133 : Index := Scalar.indexCast v120
  let c512_95 : Index := 512#32
  ![v132.toNat, v133.toNat, 512]
def k0_off6 (k0_t2 : Fin k0_t2_loop.trips) : Fin 2 → Nat :=
  let c255_i32_93 : BitVec 32 := 255#32
  let c0_i32_20 : BitVec 32 := 0#32
  let c1_i32_21 : BitVec 32 := 1#32
  let arg24 : BitVec 32 := Scf.iv c0_i32_20 c1_i32_21 k0_t2
  let v118 : BitVec 32 := Scalar.subi c255_i32_93 arg24
  let c8_i32 : BitVec 32 := 8#32
  let v119 : BitVec 32 := Scalar.muli v118 c8_i32
  let v120 : BitVec 32 := v119
  let v137 : Index := Scalar.indexCast v120
  let c0_96 : Index := 0#32
  ![v137.toNat, 0]
def k0_off7 (k0_t2 : Fin k0_t2_loop.trips) : Fin 2 → Nat :=
  let c255_i32_93 : BitVec 32 := 255#32
  let c0_i32_20 : BitVec 32 := 0#32
  let c1_i32_21 : BitVec 32 := 1#32
  let arg24 : BitVec 32 := Scf.iv c0_i32_20 c1_i32_21 k0_t2
  let v118 : BitVec 32 := Scalar.subi c255_i32_93 arg24
  let c8_i32 : BitVec 32 := 8#32
  let v119 : BitVec 32 := Scalar.muli v118 c8_i32
  let v120 : BitVec 32 := v119
  let v141 : Index := Scalar.indexCast v120
  let c512_97 : Index := 512#32
  ![v141.toNat, 512]
@[reducible] def k0_t3_loop : Scf.Loop 32 :=
  let c1_i32_79 : BitVec 32 := 1#32
  let c255_i32 : BitVec 32 := 255#32
  let v101 : BitVec 32 := Scalar.addi c1_i32_79 c255_i32
  let c1_i32_80 : BitVec 32 := 1#32
  ⟨c1_i32_79, v101, c1_i32_80⟩
def k0_mult3 (k0_t3 : Fin k0_t3_loop.trips) : BitVec 32 :=
  let c1_i32_79 : BitVec 32 := 1#32
  let c1_i32_80 : BitVec 32 := 1#32
  let arg24 : BitVec 32 := Scf.iv c1_i32_79 c1_i32_80 k0_t3
  let c8_i32 : BitVec 32 := 8#32
  let v118 : BitVec 32 := Scalar.muli arg24 c8_i32
  v118
def k0_mult4 (k0_t3 : Fin k0_t3_loop.trips) : BitVec 32 :=
  let c1_i32_79 : BitVec 32 := 1#32
  let c1_i32_80 : BitVec 32 := 1#32
  let arg24 : BitVec 32 := Scf.iv c1_i32_79 c1_i32_80 k0_t3
  let c1_i32_93 : BitVec 32 := 1#32
  let v120 : BitVec 32 := Scalar.subi arg24 c1_i32_93
  let c8_i32_94 : BitVec 32 := 8#32
  let v121 : BitVec 32 := Scalar.muli v120 c8_i32_94
  v121
def k0_off8 (k0_t3 : Fin k0_t3_loop.trips) : Fin 2 → Nat :=
  let c1_i32_79 : BitVec 32 := 1#32
  let c1_i32_80 : BitVec 32 := 1#32
  let arg24 : BitVec 32 := Scf.iv c1_i32_79 c1_i32_80 k0_t3
  let c8_i32 : BitVec 32 := 8#32
  let v118 : BitVec 32 := Scalar.muli arg24 c8_i32
  let v119 : BitVec 32 := v118
  let v123 : Index := Scalar.indexCast v119
  let c0_95 : Index := 0#32
  ![v123.toNat, 0]
def k0_off9 (k0_t3 : Fin k0_t3_loop.trips) : Fin 2 → Nat :=
  let c1_i32_79 : BitVec 32 := 1#32
  let c1_i32_80 : BitVec 32 := 1#32
  let arg24 : BitVec 32 := Scf.iv c1_i32_79 c1_i32_80 k0_t3
  let c8_i32 : BitVec 32 := 8#32
  let v118 : BitVec 32 := Scalar.muli arg24 c8_i32
  let v119 : BitVec 32 := v118
  let v125 : Index := Scalar.indexCast v119
  let c512_96 : Index := 512#32
  ![v125.toNat, 512]
def k0_off10 (k0_t3 : Fin k0_t3_loop.trips) : Fin 3 → Nat :=
  let c0_97 : Index := 0#32
  let c1_i32_79 : BitVec 32 := 1#32
  let c1_i32_80 : BitVec 32 := 1#32
  let arg24 : BitVec 32 := Scf.iv c1_i32_79 c1_i32_80 k0_t3
  let c1_i32_93 : BitVec 32 := 1#32
  let v120 : BitVec 32 := Scalar.subi arg24 c1_i32_93
  let c8_i32_94 : BitVec 32 := 8#32
  let v121 : BitVec 32 := Scalar.muli v120 c8_i32_94
  let v122 : BitVec 32 := v121
  let v127 : Index := Scalar.indexCast v122
  let c0_98 : Index := 0#32
  ![0, v127.toNat, 0]
def k0_off11 (k0_t3 : Fin k0_t3_loop.trips) : Fin 3 → Nat :=
  let c0_99 : Index := 0#32
  let c1_i32_79 : BitVec 32 := 1#32
  let c1_i32_80 : BitVec 32 := 1#32
  let arg24 : BitVec 32 := Scf.iv c1_i32_79 c1_i32_80 k0_t3
  let c1_i32_93 : BitVec 32 := 1#32
  let v120 : BitVec 32 := Scalar.subi arg24 c1_i32_93
  let c8_i32_94 : BitVec 32 := 8#32
  let v121 : BitVec 32 := Scalar.muli v120 c8_i32_94
  let v122 : BitVec 32 := v121
  let v130 : Index := Scalar.indexCast v122
  let c512_100 : Index := 512#32
  ![0, v130.toNat, 512]
def k0_cond1 (i : grid0.Coords) : BitVec 1 :=
  let arg1 : BitVec 32 := BitVec.ofNat 32 (i 1).val
  let c0_i32_5 : BitVec 32 := 0#32
  let v7 : BitVec 1 := Scalar.cmpi .eq arg1 c0_i32_5
  let arg2 : BitVec 32 := BitVec.ofNat 32 (i 2).val
  let c0_i32_6 : BitVec 32 := 0#32
  let v8 : BitVec 1 := Scalar.cmpi .eq arg2 c0_i32_6
  let arg3 : BitVec 32 := BitVec.ofNat 32 (i 3).val
  let c0_i32_7 : BitVec 32 := 0#32
  let v9 : BitVec 1 := Scalar.cmpi .eq arg3 c0_i32_7
  let v10 : BitVec 1 := Scalar.andi v8 v9
  let v11 : BitVec 1 := Scalar.andi v7 v10
  let v12 : BitVec 32 := Scalar.extui v11
  let c0_i32_8 : BitVec 32 := 0#32
  let v13 : BitVec 1 := Scalar.cmpi .ne v12 c0_i32_8
  v13

def k0_cond7 (i : grid0.Coords) : BitVec 1 :=
  let arg1 : BitVec 32 := BitVec.ofNat 32 (i 1).val
  let c1_i32_90 : BitVec 32 := 1#32
  let v113 : BitVec 1 := Scalar.cmpi .eq arg1 c1_i32_90
  let arg3 : BitVec 32 := BitVec.ofNat 32 (i 3).val
  let c0_i32_91 : BitVec 32 := 0#32
  let v114 : BitVec 1 := Scalar.cmpi .eq arg3 c0_i32_91
  let v115 : BitVec 1 := Scalar.andi v113 v114
  let v116 : BitVec 32 := Scalar.extui v115
  let c0_i32_92 : BitVec 32 := 0#32
  let v117 : BitVec 1 := Scalar.cmpi .ne v116 c0_i32_92
  v117

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.subi c0_i32 arg3
  let c0_i32_0 : BitVec 32 := 0#32
  ![arg1.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.subi c0_i32 arg3
  let c0_i32_0 : BitVec 32 := 0#32
  ![arg1.toNat, v0.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.subi c0_i32 arg3
  let v1 : BitVec 32 := Scalar.muli v0 arg2
  let c1_i32 : BitVec 32 := 1#32
  let v2 : BitVec 32 := Scalar.subi c1_i32 arg2
  let c0_i32_0 : BitVec 32 := 0#32
  let v3 : BitVec 32 := Scalar.muli c0_i32_0 v2
  let v4 : BitVec 32 := Scalar.addi v1 v3
  let c0_i32_1 : BitVec 32 := 0#32
  ![arg1.toNat, v4.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.subi c0_i32 arg3
  let c256_i32 : BitVec 32 := 256#32
  let v1 : BitVec 32 := Scalar.muli v0 c256_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg1.toNat, v3.toNat, c0_i32_1.toNat, arg0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.subi c0_i32 arg3
  let v1 : BitVec 32 := Scalar.muli v0 arg2
  let c1_i32 : BitVec 32 := 1#32
  let v2 : BitVec 32 := Scalar.subi c1_i32 arg2
  let c0_i32_0 : BitVec 32 := 0#32
  let v3 : BitVec 32 := Scalar.muli c0_i32_0 v2
  let v4 : BitVec 32 := Scalar.addi v1 v3
  let c0_i32_1 : BitVec 32 := 0#32
  ![arg1.toNat, v4.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false, false]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true, true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false, false]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false, false]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false, false]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false, false]
-- ==== RSsmIdeal.lean ====
abbrev S4096x512 : Shape := ⟨2, ![4096, 512]⟩
abbrev S32x64 : Shape := ⟨2, ![32, 64]⟩
abbrev S32x16x64 : Shape := ⟨3, ![32, 16, 64]⟩
abbrev S32x16 : Shape := ⟨2, ![32, 16]⟩
abbrev S1x1x32x16 : Shape := ⟨4, ![1, 1, 32, 16]⟩
abbrev S2x2048x32x16 : Shape := ⟨4, ![2, 2048, 32, 16]⟩
abbrev S_ : Shape := ⟨0, ![]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S32x64, .f32⟩
  | .hbm, ⟨2, _⟩ => ⟨S32x64, .f32⟩
  | .hbm, ⟨3, _⟩ => ⟨S32x16x64, .f32⟩
  | .hbm, ⟨4, _⟩ => ⟨S32x16x64, .f32⟩
  | .hbm, ⟨5, _⟩ => ⟨S32x16x64, .f32⟩
  | .hbm, ⟨6, _⟩ => ⟨S32x16x64, .f32⟩
  | .hbm, ⟨7, _⟩ => ⟨S32x16, .f32⟩
  | .hbm, ⟨8, _⟩ => ⟨S4096x512, .f32⟩
  | .hbm, ⟨9, _⟩ => ⟨S1x1x32x16, .f32⟩
  | .hbm, ⟨10, _⟩ => ⟨S2x2048x32x16, .f32⟩
  | .hbm, ⟨11, _⟩ => ⟨S2x2048x32x16, .f32⟩
  | .hbm, ⟨12, _⟩ => ⟨S2x2048x32x16, .f32⟩
  | .hbm, ⟨13, _⟩ => ⟨S4096x512, .f32⟩
  | .hbm, ⟨14, _⟩ => ⟨S2x2048x32x16, .f32⟩
  | .hbm, ⟨15, _⟩ => ⟨S2x2048x32x16, .f32⟩
  | .hbm, ⟨16, _⟩ => ⟨S_, .f32⟩
  | .hbm, ⟨17, _⟩ => ⟨S32x16, .f32⟩
  | .hbm, ⟨18, _⟩ => ⟨S1x1x32x16, .f32⟩
  | .hbm, ⟨19, _⟩ => ⟨S_, .f32⟩
  | .hbm, ⟨20, _⟩ => ⟨S32x16, .f32⟩
  | .hbm, ⟨21, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.AttnRing.lean ====
/- The attention gradient's ring of three slots: the names of a slot, of its semaphore and of a block of the saved
   weights in HBM, and what the kernel holds of each while a slot is free and while a copy into it is in flight. -/
module

public import proofs.«01_k».proof.Proof.Gen.KAttnIdeal.Frame
public import proofs.«01_k».proof.Proof.Gen.KAttnIdeal.Loops
public import Idealize.ShloMosaic.Lib.Pipeline.FrameBody
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loops' trips and the kernel's conditions -/

theorem trips3 : k0_t3_loop.trips = 8 := by decide
theorem trips4 (p : Fin k0_t3_loop.trips) : (k0_t4_loop p).trips = p.val := by revert p; decide
theorem trips5 (p : Fin k0_t3_loop.trips) : (k0_t5_loop p).trips = 0 := by revert p; decide
theorem p_lt (p : Fin k0_t3_loop.trips) : p.val < 8 := trips3 ▸ p.isLt
theorem k_lt (p : Fin k0_t3_loop.trips) (k : Fin (k0_t4_loop p).trips) : k.val < p.val := trips4 p ▸ k.isLt
theorem cond1_iff (p : Fin k0_t3_loop.trips) : k0_cond1 p = 1#1 ↔ 1 ≤ p.val := by revert p; decide
theorem cond2_iff (p : Fin k0_t3_loop.trips) (k : Fin (k0_t4_loop p).trips) : k0_cond2 p k = 1#1 ↔ k.val + 2 ≤ p.val := by
  revert p k; decide

/-! ## Names -/

/-- The saved weights in HBM, the ring's buffer. -/
abbrev wM : Memref sig .tc .hbm S8x8x8x4x128x256 .bf16 := Memref.whole main_v76
abbrev ringM : Memref sig .tc .vmem S3x4x128x256 .bf16 := Memref.whole cc0_scratch7

def semOff (s : Fin 3) : Fin 1 → ℕ := ![s.val]
def slotOff (s : Fin 3) : Fin 4 → ℕ := ![s.val, 0, 0, 0]
def blkOff (i : grid0.Coords) (p b : Fin 8) : Fin 6 → ℕ := ![4 * (i 0).val + (i 1).val, p.val, b.val, 0, 0, 0]
theorem semOff_inb : ∀ s : Fin 3, ∀ a, semOff s a + S1.size a ≤ S3.size a := by decide
theorem slotOff_inb : ∀ s : Fin 3, ∀ a, slotOff s a + S1x4x128x256.size a ≤ S3x4x128x256.size a := by decide
theorem blkOff_inb : ∀ (i : grid0.Coords) (p b : Fin 8), ∀ a, blkOff i p b a + S1x1x1x4x128x256.size a ≤ S8x8x8x4x128x256.size a := by decide +kernel
instance (s : Fin 3) : ClosedOff (slotOff s) := ⟨![s.val, 0, 0, 0], rfl⟩
instance (k : ℕ) : ClosedOff (slotOff (Ring.sl 3 k)) := ⟨![k % 3, 0, 0, 0], by rw [slotOff, Ring.sl_val]⟩

/-- Slot `s` of the ring, its semaphore, and block `b` of the rows of pair `p` at the grid point `i`. -/
def rslot (s : Fin 3) : Memref sig .tc .vmem S4x128x256 .bf16 :=
  (ringM.slice (Rect.unit (s := S3x4x128x256) (slotOff s) S1x4x128x256.size (slotOff_inb s)) (fun _ => rfl)).squeeze S4x128x256 squeezes_S1x4x128x256_S4x128x256
def csm (s : Fin 3) : DmaSems sig S_ :=
  (cc0_scratch8.slice (Rect.unit (s := S3) (semOff s) S1.size (semOff_inb s))).squeeze S_ squeezes_S1_S_
def hblk (i : grid0.Coords) (p b : Fin 8) : Memref sig .tc .hbm S4x128x256 .bf16 :=
  (wM.slice (Rect.unit (s := S8x8x8x4x128x256) (blkOff i p b) S1x1x1x4x128x256.size (blkOff_inb i p b)) (fun _ => rfl)).squeeze S4x128x256 squeezes_S1x1x1x4x128x256_S4x128x256

section Canon

private theorem csm_congr {off : Fin 1 → ℕ} {s : Fin 3} (e : off = semOff s) (hh) :
    (cc0_scratch8.slice (Rect.unit (s := S3) off S1.size hh)).squeeze S_ squeezes_S1_S_ = csm s :=
  congrArg (fun A : DmaSems sig S1 => A.squeeze S_ squeezes_S1_S_) (SemArray.slice_unit_congr _ e _ _)
private theorem rslot_congr {off : Fin 4 → ℕ} {s : Fin 3} (e : off = slotOff s) (hh hs) :
    (ringM.slice (Rect.unit (s := S3x4x128x256) off S1x4x128x256.size hh) hs).squeeze S4x128x256 squeezes_S1x4x128x256_S4x128x256 = rslot s :=
  congrArg (fun M : Memref sig .tc .vmem S1x4x128x256 .bf16 => M.squeeze S4x128x256 squeezes_S1x4x128x256_S4x128x256) (Memref.slice_unit_congr _ e _ _ _ _)
private theorem hblk_congr {off : Fin 6 → ℕ} {i : grid0.Coords} {p b : Fin 8} (e : off = blkOff i p b) (hh hs) :
    (wM.slice (Rect.unit (s := S8x8x8x4x128x256) off S1x1x1x4x128x256.size hh) hs).squeeze S4x128x256 squeezes_S1x1x1x4x128x256_S4x128x256 = hblk i p b :=
  congrArg (fun M : Memref sig .tc .hbm S1x1x1x4x128x256 .bf16 => M.squeeze S4x128x256 squeezes_S1x1x1x4x128x256_S4x128x256) (Memref.slice_unit_congr _ e _ _ _ _)

theorem bk_val {k : ℕ} (h : k < 8) : (Ring.bk 8 k).val = k := Nat.mod_eq_of_lt h

variable (i : grid0.Coords) (p : Fin k0_t3_loop.trips) (k : Fin (k0_t4_loop p).trips)

-- the first block of a pair, and its second where there is one
@[sl_canon] theorem sem12 (hh) : (cc0_scratch8.slice (Rect.unit (s := S3) k0_off12 S1.size hh)).squeeze S_ squeezes_S1_S_ = csm (Ring.sl 3 0) :=
  csm_congr (by rw [k0_off12_eq]; rfl) _
@[sl_canon] theorem slot13 (hh hs) : (ringM.slice (Rect.unit (s := S3x4x128x256) k0_off13 S1x4x128x256.size hh) hs).squeeze S4x128x256 squeezes_S1x4x128x256_S4x128x256 = rslot (Ring.sl 3 0) :=
  rslot_congr (by rw [k0_off13_eq]; rfl) _ _
@[sl_canon] theorem blk14 (hh hs) : (wM.slice (Rect.unit (s := S8x8x8x4x128x256) (k0_off14 i p) S1x1x1x4x128x256.size hh) hs).squeeze S4x128x256 squeezes_S1x1x1x4x128x256_S4x128x256 = hblk i (Ring.bk 8 p.val) (Ring.bk 8 0) :=
  hblk_congr (by rw [k0_off14_eq]; simp only [blkOff, bk_val (p_lt p), bk_val (show 0 < 8 by decide)]) _ _
@[sl_canon] theorem sem15 (hh) : (cc0_scratch8.slice (Rect.unit (s := S3) k0_off15 S1.size hh)).squeeze S_ squeezes_S1_S_ = csm (Ring.sl 3 1) :=
  csm_congr (by rw [k0_off15_eq]; rfl) _
@[sl_canon] theorem slot16 (hh hs) : (ringM.slice (Rect.unit (s := S3x4x128x256) k0_off16 S1x4x128x256.size hh) hs).squeeze S4x128x256 squeezes_S1x4x128x256_S4x128x256 = rslot (Ring.sl 3 1) :=
  rslot_congr (by rw [k0_off16_eq]; rfl) _ _
@[sl_canon] theorem blk17 (hh hs) : (wM.slice (Rect.unit (s := S8x8x8x4x128x256) (k0_off17 i p) S1x1x1x4x128x256.size hh) hs).squeeze S4x128x256 squeezes_S1x1x1x4x128x256_S4x128x256 = hblk i (Ring.bk 8 p.val) (Ring.bk 8 1) :=
  hblk_congr (by rw [k0_off17_eq]; simp only [blkOff, bk_val (p_lt p), bk_val (show 1 < 8 by decide)]) _ _
-- inside the loop over the blocks below the diagonal: the block two ahead, and this trip's own
@[sl_canon] theorem sem18 (hh) : (cc0_scratch8.slice (Rect.unit (s := S3) (k0_off18 p k) S1.size hh)).squeeze S_ squeezes_S1_S_ = csm (Ring.sl 3 (k.val + 2)) :=
  csm_congr (by rw [k0_off18_eq]; rfl) _
@[sl_canon] theorem slot19 (hh hs) : (ringM.slice (Rect.unit (s := S3x4x128x256) (k0_off19 p k) S1x4x128x256.size hh) hs).squeeze S4x128x256 squeezes_S1x4x128x256_S4x128x256 = rslot (Ring.sl 3 (k.val + 2)) :=
  rslot_congr (by rw [k0_off19_eq]; rfl) _ _
@[sl_canon] theorem blk20 (h : k.val + 2 ≤ p.val) (hh hs) : (wM.slice (Rect.unit (s := S8x8x8x4x128x256) (k0_off20 i p k) S1x1x1x4x128x256.size hh) hs).squeeze S4x128x256 squeezes_S1x1x1x4x128x256_S4x128x256 = hblk i (Ring.bk 8 p.val) (Ring.bk 8 (k.val + 2)) :=
  hblk_congr (by rw [k0_off20_eq]; simp only [blkOff, bk_val (p_lt p), bk_val (Nat.lt_of_le_of_lt h (p_lt p))]) _ _
@[sl_canon] theorem sem21 (hh) : (cc0_scratch8.slice (Rect.unit (s := S3) (k0_off21 p k) S1.size hh)).squeeze S_ squeezes_S1_S_ = csm (Ring.sl 3 k.val) :=
  csm_congr (by rw [k0_off21_eq]; rfl) _
@[sl_canon] theorem slot22 (hh hs) : (ringM.slice (Rect.unit (s := S3x4x128x256) (k0_off22 p k) S1x4x128x256.size hh) hs).squeeze S4x128x256 squeezes_S1x4x128x256_S4x128x256 = rslot (Ring.sl 3 k.val) :=
  rslot_congr (by rw [k0_off22_eq]; rfl) _ _
@[sl_canon] theorem blk23 (hh hs) : (wM.slice (Rect.unit (s := S8x8x8x4x128x256) (k0_off23 i p k) S1x1x1x4x128x256.size hh) hs).squeeze S4x128x256 squeezes_S1x1x1x4x128x256_S4x128x256 = hblk i (Ring.bk 8 p.val) (Ring.bk 8 k.val) :=
  hblk_congr (by rw [k0_off23_eq]; simp only [blkOff, bk_val (p_lt p), bk_val (Nat.lt_trans (k_lt p k) (p_lt p))]) _ _
-- the diagonal block
@[sl_canon] theorem sem46 (hh) : (cc0_scratch8.slice (Rect.unit (s := S3) (k0_off46 p) S1.size hh)).squeeze S_ squeezes_S1_S_ = csm (Ring.sl 3 p.val) :=
  csm_congr (by rw [k0_off46_eq]; rfl) _
@[sl_canon] theorem slot47 (hh hs) : (ringM.slice (Rect.unit (s := S3x4x128x256) (k0_off47 p) S1x4x128x256.size hh) hs).squeeze S4x128x256 squeezes_S1x4x128x256_S4x128x256 = rslot (Ring.sl 3 p.val) :=
  rslot_congr (by rw [k0_off47_eq]; rfl) _ _
@[sl_canon] theorem blk48 (hh hs) : (wM.slice (Rect.unit (s := S8x8x8x4x128x256) (k0_off48 i p) S1x1x1x4x128x256.size hh) hs).squeeze S4x128x256 squeezes_S1x1x1x4x128x256_S4x128x256 = hblk i (Ring.bk 8 p.val) (Ring.bk 8 p.val) :=
  hblk_congr (by rw [k0_off48_eq]; simp only [blkOff, bk_val (p_lt p)]) _ _

end Canon

/-! ## What is held of a slot -/

section Pieces

variable (c : Dev nD) (XA : Buf (Elt F) (wM.view.loc (c : Thread nD τ))) (i : grid0.Coords)

abbrev RBuf (s : Fin 3) : Type := Buf (Elt F) ((rslot s).view.loc (c : Thread nD τ))
abbrev cellP (s : Fin 3) : sProp 𝕄 := semVal ((c : Thread nD τ), SemLoc.dma (csm s).sem) 0
abbrev slotP (s : Fin 3) (f : RBuf (F := F) c s) : sProp 𝕄 := (rslot s).view.loc (c : Thread nD τ) ↦[(rslot s).view.set]{fullShare} f
/-- Slot `s`'s third of the saved weights, whole; one block of it; the rest. -/
abbrev wholeP (s : Fin 3) : sProp 𝕄 := wM.view.loc (c : Thread nD τ) ↦[Finset.univ]{Ring.shares3 fullShare s} XA
abbrev blkP (s : Fin 3) (p b : Fin 8) : sProp 𝕄 := (hblk i p b).view.loc (c : Thread nD τ) ↦[(hblk i p b).view.set]{Ring.shares3 fullShare s} XA
abbrev restP (s : Fin 3) (p b : Fin 8) : sProp 𝕄 := wM.view.loc (c : Thread nD τ) ↦[Finset.univ \ (hblk i p b).view.set]{Ring.shares3 fullShare s} XA

theorem whole_split (s : Fin 3) (p b : Fin 8) : wholeP c XA s ⊣⊢ iprop(blkP c XA i s p b ∗ restP c XA i s p b) :=
  pointsTo_split_subset (Finset.subset_univ _)

/-- A block's words, as the copy delivers them, and what its copy leaves in a slot over `f`. -/
abbrev payload (p b : Fin 8) : S4x128x256.Idx → Elt F .bf16 := ReadAs.same.apply ((hblk i p b).view.read (Elt F) XA)
abbrev landed (s : Fin 3) (p b : Fin 8) (f : RBuf (F := F) c s) : RBuf (F := F) c s :=
  (rslot s).view.writes (Elt F) f [⟨Rect.whole S4x128x256, payload c XA i p b⟩]
/-- A block's copy in flight into slot `s`, issued over `f`. -/
abbrev flightP (s : Fin 3) (p b : Fin 8) (f : RBuf (F := F) c s) : sProp 𝕄 :=
  Transfers.Flight countersEmb (c : Thread nD τ) (SemLoc.dma (csm s).sem) () 8192 iprop(slotP c s (landed c XA i s p b f) ∗ blkP c XA i s p b)

/-- A free slot: its elements, its semaphore at zero, its third of the weights. -/
def free (s : Fin 3) : sProp 𝕄 := iprop((∃ f, slotP (F := F) c s f) ∗ cellP c s ∗ wholeP c XA s)
/-- A slot with block `b`'s copy in flight, and the rest of its third of the weights. -/
def inFl (s : Fin 3) (p b : Fin 8) : sProp 𝕄 := iprop((∃ f, flightP c XA i s p b f) ∗ restP c XA i s p b)

end Pieces

end Cert.Attn

end
-- ==== Proof.AttnTrip.lean ====
/- One block below the diagonal of the attention gradient's loop: the copy two blocks ahead is issued, this block's is
   waited for, and its weights and the cotangent go into the block's columns of the gradient of `v`. -/
module

public import proofs.«01_k».proof.Proof.AttnRing

@[expose] public section

set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The thirteen staging buffers of a grid point: `q`, `k`, `v`, `do`, the raw projections and the gains, then the results. -/
structure Wins where
  a2 : Memref sig .tc .vmem S2048x128 .bf16
  h2 : a2.IsWhole
  a3 : Memref sig .tc .vmem S2048x128 .bf16
  h3 : a3.IsWhole
  a4 : Memref sig .tc .vmem S2048x128 .bf16
  h4 : a4.IsWhole
  a5 : Memref sig .tc .vmem S2048x128 .f32
  h5 : a5.IsWhole
  a6 : Memref sig .tc .vmem S2048x128 .f32
  h6 : a6.IsWhole
  a7 : Memref sig .tc .vmem S2048x128 .f32
  h7 : a7.IsWhole
  a8 : Memref sig .tc .vmem S1x128 .f32
  h8 : a8.IsWhole
  a9 : Memref sig .tc .vmem S1x128 .f32
  h9 : a9.IsWhole
  a11 : Memref sig .tc .vmem S2048x128 .bf16
  h11 : a11.IsWhole
  a12 : Memref sig .tc .vmem S2048x128 .bf16
  h12 : a12.IsWhole
  a13 : Memref sig .tc .vmem S2048x128 .bf16
  h13 : a13.IsWhole
  a14 : Memref sig .tc .vmem S1x64 .f32
  h14 : a14.IsWhole
  a15 : Memref sig .tc .vmem S1x64 .f32
  h15 : a15.IsWhole

section Trip

variable (c : Dev nD) (XA : Buf (Elt F) (wM.view.loc (c : Thread nD τ))) (i : grid0.Coords) (S : Wins)
  (p : Fin k0_t3_loop.trips) (arg25 : BitVec 32) (v72 v75 v78 v81 v83 v85 v87 v89 : FVec F S128x64 .bf16)
  (v91 v93 : Vec F S64x256 .bf16) (v94 v95 : FVec F S64x256 .bf16) (cst : F .f32)

/-- A whole buffer at the contents `f`; at some contents. -/
abbrev atP {sp : Space} {s : Shape} {e : EltTy} (M : Memref sig .tc sp s e) (f : Buf (Elt F) (M.view.loc (c : Thread nD τ))) : sProp 𝕄 :=
  M.view.loc (c : Thread nD τ) ↦[M.view.set]{fullShare} f
abbrev someP {sp : Space} {s : Shape} {e : EltTy} (M : Memref sig .tc sp s e) : sProp 𝕄 := iprop(∃ f, atP (F := F) c M f)

abbrev ksM : Memref sig .tc .vmem S2x2048x64 .bf16 := Memref.whole cc0_scratch1
abbrev vsM : Memref sig .tc .vmem S2x2048x64 .bf16 := Memref.whole cc0_scratch2
abbrev dkM : Memref sig .tc .vmem S128x2048 .f32 := Memref.whole cc0_scratch4
abbrev dvM : Memref sig .tc .vmem S128x2048 .f32 := Memref.whole cc0_scratch5
abbrev beM : Memref sig .tc .vmem S256x256 .bf16 := Memref.whole cc0_scratch6
abbrev DvBuf : Type := Buf (Elt F) (dvM.view.loc (c : Thread nD τ))

/-- The ring before block `k` of pair `p`: block `k` under way, the next too where there is one, the third slot free. -/
def ringAt (k : ℕ) : sProp 𝕄 :=
  iprop(inFl c XA i (Ring.sl 3 k) (Ring.bk 8 p.val) (Ring.bk 8 k)
    ∗ (if k + 1 ≤ p.val then inFl c XA i (Ring.sl 3 (k + 1)) (Ring.bk 8 p.val) (Ring.bk 8 (k + 1)) else free c XA (Ring.sl 3 (k + 1)))
    ∗ free c XA (Ring.sl 3 (k + 2)))

/-- The scratch that a block reads or adds to, the gradient of `v` at `f`. -/
def bufsAt (f : DvBuf (F := F) c) : sProp 𝕄 :=
  iprop(someP (F := F) c ksM ∗ someP (F := F) c vsM ∗ someP (F := F) c beM ∗ someP (F := F) c dkM ∗ atP c dvM f)

def at4 (k : ℕ) (f : DvBuf (F := F) c) : sProp 𝕄 :=
  iprop(bufsAt c f ∗ (∃ W, owes (c : Thread nD τ) 0 W) ∗ ringAt c XA i p k)

abbrev Acc : Type := FVec F S128x1 .f32 × FVec F S128x64 .f32 × FVec F S128x1 .f32 × FVec F S128x64 .f32 × FVec F S128x1 .f32 × FVec F S128x64 .f32 × FVec F S128x1 .f32 × FVec F S128x64 .f32

abbrev body4 : Fin (k0_t4_loop p).trips → Acc (F := F) → Prog (TpuEff nD τ sig (Elt F) Λ₀ .tc) (Acc (F := F)) :=
  k0_t4_body (F := F) i S.a2 S.h2 S.a3 S.h3 S.a4 S.h4 S.a5 S.h5 S.a6 S.h6 S.a7 S.h7 S.a8 S.h8 S.a9 S.h9 wM (Memref.isWhole_whole _) S.a11 S.h11 S.a12 S.h12 S.a13 S.h13 S.a14 S.h14 S.a15 S.h15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 p arg25 v72 v75 v78 v81 v83 v85 v87 v89 v91 v93 v94 v95 cst

theorem sl3_add (k : ℕ) : Ring.sl 3 (k + 1 + 2) = Ring.sl 3 k := Ring.sl_succ_add 3 k 2 rfl

set_option backward.proofsInPublic true in
/-- ONE BLOCK: what it stores into the gradient of `v`, whether or not a further copy is left to issue. -/
def tripRun (c : Dev nD) (XA : Buf (Elt F) (wM.view.loc (c : Thread nD τ))) (i : grid0.Coords) (p : Fin k0_t3_loop.trips)
    (v94 v95 : FVec F S64x256 .bf16) (k : Fin (k0_t4_loop p).trips) (f : DvBuf (F := F) c) :
    { L : List (View.Piece (Elt F) S128x2048 .f32) // ∀ (S : Wins) (arg25 : BitVec 32)
        (v72 v75 v78 v81 v83 v85 v87 v89 : FVec F S128x64 .bf16) (v91 v93 : Vec F S64x256 .bf16) (cst : F .f32) (acc : Acc (F := F)),
      at4 c XA i p k.val f ⊢ wp frame (wpE (defs₀ (F := F)) Variants.none (c : Thread nD τ) none) Set.univ
        (body4 i S p arg25 v72 v75 v78 v81 v83 v85 v87 v89 v91 v93 v94 v95 cst k acc)
        (fun _ => at4 c XA i p (k.val + 1) (dvM.view.writes (Elt F) f L)) } := by
  refine ⟨?_, fun S arg25 v72 v75 v78 v81 v83 v85 v87 v89 v91 v93 cst acc => ?run⟩
  case run =>
    obtain ⟨b1, b2, b3, b4, b5, b6, b7, b8⟩ := acc
    have h1 : k.val + 1 ≤ p.val := k_lt p k
    by_cases h2 : k.val + 2 ≤ p.val
    · have hc := (cond2_iff p k).mpr h2
      have h2' : k.val + 1 + 1 ≤ p.val := h2
      unfold at4 bufsAt ringAt
      rw [if_pos h1, if_pos h2', sl3_add]
      unfold inFl free
      iintro ⟨⟨⟨%fk, Hks⟩, ⟨%fv, Hvs⟩, ⟨%fb, Hbe⟩, ⟨%fd, Hdk⟩, Hdv⟩, ⟨%W, HW⟩, ⟨⟨%g0, HF0⟩, Hr0⟩, ⟨⟨%g1, HF1⟩, Hr1⟩, ⟨⟨%g2, Hs2⟩, Hc2, Hw2⟩⟩
      ihave Hw2 := ((whole_split c XA i (Ring.sl 3 (k.val + 2)) (Ring.bk 8 p.val) (Ring.bk 8 (k.val + 2))).1) $$ Hw2
      icases Hw2 with ⟨Hw2, Hr2⟩
      dsimp only [body4]
      sl_unfold [k0_t4_body]
      sl_exec
      sl_step
      ihave Hw0 := ((whole_split c XA i (Ring.sl 3 k.val) (Ring.bk 8 p.val) (Ring.bk 8 k.val)).2) $$ [HF0_src Hr0]
      · isplitl [HF0_src]; · iexact HF0_src
        iexact Hr0
      isplitl [Hks Hvs Hbe Hdk Hdv]
      · isplitl [Hks]; · iexists _; iexact Hks
        isplitl [Hvs]; · iexists _; iexact Hvs
        isplitl [Hbe]; · iexists _; iexact Hbe
        isplitl [Hdk]; · iexists _; iexact Hdk
        iexact Hdv
      isplitl [HW]; · iexists _; iexact HW
      isplitl [HF1 Hr1]
      · isplitl [HF1]; · iexists _; iexact HF1
        iexact Hr1
      isplitl [Hc2 Hr2]
      · isplitl [Hc2]; · iexists _; iexact Hc2
        iexact Hr2
      isplitl [HF0_dst]; · iexists _; iexact HF0_dst
      isplitl [HF0]; · iexact HF0
      iexact Hw0
    · have hc : ¬ k0_cond2 p k = 1#1 := fun h => h2 ((cond2_iff p k).mp h)
      have h2' : ¬ k.val + 1 + 1 ≤ p.val := h2
      unfold at4 bufsAt ringAt
      rw [if_pos h1, if_neg h2', sl3_add]
      unfold inFl free
      iintro ⟨⟨⟨%fk, Hks⟩, ⟨%fv, Hvs⟩, ⟨%fb, Hbe⟩, ⟨%fd, Hdk⟩, Hdv⟩, ⟨%W, HW⟩, ⟨⟨%g0, HF0⟩, Hr0⟩, ⟨⟨%g1, HF1⟩, Hr1⟩, ⟨Hs2, Hc2, Hw2⟩⟩
      dsimp only [body4]
      sl_unfold [k0_t4_body]
      sl_exec
      sl_step
      ihave Hw0 := ((whole_split c XA i (Ring.sl 3 k.val) (Ring.bk 8 p.val) (Ring.bk 8 k.val)).2) $$ [HF0_src Hr0]
      · isplitl [HF0_src]; · iexact HF0_src
        iexact Hr0
      isplitl [Hks Hvs Hbe Hdk Hdv]
      · isplitl [Hks]; · iexists _; iexact Hks
        isplitl [Hvs]; · iexists _; iexact Hvs
        isplitl [Hbe]; · iexists _; iexact Hbe
        isplitl [Hdk]; · iexists _; iexact Hdk
        iexact Hdv
      isplitl [HW]; · iexists _; iexact HW
      isplitl [HF1 Hr1]
      · isplitl [HF1]; · iexists _; iexact HF1
        iexact Hr1
      isplitl [Hs2 Hc2 Hw2]
      · isplitl [Hs2]; · iexact Hs2
        isplitl [Hc2]; · iexact Hc2
        iexact Hw2
      isplitl [HF0_dst]; · iexists _; iexact HF0_dst
      isplitl [HF0]; · iexact HF0
      iexact Hw0

/-- The gradient of `v` before block `k`, from its contents `f` when the loop began. -/
def dvAcc (f : DvBuf (F := F) c) : ℕ → DvBuf (F := F) c
  | 0 => f
  | k + 1 =>
    if h : k < (k0_t4_loop p).trips then
      dvM.view.writes (Elt F) (dvAcc f k) (tripRun c XA i p v94 v95 ⟨k, h⟩ (dvAcc f k)).1
    else dvAcc f k

theorem dvAcc_succ (f : DvBuf (F := F) c) (k : Fin (k0_t4_loop p).trips) :
    dvAcc c XA i p v94 v95 f (k.val + 1)
      = dvM.view.writes (Elt F) (dvAcc c XA i p v94 v95 f k.val) (tripRun c XA i p v94 v95 k (dvAcc c XA i p v94 v95 f k.val)).1 := by
  rw [dvAcc, dif_pos k.isLt]

end Trip

end Cert.Attn

end
-- ==== Proof.AttnPair.lean ====
/- One block of 256 rows of the attention gradient: its blocks below the diagonal, then the diagonal one, through the
   ring of three slots, every slot free before and after. -/
module

public import proofs.«01_k».proof.Proof.AttnTrip

@[expose] public section

set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Pair

variable (c : Dev nD) (XA : Buf (Elt F) (wM.view.loc (c : Thread nD τ))) (i : grid0.Coords)

abbrev qsM : Memref sig .tc .vmem S2x2048x64 .bf16 := Memref.whole cc0_scratch0
abbrev qtM : Memref sig .tc .vmem S128x2048 .bf16 := Memref.whole cc0_scratch3

/-- The ring at rest. -/
def ringFree : sProp 𝕄 := iprop(free c XA (Ring.sl 3 0) ∗ free c XA (Ring.sl 3 1) ∗ free c XA (Ring.sl 3 2))

theorem sl3_eq {j k : ℕ} (h : j % 3 = k % 3) : Ring.sl 3 j = Ring.sl 3 k := Fin.ext (by rw [Ring.sl_val, Ring.sl_val, h])

theorem ringFree_of (p : ℕ) :
    iprop(free c XA (Ring.sl 3 p) ∗ free c XA (Ring.sl 3 (p + 1)) ∗ free c XA (Ring.sl 3 (p + 2))) ⊢ ringFree (F := F) c XA := by
  unfold ringFree
  have h : p % 3 = 0 ∨ p % 3 = 1 ∨ p % 3 = 2 := by omega
  rcases h with h | h | h
  · rw [sl3_eq (show p % 3 = 0 % 3 by omega), sl3_eq (show (p + 1) % 3 = 1 % 3 by omega), sl3_eq (show (p + 2) % 3 = 2 % 3 by omega)]
  · rw [sl3_eq (show p % 3 = 1 % 3 by omega), sl3_eq (show (p + 1) % 3 = 2 % 3 by omega), sl3_eq (show (p + 2) % 3 = 0 % 3 by omega)]
    iintro ⟨H1, H2, H0⟩
    isplitl [H0]; · iexact H0
    isplitl [H1]; · iexact H1
    iexact H2
  · rw [sl3_eq (show p % 3 = 2 % 3 by omega), sl3_eq (show (p + 1) % 3 = 0 % 3 by omega), sl3_eq (show (p + 2) % 3 = 1 % 3 by omega)]
    iintro ⟨H2, H0, H1⟩
    isplitl [H0]; · iexact H0
    isplitl [H1]; · iexact H1
    iexact H2

variable (S : Wins) (f5 : Buf (Elt F) (S.a5.view.loc (c : Thread nD τ))) (f6 : Buf (Elt F) (S.a6.view.loc (c : Thread nD τ)))
  (f8 : Buf (Elt F) (S.a8.view.loc (c : Thread nD τ)))

/-- What a block of rows reads or adds to, the gradient of `v` at `f`, and the ring at rest. -/
def at3 (f : DvBuf (F := F) c) : sProp 𝕄 :=
  iprop(bufsAt c f ∗ someP (F := F) c qsM ∗ someP (F := F) c qtM ∗ someP (F := F) c S.a11
    ∗ atP c S.a5 f5 ∗ atP c S.a6 f6 ∗ atP c S.a8 f8 ∗ (∃ W, owes (c : Thread nD τ) 0 W) ∗ ringFree c XA)

abbrev body3 (v12 : FVec F S128x128 .bf16) (z : BitVec 32) : Fin k0_t3_loop.trips → FVec F S1x128 .f32 → Prog (TpuEff nD τ sig (Elt F) Λ₀ .tc) (FVec F S1x128 .f32) :=
  k0_t3_body (F := F) i S.a2 S.h2 S.a3 S.h3 S.a4 S.h4 S.a5 S.h5 S.a6 S.h6 S.a7 S.h7 S.a8 S.h8 S.a9 S.h9 wM (Memref.isWhole_whole _) S.a11 S.h11 S.a12 S.h12 S.a13 S.h13 S.a14 S.h14 S.a15 S.h15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 v12 z

/-- The cotangent's rows of the pair, as the block loads them; the gradient of `v` after the blocks below the diagonal. -/
abbrev doAt (p : Fin k0_t3_loop.trips) : Vec F S256x128 .f32 :=
  View.readAt (Elt F) S.a5.view (Rect.unit (s := S2048x128) (k0_off7 p) S256x128.size (k0_off7_inb p)).toLoadRect f5
abbrev dvLow (p : Fin k0_t3_loop.trips) (f : DvBuf (F := F) c) (k : ℕ) : DvBuf (F := F) c :=
  dvAcc c XA i p (k0_pay99 (doAt c S f5 p)) (k0_pay100 (doAt c S f5 p)) f k

theorem at4_exit (p : Fin k0_t3_loop.trips) (f : DvBuf (F := F) c) :
    at4 c XA i p (k0_t4_loop p).trips f ⊢ iprop(bufsAt c f ∗ (∃ W, owes (c : Thread nD τ) 0 W)
      ∗ inFl c XA i (Ring.sl 3 p.val) (Ring.bk 8 p.val) (Ring.bk 8 p.val) ∗ free c XA (Ring.sl 3 (p.val + 1)) ∗ free c XA (Ring.sl 3 (p.val + 2))) := by
  rw [trips4]; unfold at4 ringAt; rw [if_neg (by omega)]

/-- The block on the diagonal, as it lies in the ring, and what it leaves in the gradient of `v`. -/
abbrev diagAt (p : Fin k0_t3_loop.trips) : RBuf (F := F) c (Ring.sl 3 p.val) :=
  (rslot (Ring.sl 3 p.val)).view.writes (Elt F) (rslot (Ring.sl 3 p.val)).view.junk
    [⟨Rect.whole S4x128x256, payload c XA i (Ring.bk 8 p.val) (Ring.bk 8 p.val)⟩]
abbrev ringRd (p : Fin k0_t3_loop.trips) (off : Fin 4 → ℕ) (h : ∀ d, off d + S1x1x128x256.size d ≤ S3x4x128x256.size d) : Vec F S1x1x128x256 .bf16 :=
  View.readAt (Elt F) ringM.view (Rect.unit (s := S3x4x128x256) off S1x1x128x256.size h).toLoadRect (diagAt c XA i p)
abbrev dvRd (g : DvBuf (F := F) c) (off : Fin 2 → ℕ) (h : ∀ d, off d + S64x256.size d ≤ S128x2048.size d) : Vec F S64x256 .f32 :=
  View.readAt (Elt F) dvM.view (Rect.unit (s := S128x2048) off S64x256.size h).toLoadRect g
def dvPair (p : Fin k0_t3_loop.trips) (f : DvBuf (F := F) c) : DvBuf (F := F) c :=
  dvM.view.writes (Elt F) (dvLow c XA i S f5 p f (k0_t4_loop p).trips)
    [⟨Rect.unit (k0_off11 p) S64x256.size (k0_off11_inb p),
        k0_pay129 (k0_pay100 (doAt c S f5 p)) (k0_pay128 (ringRd c XA i p (k0_off53 p) (k0_off53_inb p)) (ringRd c XA i p (k0_off54 p) (k0_off54_inb p)))
          (dvRd c (dvLow c XA i S f5 p f (k0_t4_loop p).trips) (k0_off11 p) (k0_off11_inb p))⟩,
      ⟨Rect.unit (k0_off10 p) S64x256.size (k0_off10_inb p),
        k0_pay127 (k0_pay99 (doAt c S f5 p)) (ringRd c XA i p (k0_off51 p) (k0_off51_inb p)) (ringRd c XA i p (k0_off52 p) (k0_off52_inb p))
          (dvRd c (dvLow c XA i S f5 p f (k0_t4_loop p).trips) (k0_off10 p) (k0_off10_inb p))⟩]

set_option backward.proofsInPublic true in
/-- ONE BLOCK OF ROWS. -/
theorem pairRun (p : Fin k0_t3_loop.trips) (f : DvBuf (F := F) c) (v12 : FVec F S128x128 .bf16) (z : BitVec 32)
    (f6 : Buf (Elt F) (S.a6.view.loc (c : Thread nD τ))) (f8 : Buf (Elt F) (S.a8.view.loc (c : Thread nD τ))) (acc : FVec F S1x128 .f32) :
    at3 c XA S f5 f6 f8 f ⊢ wp frame (wpE (defs₀ (F := F)) Variants.none (c : Thread nD τ) none) Set.univ
      (body3 i S v12 z p acc) (fun _ => at3 c XA S f5 f6 f8 (dvPair c XA i S f5 p f)) := by
    have hp := p_lt p
    unfold at3 ringFree
    unfold bufsAt free
    iintro ⟨⟨Hks, Hvs, Hbe, Hdk, Hdv⟩, ⟨%fq, Hqs⟩, ⟨%ft, Hqt⟩, ⟨%fo, Hdq⟩, H5, H6, H8, ⟨%W, HW⟩, ⟨⟨%g0, Hs0⟩, Hc0, Hw0⟩, ⟨Hs1, Hc1, Hw1⟩, Hfr2⟩
    ihave Hw0 := ((whole_split c XA i (Ring.sl 3 0) (Ring.bk 8 p.val) (Ring.bk 8 0)).1) $$ Hw0
    icases Hw0 with ⟨Hw0, Hr0⟩
    dsimp only [body3]
    by_cases h1 : 1 ≤ p.val
    have hc := (cond1_iff p).mpr h1
    ihave Hw1 := ((whole_split c XA i (Ring.sl 3 1) (Ring.bk 8 p.val) (Ring.bk 8 1)).1) $$ Hw1
    icases Hw1 with ⟨Hw1, Hr1⟩
    icases Hs1 with ⟨%g1, Hs1⟩
    sl_unfold [k0_t3_body]
    sl_exec
    sl_for (fun k _ => at4 c XA i p k (dvLow c XA i S f5 p f k)) $$ [Hks Hvs Hbe Hdk Hdv HW Hc0 Hr0 Hc1 Hr1 Hfr2]
    case region =>
      intro k acc
      dsimp only [dvLow]
      rw [dvAcc_succ]
      exact (tripRun c XA i p _ _ k _).2 S _ _ _ _ _ _ _ _ _ _ _ _ acc
    · unfold at4 ringAt bufsAt
      rw [if_pos (show 0 + 1 ≤ p.val from h1)]
      unfold inFl
      isplitl [Hks Hvs Hbe Hdk Hdv]
      · isplitl [Hks]; · iexact Hks
        isplitl [Hvs]; · iexact Hvs
        isplitl [Hbe]; · iexact Hbe
        isplitl [Hdk]; · iexact Hdk
        iexact Hdv
      isplitl [HW]; · iexists _; iexact HW
      isplitl [Hc0 Hr0]
      · isplitl [Hc0]; · iexists _; iexact Hc0
        iexact Hr0
      isplitl [Hc1 Hr1]
      · isplitl [Hc1]; · iexists _; iexact Hc1
        iexact Hr1
      unfold free
      iexact Hfr2
    iintro %acc4 H
    sl_exec
    swap
    have hc : ¬ k0_cond1 p = 1#1 := fun h => h1 ((cond1_iff p).mp h)
    sl_unfold [k0_t3_body]
    sl_exec
    sl_for (fun k _ => at4 c XA i p k (dvLow c XA i S f5 p f k)) $$ [Hks Hvs Hbe Hdk Hdv HW Hc0 Hr0 Hs1 Hc1 Hw1 Hfr2]
    case region =>
      intro k acc
      dsimp only [dvLow]
      rw [dvAcc_succ]
      exact (tripRun c XA i p _ _ k _).2 S _ _ _ _ _ _ _ _ _ _ _ _ acc
    · unfold at4 ringAt bufsAt
      rw [if_neg (show ¬ 0 + 1 ≤ p.val by omega)]
      unfold inFl
      isplitl [Hks Hvs Hbe Hdk Hdv]
      · isplitl [Hks]; · iexact Hks
        isplitl [Hvs]; · iexact Hvs
        isplitl [Hbe]; · iexact Hbe
        isplitl [Hdk]; · iexact Hdk
        iexact Hdv
      isplitl [HW]; · iexists _; iexact HW
      isplitl [Hc0 Hr0]
      · isplitl [Hc0]; · iexists _; iexact Hc0
        iexact Hr0
      isplitl [Hs1 Hc1 Hw1]
      · unfold free
        isplitl [Hs1]; · iexact Hs1
        isplitl [Hc1]; · iexact Hc1
        iexact Hw1
      unfold free
      iexact Hfr2
    iintro %acc4 H
    sl_exec
    iterate 2
      sl_for (fun _ _ => at4 c XA i p (k0_t4_loop p).trips (dvLow c XA i S f5 p f (k0_t4_loop p).trips)) $$ [H]
      case region =>
        intro k acc
        exact absurd (show k.val < (k0_t5_loop p).trips from k.isLt) (by rw [trips5]; omega)
      · iexact H
      iintro %acc5 H
      ihave H := (at4_exit c XA i p _) $$ H
      unfold bufsAt inFl
      icases H with ⟨⟨⟨%f1, Hks⟩, ⟨%f2, Hvs⟩, ⟨%fb, Hbe⟩, ⟨%fd, Hdk⟩, Hdv⟩, ⟨%W', HW⟩, ⟨⟨%gd, Hc0⟩, Hr0⟩, Hfra, Hfrb⟩
      sl_exec
      sl_step
      isplitl [Hks Hvs Hbe Hdk Hdv]
      · isplitl [Hks]; · iexists _; iexact Hks
        isplitl [Hvs]; · iexists _; iexact Hvs
        isplitl [Hbe]; · iexists _; iexact Hbe
        isplitl [Hdk]; · iexists _; iexact Hdk
        iexact Hdv
      isplitl [Hqs]; · iexists _; iexact Hqs
      isplitl [Hqt]; · iexists _; iexact Hqt
      isplitl [Hdq]; · iexists _; iexact Hdq
      isplitl [H5]; · iexact H5
      isplitl [H6]; · iexact H6
      isplitl [H8]; · iexact H8
      isplitl [HW]; · iexists _; iexact HW
      ihave Hw0 := ((whole_split c XA i (Ring.sl 3 p.val) (Ring.bk 8 p.val) (Ring.bk 8 p.val)).2) $$ [Hc0_src Hr0]
      · isplitl [Hc0_src]; · iexact Hc0_src
        iexact Hr0
      rw [show iprop(((∃ f, slotP (F := F) c (Ring.sl 3 0) f) ∗ cellP c (Ring.sl 3 0) ∗ wholeP c XA (Ring.sl 3 0)) ∗ ((∃ f, slotP (F := F) c (Ring.sl 3 1) f) ∗ cellP c (Ring.sl 3 1) ∗ wholeP c XA (Ring.sl 3 1)) ∗ (∃ f, slotP (F := F) c (Ring.sl 3 2) f) ∗ cellP c (Ring.sl 3 2) ∗ wholeP c XA (Ring.sl 3 2)) = ringFree c XA from rfl]
      iapply (ringFree_of c XA p.val)
      isplitl [Hc0_dst Hc0 Hw0]
      · unfold free
        isplitl [Hc0_dst]; · iexists _; iexact Hc0_dst
        isplitl [Hc0]; · iexact Hc0
        iexact Hw0
      isplitl [Hfra]; · iexact Hfra
      iexact Hfrb

end Pair

end Cert.Attn
-- ==== Proof.AttnBody.lean ====
/- One grid point of the attention gradient: the heads split, the blocks of rows one after another, and the rows of the
   results written out; of the results, what `dv`'s rows hold is stated. -/
module

public import proofs.«01_k».proof.Proof.AttnPair

@[expose] public section
set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Body

variable (c : Dev nD) (XA : Buf (Elt F) (wM.view.loc (c : Thread nD τ))) (i : grid0.Coords)
variable (S : Wins) (f5 : Buf (Elt F) (S.a5.view.loc (c : Thread nD τ)))

/-- The gradient of `v` after `p` blocks of rows: zero at first. -/
def dvRows : ℕ → DvBuf (F := F) c
  | 0 => dvM.view.writes (Elt F) dvM.view.junk [⟨Rect.unit (s := S128x2048) ![0, 0] S128x2048.size inb_S128x2048_S128x2048_0_0, k0_pay165 (F := F)⟩]
  | p + 1 => if h : p < k0_t3_loop.trips then dvPair c XA i S f5 ⟨p, h⟩ (dvRows p) else dvRows p

theorem dvRows_succ (p : Fin k0_t3_loop.trips) : dvRows c XA i S f5 (p.val + 1) = dvPair c XA i S f5 p (dvRows c XA i S f5 p.val) := by
  rw [dvRows, dif_pos p.isLt]

theorem dvRows_zero : dvRows c XA i S f5 0
    = dvM.view.writes (Elt F) dvM.view.junk [⟨Rect.unit (s := S128x2048) ![0, 0] S128x2048.size inb_S128x2048_S128x2048_0_0, k0_pay165 (F := F)⟩] := by
  rw [dvRows]

/-- The rows of `dv` written by the first `t` trips of the last loop, the newest first. -/
def dvOutL (g : DvBuf (F := F) c) : ℕ → List (View.Piece (Elt F) S2048x128 .bf16)
  | 0 => []
  | t + 1 => if h : t < k0_t6_loop.trips then
      ⟨Rect.unit (s := S2048x128) (k0_off56 ⟨t, h⟩) S128x128.size (k0_off56_inb ⟨t, h⟩),
        k0_pay3 (View.readAt (Elt F) dvM.view (Rect.unit (s := S128x2048) (k0_off57 ⟨t, h⟩) S128x128.size (k0_off57_inb ⟨t, h⟩)).toLoadRect g)⟩ :: dvOutL g t
    else dvOutL g t

theorem dvOutL_succ (g : DvBuf (F := F) c) (t : Fin k0_t6_loop.trips) : dvOutL c g (t.val + 1)
    = ⟨Rect.unit (s := S2048x128) (k0_off56 t) S128x128.size (k0_off56_inb t),
        k0_pay3 (View.readAt (Elt F) dvM.view (Rect.unit (s := S128x2048) (k0_off57 t) S128x128.size (k0_off57_inb t)).toLoadRect g)⟩ :: dvOutL c g t.val := by
  rw [dvOutL, dif_pos t.isLt]

abbrev atWins (f2 : Buf (Elt F) (S.a2.view.loc (c : Thread nD τ))) (f3 : Buf (Elt F) (S.a3.view.loc (c : Thread nD τ)))
    (f4 : Buf (Elt F) (S.a4.view.loc (c : Thread nD τ))) (f6 : Buf (Elt F) (S.a6.view.loc (c : Thread nD τ)))
    (f7 : Buf (Elt F) (S.a7.view.loc (c : Thread nD τ))) (f8 : Buf (Elt F) (S.a8.view.loc (c : Thread nD τ)))
    (f9 : Buf (Elt F) (S.a9.view.loc (c : Thread nD τ))) : sProp 𝕄 :=
  iprop(atP c S.a2 f2 ∗ atP c S.a3 f3 ∗ atP c S.a4 f4 ∗ atP c S.a5 f5 ∗ atP c S.a6 f6 ∗ atP c S.a7 f7 ∗ atP c S.a8 f8 ∗ atP c S.a9 f9)
abbrev someScratch : sProp 𝕄 :=
  iprop(someP (F := F) c qsM ∗ someP (F := F) c ksM ∗ someP (F := F) c vsM ∗ someP (F := F) c qtM ∗ someP (F := F) c dkM
    ∗ someP (F := F) c dvM ∗ someP (F := F) c beM ∗ ringFree c XA ∗ ∃ W, owes (c : Thread nD τ) 0 W)

theorem split_trip (f2 : Buf (Elt F) (S.a2.view.loc (c : Thread nD τ))) (f3 : Buf (Elt F) (S.a3.view.loc (c : Thread nD τ)))
    (f4 : Buf (Elt F) (S.a4.view.loc (c : Thread nD τ))) (k : Fin k0_t1_loop.trips) (acc : Unit) :
    iprop(atP c S.a2 f2 ∗ atP c S.a3 f3 ∗ atP c S.a4 f4 ∗ someP (F := F) c qsM ∗ someP (F := F) c ksM ∗ someP (F := F) c vsM)
      ⊢ wp frame (wpE (defs₀ (F := F)) Variants.none (c : Thread nD τ) none) Set.univ
        (k0_t1_body (F := F) i S.a2 S.h2 S.a3 S.h3 S.a4 S.h4 S.a5 S.h5 S.a6 S.h6 S.a7 S.h7 S.a8 S.h8 S.a9 S.h9 wM (Memref.isWhole_whole _) S.a11 S.h11 S.a12 S.h12 S.a13 S.h13 S.a14 S.h14 S.a15 S.h15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 k acc)
        (fun _ => iprop(atP c S.a2 f2 ∗ atP c S.a3 f3 ∗ atP c S.a4 f4 ∗ someP (F := F) c qsM ∗ someP (F := F) c ksM ∗ someP (F := F) c vsM)) := by
  iintro ⟨H2, H3, H4, ⟨%q, Hqs⟩, ⟨%r, Hks⟩, ⟨%v, Hvs⟩⟩
  sl_unfold [k0_t1_body]
  sl_exec
  sl_step
  isplitl [H2]; · iexact H2
  isplitl [H3]; · iexact H3
  isplitl [H4]; · iexact H4
  isplitl [Hqs]; · iexists _; iexact Hqs
  isplitl [Hks]; · iexists _; iexact Hks
  iexists _; iexact Hvs

theorem turn_trip (f2 : Buf (Elt F) (S.a2.view.loc (c : Thread nD τ))) (k : Fin k0_t2_loop.trips) (acc : Unit) :
    iprop(atP c S.a2 f2 ∗ someP (F := F) c qtM)
      ⊢ wp frame (wpE (defs₀ (F := F)) Variants.none (c : Thread nD τ) none) Set.univ
        (k0_t2_body (F := F) i S.a2 S.h2 S.a3 S.h3 S.a4 S.h4 S.a5 S.h5 S.a6 S.h6 S.a7 S.h7 S.a8 S.h8 S.a9 S.h9 wM (Memref.isWhole_whole _) S.a11 S.h11 S.a12 S.h12 S.a13 S.h13 S.a14 S.h14 S.a15 S.h15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 k acc)
        (fun _ => iprop(atP c S.a2 f2 ∗ someP (F := F) c qtM)) := by
  iintro ⟨H2, ⟨%q, Hqt⟩⟩
  sl_unfold [k0_t2_body]
  sl_exec
  sl_step
  isplitl [H2]; · iexact H2
  iexists _; iexact Hqt

/-- Before trip `t` of the last loop. -/
abbrev at6 (f7 : Buf (Elt F) (S.a7.view.loc (c : Thread nD τ))) (f9 : Buf (Elt F) (S.a9.view.loc (c : Thread nD τ)))
    (fo : Buf (Elt F) (S.a13.view.loc (c : Thread nD τ))) (g : DvBuf (F := F) c) (t : ℕ) : sProp 𝕄 :=
  iprop(atP c S.a7 f7 ∗ atP c S.a9 f9 ∗ someP (F := F) c dkM ∗ atP c dvM g ∗ someP (F := F) c S.a12
    ∗ atP c S.a13 (S.a13.view.writes (Elt F) fo (dvOutL c g t)))

theorem out_trip (f7 : Buf (Elt F) (S.a7.view.loc (c : Thread nD τ))) (f9 : Buf (Elt F) (S.a9.view.loc (c : Thread nD τ)))
    (fo : Buf (Elt F) (S.a13.view.loc (c : Thread nD τ))) (g : DvBuf (F := F) c) (v12 : FVec F S128x128 .bf16)
    (t : Fin k0_t6_loop.trips) (acc : FVec F S1x128 .f32) :
    at6 c S f7 f9 fo g t.val ⊢ wp frame (wpE (defs₀ (F := F)) Variants.none (c : Thread nD τ) none) Set.univ
        (k0_t6_body (F := F) i S.a2 S.h2 S.a3 S.h3 S.a4 S.h4 S.a5 S.h5 S.a6 S.h6 S.a7 S.h7 S.a8 S.h8 S.a9 S.h9 wM (Memref.isWhole_whole _) S.a11 S.h11 S.a12 S.h12 S.a13 S.h13 S.a14 S.h14 S.a15 S.h15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 v12 t acc) (fun _ => at6 c S f7 f9 fo g (t.val + 1)) := by
  rw [at6, at6, dvOutL_succ]
  iintro ⟨H7, H9, ⟨%d, Hdk⟩, Hdv, ⟨%o, H12⟩, H13⟩
  sl_unfold [k0_t6_body]
  sl_exec
  sl_step
  isplitl [H7]; · iexact H7
  isplitl [H9]; · iexact H9
  isplitl [Hdk]; · iexists _; iexact Hdk
  isplitl [Hdv]; · iexact Hdv
  isplitl [H12]; · iexists _; iexact H12
  iexact H13

/-- ONE GRID POINT. -/
theorem bodyRun (f2 : Buf (Elt F) (S.a2.view.loc (c : Thread nD τ))) (f3 : Buf (Elt F) (S.a3.view.loc (c : Thread nD τ)))
    (f4 : Buf (Elt F) (S.a4.view.loc (c : Thread nD τ))) (f6 : Buf (Elt F) (S.a6.view.loc (c : Thread nD τ)))
    (f7 : Buf (Elt F) (S.a7.view.loc (c : Thread nD τ))) (f8 : Buf (Elt F) (S.a8.view.loc (c : Thread nD τ)))
    (f9 : Buf (Elt F) (S.a9.view.loc (c : Thread nD τ))) :
    iprop(atWins c S f5 f2 f3 f4 f6 f7 f8 f9 ∗ someP (F := F) c S.a11 ∗ someP (F := F) c S.a12 ∗ someP (F := F) c S.a13
        ∗ someP (F := F) c S.a14 ∗ someP (F := F) c S.a15 ∗ someScratch c XA)
      ⊢ wp frame (wpE (defs₀ (F := F)) Variants.none (c : Thread nD τ) none) Set.univ
        (cc0_attn_bwd (F := F) i S.a2 S.h2 S.a3 S.h3 S.a4 S.h4 S.a5 S.h5 S.a6 S.h6 S.a7 S.h7 S.a8 S.h8 S.a9 S.h9 wM (Memref.isWhole_whole _) S.a11 S.h11 S.a12 S.h12 S.a13 S.h13 S.a14 S.h14 S.a15 S.h15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8)
        (fun _ => iprop(atWins c S f5 f2 f3 f4 f6 f7 f8 f9 ∗ someP (F := F) c S.a11 ∗ someP (F := F) c S.a12
          ∗ (∃ fo, atP c S.a13 (S.a13.view.writes (Elt F) fo (dvOutL c (dvRows c XA i S f5 k0_t3_loop.trips) k0_t6_loop.trips)))
          ∗ someP (F := F) c S.a14 ∗ someP (F := F) c S.a15 ∗ someScratch c XA)) := by
  iintro ⟨⟨H2, H3, H4, H5, H6, H7, H8, H9⟩, H11, H12, ⟨%fo, H13⟩, ⟨%f14, H14⟩, ⟨%f15, H15⟩, Hqs, Hks, Hvs, ⟨%ft, Hqt⟩, ⟨%fd, Hdk⟩, ⟨%fv, Hdv⟩, ⟨%fb, Hbe⟩, Hr, HW⟩
  simp only [cc0_attn_bwd_eq_skeleton]; unfold cc0_attn_bwd_skel
  sl_exec
  sl_for (fun _ _ => iprop(atP c S.a2 f2 ∗ atP c S.a3 f3 ∗ atP c S.a4 f4 ∗ someP (F := F) c qsM ∗ someP (F := F) c ksM ∗ someP (F := F) c vsM)) $$ [H2 H3 H4 Hqs Hks Hvs]
  case region => exact fun k acc => split_trip c i S f2 f3 f4 k acc
  · isplitl [H2]; · iexact H2
    isplitl [H3]; · iexact H3
    isplitl [H4]; · iexact H4
    isplitl [Hqs]; · iexact Hqs
    isplitl [Hks]; · iexact Hks
    iexact Hvs
  iintro %acc1 ⟨H2, H3, H4, Hqs, Hks, Hvs⟩
  sl_for (fun _ _ => iprop(atP c S.a2 f2 ∗ someP (F := F) c qtM)) $$ [H2 Hqt]
  case region => exact fun k acc => turn_trip c i S f2 k acc
  · isplitl [H2]; · iexact H2
    iexists _; iexact Hqt
  iintro %acc2 ⟨H2, Hqt⟩
  sl_exec
  sl_for (fun p _ => at3 c XA S f5 f6 f8 (dvRows c XA i S f5 p)) $$ [Hks Hvs Hbe Hdk Hdv Hqs Hqt H11 H5 H6 H8 HW Hr]
  case region =>
    intro p acc
    dsimp only
    rw [dvRows_succ]
    exact pairRun c XA i S f5 p _ _ _ f6 f8 acc
  · rw [dvRows_zero c XA i S f5]
    unfold at3 bufsAt
    isplitl [Hks Hvs Hbe Hdk Hdv]
    · isplitl [Hks]; · iexact Hks
      isplitl [Hvs]; · iexact Hvs
      isplitl [Hbe]; · iexists _; iexact Hbe
      isplitl [Hdk]; · iexists _; iexact Hdk
      iexact Hdv
    isplitl [Hqs]; · iexact Hqs
    isplitl [Hqt]; · iexact Hqt
    isplitl [H11]; · iexact H11
    isplitl [H5]; · iexact H5
    isplitl [H6]; · iexact H6
    isplitl [H8]; · iexact H8
    isplitl [HW]; · iexact HW
    iexact Hr
  iintro %acc3 H
  unfold at3 bufsAt
  icases H with ⟨⟨Hks, Hvs, Hbe, Hdk, Hdv⟩, Hqs, Hqt, H11, H5, H6, H8, HW, Hr⟩
  sl_for (fun t _ => at6 c S f7 f9 fo (dvRows c XA i S f5 k0_t3_loop.trips) t) $$ [H7 H9 Hdk Hdv H12 H13]
  case region => exact fun t acc => out_trip c i S f7 f9 fo _ _ t acc
  · isplitl [H7]; · iexact H7
    isplitl [H9]; · iexact H9
    isplitl [Hdk]; · iexact Hdk
    isplitl [Hdv]; · iexact Hdv
    isplitl [H12]; · iexact H12
    iexact H13
  iintro %acc6 ⟨H7, H9, Hdk, Hdv, H12, H13⟩
  sl_exec
  sl_step
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H11]; · iexact H11
  isplitl [H12]; · iexact H12
  isplitl [H13]; · iexists _; iexact H13
  isplitl [H14]; · iexists _; iexact H14
  isplitl [H15]; · iexists _; iexact H15
  isplitl [Hqs]; · iexact Hqs
  isplitl [Hks]; · iexact Hks
  isplitl [Hvs]; · iexact Hvs
  isplitl [Hqt]; · iexact Hqt
  isplitl [Hdk]; · iexact Hdk
  isplitl [Hdv]; · iexists _; iexact Hdv
  isplitl [Hbe]; · iexact Hbe
  isplitl [Hr]; · iexact Hr
  iexact HW

end Body

end Cert.Attn
-- ==== Proof.AttnLaunch.lean ====
module

public import proofs.«01_k».proof.Proof.AttnBody

@[expose] public section
set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a grid point holds besides its windows -/

abbrev osem0 : Fin 3 → SemLoc sig := fun j => (![SemLoc.dma 22, SemLoc.dma 23, SemLoc.dma 24] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c (Ring.sl 3 0) ∗ cellP c (Ring.sl 3 1) ∗ cellP c (Ring.sl 3 2)) := by
  rw [Pipeline.ownSems0_eq_of_list c osem0 [0, 1, 2] (by decide) (by decide)]; rfl
/-- The operand left in HBM: the saved weights. -/
def H0 : Finset (Ref sig .tc) := {main_v76}
theorem H0_sub : H0 ⊆ Pipeline.restRefs sig spec0 := by decide
/-- The saved weights as the region finds them. -/
abbrev XA (c : Dev nD) : Buf (Elt F) (wM.view.loc (c : Thread nD τ)) := V m c main_v76
theorem hbm0_eq (c : Dev nD) :
    (bigSep H0 (fun b => ((c : Thread nD τ).loc b) ↦{fullShare} V m c b) : sProp 𝕄)
      = (wM.view.loc (c : Thread nD τ) ↦[Finset.univ]{fullShare} XA m c) := by
  rw [BI.bigSep_eq_bigSepL_of_eq [main_v76] (by decide) (by decide)]; rfl

abbrev slotJ (s : Fin 3) : Finset S3x4x128x256.Idx := (Rect.unit (s := S3x4x128x256) (slotOff s) S1x4x128x256.size (slotOff_inb s)).set
theorem rslot_set (s : Fin 3) : (rslot s).view.set = slotJ s := by
  unfold rslot
  exact (View.set_reshape _ _).trans (View.set_slice_whole _ _)

theorem slotJ_disjoint (s s' : Fin 3) (h : s ≠ s') : Disjoint (slotJ s) (slotJ s') :=
  Ring.lead_disjoint (s := S3x4x128x256) 0 1 slotOff S1x4x128x256.size slotOff_inb (by decide) rfl s s' h
theorem slotJ_cover : Finset.univ.biUnion slotJ = Finset.univ :=
  Ring.lead_cover (s := S3x4x128x256) 0 1 slotOff S1x4x128x256.size slotOff_inb (by decide) (by decide) rfl (by decide) rfl
theorem slotP_eq (c : Dev nD) (s : Fin 3) (f : Buf (Elt F) ((c : Thread nD τ).loc cc0_scratch7)) :
    slotP (F := F) c s f = ((c : Thread nD τ).loc cc0_scratch7 ↦[slotJ s]{fullShare} f : sProp 𝕄) := by
  unfold slotP; rw [rslot_set]; rfl

/-- The ring's buffer whole is its three slots. -/
theorem ring_split (c : Dev nD) : iprop(∃ f, (c : Thread nD τ).loc cc0_scratch7 ↦{fullShare} f)
    ⊣⊢ (iprop((∃ f, slotP (F := F) c (Ring.sl 3 0) f) ∗ (∃ f, slotP (F := F) c (Ring.sl 3 1) f) ∗ ∃ f, slotP (F := F) c (Ring.sl 3 2) f) : sProp 𝕄) :=
  ⟨Ring.slots3_split (ℓ := (c : Thread nD τ).loc cc0_scratch7) slotJ slotJ_disjoint slotJ_cover _ _ _ (slotP_eq c 0) (slotP_eq c 1) (slotP_eq c 2),
    Ring.slots3_join (ℓ := (c : Thread nD τ).loc cc0_scratch7) slotJ slotJ_disjoint slotJ_cover _ _ _ (slotP_eq c 0) (slotP_eq c 1) (slotP_eq c 2)⟩

/-- Between points: the buffers at anything, the ring free, the weights whole. -/
theorem rest_iff (c : Dev nD) :
    iprop(Pipeline.ΦD osem0 spec0 H0 (V m) c ∗ ∃ W, owes (c : Thread nD τ) 0 W)
      ⊣⊢ (iprop(someScratch c (XA m c) ∗ ∃ r, prngReg c r) : sProp 𝕄) := by
  rw [Pipeline.ΦD_eq, scopedRest0_eq, ownSems00_eq, hbm0_eq]
  unfold someScratch ringFree free someP atP
  simp only [Memref.view_whole, View.set_whole]
  constructor
  · iintro ⟨⟨⟨H0, H1, H2, H3, H4, H5, H6, H7⟩, Hg, ⟨Hc0, Hc1, Hc2⟩, Hw⟩, HW⟩
    ihave Hs := (ring_split (F := F) c).1 $$ H7
    icases Hs with ⟨Hs0, Hs1, Hs2⟩
    ihave Hw := (Ring.pointsTo_thirds fullShare (XA m c)).1 $$ Hw
    icases Hw with ⟨Hw0, Hw1, Hw2⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitr [HW]
    swap; · iexact HW
    isplitl [Hs0 Hc0 Hw0]
    · isplitl [Hs0]; · iexact Hs0
      isplitl [Hc0]; · iexact Hc0
      iexact Hw0
    isplitl [Hs1 Hc1 Hw1]
    · isplitl [Hs1]; · iexact Hs1
      isplitl [Hc1]; · iexact Hc1
      iexact Hw1
    isplitl [Hs2]; · iexact Hs2
    isplitl [Hc2]; · iexact Hc2
    iexact Hw2
  · iintro ⟨⟨H0, H1, H2, H3, H4, H5, H6, ⟨⟨Hs0, Hc0, Hw0⟩, ⟨Hs1, Hc1, Hw1⟩, Hs2, Hc2, Hw2⟩, HW⟩, Hg⟩
    isplitr [HW]
    swap; · iexact HW
    isplitl [H0 H1 H2 H3 H4 H5 H6 Hs0 Hs1 Hs2]
    · isplitl [H0]; · iexact H0
      isplitl [H1]; · iexact H1
      isplitl [H2]; · iexact H2
      isplitl [H3]; · iexact H3
      isplitl [H4]; · iexact H4
      isplitl [H5]; · iexact H5
      isplitl [H6]; · iexact H6
      iapply (ring_split (F := F) c).2
      isplitl [Hs0]; · iexact Hs0
      isplitl [Hs1]; · iexact Hs1
      iexact Hs2
    isplitl [Hg]; · iexact Hg
    isplitl [Hc0 Hc1 Hc2]
    · isplitl [Hc0]; · iexact Hc0
      isplitl [Hc1]; · iexact Hc1
      iexact Hc2
    iapply (Ring.pointsTo_thirds fullShare (XA m c)).2
    isplitl [Hw0]; · iexact Hw0
    isplitl [Hw1]; · iexact Hw1
    iexact Hw2

/-! ## The point's result and the proof data -/

/-- The staging buffers at point `t`. -/
abbrev winsAt (t : Fin cfg0.N) : Wins :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    win0_6.stage (cfg0.slots t 6), hstage0_6 ((cfg0.slots t 6).cast nbuf0_6), win0_7.stage (cfg0.slots t 7), hstage0_7 ((cfg0.slots t 7).cast nbuf0_7),
    win0_8.stage (cfg0.slots t 8), hstage0_8 ((cfg0.slots t 8).cast nbuf0_8), win0_9.stage (cfg0.slots t 9), hstage0_9 ((cfg0.slots t 9).cast nbuf0_9),
    win0_10.stage (cfg0.slots t 10), hstage0_10 ((cfg0.slots t 10).cast nbuf0_10), win0_11.stage (cfg0.slots t 11), hstage0_11 ((cfg0.slots t 11).cast nbuf0_11),
    win0_12.stage (cfg0.slots t 12), hstage0_12 ((cfg0.slots t 12).cast nbuf0_12)⟩

theorem dvPair_congr (c : Dev nD) (X : Buf (Elt F) (wM.view.loc (c : Thread nD τ))) (i : grid0.Coords) (S : Wins)
    (f f' : Buf (Elt F) (S.a5.view.loc (c : Thread nD τ))) (h : S.a5.view.read (Elt F) f = S.a5.view.read (Elt F) f') (p : Fin k0_t3_loop.trips) (g : DvBuf (F := F) c) :
    dvPair c X i S f p g = dvPair c X i S f' p g := by
  have hd : doAt c S f p = doAt c S f' p := by unfold doAt; funext x; rw [View.readAt_apply, View.readAt_apply, h]
  dsimp only [dvPair, dvLow]
  rw [hd]

/-- The gradient of `v` uses the cotangent's staging buffer only through the block in it. -/
theorem dvRows_congr (c : Dev nD) (X : Buf (Elt F) (wM.view.loc (c : Thread nD τ))) (i : grid0.Coords) (S : Wins)
    (f f' : Buf (Elt F) (S.a5.view.loc (c : Thread nD τ))) (h : S.a5.view.read (Elt F) f = S.a5.view.read (Elt F) f') :
    ∀ n, dvRows c X i S f n = dvRows c X i S f' n
  | 0 => by rw [dvRows_zero, dvRows_zero]
  | n + 1 => by
    by_cases hn : n < k0_t3_loop.trips
    · rw [dvRows_succ c X i S f ⟨n, hn⟩, dvRows_succ c X i S f' ⟨n, hn⟩, dvRows_congr c X i S f f' h n]
      exact dvPair_congr c X i S f f' h ⟨n, hn⟩ _
    · rw [dvRows, dvRows, dif_neg hn, dif_neg hn]; exact dvRows_congr c X i S f f' h n

/-- A staging buffer that holds the point's block of the cotangent. -/
def doBuf (c : Dev nD) (t : Fin cfg0.N) : Buf (Elt F) ((winsAt t).a5.view.loc (c : Thread nD τ)) :=
  (winsAt t).a5.view.writes (Elt F) (winsAt t).a5.view.junk [⟨Rect.whole S2048x128, iblk m c 3 t⟩]
theorem read_doBuf (c : Dev nD) (t : Fin cfg0.N) : (winsAt t).a5.view.read (Elt F) (doBuf m c t) = iblk m c 3 t :=
  View.read_writes_whole _ _ _

/-- The scratch buffer of the gradient of `v` at the end of point `t`, and the block of the result written from it. -/
def dvEnd (c : Dev nD) (t : Fin cfg0.N) : DvBuf (F := F) c :=
  dvRows c (XA m c) (grid0.coords t) (winsAt t) (doBuf m c t) k0_t3_loop.trips
def dvBlk (c : Dev nD) (t : Fin cfg0.N) : S2048x128.Idx → Elt F .bf16 :=
  (winsAt t).a13.view.read (Elt F) ((winsAt t).a13.view.writes (Elt F) (winsAt t).a13.view.junk (dvOutL c (dvEnd m c t) k0_t6_loop.trips))

theorem trips6 : k0_t6_loop.trips = 16 := by decide
theorem mem_dvOutL (c : Dev nD) (g : DvBuf (F := F) c) (n : ℕ) (t : Fin k0_t6_loop.trips) (h : t.val < n) :
    (⟨Rect.unit (s := S2048x128) (k0_off56 t) S128x128.size (k0_off56_inb t),
        k0_pay3 (View.readAt (Elt F) dvM.view (Rect.unit (s := S128x2048) (k0_off57 t) S128x128.size (k0_off57_inb t)).toLoadRect g)⟩ : View.Piece (Elt F) S2048x128 .bf16)
      ∈ dvOutL c g n := by
  induction n with
  | zero => exact absurd h (Nat.not_lt_zero _)
  | succ n ih =>
    rw [dvOutL]
    split
    · next hn =>
      by_cases e : t.val = n
      · subst e; exact List.mem_cons_self
      · exact List.mem_cons_of_mem _ (ih (by omega))
    · next hn => exact ih (by have := t.isLt; omega)

/-- The rows written cover the block. -/
theorem dvOutL_cover (c : Dev nD) (g : DvBuf (F := F) c) (y : S2048x128.Idx) : ∃ q ∈ dvOutL c g k0_t6_loop.trips, y ∈ q.1.set := by
  have h0 : (y 0).val < 2048 := (y 0).isLt
  have h1 : (y 1).val < 128 := (y 1).isLt
  have hm := mem_dvOutL c g k0_t6_loop.trips ⟨(y 0).val / 128, by rw [trips6]; omega⟩ (Fin.isLt _)
  refine ⟨_, hm, ?_⟩
  dsimp only
  rw [Rect.mem_set_unit]
  intro a
  rw [k0_off56_eq]
  fin_cases a
  · show 128 * ((y 0).val / 128) ≤ (y 0).val ∧ (y 0).val < 128 * ((y 0).val / 128) + 128; omega
  · show 0 ≤ (y 1).val ∧ (y 1).val < 0 + 128; omega

/-- The results whose contents are not stated: the gradients of `q`, `k` and of the gains. -/
def fgt : Fin cfg0.W → Bool := ![false, false, false, false, false, false, false, false, true, true, false, true, true]

def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dvBlk m c t
    | ⟨11, _⟩ => iblk m c 11 t
    | ⟨12, _⟩ => iblk m c 12 t
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]

/-- An input's staging buffer holds the point's block before the body as after it. -/
theorem before_in (c : Dev nD) (t : Fin cfg0.N) : ∀ w : Fin cfg0.W, (cfg0.win w).isOut = false → ∀ d, (dats m 0 c).before w t d = (dats m 0 c).after w t := by
  intro w
  fin_cases w <;> intro hw d <;> first
    | exact absurd hw (by decide)
    | exact ((dats m 0 c).before_in_eq_fetched _ hw (fun _ => rfl) (fun _ _ _ => rfl) (fun t => by unfold Pipeline.Dat.blockOf; dsimp only [dats]; rfl) t d).trans
        (by unfold Pipeline.Dat.fetched Pipeline.Dat.blockOf; dsimp only [dats]; rfl)

theorem Phi_eq (c : Dev nD) (t) : (dats m 0 c).Φ t = Pipeline.ΦD osem0 spec0 H0 (V m) c := by dsimp only [dats]

/-- The body at a point, from the point's resources to the next one's. -/
theorem sound_body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X) ∗ (∃ X, owns (c : Thread nD τ) (st0_9 t) fullShare X) ∗ (∃ d, owns (c : Thread nD τ) (st0_10 t) fullShare ((dats m 0 c).before 10 t d)) ∗ (∃ X, owns (c : Thread nD τ) (st0_11 t) fullShare X) ∗ (∃ X, owns (c : Thread nD τ) (st0_12 t) fullShare X))
      ⊢ wp frame (wpE (defs₀ (F := F)) Variants.none (c : Thread nD τ) none) Set.univ (bodyAt0 t) fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ X, owns (c : Thread nD τ) (st0_8 t) fullShare X) ∗ (∃ X, owns (c : Thread nD τ) (st0_9 t) fullShare X) ∗ owns (c : Thread nD τ) (st0_10 t) fullShare ((dats m 0 c).after 10 t) ∗ (∃ X, owns (c : Thread nD τ) (st0_11 t) fullShare X) ∗ (∃ X, owns (c : Thread nD τ) (st0_12 t) fullShare X)) := by
  rw [Phi_eq, Phi_eq]
  unfold owns
  iintro ⟨HΦ, ⟨%W, %hW, HW⟩, ⟨%d0, %f0, %h0, H0⟩ , ⟨%d1, %f1, %h1, H1⟩ , ⟨%d2, %f2, %h2, H2⟩ , ⟨%d3, %f3, %h3, H3⟩ , ⟨%d4, %f4, %h4, H4⟩ , ⟨%d5, %f5, %h5, H5⟩ , ⟨%d6, %f6, %h6, H6⟩ , ⟨%d7, %f7, %h7, H7⟩ , ⟨%d8, %f8, %_, H8⟩ , ⟨%d9, %f9, %_, H9⟩ , ⟨%d10, %f10, %_, H10⟩ , ⟨%d11, %f11, %_, H11⟩ , ⟨%d12, %f12, %_, H12⟩⟩
  have e5 := h3.trans (before_in m c t 3 rfl d3)
  ihave HS := (rest_iff m c).1 $$ [HΦ HW]
  · isplitl [HΦ]; · iexact HΦ
    iexists W; iexact HW
  icases HS with ⟨HS, Hg⟩
  ihave H := (bodyRun c (XA m c) (grid0.coords t) (winsAt t) f3 f0 f1 f2 f4 f5 f6 f7) $$ [H0 H1 H2 H3 H4 H5 H6 H7 H8 H9 H10 H11 H12 HS]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists f8; iexact H8
    isplitl [H9]; · iexists f9; iexact H9
    isplitl [H10]; · iexists f10; iexact H10
    isplitl [H11]; · iexists f11; iexact H11
    isplitl [H12]; · iexists f12; iexact H12
    iexact HS
  iapply (wp_wand_r)
  isplitl [H]; · iexact H
  iintro %u ⟨⟨H0, H1, H2, H3, H4, H5, H6, H7⟩, ⟨%g8, H8⟩, ⟨%g9, H9⟩, ⟨%g10, H10⟩, ⟨%g11, H11⟩, ⟨%g12, H12⟩, HS⟩
  ihave HS := (rest_iff m c).2 $$ [HS Hg]
  · isplitl [HS]; · iexact HS
    iexact Hg
  icases HS with ⟨HΦ, ⟨%W', HW⟩⟩
  isplitl [HΦ]; · iexact HΦ
  isplitl [HW]
  · iexists W'; isplitr; · ipureintro; exact fun _ _ => Or.inl trivial
    iexact HW
  isplitl [H0]
  · iexists f0; isplitr; · ipureintro; exact h0.trans (before_in m c t 0 rfl d0)
    iexact H0
  isplitl [H1]
  · iexists f1; isplitr; · ipureintro; exact h1.trans (before_in m c t 1 rfl d1)
    iexact H1
  isplitl [H2]
  · iexists f2; isplitr; · ipureintro; exact h2.trans (before_in m c t 2 rfl d2)
    iexact H2
  isplitl [H3]
  · iexists f3; isplitr; · ipureintro; exact h3.trans (before_in m c t 3 rfl d3)
    iexact H3
  isplitl [H4]
  · iexists f4; isplitr; · ipureintro; exact h4.trans (before_in m c t 4 rfl d4)
    iexact H4
  isplitl [H5]
  · iexists f5; isplitr; · ipureintro; exact h5.trans (before_in m c t 5 rfl d5)
    iexact H5
  isplitl [H6]
  · iexists f6; isplitr; · ipureintro; exact h6.trans (before_in m c t 6 rfl d6)
    iexact H6
  isplitl [H7]
  · iexists f7; isplitr; · ipureintro; exact h7.trans (before_in m c t 7 rfl d7)
    iexact H7
  isplitl [H8]; · iexists _; iexists g8; isplitr; · ipureintro; rfl
                  iexact H8
  isplitl [H9]; · iexists _; iexists g9; isplitr; · ipureintro; rfl
                  iexact H9
  isplitl [H10]
  · iexists _; isplitr
    swap; · iexact H10
    ipureintro
    rw [dvRows_congr c (XA m c) (grid0.coords t) (winsAt t) f3 (doBuf m c t) (e5.trans (read_doBuf m c t).symm)]
    exact View.read_writes_of_cover _ _ _ _ _ (dvOutL_cover c _)
  isplitl [H11]; · iexists _; iexists g11; isplitr; · ipureintro; rfl
                   iexact H11
  iexists _; iexists g12; isplitr; · ipureintro; rfl
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- What a run leaves: the windows' arrays as the proof data say, every other array as the region found it, the semaphores at zero. -/
abbrev Post (r : PUnit × MemSt nD τ sig (Elt F)) : Prop :=
  Pipeline.RDat.FramePost cfg0 (fun c => (dats m 0 c).toRForget fgt) (V m) r ∧ r.2.sem = fun _ => 0

set_option backward.isDefEq.respectTransparency.types false in
theorem run_main : θ_run defs (onTc (τ := τ) (main (F := F))) (s₀ m ρ) (Post m) :=
  Pipeline.θ_run_frame_dma_forget_shared (Q' := _) cfgs (dats m) (0 : Fin 1) launch₀0 osem0 defs₀ Variants.none fgt ownSemFacts0 H0 H0_sub m ρ main
    (hbody := fun c => body_obligation m c) (hq := fun _ _ _ => rfl)
    (howed := fun _ _ => rfl) (V := V m) (hmain := hmain m Variants.none) (hA := A_eq m)
    (hin := fun _ => .rfl) (hout := fun _ => .rfl) (hQ' := fun _ h => h)

theorem args_of (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1.arr_in c 5 rfl).trans ((A_eq m c 5).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (h.1.arr_in c 3 rfl).trans ((A_eq m c 3).trans (V_main_arg3 m c))⟩

/-- The result holds what the write-backs of the points' blocks leave. -/
theorem dv_of (r : PUnit × MemSt nD τ sig (Elt F)) (h : Post m r) (c : Dev nD) :
    r.2.mem ((c.tc : Thread nD τ).loc (Pipeline.arrRef spec0 10)) = (dats m 0 c).arrAt 10 cfg0.N :=
  (Pipeline.Dat.toRForget_arrAt_iff (dats m 0 c) (fgt := fgt) (w := 10) rfl cfg0.N _).mp ((h.1 c).1 10)

/-- The frame: the run ends, the arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m r h, h.2⟩) (run_main m ρ)

end Cert.Attn
-- ==== Proof.AttnStep.lean ====
/- The attention gradient's elementary reads and stores: the ring's rows as the saved weights, the two stores into one
   block of columns of the gradient of `v`, and the products that they hold, as sums over the extended reals. -/
module

public import proofs.«01_k».proof.Proof.AttnLaunch
public import Idealize.ShloMosaic.Lib.Pipeline.ValueKit
public import Idealize.ShloMosaic.Lib.Pointwise
public import Idealize.ShloMosaic.Lib.WritesUnit

@[expose] public section
set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Reads

variable (c : Dev nD) (XA : Buf (Elt F) (wM.view.loc (c : Thread nD τ))) (i : grid0.Coords)

/-- The block row of the saved weights that the grid point `i` reads. -/
def rowOf (i : grid0.Coords) : Fin 8 := ⟨4 * (i 0).val + (i 1).val, by
  have h0 : (i 0).val < 2 := (i 0).isLt
  have h1 : (i 1).val < 4 := (i 1).isLt
  omega⟩

theorem slot_cast {α : Type} (u : S1x4x128x256.Idx → α) (h : S1x4x128x256.ShapeCasts S4x128x256) (j : Fin 4) (r : Fin 128) (k : Fin 256) :
    shapeCast S4x128x256 u h (ix3 j r k) = u (ix4 0 j r k) := by
  pointwise []
theorem blk_cast {α : Type} (u : S1x1x1x4x128x256.Idx → α) (h : S1x1x1x4x128x256.ShapeCasts S4x128x256) (j : Fin 4) (r : Fin 128) (k : Fin 256) :
    shapeCast S4x128x256 u h (ix3 j r k) = u (ix6 0 0 0 j r k) := by
  pointwise []

/-- A block of the saved weights as the transfer carries it. -/
theorem payload_apply (p b : Fin 8) (j : Fin 4) (r : Fin 128) (k : Fin 256) :
    payload c XA i p b (ix3 j r k) = wM.view.read (Elt F) XA (ix6 (rowOf i) p b j r k) := by
  refine (blk_cast (View.readAt (Elt F) wM.view (Rect.unit (s := S8x8x8x4x128x256) (blkOff i p b) S1x1x1x4x128x256.size (blkOff_inb i p b)).toLoadRect XA)
    (by decide) j r k).trans ?_
  rw [View.readAt_apply]
  congr 1
  funext a
  apply Fin.ext
  fin_cases a <;> simp [blkOff, rowOf, Rect.unit]

/-- A slot of the ring, read by row. -/
theorem slot_read (f : ringM.view.ty.Contents (Elt F)) (s : Fin 3) (j : Fin 4) (r : Fin 128) (k : Fin 256) :
    (rslot s).view.read (Elt F) f (ix3 j r k) = ringM.view.read (Elt F) f (ix4 s j r k) := by
  refine (slot_cast (View.readAt (Elt F) ringM.view (Rect.unit (s := S3x4x128x256) (slotOff s) S1x4x128x256.size (slotOff_inb s)).toLoadRect f)
    (by decide) j r k).trans ?_
  rw [View.readAt_apply]
  congr 1
  funext a
  apply Fin.ext
  fin_cases a <;> simp [slotOff, Rect.unit]

/-- A row of the ring as a load reads it. -/
theorem row_read (f : ringM.view.ty.Contents (Elt F)) (s : Fin 3) (j : Fin 4) (off : Fin 4 → ℕ)
    (h : ∀ d, off d + S1x1x128x256.size d ≤ S3x4x128x256.size d) (e : off = ![s.val, j.val, 0, 0]) (r : Fin 128) (k : Fin 256) :
    View.readAt (Elt F) ringM.view (Rect.unit (s := S3x4x128x256) off S1x1x128x256.size h).toLoadRect f (ix4 0 0 r k)
      = ringM.view.read (Elt F) f (ix4 s j r k) := by
  subst e
  rw [View.readAt_apply]
  congr 1
  funext a
  apply Fin.ext
  fin_cases a <;> simp [Rect.unit]

/-- The same row once block `b` of pair `p` lies in the slot. -/
theorem ring_read (p b : Fin 8) (s : Fin 3) (j : Fin 4) (off : Fin 4 → ℕ) (h : ∀ d, off d + S1x1x128x256.size d ≤ S3x4x128x256.size d)
    (e : off = ![s.val, j.val, 0, 0]) (r : Fin 128) (k : Fin 256) :
    View.readAt (Elt F) ringM.view (Rect.unit (s := S3x4x128x256) off S1x1x128x256.size h).toLoadRect
      ((rslot s).view.writes (Elt F) (rslot s).view.junk [⟨Rect.whole S4x128x256, payload c XA i p b⟩]) (ix4 0 0 r k)
      = wM.view.read (Elt F) XA (ix6 (rowOf i) p b j r k) :=
  have h1 := congrFun (View.read_writes_whole (Val := Elt F) (rslot s).view (rslot s).view.junk (payload c XA i p b)) (ix3 j r k)
  (row_read _ s j off h e r k).trans ((slot_read _ s j r k).symm.trans (h1.trans (payload_apply c XA i p b j r k)))

/-- Row `a` of head `h` of a pair of heads, and column `b` of block `k`. -/
abbrev rowIx (h : Fin 2) (a : Fin 64) : Fin 128 := ⟨64 * h.val + a.val, by omega⟩
abbrev colIx (k : Fin 8) (b : Fin 256) : Fin 2048 := ⟨256 * k.val + b.val, by omega⟩

/-- Two stores, one for each head, into one block of columns. -/
theorem heads_write (g : DvBuf (F := F) c) (kb : Fin 8) (o0 o1 : Fin 2 → ℕ) (i0 : ∀ d, o0 d + S64x256.size d ≤ S128x2048.size d)
    (i1 : ∀ d, o1 d + S64x256.size d ≤ S128x2048.size d) (e0 : o0 = ![0, 256 * kb.val]) (e1 : o1 = ![64, 256 * kb.val])
    (w : Fin 2 → S64x256.Idx → Elt F .f32) (h : Fin 2) (a : Fin 64) (k : Fin 8) (b : Fin 256) :
    dvM.view.read (Elt F) (dvM.view.writes (Elt F) g [⟨Rect.unit (s := S128x2048) o1 S64x256.size i1, w 1⟩, ⟨Rect.unit (s := S128x2048) o0 S64x256.size i0, w 0⟩])
        (ix2 (rowIx h a) (colIx k b))
      = if k = kb then w h (ix2 a b) else dvM.view.read (Elt F) g (ix2 (rowIx h a) (colIx k b)) := by
  split_ifs with hk
  · subst hk
    obtain rfl | rfl : h = 0 ∨ h = 1 := by fin_cases h <;> simp
    · rw [View.read_writes_cons_unit_of_not_mem dvM.view g i1 (w 1) _ (ix2 (rowIx 0 a) (colIx k b)) e1 0 (Or.inl (by simp))]
      exact View.read_writes_cons_unit_of_mem dvM.view g i0 (w 0) [] (ix2 (rowIx 0 a) (colIx k b)) (ix2 a b) e0 (fun d => by fin_cases d <;> simp)
    · exact View.read_writes_cons_unit_of_mem dvM.view g i1 (w 1) _ (ix2 (rowIx 1 a) (colIx k b)) (ix2 a b) e1 (fun d => by fin_cases d <;> simp)
  · have hk' : k.val ≠ kb.val := fun h => hk (Fin.ext h)
    rw [View.read_writes_cons_unit_of_not_mem dvM.view g i1 (w 1) _ (ix2 (rowIx h a) (colIx k b)) e1 1 (by simp; omega),
      View.read_writes_cons_unit_of_not_mem dvM.view g i0 (w 0) _ (ix2 (rowIx h a) (colIx k b)) e0 1 (by simp; omega)]
    rfl

/-- A head's block of columns as the two stores read it first. -/
theorem dvRd_apply (g : DvBuf (F := F) c) (h : Fin 2) (k : Fin 8) (off : Fin 2 → ℕ) (hh : ∀ d, off d + S64x256.size d ≤ S128x2048.size d)
    (e : off = ![64 * h.val, 256 * k.val]) (a : Fin 64) (b : Fin 256) :
    dvRd c g off hh (ix2 a b) = dvM.view.read (Elt F) g (ix2 (rowIx h a) (colIx k b)) := by
  subst e
  unfold dvRd
  rw [View.readAt_apply]
  congr 1
  funext a
  apply Fin.ext
  fin_cases a <;> simp [Rect.unit]

/-- The rows of the cotangent of block `p`. -/
theorem doAt_apply (S : Wins) (f5 : Buf (Elt F) (S.a5.view.loc (c : Thread nD τ))) (p : Fin k0_t3_loop.trips) (r : Fin 256) (q : Fin 128) :
    doAt c S f5 p (ix2 r q) = S.a5.view.read (Elt F) f5 (ix2 ⟨256 * p.val + r.val, by have := p_lt p; omega⟩ q) := by
  unfold doAt
  rw [View.readAt_apply]
  congr 1
  funext a
  apply Fin.ext
  fin_cases a <;> simp [Rect.unit, k0_off7_eq]

end Reads

section Sums

/-- The sum over a block's 256 rows, in its two halves as they lie in the ring, of a head's cotangent times the weights. -/
def dotRows (A : S64x256.Idx → EReal) (B0 B1 : S1x1x128x256.Idx → EReal) (a : Fin 64) (b : Fin 256) : EReal :=
  (∑ r : Fin 128, A (ix2 a ⟨r.val, by omega⟩) * B0 (ix4 0 0 r b)) + ∑ r : Fin 128, A (ix2 a ⟨128 + r.val, by omega⟩) * B1 (ix4 0 0 r b)

variable (A : FVec Ideal S64x256 .bf16) (B0 B1 : Vec Ideal S1x1x128x256 .bf16) (G : Vec Ideal S64x256 .f32) (a : Fin 64) (b : Fin 256)

theorem pay30_apply : k0_pay30 A B0 B1 G (ix2 a b) = (G (ix2 a b) + dotRows A B0 B1 a b : EReal) := by
  pointwise [k0_pay30, k0_pay22, k0_pay23]; rfl
theorem pay32_apply : k0_pay32 A (k0_pay31 B0 B1) G (ix2 a b) = (G (ix2 a b) + dotRows A B0 B1 a b : EReal) := by
  pointwise [k0_pay32, k0_pay31, k0_pay24, k0_pay25]; rfl
theorem pay127_apply : k0_pay127 A B0 B1 G (ix2 a b) = (G (ix2 a b) + dotRows A B0 B1 a b : EReal) := by
  pointwise [k0_pay127, k0_pay119, k0_pay120]; rfl
theorem pay129_apply : k0_pay129 A (k0_pay128 B0 B1) G (ix2 a b) = (G (ix2 a b) + dotRows A B0 B1 a b : EReal) := by
  pointwise [k0_pay129, k0_pay128, k0_pay121, k0_pay122]; rfl

theorem pay99_apply (D : Vec Ideal S256x128 .f32) (r : Fin 256) : k0_pay99 D (ix2 a r) = D (ix2 r (rowIx 0 a)) := by
  pointwise [k0_pay99, k0_pay90]
  exact congrArg D (congrArg (ix2 r) (Fin.ext (by simp)))
theorem pay100_apply (D : Vec Ideal S256x128 .f32) (r : Fin 256) : k0_pay100 D (ix2 a r) = D (ix2 r (rowIx 1 a)) := by
  pointwise [k0_pay100, k0_pay90]
  rfl

/-- What block `p` of rows adds to column `b` of block `k`, for row `a` of head `h`: the cotangent's rows times the weights. -/
def term (D : S2048x128.Idx → EReal) (X : S8x8x8x4x128x256.Idx → EReal) (q p k : Fin 8) (h : Fin 2) (a : Fin 64) (b : Fin 256) : EReal :=
  (∑ r : Fin 128, D (ix2 ⟨256 * p.val + r.val, by omega⟩ (rowIx h a)) * X (ix6 q p k ⟨2 * h.val, by omega⟩ r b))
    + ∑ r : Fin 128, D (ix2 ⟨256 * p.val + (128 + r.val), by omega⟩ (rowIx h a)) * X (ix6 q p k ⟨2 * h.val + 1, by omega⟩ r b)

theorem dotRows_eq (A : S64x256.Idx → EReal) (B0 B1 : S1x1x128x256.Idx → EReal) (D : S2048x128.Idx → EReal) (X : S8x8x8x4x128x256.Idx → EReal)
    (q p k : Fin 8) (h : Fin 2) (a : Fin 64) (b : Fin 256)
    (hA : ∀ r : Fin 256, A (ix2 a r) = D (ix2 ⟨256 * p.val + r.val, by omega⟩ (rowIx h a)))
    (h0 : ∀ r, B0 (ix4 0 0 r b) = X (ix6 q p k ⟨2 * h.val, by omega⟩ r b)) (h1 : ∀ r, B1 (ix4 0 0 r b) = X (ix6 q p k ⟨2 * h.val + 1, by omega⟩ r b)) :
    dotRows A B0 B1 a b = term D X q p k h a b := by
  unfold dotRows term
  simp only [hA, h0, h1]

end Sums

section Trip

variable (c : Dev nD) (XA : Buf (Elt F) (wM.view.loc (c : Thread nD τ))) (i : grid0.Coords)

/-- A row of the ring in a trip. -/
abbrev tripRd (p : Fin k0_t3_loop.trips) (k : Fin (k0_t4_loop p).trips) (off : Fin 4 → ℕ) (h : ∀ d, off d + S1x1x128x256.size d ≤ S3x4x128x256.size d) :
    Vec F S1x1x128x256 .bf16 :=
  View.readAt (Elt F) ringM.view (Rect.unit (s := S3x4x128x256) off S1x1x128x256.size h).toLoadRect
    ((rslot (Ring.sl 3 k.val)).view.writes (Elt F) (rslot (Ring.sl 3 k.val)).view.junk [⟨Rect.whole S4x128x256, payload c XA i (Ring.bk 8 p.val) (Ring.bk 8 k.val)⟩])

/-- The two stores of a trip into the gradient of `v`. -/
theorem tripL (p : Fin k0_t3_loop.trips) (v94 v95 : FVec F S64x256 .bf16) (k : Fin (k0_t4_loop p).trips) (f : DvBuf (F := F) c) :
    (tripRun c XA i p v94 v95 k f).1
      = [⟨Rect.unit (k0_off31 p k) S64x256.size (k0_off31_inb p k),
          k0_pay32 v95 (k0_pay31 (tripRd c XA i p k (k0_off28 p k) (k0_off28_inb p k)) (tripRd c XA i p k (k0_off29 p k) (k0_off29_inb p k)))
            (dvRd c f (k0_off31 p k) (k0_off31_inb p k))⟩,
        ⟨Rect.unit (k0_off30 p k) S64x256.size (k0_off30_inb p k),
          k0_pay30 v94 (tripRd c XA i p k (k0_off26 p k) (k0_off26_inb p k)) (tripRd c XA i p k (k0_off27 p k) (k0_off27_inb p k))
            (dvRd c f (k0_off30 p k) (k0_off30_inb p k))⟩] := by
  unfold tripRun
  rfl

end Trip

end Cert.Attn
-- ==== Proof.AttnSum.lean ====
/- The gradient of `v` at a grid point, as sums over the blocks of rows at and below the diagonal. -/
module

public import proofs.«01_k».proof.Proof.AttnStep
public import Idealize.ShloMosaic.Lib.Pipeline.ValueKit
public import Idealize.ShloMosaic.Lib.Pointwise
public import Idealize.ShloMosaic.Lib.WritesUnit

@[expose] public section
set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Steps

variable (c : Dev nD) (XA : Buf (Elt Ideal) (wM.view.loc (c : Thread nD τ))) (i : grid0.Coords)
variable (S : Wins) (f5 : Buf (Elt Ideal) (S.a5.view.loc (c : Thread nD τ)))

/-- The gradient of `v` as numbers: row `a` of head `h`, column `b` of block `k`. -/
abbrev dvOf (g : DvBuf (F := Ideal) c) (h : Fin 2) (a : Fin 64) (k : Fin 8) (b : Fin 256) : EReal :=
  dvM.view.read (Elt Ideal) g (ix2 (rowIx h a) (colIx k b))
/-- The same contribution of a block of rows, of the buffers' contents. -/
abbrev termOf (p k : Fin 8) (h : Fin 2) (a : Fin 64) (b : Fin 256) : EReal :=
  term (S.a5.view.read (Elt Ideal) f5) (wM.view.read (Elt Ideal) XA) (rowOf i) p k h a b

/-- The head's cotangent, transposed. -/
def headDo (p : Fin k0_t3_loop.trips) (h : Fin 2) : FVec Ideal S64x256 .bf16 :=
  ![k0_pay99 (doAt c S f5 p), k0_pay100 (doAt c S f5 p)] h

theorem headDo_apply (p : Fin k0_t3_loop.trips) (h : Fin 2) (a : Fin 64) (r : Fin 256) :
    (headDo c S f5 p h (ix2 a r) : EReal)
      = S.a5.view.read (Elt Ideal) f5 (ix2 ⟨256 * (Ring.bk 8 p.val).val + r.val, by omega⟩ (rowIx h a)) := by
  have hp : (⟨256 * (Ring.bk 8 p.val).val + r.val, by omega⟩ : Fin 2048) = ⟨256 * p.val + r.val, by have := p_lt p; omega⟩ :=
    Fin.ext (by simp only [bk_val (p_lt p)])
  rw [hp]
  obtain rfl | rfl : h = 0 ∨ h = 1 := by fin_cases h <;> simp
  · exact (pay99_apply a (doAt c S f5 p) r).trans (doAt_apply c S f5 p r _)
  · exact (pay100_apply a (doAt c S f5 p) r).trans (doAt_apply c S f5 p r _)

/-- A block below the diagonal. -/
theorem trip_apply (p : Fin k0_t3_loop.trips) (k : Fin (k0_t4_loop p).trips) (f : DvBuf (F := Ideal) c) (h : Fin 2) (a : Fin 64) (kk : Fin 8) (b : Fin 256) :
    dvOf c (dvLow c XA i S f5 p f (k.val + 1)) h a kk b
      = if kk.val = k.val then dvOf c (dvLow c XA i S f5 p f k.val) h a kk b + termOf c XA i S f5 (Ring.bk 8 p.val) kk h a b
        else dvOf c (dvLow c XA i S f5 p f k.val) h a kk b := by
  have hk8 : k.val < 8 := by have := k_lt p k; have := p_lt p; omega
  dsimp only [dvLow, dvOf]
  rw [dvAcc_succ, tripL]
  refine (heads_write c _ (Ring.bk 8 k.val) (k0_off30 p k) (k0_off31 p k) (k0_off30_inb p k) (k0_off31_inb p k)
    (by rw [k0_off30_eq, bk_val hk8]) (by rw [k0_off31_eq, bk_val hk8])
    ![k0_pay30 (k0_pay99 (doAt c S f5 p)) (tripRd c XA i p k (k0_off26 p k) (k0_off26_inb p k)) (tripRd c XA i p k (k0_off27 p k) (k0_off27_inb p k)) (dvRd c (dvLow c XA i S f5 p f k.val) (k0_off30 p k) (k0_off30_inb p k)),
      k0_pay32 (k0_pay100 (doAt c S f5 p)) (k0_pay31 (tripRd c XA i p k (k0_off28 p k) (k0_off28_inb p k)) (tripRd c XA i p k (k0_off29 p k) (k0_off29_inb p k))) (dvRd c (dvLow c XA i S f5 p f k.val) (k0_off31 p k) (k0_off31_inb p k))]
    h a kk b).trans ?_
  have hkk : (kk = Ring.bk 8 k.val) = (kk.val = k.val) := by
    rw [Fin.ext_iff, bk_val hk8]
  simp only [hkk]
  split_ifs with e
  · obtain rfl : kk = Ring.bk 8 k.val := Fin.ext (by rw [bk_val hk8, e])
    have hsl : (Ring.sl 3 k.val).val = k.val % 3 := Ring.sl_val _ _
    obtain rfl | rfl : h = 0 ∨ h = 1 := by fin_cases h <;> simp
    · refine (pay30_apply _ _ _ _ a b).trans (congrArg₂ _ ?_ ?_)
      · exact dvRd_apply c _ 0 (Ring.bk 8 k.val) _ _ (by rw [k0_off30_eq, bk_val hk8]; rfl) a b
      · exact dotRows_eq _ _ _ _ _ _ _ _ _ a b (headDo_apply c S f5 p 0 a)
          (fun r => ring_read c XA i _ _ _ 0 _ _ (by rw [k0_off26_eq, hsl]; rfl) r b) (fun r => ring_read c XA i _ _ _ 1 _ _ (by rw [k0_off27_eq, hsl]; rfl) r b)
    · refine (pay32_apply _ _ _ _ a b).trans (congrArg₂ _ ?_ ?_)
      · exact dvRd_apply c _ 1 (Ring.bk 8 k.val) _ _ (by rw [k0_off31_eq, bk_val hk8]; rfl) a b
      · exact dotRows_eq _ _ _ _ _ _ _ _ _ a b (headDo_apply c S f5 p 1 a)
          (fun r => ring_read c XA i _ _ _ 2 _ _ (by rw [k0_off28_eq, hsl]; rfl) r b) (fun r => ring_read c XA i _ _ _ 3 _ _ (by rw [k0_off29_eq, hsl]; rfl) r b)
  · rfl

/-- The blocks below the diagonal, `n` of them. -/
theorem low_apply (p : Fin k0_t3_loop.trips) (f : DvBuf (F := Ideal) c) (h : Fin 2) (a : Fin 64) (kk : Fin 8) (b : Fin 256) (n : ℕ) (hn : n ≤ (k0_t4_loop p).trips) :
    dvOf c (dvLow c XA i S f5 p f n) h a kk b
      = if kk.val < n then dvOf c f h a kk b + termOf c XA i S f5 (Ring.bk 8 p.val) kk h a b else dvOf c f h a kk b := by
  induction n with
  | zero => rw [if_neg (Nat.not_lt_zero _)]; dsimp only [dvLow]; rw [dvAcc]
  | succ n ih =>
    rw [trip_apply c XA i S f5 p ⟨n, hn⟩ f h a kk b, ih (Nat.le_of_succ_le hn)]
    by_cases e : kk.val = n
    · rw [if_pos e, if_neg (by omega), if_pos (by omega)]
    · rw [if_neg e]
      by_cases e' : kk.val < n
      · rw [if_pos e', if_pos (by omega)]
      · rw [if_neg e', if_neg (by omega)]

/-- A whole block of rows: the blocks of columns up to the diagonal. -/
theorem pair_apply (p : Fin k0_t3_loop.trips) (f : DvBuf (F := Ideal) c) (h : Fin 2) (a : Fin 64) (kk : Fin 8) (b : Fin 256) :
    dvOf c (dvPair c XA i S f5 p f) h a kk b
      = if kk.val ≤ p.val then dvOf c f h a kk b + termOf c XA i S f5 (Ring.bk 8 p.val) kk h a b else dvOf c f h a kk b := by
  have hp := p_lt p
  have hlow := low_apply c XA i S f5 p f h a kk b _ (le_refl _)
  dsimp only [dvPair, dvOf]
  refine (heads_write c _ (Ring.bk 8 p.val) (k0_off10 p) (k0_off11 p) (k0_off10_inb p) (k0_off11_inb p)
    (by rw [k0_off10_eq, bk_val hp]) (by rw [k0_off11_eq, bk_val hp])
    ![k0_pay127 (k0_pay99 (doAt c S f5 p)) (ringRd c XA i p (k0_off51 p) (k0_off51_inb p)) (ringRd c XA i p (k0_off52 p) (k0_off52_inb p)) (dvRd c (dvLow c XA i S f5 p f (k0_t4_loop p).trips) (k0_off10 p) (k0_off10_inb p)),
      k0_pay129 (k0_pay100 (doAt c S f5 p)) (k0_pay128 (ringRd c XA i p (k0_off53 p) (k0_off53_inb p)) (ringRd c XA i p (k0_off54 p) (k0_off54_inb p))) (dvRd c (dvLow c XA i S f5 p f (k0_t4_loop p).trips) (k0_off11 p) (k0_off11_inb p))]
    h a kk b).trans ?_
  have hkk : (kk = Ring.bk 8 p.val) = (kk.val = p.val) := by
    rw [Fin.ext_iff, bk_val hp]
  simp only [hkk]
  have hc : (kk.val < (k0_t4_loop p).trips) = (kk.val < p.val) := by rw [trips4]
  rw [if_congr (iff_of_eq hc) rfl rfl] at hlow
  by_cases e : kk.val = p.val
  · rw [if_pos e, if_pos (le_of_eq e)]
    rw [if_neg (by omega)] at hlow
    obtain rfl : kk = Ring.bk 8 p.val := Fin.ext (by rw [bk_val hp, e])
    have hsl : (Ring.sl 3 p.val).val = p.val % 3 := Ring.sl_val _ _
    obtain rfl | rfl : h = 0 ∨ h = 1 := by fin_cases h <;> simp
    · refine (pay127_apply _ _ _ _ a b).trans (congrArg₂ _ ?_ ?_)
      · exact (dvRd_apply c _ 0 (Ring.bk 8 p.val) _ _ (by rw [k0_off10_eq, bk_val hp]; rfl) a b).trans hlow
      · exact dotRows_eq _ _ _ _ _ _ _ _ _ a b (headDo_apply c S f5 p 0 a)
          (fun r => ring_read c XA i _ _ _ 0 _ _ (by rw [k0_off51_eq, hsl]; rfl) r b) (fun r => ring_read c XA i _ _ _ 1 _ _ (by rw [k0_off52_eq, hsl]; rfl) r b)
    · refine (pay129_apply _ _ _ _ a b).trans (congrArg₂ _ ?_ ?_)
      · exact (dvRd_apply c _ 1 (Ring.bk 8 p.val) _ _ (by rw [k0_off11_eq, bk_val hp]; rfl) a b).trans hlow
      · exact dotRows_eq _ _ _ _ _ _ _ _ _ a b (headDo_apply c S f5 p 1 a)
          (fun r => ring_read c XA i _ _ _ 2 _ _ (by rw [k0_off53_eq, hsl]; rfl) r b) (fun r => ring_read c XA i _ _ _ 3 _ _ (by rw [k0_off54_eq, hsl]; rfl) r b)
  · rw [if_neg e]
    refine Eq.trans hlow ?_
    by_cases e' : kk.val < p.val
    · rw [if_pos e', if_pos (by omega)]
    · rw [if_neg e', if_neg (by omega)]

/-- The zeros that a point starts from. -/
theorem zero_apply (h : Fin 2) (a : Fin 64) (kk : Fin 8) (b : Fin 256) : dvOf c (dvRows c XA i S f5 0) h a kk b = 0 := by
  unfold dvOf
  rw [dvRows_zero]
  refine (View.read_writes_cons_unit_of_mem (Val := Elt Ideal) dvM.view dvM.view.junk inb_S128x2048_S128x2048_0_0 (k0_pay165 (F := Ideal)) []
    (ix2 (rowIx h a) (colIx kk b)) (ix2 (rowIx h a) (colIx kk b)) rfl (fun d => by fin_cases d <;> simp)).trans ?_
  pointwise [k0_pay165]

/-- The gradient of `v` after `n` blocks of rows. -/
theorem rows_apply (h : Fin 2) (a : Fin 64) (kk : Fin 8) (b : Fin 256) (n : ℕ) (hn : n ≤ k0_t3_loop.trips) :
    dvOf c (dvRows c XA i S f5 n) h a kk b
      = ∑ p ∈ Finset.range n, if kk.val ≤ p then termOf c XA i S f5 (Ring.bk 8 p) kk h a b else 0 := by
  induction n with
  | zero => rw [zero_apply, Finset.sum_range_zero]
  | succ n ih =>
    rw [Finset.sum_range_succ, ← ih (Nat.le_of_succ_le hn), dvRows_succ c XA i S f5 ⟨n, hn⟩, pair_apply]
    by_cases e : kk.val ≤ n
    · rw [if_pos e, if_pos e]
    · rw [if_neg e, if_neg e, add_zero]

end Steps
end Cert.Attn
-- ==== Proof.AttnRef.lean ====
module

public import proofs.«01_k».proof.Proof.Gen.RAttnIdeal.Run
public import Idealize.ShloMosaic.Lib.Pointwise
public import Idealize.ShloMosaic.Lib.WordCmp

@[expose] public section
set_option maxRecDepth 16384

noncomputable section

namespace Cert.Attn

open Cert.RAttnIdeal Cert.RAttnIdeal.Gen
open Idealize.ShloMosaic Idealize.ShloMosaic.TcCoe Idealize.SL.Sem Idealize.ShloMosaic.StableHlo

variable {F : FTy → Type} [FloatOps F]

/-- The projection's columns from `512 * j`, by head. -/
def heads (x : FVec F S4096x512 .f32) : FVec F S2x8x2048x64 .f32 :=
  transpose S2x8x2048x64 [0, 2, 1, 3] (shapeCast S2x2048x8x64 x shapeCasts_S4096x512_S2x2048x8x64) transposes_S2x2048x8x64_S2x8x2048x64_0_2_1_3

/-- A head's norm with its scale. -/
def normed (x : FVec F S2x8x2048x64 .f32) (g : FVec F S64 .f32) : FVec F S2x8x2048x64 .f32 :=
  mulf (mulf x (broadcastInDim S2x8x2048x64 ![0, 1, 2, 3] bcast_S2x8x2048x1_S2x8x2048x64_0_1_2_3
      (Host.rsqrt (addf (Host.divf (broadcastInDim S2x8x2048x1 ![0, 1, 2] bcast_S2x8x2048_S2x8x2048x1_0_1_2
          (Host.reduceAdd (mulf x x) (constant S_ .f32 0x00000000#32) reducesTo_S2x8x2048x64_S2x8x2048_d3 h_S_))
          (broadcastInDim S2x8x2048x1 ![] bcast_S_S2x8x2048x1 (constant S_ .f32 0x42800000#32)))
        (broadcastInDim S2x8x2048x1 ![] bcast_S_S2x8x2048x1 (constant S_ .f32 0x358637BD#32))))))
    (broadcastInDim S2x8x2048x64 ![0, 1, 2, 3] bcast_S1x1x1x64_S2x8x2048x64_0_1_2_3 (broadcastInDim S1x1x1x64 ![3] bcast_S64_S1x1x1x64_3 g))

/-- The scaled logits. -/
def logits (q k : FVec F S2x8x2048x64 .f32) : FVec F S2x8x2048x2048 .f32 :=
  mulf (Host.dotGeneral dot_S2x8x2048x64_S2x8x2048x64_S2x8x2048x2048_3_3_2_2_01_01 none q k)
    (broadcastInDim S2x8x2048x2048 ![] bcast_S_S2x8x2048x2048 (constant S_ .f32 0x3E000000#32))

/-- Which keys come before their query. -/
def before : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- Zero everywhere. -/
def none0 : FVec F S2x8x2048x2048 .f32 := broadcastInDim S2x8x2048x2048 ![] bcast_S_S2x8x2048x2048 (constant S_ .f32 0x00000000#32)

/-- `x` at the keys before the query, zero at the others. -/
def masked (x : FVec F S2x8x2048x2048 .f32) : FVec F S2x8x2048x2048 .f32 :=
  select (broadcastInDim S2x8x2048x2048 ![2, 3] bcast_S2048x2048_S2x8x2048x2048_2_3 before) x none0

/-- The softplus of every logit. -/
def softplus (z : FVec F S2x8x2048x2048 .f32) : FVec F S2x8x2048x2048 .f32 :=
  select (cmpf .une (subf z none0) (subf z none0)) (addf z none0)
    (addf (maximumf z none0) (Host.log1p (Host.exp (Host.negf (Host.absf (subf z none0))))))

/-- Each row's sums from a key to the row's end. -/
def fromKey (x : FVec F S2x8x2048x2048 .f32) : FVec F S2x8x2048x2048 .f32 :=
  Host.reduceWindowAdd ![1, 1, 1, 2048] ![1, 1, 1, 1] ![0, 0, 0, 0] ![0, 0, 0, 2047] x (broadcastInDim S_ ![] bcast_S_S_ (constant S_ .f32 0x00000000#32))
    reduceWindows_S2x8x2048x2048_S2x8x2048x2048_w1s1p0_0_w1s1p0_0_w1s1p0_0_w2048s1p0_2047 h_S_

/-- What a key is left with by the keys after it, and its own share of that, in the exponent. -/
def stick (z : FVec F S2x8x2048x2048 .f32) : FVec F S2x8x2048x2048 .f32 :=
  Host.exp (addf (Host.negf (softplus (Host.negf z))) (subf (fromKey (masked (Host.negf (softplus z)))) (masked (Host.negf (softplus z)))))

/-- The attention's weights before the mask. -/
def bare (p : FVec F S4096x2048 .f32) (gq gk : FVec F S64 .f32) : FVec F S2x8x2048x2048 .f32 :=
  stick (logits (normed (heads (extractStridedSlice S4096x512 ![0, 0] p slices_S4096x2048_S4096x512_0_0)) gq)
    (normed (heads (extractStridedSlice S4096x512 ![0, 512] p slices_S4096x2048_S4096x512_0_512)) gk))

/-- The gradient of the values, of the weights and the output's gradient. -/
def dvRef (A : FVec F S2x8x2048x2048 .f32) (d : FVec F S4096x512 .f32) : FVec F S4096x512 .bf16 :=
  truncf .bf16 (shapeCast _ (transpose S2x2048x8x64 [0, 2, 1, 3] (transpose S2x8x2048x64 [0, 1, 3, 2]
    (Host.dotGeneral dot_S2x8x2048x64_S2x8x2048x2048_S2x8x64x2048_2_2_3_3_01_01 none (heads d) A)
      transposes_S2x8x64x2048_S2x8x2048x64_0_1_3_2) transposes_S2x8x2048x64_S2x2048x8x64_0_2_1_3) shapeCasts_S2x2048x8x64_S4096x512) bitsLt_bf16_f32

theorem res_eq (m : (ℓ : Loc nD τ sig) → Buf (Elt F) ℓ) (c : Dev nD) :
    Cert.RAttnIdeal.Value.res_main_v63 m c = dvRef (masked (bare (m ((c : Thread nD τ).loc main_arg0)) (m ((c : Thread nD τ).loc main_arg1))
      (m ((c : Thread nD τ).loc main_arg2)))) (m ((c : Thread nD τ).loc main_arg3)) := rfl

/-! ## At an index, over the extended reals -/

/-- The program's result of its arguments. -/
def grad (p : FVec Ideal S4096x2048 .f32) (gq gk : FVec Ideal S64 .f32) (d : FVec Ideal S4096x512 .f32) : FVec Ideal S4096x512 .bf16 :=
  dvRef (masked (bare p gq gk)) d

/-- A row of a batch. -/
def rowAt (b : Fin 2) (l : Fin 2048) : Fin 4096 := ⟨b.val * 2048 + l.val, by omega⟩
/-- A column of a head. -/
def colAt (n : Fin 8) (a : Fin 64) : Fin 512 := ⟨n.val * 64 + a.val, by omega⟩

theorem dvRef_apply (A : FVec Ideal S2x8x2048x2048 .f32) (d : FVec Ideal S4096x512 .f32) (b : Fin 2) (n : Fin 8) (l : Fin 2048) (a : Fin 64) :
    dvRef A d (ix2 (rowAt b l) (colAt n a)) = ∑ r : Fin 2048, d (ix2 (rowAt b r) (colAt n a)) * A (ix4 b n r l) := by
  pointwise [dvRef, heads, rowAt, colAt]

/-- A weight is zero where the key is not before the query. -/
theorem masked_apply (x : FVec Ideal S2x8x2048x2048 .f32) (b : Fin 2) (n : Fin 8) (r l : Fin 2048) (h : r ≤ l) :
    masked x (ix4 b n r l) = 0 := by
  pointwise [masked, before, none0]
  rw [WordCmp.cmpi_slt_ofNat (by norm_num; omega) (by norm_num; omega), decide_eq_false (by omega)]
  rfl

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = grad (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_eq m c), (h c).2⟩) (Cert.RAttnIdeal.Value.run m ρ)

end Cert.Attn
-- ==== Proof.AttnHost.lean ====
module

public import proofs.«01_k».proof.Proof.AttnLaunch
public import proofs.«01_k».proof.Proof.AttnRef
public import Idealize.ShloMosaic.Lib.Pipeline.ValueKit
public import Idealize.ShloMosaic.Lib.Pointwise
public import Idealize.ShloMosaic.Lib.WritesUnit

@[expose] public section
set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-- What the host code hands the kernel as its weights: the masked square, cut into blocks. -/
def blocks (A : FVec F S2x8x2048x2048 .f32) : FVec F S8x8x8x4x128x256 .bf16 :=
  truncf .bf16 (shapeCast _ (transpose S2x4x8x8x2x2x128x256 [0, 1, 3, 6, 2, 4, 5, 7] (shapeCast _ A shapeCasts_S2x8x2048x2048_S2x4x2x8x2x128x8x256)
    transposes_S2x4x2x8x2x128x8x256_S2x4x8x8x2x2x128x256_0_1_3_6_2_4_5_7) shapeCasts_S2x4x8x8x2x2x128x256_S8x8x8x4x128x256) bitsLt_bf16_f32

/-- The kernel finds the blocks of the masked weights in that buffer. -/
theorem XA_eq (m : (ℓ : Loc nD τ sig) → Buf (Elt F) ℓ) (c : Dev nD) :
    V m c main_v76 = blocks (masked (bare (m ((c : Thread nD τ).loc main_arg0)) (m ((c : Thread nD τ).loc main_arg1))
      (m ((c : Thread nD τ).loc main_arg2)))) := by
  simp only [V, hostOps0, hostOps0_1, hostOps0_2, hostOps0_3, hostOps0_4, hostOps0_5, hostOps0_6, hostOps0_7, hostOps0_8, hostOps0_9,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.Attn
-- ==== Proof.AttnValue.lean ====
module

public import proofs.«01_k».proof.Proof.AttnSum
public import proofs.«01_k».proof.Proof.AttnHost
public import Idealize.ShloMosaic.Lib.Pipeline.ValueKit
public import Idealize.ShloMosaic.Lib.Pointwise
public import Idealize.ShloMosaic.Lib.WritesUnit

@[expose] public section
set_option maxRecDepth 16384

noncomputable section

namespace Cert.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-! ## The block that a point writes -/

theorem out_read (c : Dev nD) (g : DvBuf (F := Ideal) c) (t : Fin cfg0.N) (f : Buf (Elt Ideal) ((winsAt t).a13.view.loc (c : Thread nD τ))) (n : ℕ) (hn : n ≤ k0_t6_loop.trips)
    (l : Fin 2048) (q : Fin 128) (hl : l.val < 128 * n) :
    (winsAt t).a13.view.read (Elt Ideal) ((winsAt t).a13.view.writes (Elt Ideal) f (dvOutL c g n)) (ix2 l q) = dvM.view.read (Elt Ideal) g (ix2 q l) := by
  induction n with
  | zero => omega
  | succ n ih =>
    rw [dvOutL_succ c g ⟨n, hn⟩]
    by_cases e : l.val < 128 * n
    · refine (View.read_writes_cons_unit_of_not_mem (Val := Elt Ideal) (winsAt t).a13.view f _ _ _ _ (k0_off56_eq ⟨n, hn⟩) 0 (Or.inl e)).trans (ih (by omega) e)
    · refine (View.read_writes_cons_unit_of_mem (Val := Elt Ideal) (winsAt t).a13.view f _ _ _ _ (ix2 ⟨l.val - 128 * n, by omega⟩ q) (k0_off56_eq ⟨n, hn⟩)
        (fun d => by fin_cases d <;> simp <;> omega)).trans ?_
      pointwise [k0_pay3]
      refine (View.readAt_apply (Val := Elt Ideal) ..).trans ?_
      congr 1; funext d; apply Fin.ext; fin_cases d <;> simp [Rect.unit, k0_off57_eq] <;> omega

/-- Blocks of the weights, by batch, pair of heads and head, and half of the rows. -/
theorem blocks_apply (A : FVec Ideal S2x8x2048x2048 .f32) (b : Fin 2) (n : Fin 4) (p k : Fin 8) (h s : Fin 2) (r : Fin 128) (j : Fin 256) :
    blocks A (ix6 ⟨4 * b.val + n.val, by omega⟩ p k ⟨2 * h.val + s.val, by omega⟩ r j)
      = A (ix4 b ⟨n.val * 2 + h.val, by omega⟩ ⟨p.val * 256 + s.val * 128 + r.val, by omega⟩ ⟨k.val * 256 + j.val, by omega⟩) := by
  pointwise [blocks]

/-! ## The sum over the rows, by blocks and halves -/

/-- A sum over all rows of a head, when the rows before block `k` give nothing. -/
theorem sum_rows (f : Fin 2048 → EReal) (k : Fin 8) (hf : ∀ r : Fin 2048, r.val < 256 * k.val → f r = 0) :
    ∑ r, f r = ∑ p : Fin 8, if k.val ≤ p.val then
      (∑ r : Fin 128, f ⟨256 * p.val + r.val, by omega⟩) + ∑ r : Fin 128, f ⟨256 * p.val + (128 + r.val), by omega⟩ else 0 := by
  have e : ∑ r, f r = ∑ p : Fin 8, ∑ r : Fin (128 + 128), f ⟨256 * p.val + r.val, by omega⟩ := by
    rw [← (finProdFinEquiv (m := 8) (n := 256)).sum_comp f, Fintype.sum_prod_type]
    refine Finset.sum_congr rfl fun p _ => Finset.sum_congr rfl fun r _ => congrArg f (Fin.ext ?_)
    show r.val + 256 * p.val = 256 * p.val + r.val
    omega
  rw [e]
  refine Finset.sum_congr rfl fun p _ => ?_
  split
  · exact Fin.sum_univ_add _
  · exact Finset.sum_eq_zero fun r _ => hf _ (by show 256 * p.val + r.val < _; omega)

/-! ## The array -/

variable (m : (ℓ : Loc nD τ sig) → Buf (Elt Ideal) ℓ)

/-- The reference's function of the kernel's arguments. -/
def want (c : Dev nD) : FVec Ideal S4096x512 .bf16 :=
  grad (m ((c : Thread nD τ).loc main_arg0)) (m ((c : Thread nD τ).loc main_arg1)) (m ((c : Thread nD τ).loc main_arg2)) (m ((c : Thread nD τ).loc main_arg3))

/-- The weights of the kernel's arguments. -/
def wts (c : Dev nD) : FVec Ideal S2x8x2048x2048 .f32 :=
  masked (bare (m ((c : Thread nD τ).loc main_arg0)) (m ((c : Thread nD τ).loc main_arg1)) (m ((c : Thread nD τ).loc main_arg2)))

theorem idx : ∀ t : Fin cfg0.N, win0_3.index t = ![t.val / 4, t.val % 4] ∧ win0_10.index t = ![t.val / 4, t.val % 4] := by decide +kernel
theorem coords_of : ∀ t : Fin cfg0.N, (grid0.coords t 0).val = t.val / 4 ∧ (grid0.coords t 1).val = t.val % 4 := by decide +kernel

/-- A point's batch, and its pair of heads. -/
def bOf (t : Fin cfg0.N) : Fin 2 := ⟨t.val / 4, by have : t.val < 8 := t.isLt; omega⟩
def nOf (t : Fin cfg0.N) : Fin 4 := ⟨t.val % 4, by omega⟩
/-- One of the two heads of a point. -/
def headOf (t : Fin cfg0.N) (h : Fin 2) : Fin 8 := ⟨(nOf t).val * 2 + h.val, by have := (nOf t).isLt; omega⟩

theorem do_apply (c : Dev nD) (t : Fin cfg0.N) (l : Fin 2048) (h : Fin 2) (a : Fin 64) :
    iblk m c 3 t (ix2 l (rowIx h a)) = (m ((c : Thread nD τ).loc main_arg3) : FVec Ideal S4096x512 .f32) (ix2 (rowAt (bOf t) l) (colAt (headOf t h) a)) := by
  blk_point [iblk, V_main_arg3, idx t, rowIx, rowAt, colAt, bOf, headOf, nOf]

theorem read_weights (c : Dev nD) (X : Buf (Elt Ideal) (wM.view.loc (c : Thread nD τ))) : wM.view.read (Elt Ideal) X = X := View.read_whole ..

theorem XA_blocks (c : Dev nD) : XA m c = blocks (wts m c) := XA_eq m c

theorem rowOf_coords (t : Fin cfg0.N) : rowOf (grid0.coords t) = ⟨4 * (bOf t).val + (nOf t).val, by have := (bOf t).isLt; have := (nOf t).isLt; omega⟩ := by
  apply Fin.ext
  simp only [rowOf, coords_of, bOf, nOf]

theorem wts_apply (c : Dev nD) (t : Fin cfg0.N) (p k : Fin 8) (h s : Fin 2) (r : Fin 128) (j : Fin 256) :
    wM.view.read (Elt Ideal) (XA m c) (ix6 (rowOf (grid0.coords t)) p k ⟨2 * h.val + s.val, by omega⟩ r j)
      = wts m c (ix4 (bOf t) (headOf t h) ⟨p.val * 256 + s.val * 128 + r.val, by omega⟩ ⟨k.val * 256 + j.val, by omega⟩) := by
  rw [read_weights, XA_blocks, rowOf_coords]
  generalize wts m c = A
  exact blocks_apply A (bOf t) (nOf t) p k h s r j

/-- One summand of the reference's sum over the rows of a head. -/
def rowTerm (d : FVec Ideal S4096x512 .f32) (A : FVec Ideal S2x8x2048x2048 .f32) (b : Fin 2) (n : Fin 8) (a : Fin 64) (l r : Fin 2048) : EReal :=
  d (ix2 (rowAt b r) (colAt n a)) * A (ix4 b n r l)

/-- What a block of rows adds, by the reference's summands. -/
theorem term_eq (c : Dev nD) (t : Fin cfg0.N) (p k : Fin 8) (h : Fin 2) (a : Fin 64) (j : Fin 256) :
    term (iblk m c 3 t) (wM.view.read (Elt Ideal) (XA m c)) (rowOf (grid0.coords t)) p k h a j
      = (∑ r : Fin 128, rowTerm (m ((c : Thread nD τ).loc main_arg3)) (wts m c) (bOf t) (headOf t h) a (colIx k j) ⟨256 * p.val + r.val, by omega⟩)
        + ∑ r : Fin 128, rowTerm (m ((c : Thread nD τ).loc main_arg3)) (wts m c) (bOf t) (headOf t h) a (colIx k j) ⟨256 * p.val + (128 + r.val), by omega⟩ := by
  unfold term rowTerm
  refine congrArg₂ (· + ·) (Finset.sum_congr rfl fun r _ => ?_) (Finset.sum_congr rfl fun r _ => ?_)
  · refine congrArg₂ (· * ·) (do_apply m c t ⟨256 * p.val + r.val, by omega⟩ h a) ((wts_apply m c t p k h 0 r j).trans ?_)
    congr 2 <;> (apply Fin.ext; simp [colIx]; try omega)
  · refine congrArg₂ (· * ·) (do_apply m c t ⟨256 * p.val + (128 + r.val), by omega⟩ h a) ((wts_apply m c t p k h 1 r j).trans ?_)
    congr 2 <;> (apply Fin.ext; simp [colIx]; try omega)

/-- The block that a point writes is the reference's gradient at its batch and heads. -/
theorem dvBlk_apply (c : Dev nD) (t : Fin cfg0.N) (k : Fin 8) (j : Fin 256) (h : Fin 2) (a : Fin 64) :
    dvBlk m c t (ix2 (colIx k j) (rowIx h a)) = want m c (ix2 (rowAt (bOf t) (colIx k j)) (colAt (headOf t h) a)) := by
  refine (out_read c (dvEnd m c t) t _ k0_t6_loop.trips (le_refl _) (colIx k j) (rowIx h a) (by rw [trips6]; exact (colIx k j).isLt)).trans ?_
  refine (rows_apply c (XA m c) (grid0.coords t) (winsAt t) (doBuf m c t) h a k j k0_t3_loop.trips (le_refl _)).trans ?_
  refine Eq.trans ?_ (dvRef_apply (wts m c) (m ((c : Thread nD τ).loc main_arg3)) (bOf t) (headOf t h) (colIx k j) a).symm
  refine Eq.trans ?_ (sum_rows (rowTerm (m ((c : Thread nD τ).loc main_arg3)) (wts m c) (bOf t) (headOf t h) a (colIx k j)) k fun r hr => ?_).symm
  · rw [show k0_t3_loop.trips = 8 from trips3, Finset.sum_range]
    refine Finset.sum_congr rfl fun p _ => ?_
    split
    · unfold termOf
      rw [read_doBuf, show Ring.bk 8 p.val = p from Fin.ext (bk_val p.isLt)]
      exact term_eq m c t p k h a j
    · rfl
  · unfold rowTerm wts
    rw [masked_apply _ _ _ _ _ (by show r.val ≤ 256 * k.val + j.val; omega), mul_zero]

/-- The kernel's result is the reference's. -/
theorem final (c : Dev nD) : (dats m 0 c).arrAt 10 (cfgs 0).N = want m c := by
  refine (dats m 0 c).arrAt_eq_of_covers 10 _ (by decide +kernel) fun t _ y => ?_
  have h0 : (y 0).val < 2048 := (y 0).isLt
  have h1 : (y 1).val < 128 := (y 1).isLt
  have key := dvBlk_apply m c t ⟨(y 0).val / 256, by omega⟩ ⟨(y 0).val % 256, by omega⟩ ⟨(y 1).val / 64, by omega⟩ ⟨(y 1).val % 64, by omega⟩
  have ey : (ix2 (colIx ⟨(y 0).val / 256, by omega⟩ ⟨(y 0).val % 256, by omega⟩) (rowIx ⟨(y 1).val / 64, by omega⟩ ⟨(y 1).val % 64, by omega⟩) : S2048x128.Idx) = y := by
    funext d; apply Fin.ext; fin_cases d <;> simp [colIx, rowIx] <;> omega
  rw [ey] at key
  have ei : (ix2 (rowAt (bOf t) (colIx ⟨(y 0).val / 256, by omega⟩ ⟨(y 0).val % 256, by omega⟩)) (colAt (headOf t ⟨(y 1).val / 64, by omega⟩) ⟨(y 1).val % 64, by omega⟩) : S4096x512.Idx)
      = ((cfg0.win 10).blk t).view.emb y := by
    have e0 : ((((cfg0.win 10).blk t).view.emb y) 0).val = t.val / 4 * 2048 + (y 0).val := by blk_simp [idx t]
    have e1 : ((((cfg0.win 10).blk t).view.emb y) 1).val = t.val % 4 * 128 + (y 1).val := by blk_simp [idx t]
    funext d; apply Fin.ext
    obtain rfl | rfl : d = 0 ∨ d = 1 := by fin_cases d <;> simp
    · refine Eq.trans ?_ e0.symm
      show t.val / 4 * 2048 + (256 * ((y 0).val / 256) + (y 0).val % 256) = _
      omega
    · refine Eq.trans ?_ e1.symm
      show (t.val % 4 * 2 + (y 1).val / 64) * 64 + (y 1).val % 64 = _
      omega
  rw [ei] at key
  exact key

end Cert.Attn
-- ==== Proof.Attn.lean ====
/- The attention gradient's frames and its claim. -/
module

public import proofs.«01_k».proof.Defs
public import proofs.«01_k».proof.Proof.Gen.KAttn
public import Idealize.ShloMosaic.Lib.Claim
public import proofs.«01_k».proof.Proof.AttnValue

@[expose] public section

set_option maxRecDepth 16384

noncomputable section

namespace Cert.Attn

open Idealize.ShloMosaic Idealize.ShloMosaic.Tactic Idealize.SL.Sem

/-- The frame of the ideal program's text over words. -/
theorem frame_words (m : (ℓ : Loc Cert.KAttnIdeal.nD Cert.KAttnIdeal.τ Cert.KAttnIdeal.sig) → Buf (Elt Bits) ℓ)
    (ρ : Dev Cert.KAttnIdeal.nD → PrngReg) (_ : True) : type_of% (frame (F := Bits) m ρ) := frame (F := Bits) m ρ

/-- The kernel's program is the ideal one's text, so that this is the claim of its frame. -/
theorem frame_same : (type_of% frame_words) = Cert.quiescent_KAttn := by sl_kernel_rfl

/-- The kernel's frame. -/
theorem frame_kernel : Cert.quiescent_KAttn := Eq.mp frame_same frame_words

/-- The reference's frame. -/
theorem frame_reference : Cert.quiescent_RAttnIdeal := fun m ρ _ =>
  (θ_run Cert.RAttnIdeal.defs _ _).mono (fun r h => ⟨fun c => (h c).2, sem_eq_zero_of_no_sems (by decide) r.2⟩)
    (Cert.RAttnIdeal.Value.run (F := Ideal) m ρ)

/-- Kernel and reference compute the same gradient of the values. -/
theorem algebraic : Cert.algebraic_KAttnIdeal_RAttnIdeal := by
  intro m g m' g' _ hagree
  refine ⟨fun c => want m c, ?_, ?_⟩
  · exact (θ_run Cert.KAttnIdeal.defs _ _).mono (fun r h c => ⟨(dv_of m r h c).trans (final m c), args_of m r h c⟩) (run_main m g)
  · refine (θ_run Cert.RAttnIdeal.defs _ _).mono (fun r h c => ?_) (run_ref m' g')
    obtain ⟨h1, hargs⟩ := h c
    obtain ⟨e0, e1, e2, e3⟩ := hagree c
    refine ⟨h1.trans ?_, hargs⟩
    rw [e0, e1, e2, e3]
    rfl

end Cert.Attn

end
-- ==== Proof.Relu.lean ====
/- The gradient through the squared relu of the MLP (`mlp_out_dx`): what the kernel's result array holds is
   the reference's gradient. -/
module

public import proofs.«01_k».proof.Proof.Gen.KReluIdeal.Frame
public import proofs.«01_k».proof.Proof.Gen.RReluIdeal.Run
public import Idealize.ShloMosaic.Lib.Pipeline.ValueKit
public import Idealize.ShloMosaic.Lib.Pointwise

@[expose] public section

set_option maxRecDepth 16384

noncomputable section

namespace Cert.Relu

open Idealize.ShloMosaic Idealize.ShloMosaic.TcCoe Idealize.SL.Sem Idealize.ShloMosaic.StableHlo

section Ref

open Cert.RReluIdeal Cert.RReluIdeal.Gen

/-- The reference's result as one term of its arguments. -/
def ref (ct w : FVec Ideal S4096x1024 .bf16) (p : FVec Ideal S4096x4096 .bf16) : FVec Ideal S4096x4096 .bf16 :=
  truncf .bf16 (select (cmpf .ogt (extf .f32 p bitsLt_bf16_f32) (broadcastInDim S4096x4096 ![] bcast_S_S4096x4096 (constant S_ .f32 0x00000000#32)))
    (mulf (Host.dotGeneral dot_S4096x1024_S4096x1024_S4096x4096_1_1_0_0_n_n none (extf .f32 ct bitsLt_bf16_f32) (extf .f32 w bitsLt_bf16_f32))
      (mulf (broadcastInDim S4096x4096 ![] bcast_S_S4096x4096 (constant S_ .f32 0x40000000#32)) (maximumf (extf .f32 p bitsLt_bf16_f32) (broadcastInDim S4096x4096 ![] bcast_S_S4096x4096 (constant S_ .f32 0x00000000#32)))))
    (broadcastInDim S4096x4096 ![] bcast_S_S4096x4096 (constant S_ .f32 0x00000000#32))) bitsLt_bf16_f32

/-- Where the slope is 0, so is the product by it: the mask adds nothing to the multiplication. -/
theorem mask (s p d : EReal) : (if 0 < p then s * (d * max p 0) else 0) = s * (d * max p 0) := by
  split
  · rfl
  · next h => rw [max_eq_right (not_lt.1 h), mul_zero, mul_zero]

/-- The reference read at one element. -/
theorem ref_at (ct w : FVec Ideal S4096x1024 .bf16) (p : FVec Ideal S4096x4096 .bf16) (j : S4096x4096.Idx) :
    ref ct w p j = (∑ k : Fin 1024, ct (ix2 (j 0) k) * w (ix2 (j 1) k)) * (Ideal.ofBits .f32 0x40000000#32 * max (p j) 0) := by
  pointwise [ref]
  exact mask _ _ _

end Ref

open Cert.KReluIdeal Cert.KReluIdeal.Gen

theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ)

/-- One block of the kernel's result is the reference's gradient there. -/
theorem point (c : Dev nD) (t : Fin cfg0.N) (y) :
    k0_pay1 (iblk m c 0 t) (iblk m c 1 t) (iblk m c 2 t) y
      = ref (m ((c : Thread nD τ).loc main_arg0)) (m ((c : Thread nD τ).loc main_arg1))
          (m ((c : Thread nD τ).loc main_arg2)) (((cfg0.win 3).blk t).view.emb y) := by
  rw [ref_at]
  pointwise [k0_pay1]
  blk_point [iblk, V, idx t]

theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Relu

end
-- ==== Proof.Arith.lean ====
/- Facts about sums and products of extended reals that the value proofs share. -/
module

public import Idealize.ShloMosaic.PureOps.Ideal
public import Idealize.ShloMosaic.PureOps.Ideal.Laws
public import Idealize.ShloMosaic.Lib.IdealHost

@[expose] public section

set_option maxRecDepth 16384

noncomputable section

namespace Cert.Arith

open Idealize.ShloMosaic

/-- A sum of reals, taken in the extended reals, is the sum in the reals. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A constant factor goes into a sum of terms that are not negative. -/
theorem sum_mul {ι : Type*} (s : Finset ι) (f : ι → EReal) (h : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, ← ih,
      EReal.right_distrib_of_nonneg (h a) (Finset.sum_nonneg fun i _ => h i)]

/-- A square is not negative, at the infinities too. -/
theorem sq_nonneg (x : EReal) : 0 ≤ x * x := by
  rcases le_total 0 x with h | h
  · exact mul_nonneg h h
  · have := EReal.neg_nonneg.2 h
    rw [← neg_mul_neg]; exact mul_nonneg this this

theorem two : Ideal.ofBits .f32 0x40000000#32 = ((2 : ℝ) : EReal) := by
  simp [Ideal.ofBits, Ideal.ieee]; rw [← EReal.coe_mul]; norm_num
theorem half : Ideal.ofBits .f32 0x3F000000#32 = ((1 / 2 : ℝ) : EReal) := by
  simp [Ideal.ofBits, Ideal.ieee]; rw [← EReal.coe_mul]; norm_num
theorem width : Ideal.ofBits .f32 0x44800000#32 = ((1024 : ℝ) : EReal) := by
  simp [Ideal.ofBits, Ideal.ieee]; rw [← EReal.coe_mul]; norm_num
/-- 1/1024, what the kernel multiplies a difference by. -/
theorem invWidth : Ideal.ofBits .f32 0x3A800000#32 = ((1 / 1024 : ℝ) : EReal) := by
  simp [Ideal.ofBits, Ideal.ieee]; rw [← EReal.coe_mul]; norm_num
/-- 1/2048, what the kernel multiplies a sum of squares by. -/
theorem halfInvWidth : Ideal.ofBits .f32 0x3A000000#32 = ((1 / 2048 : ℝ) : EReal) := by
  simp [Ideal.ofBits, Ideal.ieee]; rw [← EReal.coe_mul]; norm_num

end Cert.Arith

end
-- ==== Proof.Loss.lean ====
/- The loss and its gradient (`mlp_out`): what the kernel's three results hold are the reference's. -/
module

public import proofs.«01_k».proof.Proof.Arith
public import proofs.«01_k».proof.Proof.Gen.KLossIdeal.Frame
public import proofs.«01_k».proof.Proof.Gen.RLossIdeal.Run
public import Idealize.ShloMosaic.Lib.Pipeline.ValueKit
public import Idealize.ShloMosaic.Lib.Pointwise

@[expose] public section

set_option maxRecDepth 16384

noncomputable section

namespace Cert.Loss

open Idealize.ShloMosaic Idealize.ShloMosaic.TcCoe Idealize.SL.Sem Idealize.ShloMosaic.StableHlo

section Ref

open Cert.RLossIdeal Cert.RLossIdeal.Gen

/-- The difference of the network's output and the target. -/
def err (a : FVec Ideal S4096x4096 .bf16) (w : FVec Ideal S4096x1024 .bf16) (h t : FVec Ideal S4096x1024 .f32) : FVec Ideal S4096x1024 .f32 :=
  subf (addf h (Host.dotGeneral dot_S4096x4096_S4096x1024_S4096x1024_1_0_0_1_n_n none (extf .f32 a bitsLt_bf16_f32) (extf .f32 w bitsLt_bf16_f32))) t

/-- The reference's gradient of the loss by the output. -/
def grad (a : FVec Ideal S4096x4096 .bf16) (w : FVec Ideal S4096x1024 .bf16) (h t : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) (err a w h t))

/-- The reference's gradient in bf16. -/
def gradCast (a : FVec Ideal S4096x4096 .bf16) (w : FVec Ideal S4096x1024 .bf16) (h t : FVec Ideal S4096x1024 .f32) : FVec Ideal S4096x1024 .bf16 :=
  truncf .bf16 (grad a w h t) bitsLt_bf16_f32

/-- The reference's loss. -/
def loss (a : FVec Ideal S4096x4096 .bf16) (w : FVec Ideal S4096x1024 .bf16) (h t : FVec Ideal S4096x1024 .f32) : FVec Ideal S1x1 .f32 :=
  shapeCast _ (mulf (constant S_ .f32 0x3F000000#32) (Host.reduceAdd (Host.divf (Host.reduceAdd (mulf (err a w h t) (err a w h t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

/-- The difference at row `r` and column `j`, as the kernel sums it. -/
def diff (a : FVec Ideal S4096x4096 .bf16) (w : FVec Ideal S4096x1024 .bf16) (h t : FVec Ideal S4096x1024 .f32) (r : Fin 4096) (j : Fin 1024) : EReal :=
  (∑ k : Fin 4096, a (ix2 r k) * w (ix2 k j)) + h (ix2 r j) - t (ix2 r j)

theorem err_at (a : FVec Ideal S4096x4096 .bf16) (w : FVec Ideal S4096x1024 .bf16) (h t : FVec Ideal S4096x1024 .f32) (i : S4096x1024.Idx) :
    err a w h t i = diff a w h t (i 0) (i 1) := by
  pointwise [err, diff]
  rw [add_comm]

theorem grad_at (a : FVec Ideal S4096x4096 .bf16) (w : FVec Ideal S4096x1024 .bf16) (h t : FVec Ideal S4096x1024 .f32) (i : S4096x1024.Idx) :
    grad a w h t i = diff a w h t (i 0) (i 1) * ((1 / 1024 : ℝ) : EReal) := by
  pointwise [grad]
  rw [err_at]
  generalize diff a w h t (i 0) (i 1) = d
  rw [Arith.two, Arith.half, Arith.width, Ideal.div_coe (by norm_num), ← mul_assoc, ← EReal.coe_mul, ← EReal.coe_mul, mul_comm]
  norm_num

theorem loss_at (a : FVec Ideal S4096x4096 .bf16) (w : FVec Ideal S4096x1024 .bf16) (h t : FVec Ideal S4096x1024 .f32) (i : S1x1.Idx) :
    loss a w h t i = ∑ r : Fin 4096, ∑ j : Fin 1024, diff a w h t r j * diff a w h t r j * ((1 / 2048 : ℝ) : EReal) := by
  pointwise [loss]
  rw [Arith.half, Arith.width, mul_comm, Arith.sum_mul _ _ fun r => ?_]
  · refine Finset.sum_congr rfl fun r _ => ?_
    rw [Ideal.div_coe (by norm_num), mul_assoc, ← EReal.coe_mul, Arith.sum_mul _ _ fun j => Arith.sq_nonneg _]
    refine Finset.sum_congr rfl fun j _ => ?_
    rw [err_at]
    norm_num
  · rw [Ideal.div_coe (by norm_num)]
    exact mul_nonneg (Finset.sum_nonneg fun j _ => Arith.sq_nonneg _) (EReal.coe_nonneg.2 (by norm_num))

end Ref

open Cert.KLossIdeal Cert.KLossIdeal.Gen

theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ)

theorem point (c : Dev nD) (t : Fin cfg0.N) (y) (i : S4096x1024.Idx) (h0 : (i 0 : ℕ) = t.val * 512 + y 0) (h1 : (i 1 : ℕ) = y 1) :
    k0_pay2 (iblk m c 0 t) (iblk m c 1 t) (iblk m c 2 t) (iblk m c 3 t) y
      = grad (m ((c : Thread nD τ).loc main_arg0)) (m ((c : Thread nD τ).loc main_arg1))
          (m ((c : Thread nD τ).loc main_arg2)) (m ((c : Thread nD τ).loc main_arg3)) i := by
  rw [grad_at]
  pointwise [k0_pay2, k0_pay1, diff, Arith.invWidth]
  blk_point [iblk, V, idx t]

/-- The kernel's first result is the gradient. -/
theorem final_grad (c : Dev nD) : (dats m 0 c).arrAt 4 (cfgs 0).N
    = grad (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  have key := point m c t y (((cfg0.win 4).blk t).view.emb y) (by blk_simp [idx t]) (by blk_simp [idx t])
  blk_simp
  rw [after0_4]
  by_cases h0 : t.val % 8 = 0
  · rw [outsAt0_A m c t h0]; frame_out; exact key
  · rw [outsAt0_B m c t h0]; frame_out; exact key

/-- Its second result is the same array, in bf16: over the reals, the same numbers. -/
theorem final_grad_cast (c : Dev nD) : (dats m 0 c).arrAt 5 (cfgs 0).N
    = gradCast (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  have key := point m c t y (((cfg0.win 5).blk t).view.emb y) (by blk_simp [idx t]) (by blk_simp [idx t])
  blk_simp
  rw [after0_5]
  by_cases h0 : t.val % 8 = 0
  · rw [outsAt0_A m c t h0]; frame_out; exact key
  · rw [outsAt0_B m c t h0]; frame_out; exact key

/-- What one block of rows adds to the loss. -/
def part (c : Dev nD) (t : Fin cfg0.N) : EReal :=
  ∑ r : Fin 512, ∑ j : Fin 1024, k0_pay1 (iblk m c 0 t) (iblk m c 1 t) (iblk m c 2 t) (iblk m c 3 t) (ix2 r j)
    * k0_pay1 (iblk m c 0 t) (iblk m c 1 t) (iblk m c 2 t) (iblk m c 3 t) (ix2 r j) * ((1 / 2048 : ℝ) : EReal)

/-- The kernel's difference in block `t` is the reference's at the block's rows. -/
theorem part_at (c : Dev nD) (t : Fin cfg0.N) (r : Fin 512) (l : Fin 1024) (i : Fin 4096) (hi : (i : ℕ) = t.val * 512 + r) :
    k0_pay1 (iblk m c 0 t) (iblk m c 1 t) (iblk m c 2 t) (iblk m c 3 t) (ix2 r l)
      = diff (m ((c : Thread nD τ).loc main_arg0)) (m ((c : Thread nD τ).loc main_arg1))
          (m ((c : Thread nD τ).loc main_arg2)) (m ((c : Thread nD τ).loc main_arg3)) i l := by
  pointwise [k0_pay1, diff]
  blk_point [iblk, V, idx t]

theorem step_at (v0 : Vec Ideal S512x4096 .bf16) (v1 : Vec Ideal S4096x1024 .bf16) (v3 v4 : Vec Ideal S512x1024 .f32) (acc : Vec Ideal S1x1 .f32) (j : S1x1.Idx) :
    k0_pay5 v0 v1 v3 v4 acc j = acc j + ∑ r : Fin 512, ∑ l : Fin 1024, k0_pay1 v0 v1 v3 v4 (ix2 r l) * k0_pay1 v0 v1 v3 v4 (ix2 r l) * ((1 / 2048 : ℝ) : EReal) := by
  pointwise [k0_pay5, Arith.halfInvWidth]
  rw [Finset.sum_comm, Arith.sum_mul _ _ fun r => Finset.sum_nonneg fun l _ => Arith.sq_nonneg _]
  refine congrArg _ (Finset.sum_congr rfl fun r _ => ?_)
  exact Arith.sum_mul _ _ (fun l => Arith.sq_nonneg _) _

theorem zero_at (j : S1x1.Idx) : k0_pay4 (F := Ideal) j = 0 := by pointwise [k0_pay4]

/-- The kernel's third result is the loss. -/
theorem final_loss (c : Dev nD) : (dats m 0 c).arrAt 6 (cfgs 0).N
    = loss (m ((c : Thread nD τ).loc main_arg0)) (m ((c : Thread nD τ).loc main_arg1))
        (m ((c : Thread nD τ).loc main_arg2)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) (fun p _ => part m c p)
    (fun t h j => by rw [outsAt0_A m c t h]; frame_out; rw [step_at, zero_at]; rfl)
    (fun t h j => by rw [outsAt0_B m c t h]; frame_out; rw [step_at]; rfl)
    (le_of_eq N_0) t0_7 rfl j, zero_add, loss_at]
  refine Fin.sum_mul_add_congr fun t r hl => Fin.sum_fin_congr fun l => ?_
  rw [part_at m c t r l ⟨_, hl⟩ rfl]

end Cert.Loss

end
-- ==== Proof.AttnNorm.lean ====
/- The gradient of the attention branch's norm (`attn_out_norm_bwd`). -/
module

public import proofs.«01_k».proof.Proof.Arith
public import proofs.«01_k».proof.Proof.Gen.KAttnNormIdeal.Frame
public import proofs.«01_k».proof.Proof.Gen.RAttnNormIdeal.Run
public import Idealize.ShloMosaic.Lib.Pipeline.ValueKit
public import Idealize.ShloMosaic.Lib.Pointwise

@[expose] public section

set_option maxRecDepth 16384

noncomputable section

namespace Cert.AttnNorm

open Idealize.ShloMosaic Idealize.ShloMosaic.TcCoe Idealize.SL.Sem Idealize.ShloMosaic.StableHlo

section Ref
open Cert.RAttnNormIdeal Cert.RAttnNormIdeal.Gen

/-- The reference's gradient by the branch's output. -/
def dx (x : FVec Ideal S4096x512 .f32) (dy : FVec Ideal S4096x1024 .f32) (g : FVec Ideal S1x512 .f32) : FVec Ideal S4096x512 .f32 :=
  addf (addf (mulf (mulf (extractStridedSlice S4096x512 ![0, 0] dy slices_S4096x1024_S4096x512_0_0) (broadcastInDim S4096x512 ![0, 1] bcast_S1x512_S4096x512_0_1 g)) (broadcastInDim S4096x512 ![0, 1] bcast_S4096x1_S4096x512_0_1 (Host.rsqrt (addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (mulf x (broadcastInDim S4096x512 ![0] bcast_S4096_S4096x512_0 (Host.reduceAdd (Host.divf (mulf (shapeCast _ (Host.reduceAdd (mulf x (mulf (extractStridedSlice S4096x512 ![0, 0] dy slices_S4096x1024_S4096x512_0_0) (broadcastInDim S4096x512 ![0, 1] bcast_S1x512_S4096x512_0_1 g))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)))) (mulf (broadcastInDim S4096x512 ![0] bcast_S4096_S4096x512_0 (Host.reduceAdd (Host.divf (mulf (shapeCast _ (Host.reduceAdd (mulf x (mulf (extractStridedSlice S4096x512 ![0, 0] dy slices_S4096x1024_S4096x512_0_0) (broadcastInDim S4096x512 ![0, 1] bcast_S1x512_S4096x512_0_1 g))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)) x)

/-- The reference's gradient by the gain. -/
def dg (x : FVec Ideal S4096x512 .f32) (dy : FVec Ideal S4096x1024 .f32) (g : FVec Ideal S1x512 .f32) : FVec Ideal S1x512 .f32 :=
  shapeCast _ (Host.reduceAdd (mulf (mulf x (broadcastInDim S4096x512 ![0, 1] bcast_S4096x1_S4096x512_0_1 (Host.rsqrt (addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (extractStridedSlice S4096x512 ![0, 0] dy slices_S4096x1024_S4096x512_0_0)) (constant S_ .f32 0x00000000#32) reducesTo_S4096x512_S512_d0 h_S_) shapeCasts_S512_S1x512

/-- The reference's run: each result is the gradient named above, the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = dx (m ((c.tc : Thread nD τ).loc main_arg0)) (m ((c.tc : Thread nD τ).loc main_arg1)) (m ((c.tc : Thread nD τ).loc main_arg2))
      ∧ r.2.mem ((c.tc : Thread nD τ).loc main_v18) = dg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2.1, (h c).2.2⟩) (Cert.RAttnNormIdeal.Value.run (F := Ideal) m ρ)

end Ref

open Cert.KAttnNormIdeal Cert.KAttnNormIdeal.Gen

theorem idx : ∀ t : Fin cfg0.N, win0_0.index t = ![t.val, 0] ∧ win0_1.index t = ![t.val, 0]
    ∧ win0_2.index t = ![0, 0] ∧ win0_3.index t = ![t.val, 0] ∧ win0_4.index t = ![0, 0] :=
  (by decide +kernel : ∀ t : Fin grid0.N, _)

variable (m : (ℓ : Loc nD τ sig) → Buf (Elt Ideal) ℓ)

/-- What one block of rows writes is the reference's gradient at these rows. -/
theorem point (c : Dev nD) (t : Fin cfg0.N) (y) (i : S4096x512.Idx) (h0 : (i 0 : ℕ) = t.val * 512 + y 0) (h1 : (i 1 : ℕ) = y 1) :
    k0_pay6 (iblk m c 0 t) (iblk m c 1 t) (iblk m c 2 t) y
      = dx (m ((c : Thread nD τ).loc main_arg0)) (m ((c : Thread nD τ).loc main_arg1)) (m ((c : Thread nD τ).loc main_arg2)) i := by
  pointwise [k0_pay6, k0_pay4, k0_pay3, dx]
  blk_point [iblk, V, idx t]

/-- The kernel's first result is the gradient by the branch's output. -/
theorem final_dx (c : Dev nD) : (dats m 0 c).arrAt 3 (cfgs 0).N
    = dx (m ((c : Thread nD τ).loc main_arg0)) (m ((c : Thread nD τ).loc main_arg1)) (m ((c : Thread nD τ).loc main_arg2)) := by
  refine (dats m 0 c).arrAt_eq_of_covers 3 _ (by decide +kernel) fun t _ y => ?_
  have key := point m c t y (((cfg0.win 3).blk t).view.emb y) (by blk_simp [idx t]) (by blk_simp [idx t])
  blk_simp
  rw [after0_3]
  by_cases h0 : t.val % 8 = 0
  · rw [outsAt0_A m c t h0]; frame_out; exact key
  · rw [outsAt0_B m c t h0]; frame_out; exact key

/-- One row's part of the gradient by the gain. -/
def term (x : Fin 512 → EReal) (d : EReal) (j : Fin 512) : EReal :=
  x j * Ideal.rsqrt (Ideal.div (∑ k, x k * x k) (Ideal.ofBits .f32 0x44000000#32) + Ideal.ofBits .f32 0x358637BD#32) * d

/-- What one block of rows adds to the gradient by the gain. -/
def part (c : Dev nD) (t : Fin cfg0.N) (j : Fin 512) : EReal :=
  ∑ r : Fin 512, term (fun k => iblk m c 0 t (ix2 r k)) (iblk m c 1 t (ix2 r j)) j

theorem step_at (v0 v1 : Vec Ideal S512x512 .f32) (acc : Vec Ideal S1x512 .f32) (j : S1x512.Idx) :
    k0_pay2 (k0_pay5 v0 v1) acc j = acc j + ∑ r : Fin 512, term (fun k => v0 (ix2 r k)) (v1 (ix2 r (j 1))) (j 1) := by
  pointwise [k0_pay2, k0_pay5, k0_pay4, k0_pay3, term]

theorem zero_at (j : S1x512.Idx) : k0_pay1 (F := Ideal) j = 0 := by pointwise [k0_pay1]

theorem dg_at (x : FVec Ideal S4096x512 .f32) (dy : FVec Ideal S4096x1024 .f32) (g : FVec Ideal S1x512 .f32) (i : S1x512.Idx) :
    dg x dy g i = ∑ r : Fin 4096, term (fun k => x (ix2 r k)) (dy (ix2 r ⟨i 1, by have := (i 1).isLt; simp at this; omega⟩)) (i 1) := by
  pointwise [dg, term]

theorem term_at (c : Dev nD) (t : Fin cfg0.N) (r : Fin 512) (l : Fin 512) (i : Fin 4096) (hi : (i : ℕ) = t.val * 512 + r) :
    term (fun k => iblk m c 0 t (ix2 r k)) (iblk m c 1 t (ix2 r l)) l
      = term (fun k => m ((c : Thread nD τ).loc main_arg0) (ix2 i k)) (m ((c : Thread nD τ).loc main_arg1) (ix2 i ⟨l, by omega⟩)) l := by
  pointwise [term]
  blk_point [iblk, V, idx t]

/-- The kernel's second result is the gradient by the gain. -/
theorem final_dg (c : Dev nD) : (dats m 0 c).arrAt 4 (cfgs 0).N
    = dg (m ((c : Thread nD τ).loc main_arg0)) (m ((c : Thread nD τ).loc main_arg1)) (m ((c : Thread nD τ).loc main_arg2)) := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => 0) (fun p j => part m c p (j 1))
    (fun t h j => by rw [outsAt0_A m c t h]; frame_out; rw [step_at, zero_at]; rfl)
    (fun t h j => by rw [outsAt0_B m c t h]; frame_out; rw [step_at]; rfl)
    (le_of_eq N_0) t0_7 rfl j, zero_add, dg_at]
  refine Fin.sum_mul_add_congr fun t r hl => ?_
  rw [term_at m c t r (j 1) ⟨_, hl⟩ rfl]

end Cert.AttnNorm

end
-- ==== Proof.NormOne.lean ====
/- The gradient through the first norm (`proj_dx`): a product whose rows go through the gradient of a norm, onto the residual's gradient. -/
module

public import proofs.«01_k».proof.Proof.Arith
public import proofs.«01_k».proof.Proof.Gen.KNormOneIdeal.Frame
public import proofs.«01_k».proof.Proof.Gen.RNormOneIdeal.Run
public import Idealize.ShloMosaic.Lib.Pipeline.ValueKit
public import Idealize.ShloMosaic.Lib.Pointwise

@[expose] public section

set_option maxRecDepth 16384

noncomputable section

namespace Cert.NormOne

open Idealize.ShloMosaic Idealize.ShloMosaic.TcCoe Idealize.SL.Sem Idealize.ShloMosaic.StableHlo

section Ref

open Cert.RNormOneIdeal Cert.RNormOneIdeal.Gen

/-- The gradient that arrives at the norm's output. -/
def dn (a : FVec Ideal S4096x2048 .bf16) (w : FVec Ideal S1024x2048 .bf16) : FVec Ideal S4096x1024 .f32 :=
  Host.dotGeneral dot_S4096x2048_S1024x2048_S4096x1024_1_1_0_0_n_n none (extf .f32 a bitsLt_bf16_f32) (extf .f32 w bitsLt_bf16_f32)

/-- A row's mean square, with the norm's ε. -/
def ms (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- What the gradient through the mean square gives to each entry of a row. -/
def back (a : FVec Ideal S4096x2048 .bf16) (w : FVec Ideal S1024x2048 .bf16) (h : FVec Ideal S4096x1024 .f32) (g : FVec Ideal S1x1024 .f32) : FVec Ideal S4096x1024 .f32 :=
  broadcastInDim S4096x1024 ![0] bcast_S4096_S4096x1024_0 (Host.reduceAdd (Host.divf (mulf (shapeCast _ (Host.reduceAdd (mulf h (mulf (dn a w) (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms h)) (ms h)))) (broadcastInDim S4096x1 ![] bcast_S_S4096x1 (constant S_ .f32 0x44800000#32))) (constant S_ .f32 0x00000000#32) reducesTo_S4096x1_S4096_d1 h_S_)

/-- The reference's gradient by the stream before the norm. -/
def dh (a : FVec Ideal S4096x2048 .bf16) (w : FVec Ideal S1024x2048 .bf16) (h r : FVec Ideal S4096x1024 .f32) (g : FVec Ideal S1x1024 .f32) : FVec Ideal S4096x1024 .f32 :=
  addf (addf (addf r (mulf (mulf (dn a w) (broadcastInDim S4096x1024 ![0, 1] bcast_S1x1024_S4096x1024_0_1 g)) (broadcastInDim S4096x1024 ![0, 1] bcast_S4096x1_S4096x1024_0_1 (Host.rsqrt (ms h))))) (mulf h (back a w h g))) (mulf (back a w h g) h)

/-- The reference's gradient by the gain. -/
def dg (a : FVec Ideal S4096x2048 .bf16) (w : FVec Ideal S1024x2048 .bf16) (h : FVec Ideal S4096x1024 .f32) : FVec Ideal S1x1024 .f32 :=
  shapeCast _ (Host.reduceAdd (mulf (mulf h (broadcastInDim S4096x1024 ![0, 1] bcast_S4096x1_S4096x1024_0_1 (Host.rsqrt (ms h)))) (dn a w)) (constant S_ .f32 0x00000000#32) reducesTo_S4096x1024_S1024_d0 h_S_) shapeCasts_S1024_S1x1024

/-- One row's part of the gradient by the gain. -/
def term (h d : Fin 1024 → EReal) (j : Fin 1024) : EReal :=
  h j * Ideal.rsqrt (Ideal.div (∑ k, h k * h k) (Ideal.ofBits .f32 0x44800000#32) + Ideal.ofBits .f32 0x358637BD#32) * d j

/-- Row `r`'s part. -/
def rowTerm (a : FVec Ideal S4096x2048 .bf16) (w : FVec Ideal S1024x2048 .bf16) (h : FVec Ideal S4096x1024 .f32) (r : Fin 4096) (j : Fin 1024) : EReal :=
  term (fun k => h (ix2 r k)) (fun j => ∑ k : Fin 2048, a (ix2 r k) * w (ix2 j k)) j

theorem dg_at (a : FVec Ideal S4096x2048 .bf16) (w : FVec Ideal S1024x2048 .bf16) (h : FVec Ideal S4096x1024 .f32) (i : S1x1024.Idx) :
    dg a w h i = ∑ r : Fin 4096, rowTerm a w h r (i 1) := by
  pointwise [dg, dn, ms, rowTerm, term]

/-- The reference's run: each result is the gradient named above, the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v21) = dg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2⟩) (Cert.RNormOneIdeal.Value.run (F := Ideal) m ρ)

end Ref

open Cert.KNormOneIdeal Cert.KNormOneIdeal.Gen

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ)

/-- What one block of rows writes is the reference's gradient at these rows. -/
theorem point (c : Dev nD) (t : Fin cfg0.N) (y) (i : S4096x1024.Idx) (h0 : (i 0 : ℕ) = t.val * 512 + y 0) (h1 : (i 1 : ℕ) = y 1) :
    k0_pay1 (iblk m c 3 t) (k0_pay10 (iblk m c 0 t) (iblk m c 1 t) (iblk m c 2 t) (iblk m c 4 t)) (k0_pay11 (iblk m c 0 t) (iblk m c 1 t) (iblk m c 2 t) (iblk m c 4 t)) y
      = dh (m ((c : Thread nD τ).loc main_arg0)) (m ((c : Thread nD τ).loc main_arg1)) (m ((c : Thread nD τ).loc main_arg2)) (m ((c : Thread nD τ).loc main_arg3)) (m ((c : Thread nD τ).loc main_arg4)) i := by
  pointwise [k0_pay1, k0_pay11, k0_pay10, k0_pay9, k0_pay8, k0_pay6, k0_pay5, k0_pay4, dh, back, ms, dn]
  simp only [add_assoc]
  blk_point [iblk, V, idx t]

/-- The kernel's first result is the gradient by the stream. -/
theorem final_dh (c : Dev nD) : (dats m 0 c).arrAt 5 (cfgs 0).N
    = dh (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have key := point m c t y (((cfg0.win 5).blk t).view.emb y) (by blk_simp [idx t]) (by blk_simp [idx t])
  blk_simp
  rw [after0_5]
  by_cases h0 : t.val % 8 = 0
  · rw [outsAt0_A m c t h0]; frame_out; exact key
  · rw [outsAt0_B m c t h0]; frame_out; exact key

/-- One row's part, from the blocks. -/
def blkTerm (v0 : Vec Ideal S512x2048 .bf16) (v1 : Vec Ideal S1024x2048 .bf16) (v3 : Vec Ideal S512x1024 .f32) (r : Fin 512) (j : Fin 1024) : EReal :=
  term (fun k => v3 (ix2 r k)) (fun j => ∑ k : Fin 2048, v0 (ix2 r k) * v1 (ix2 j k)) j

/-- What one block of rows adds to the gradient by the gain. -/
def part (c : Dev nD) (t : Fin cfg0.N) (j : Fin 1024) : EReal :=
  ∑ r : Fin 512, blkTerm (iblk m c 0 t) (iblk m c 1 t) (iblk m c 2 t) r j

theorem step_at (v0 : Vec Ideal S512x2048 .bf16) (v1 : Vec Ideal S1024x2048 .bf16) (v3 : Vec Ideal S512x1024 .f32) (acc : Vec Ideal S1x1024 .f32) (j : S1x1024.Idx) :
    k0_pay3 (k0_pay7 v0 v1 v3) acc j = acc j + ∑ r : Fin 512, blkTerm v0 v1 v3 r (j 1) := by
  pointwise [k0_pay3, k0_pay7, k0_pay6, k0_pay5, k0_pay4, blkTerm, term]

theorem zero_at (j : S1x1024.Idx) : k0_pay2 (F := Ideal) j = 0 := by pointwise [k0_pay2]

theorem term_at (c : Dev nD) (t : Fin cfg0.N) (r : Fin 512) (l : Fin 1024) (i : Fin 4096) (hi : (i : ℕ) = t.val * 512 + r) :
    blkTerm (iblk m c 0 t) (iblk m c 1 t) (iblk m c 2 t) r l
      = rowTerm (m ((c : Thread nD τ).loc main_arg0)) (m ((c : Thread nD τ).loc main_arg1)) (m ((c : Thread nD τ).loc main_arg2)) i l := by
  pointwise [blkTerm, rowTerm, term]
  blk_point [iblk, V, idx t]

/-- The kernel's last result is the gradient by the gain. -/
theorem final_dg (c : Dev nD) : (dats m 0 c).arrAt 6 (cfgs 0).N
    = dg (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) (fun p j => part m c p (j 1))
    (fun t h j => by rw [outsAt0_A m c t h]; frame_out; rw [step_at, zero_at]; rfl)
    (fun t h j => by rw [outsAt0_B m c t h]; frame_out; rw [step_at]; rfl)
    (le_of_eq N_0) t0_7 rfl j, zero_add, dg_at]
  refine Fin.sum_mul_add_congr fun t r hl => ?_
  rw [term_at m c t r (j 1) ⟨_, hl⟩ rfl]

end Cert.NormOne

end
-- ==== Proof.NormTwo.lean ====
/- The gradient through the second norm (`mlp_in_dx`): a product whose rows go through the gradient of a norm, onto the residual's gradient. -/
module

public import proofs.«01_k».proof.Proof.Arith
public import proofs.«01_k».proof.Proof.Gen.KNormTwoIdeal.Frame
public import proofs.«01_k».proof.Proof.Gen.RNormTwoIdeal.Run
public import Idealize.ShloMosaic.Lib.Pipeline.ValueKit
public import Idealize.ShloMosaic.Lib.Pointwise

@[expose] public section

set_option maxRecDepth 16384

noncomputable section

namespace Cert.NormTwo

open Idealize.ShloMosaic Idealize.ShloMosaic.TcCoe Idealize.SL.Sem Idealize.ShloMosaic.StableHlo

section Ref

open Cert.RNormTwoIdeal Cert.RNormTwoIdeal.Gen

/-- The gradient that arrives at the norm's output. -/
def dn (a : FVec Ideal S4096x4096 .bf16) (w : FVec Ideal S1024x4096 .bf16) : FVec Ideal S4096x1024 .f32 :=
  Host.dotGeneral dot_S4096x4096_S1024x4096_S4096x1024_1_1_0_0_n_n none (extf .f32 a bitsLt_bf16_f32) (extf .f32 w bitsLt_bf16_f32)

/-- A row's mean square, with the norm's ε. -/
def ms (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- What the gradient through the mean square gives to each entry of a row. -/
def back (a : FVec Ideal S4096x4096 .bf16) (w : FVec Ideal S1024x4096 .bf16) (h : FVec Ideal S4096x1024 .f32) (g : FVec Ideal S1x1024 .f32) : FVec Ideal S4096x1024 .f32 :=
  broadcastInDim S4096x1024 ![0] bcast_S4096_S4096x1024_0 (Host.reduceAdd (Host.divf (mulf (shapeCast _ (Host.reduceAdd (mulf h (mulf (dn a w) (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms h)) (ms h)))) (broadcastInDim S4096x1 ![] bcast_S_S4096x1 (constant S_ .f32 0x44800000#32))) (constant S_ .f32 0x00000000#32) reducesTo_S4096x1_S4096_d1 h_S_)

/-- The reference's gradient by the stream before the norm. -/
def dh (a : FVec Ideal S4096x4096 .bf16) (w : FVec Ideal S1024x4096 .bf16) (h r : FVec Ideal S4096x1024 .f32) (g : FVec Ideal S1x1024 .f32) : FVec Ideal S4096x1024 .f32 :=
  addf (addf (addf r (mulf (mulf (dn a w) (broadcastInDim S4096x1024 ![0, 1] bcast_S1x1024_S4096x1024_0_1 g)) (broadcastInDim S4096x1024 ![0, 1] bcast_S4096x1_S4096x1024_0_1 (Host.rsqrt (ms h))))) (mulf h (back a w h g))) (mulf (back a w h g) h)

/-- The same gradient in bf16. -/
def dhCast (a : FVec Ideal S4096x4096 .bf16) (w : FVec Ideal S1024x4096 .bf16) (h r : FVec Ideal S4096x1024 .f32) (g : FVec Ideal S1x1024 .f32) : FVec Ideal S4096x1024 .bf16 := truncf .bf16 (dh a w h r g) bitsLt_bf16_f32

/-- The reference's gradient by the gain. -/
def dg (a : FVec Ideal S4096x4096 .bf16) (w : FVec Ideal S1024x4096 .bf16) (h : FVec Ideal S4096x1024 .f32) : FVec Ideal S1x1024 .f32 :=
  shapeCast _ (Host.reduceAdd (mulf (mulf h (broadcastInDim S4096x1024 ![0, 1] bcast_S4096x1_S4096x1024_0_1 (Host.rsqrt (ms h)))) (dn a w)) (constant S_ .f32 0x00000000#32) reducesTo_S4096x1024_S1024_d0 h_S_) shapeCasts_S1024_S1x1024

/-- One row's part of the gradient by the gain. -/
def term (h d : Fin 1024 → EReal) (j : Fin 1024) : EReal :=
  h j * Ideal.rsqrt (Ideal.div (∑ k, h k * h k) (Ideal.ofBits .f32 0x44800000#32) + Ideal.ofBits .f32 0x358637BD#32) * d j

/-- Row `r`'s part. -/
def rowTerm (a : FVec Ideal S4096x4096 .bf16) (w : FVec Ideal S1024x4096 .bf16) (h : FVec Ideal S4096x1024 .f32) (r : Fin 4096) (j : Fin 1024) : EReal :=
  term (fun k => h (ix2 r k)) (fun j => ∑ k : Fin 4096, a (ix2 r k) * w (ix2 j k)) j

theorem dg_at (a : FVec Ideal S4096x4096 .bf16) (w : FVec Ideal S1024x4096 .bf16) (h : FVec Ideal S4096x1024 .f32) (i : S1x1024.Idx) :
    dg a w h i = ∑ r : Fin 4096, rowTerm a w h r (i 1) := by
  pointwise [dg, dn, ms, rowTerm, term]

/-- The reference's run: each result is the gradient named above, the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v39) = dhCast (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v21) = dg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2⟩) (Cert.RNormTwoIdeal.Value.run (F := Ideal) m ρ)

end Ref

open Cert.KNormTwoIdeal Cert.KNormTwoIdeal.Gen

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]  ∧ win0_6.index t = ![t.val, 0] ∧ win0_7.index t = ![0, 0] :=
  (by decide +kernel : ∀ t : Fin grid0.N, _)

variable (m : (ℓ : Loc nD τ sig) → Buf (Elt Ideal) ℓ)

/-- What one block of rows writes is the reference's gradient at these rows. -/
theorem point (c : Dev nD) (t : Fin cfg0.N) (y) (i : S4096x1024.Idx) (h0 : (i 0 : ℕ) = t.val * 512 + y 0) (h1 : (i 1 : ℕ) = y 1) :
    k0_pay1 (iblk m c 3 t) (k0_pay11 (iblk m c 0 t) (iblk m c 1 t) (iblk m c 2 t) (iblk m c 4 t)) (k0_pay12 (iblk m c 0 t) (iblk m c 1 t) (iblk m c 2 t) (iblk m c 4 t)) y
      = dh (m ((c : Thread nD τ).loc main_arg0)) (m ((c : Thread nD τ).loc main_arg1)) (m ((c : Thread nD τ).loc main_arg2)) (m ((c : Thread nD τ).loc main_arg3)) (m ((c : Thread nD τ).loc main_arg4)) i := by
  pointwise [k0_pay1, k0_pay12, k0_pay11, k0_pay10, k0_pay9, k0_pay7, k0_pay6, k0_pay5, dh, back, ms, dn]
  simp only [add_assoc]
  blk_point [iblk, V, idx t]

/-- The kernel's first result is the gradient by the stream. -/
theorem final_dh (c : Dev nD) : (dats m 0 c).arrAt 5 (cfgs 0).N
    = dh (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have key := point m c t y (((cfg0.win 5).blk t).view.emb y) (by blk_simp [idx t]) (by blk_simp [idx t])
  blk_simp
  rw [after0_5]
  by_cases h0 : t.val % 8 = 0
  · rw [outsAt0_A m c t h0]; frame_out; exact key
  · rw [outsAt0_B m c t h0]; frame_out; exact key

/-- The kernel's second result is the same array, in bf16: over the reals, the same numbers. -/
theorem final_dhCast (c : Dev nD) : (dats m 0 c).arrAt 6 (cfgs 0).N
    = dhCast (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have key := point m c t y (((cfg0.win 6).blk t).view.emb y) (by blk_simp [idx t]) (by blk_simp [idx t])
  blk_simp
  rw [after0_6]
  by_cases h0 : t.val % 8 = 0
  · rw [outsAt0_A m c t h0]; frame_out; exact key
  · rw [outsAt0_B m c t h0]; frame_out; exact key

/-- One row's part, from the blocks. -/
def blkTerm (v0 : Vec Ideal S512x4096 .bf16) (v1 : Vec Ideal S1024x4096 .bf16) (v3 : Vec Ideal S512x1024 .f32) (r : Fin 512) (j : Fin 1024) : EReal :=
  term (fun k => v3 (ix2 r k)) (fun j => ∑ k : Fin 4096, v0 (ix2 r k) * v1 (ix2 j k)) j

/-- What one block of rows adds to the gradient by the gain. -/
def part (c : Dev nD) (t : Fin cfg0.N) (j : Fin 1024) : EReal :=
  ∑ r : Fin 512, blkTerm (iblk m c 0 t) (iblk m c 1 t) (iblk m c 2 t) r j

theorem step_at (v0 : Vec Ideal S512x4096 .bf16) (v1 : Vec Ideal S1024x4096 .bf16) (v3 : Vec Ideal S512x1024 .f32) (acc : Vec Ideal S1x1024 .f32) (j : S1x1024.Idx) :
    k0_pay4 (k0_pay8 v0 v1 v3) acc j = acc j + ∑ r : Fin 512, blkTerm v0 v1 v3 r (j 1) := by
  pointwise [k0_pay4, k0_pay8, k0_pay7, k0_pay6, k0_pay5, blkTerm, term]

theorem zero_at (j : S1x1024.Idx) : k0_pay3 (F := Ideal) j = 0 := by pointwise [k0_pay3]

theorem term_at (c : Dev nD) (t : Fin cfg0.N) (r : Fin 512) (l : Fin 1024) (i : Fin 4096) (hi : (i : ℕ) = t.val * 512 + r) :
    blkTerm (iblk m c 0 t) (iblk m c 1 t) (iblk m c 2 t) r l
      = rowTerm (m ((c : Thread nD τ).loc main_arg0)) (m ((c : Thread nD τ).loc main_arg1)) (m ((c : Thread nD τ).loc main_arg2)) i l := by
  pointwise [blkTerm, rowTerm, term]
  blk_point [iblk, V, idx t]

/-- The kernel's last result is the gradient by the gain. -/
theorem final_dg (c : Dev nD) : (dats m 0 c).arrAt 7 (cfgs 0).N
    = dg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) (fun p j => part m c p (j 1))
    (fun t h j => by rw [outsAt0_A m c t h]; frame_out; rw [step_at, zero_at]; rfl)
    (fun t h j => by rw [outsAt0_B m c t h]; frame_out; rw [step_at]; rfl)
    (le_of_eq N_0) t0_7 rfl j, zero_add, dg_at]
  refine Fin.sum_mul_add_congr fun t r hl => ?_
  rw [term_at m c t r (j 1) ⟨_, hl⟩ rfl]

end Cert.NormTwo

end
-- ==== Proof.Glu.lean ====
/- The gradient through the gate after the recurrence (`glu_out_bwd`): `rms(gelu(y) * sigmoid(pre + b)) * g`, pulled
   back to `y`, to `pre`, to the bias and to the gain. -/
module

public import proofs.«01_k».proof.Proof.Arith
public import proofs.«01_k».proof.Proof.Gen.KGluIdeal.Frame
public import proofs.«01_k».proof.Proof.Gen.RGluIdeal.Run
public import Idealize.ShloMosaic.Lib.Pipeline.ValueKit
public import Idealize.ShloMosaic.Lib.Pointwise

@[expose] public section

set_option maxRecDepth 16384

noncomputable section

namespace Cert.Glu

open Idealize.ShloMosaic Idealize.ShloMosaic.TcCoe Idealize.SL.Sem Idealize.ShloMosaic.StableHlo

section Ref

open Cert.RGluIdeal Cert.RGluIdeal.Gen

/-- A constant at every entry. -/
def cst (b : BitVec 32) : FVec Ideal S4096x512 .f32 := broadcastInDim S4096x512 ![] bcast_S_S4096x512 (constant S_ .f32 b)

/-- A constant at every row. -/
def col (b : BitVec 32) : FVec Ideal S4096x1 .f32 := broadcastInDim S4096x1 ![] bcast_S_S4096x1 (constant S_ .f32 b)

/-- A row's sum. -/
def rowSum (a : FVec Ideal S4096x512 .f32) : FVec Ideal S4096 .f32 :=
  Host.reduceAdd a (constant S_ .f32 0x00000000#32) reducesTo_S4096x512_S4096_d1 h_S_

/-- One row at every row. -/
def rep (b : FVec Ideal S1x512 .f32) : FVec Ideal S4096x512 .f32 := broadcastInDim S4096x512 ![0, 1] bcast_S1x512_S4096x512_0_1 b

/-- The sum over the rows. -/
def colSum (a : FVec Ideal S4096x512 .f32) : FVec Ideal S1x512 .f32 :=
  shapeCast _ (Host.reduceAdd a (constant S_ .f32 0x00000000#32) reducesTo_S4096x512_S512_d0 h_S_) shapeCasts_S512_S1x512

/-- The arguments. -/
structure Args where
  /-- The recurrence's output. -/
  y : FVec Ideal S4096x512 .f32
  /-- The gate's product. -/
  p : FVec Ideal S4096x512 .f32
  /-- The cotangent. -/
  d : FVec Ideal S4096x512 .f32
  /-- The gate's bias. -/
  b : FVec Ideal S1x512 .f32
  /-- The norm's gain. -/
  g : FVec Ideal S1x512 .f32

variable (A : Args)

/-- The gate. -/
def gate : FVec Ideal S4096x512 .f32 :=
  Host.divf (cst 0x3F800000#32) (addf (cst 0x3F800000#32) (Host.exp (Host.negf (addf A.p (rep A.b)))))

/-- The gelu's hyperbolic tangent. -/
def th : FVec Ideal S4096x512 .f32 :=
  Host.tanh (mulf (cst 0x3F4C422A#32) (addf A.y (mulf (cst 0x3D372713#32) (mulf (mulf A.y A.y) A.y))))

theorem th_at (i : S4096x512.Idx) :
    th A i = Ideal.tanh (Ideal.ofBits .f32 0x3F4C422A#32 * (A.y i + Ideal.ofBits .f32 0x3D372713#32 * (A.y i * (A.y i * A.y i)))) := by
  pointwise [th, cst]
  rw [mul_comm (A.y i * A.y i) (A.y i)]

/-- The gelu's factor. -/
def half : FVec Ideal S4096x512 .f32 := mulf (cst 0x3F000000#32) (addf (cst 0x3F800000#32) (th A))

/-- The gated value. -/
def x : FVec Ideal S4096x512 .f32 := mulf (mulf A.y (half A)) (gate A)

/-- A row's mean square, with its small constant. -/
def ms : FVec Ideal S4096x1 .f32 :=
  addf (Host.divf (broadcastInDim S4096x1 ![0] bcast_S4096_S4096x1_0 (rowSum (mulf (x A) (x A)))) (col 0x44000000#32)) (col 0x358637BD#32)

/-- The cotangent with the gain. -/
def dg : FVec Ideal S4096x512 .f32 := mulf A.d (rep A.g)

/-- The norm's row factor in its gradient. -/
def rowF : FVec Ideal S4096x512 .f32 :=
  broadcastInDim S4096x512 ![0] bcast_S4096_S4096x512_0 (Host.reduceAdd (Host.divf (mulf (shapeCast _ (rowSum (mulf (x A) (dg A))) shapeCasts_S4096_S4096x1)
    (mulf (col 0xBF000000#32) (Host.divf (Host.rsqrt (ms A)) (ms A)))) (col 0x44000000#32)) (constant S_ .f32 0x00000000#32) reducesTo_S4096x1_S4096_d1 h_S_)

/-- The reciprocal root at every entry. -/
def rs : FVec Ideal S4096x512 .f32 := broadcastInDim S4096x512 ![0, 1] bcast_S4096x1_S4096x512_0_1 (Host.rsqrt (ms A))

/-- The gradient by the gated value. -/
def dx : FVec Ideal S4096x512 .f32 := addf (addf (mulf (dg A) (rs A)) (mulf (x A) (rowF A))) (mulf (rowF A) (x A))

/-- The gradient through the tangent's argument. -/
def inner : FVec Ideal S4096x512 .f32 :=
  mulf (cst 0x3F4C422A#32) (mulf (mulf (cst 0x3F000000#32) (mulf A.y (mulf (dx A) (gate A))))
    (mulf (addf (cst 0x3F800000#32) (th A)) (subf (cst 0x3F800000#32) (th A))))

/-- The gradient by the recurrence's output. -/
def gradY : FVec Ideal S4096x512 .f32 :=
  addf (addf (mulf (mulf (dx A) (gate A)) (half A)) (inner A)) (mulf (mulf (cst 0x3D372713#32) (inner A)) (mulf (cst 0x40400000#32) (mulf A.y A.y)))

/-- The gradient by the gate's product, before its cast. -/
def gradP : FVec Ideal S4096x512 .f32 := mulf (mulf (mulf A.y (half A)) (dx A)) (mulf (gate A) (subf (cst 0x3F800000#32) (gate A)))

/-- The gradient by the gate's product. -/
def gradPCast : FVec Ideal S4096x512 .bf16 := truncf .bf16 (gradP A) bitsLt_bf16_f32

/-- The gradient by the bias. -/
def gradB : FVec Ideal S1x512 .f32 := colSum (gradP A)

/-- What each entry adds to the gradient by the gain. -/
def gainAt : FVec Ideal S4096x512 .f32 := mulf (mulf (x A) (rs A)) A.d

/-- The gradient by the gain. -/
def gradG : FVec Ideal S1x512 .f32 := colSum (gainAt A)

theorem colSum_at (a : FVec Ideal S4096x512 .f32) (i : S1x512.Idx) : colSum a i = ∑ r : Fin 4096, a (ix2 r (i 1)) := by
  pointwise [colSum]

/-- The reference's run: each result is the gradient named above, the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = gradY ⟨m ((c.tc : Thread nD τ).loc main_arg0), m ((c.tc : Thread nD τ).loc main_arg1), m ((c.tc : Thread nD τ).loc main_arg2), m ((c.tc : Thread nD τ).loc main_arg3), m ((c.tc : Thread nD τ).loc main_arg4)⟩
      ∧ r.2.mem ((c.tc : Thread nD τ).loc main_v229) = gradPCast ⟨m ((c.tc : Thread nD τ).loc main_arg0), m ((c.tc : Thread nD τ).loc main_arg1), m ((c.tc : Thread nD τ).loc main_arg2), m ((c.tc : Thread nD τ).loc main_arg3), m ((c.tc : Thread nD τ).loc main_arg4)⟩
      ∧ r.2.mem ((c.tc : Thread nD τ).loc main_v191) = gradB ⟨m ((c.tc : Thread nD τ).loc main_arg0), m ((c.tc : Thread nD τ).loc main_arg1), m ((c.tc : Thread nD τ).loc main_arg2), m ((c.tc : Thread nD τ).loc main_arg3), m ((c.tc : Thread nD τ).loc main_arg4)⟩
      ∧ r.2.mem ((c.tc : Thread nD τ).loc main_v228) = gradG ⟨m ((c.tc : Thread nD τ).loc main_arg0), m ((c.tc : Thread nD τ).loc main_arg1), m ((c.tc : Thread nD τ).loc main_arg2), m ((c.tc : Thread nD τ).loc main_arg3), m ((c.tc : Thread nD τ).loc main_arg4)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2.1, (h c).2.2.2.2⟩) (Cert.RGluIdeal.Value.run (F := Ideal) m ρ)

end Ref

open Cert.KGluIdeal Cert.KGluIdeal.Gen

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

variable (m : (ℓ : Loc nD τ sig) → Buf (Elt Ideal) ℓ)

/-- The kernel's arguments. -/
def args (c : Dev nD) : Args where
  y := m ((c : Thread nD τ).loc main_arg0)
  p := m ((c : Thread nD τ).loc main_arg1)
  d := m ((c : Thread nD τ).loc main_arg2)
  b := m ((c : Thread nD τ).loc main_arg3)
  g := m ((c : Thread nD τ).loc main_arg4)

/-- The norm's small constant. -/
abbrev eps : Ideal .f32 := FloatOps.ofBits FTy.f32 897988541#32

section Block

variable (v0 v1 v2 : Vec Ideal S512x512 .f32) (v3 v4 : Vec Ideal S1x512 .f32)

/-- One block's gradient by the recurrence's output. -/
def blkY : FVec Ideal S512x512 .f32 :=
  k0_pay20 v0 v2 v4 (k0_pay5 v0) (k0_pay7 v0) (k0_pay8 v0) (k0_pay10 v1 v3) (k0_pay12 v0 v1 v3) (k0_pay13 v0 v1 v3) eps

/-- One block's gradient by the gate's product. -/
def blkP : FVec Ideal S512x512 .f32 :=
  k0_pay18 v2 v4 (k0_pay9 v0) (k0_pay11 v1 v3) (k0_pay12 v0 v1 v3) (k0_pay13 v0 v1 v3) eps

/-- What each entry of a block adds to the gradient by the gain. -/
def blkG : FVec Ideal S512x512 .f32 :=
  mulf (mulf (k0_pay12 v0 v1 v3) (broadcastTo S512x512 (k0_pay15 (k0_pay13 v0 v1 v3) eps) broadcasts_S512x1_S512x512)) v2

theorem stepB_at (acc : Vec Ideal S1x512 .f32) (j : S1x512.Idx) :
    k0_pay3 (k0_pay19 v2 v4 (k0_pay9 v0) (k0_pay11 v1 v3) (k0_pay12 v0 v1 v3) (k0_pay13 v0 v1 v3) eps) acc j
      = acc j + ∑ r : Fin 512, blkP v0 v1 v2 v3 v4 (ix2 r (j 1)) := by
  unfold blkP
  generalize k0_pay9 v0 = a; generalize k0_pay11 v1 v3 = b; generalize k0_pay12 v0 v1 v3 = e; generalize k0_pay13 v0 v1 v3 = f
  pointwise [k0_pay3, k0_pay19]

theorem stepG_at (acc : Vec Ideal S1x512 .f32) (j : S1x512.Idx) :
    k0_pay4 (k0_pay16 v2 (k0_pay12 v0 v1 v3) (k0_pay13 v0 v1 v3) eps) acc j
      = acc j + ∑ r : Fin 512, blkG v0 v1 v2 v3 (ix2 r (j 1)) := by
  unfold blkG
  generalize k0_pay12 v0 v1 v3 = e; generalize k0_pay13 v0 v1 v3 = f
  pointwise [k0_pay4, k0_pay16]

theorem zeroB_at (j : S1x512.Idx) : k0_pay1 (F := Ideal) j = 0 := by pointwise [k0_pay1]

theorem zeroG_at (j : S1x512.Idx) : k0_pay2 (F := Ideal) j = 0 := by pointwise [k0_pay2]

end Block

/-- What one block of rows writes is the reference's gradient by the recurrence's output at these rows. -/
theorem pointY (c : Dev nD) (t : Fin cfg0.N) (y) (i : S4096x512.Idx) (h0 : (i 0 : ℕ) = t.val * 512 + y 0) (h1 : (i 1 : ℕ) = y 1) :
    blkY (iblk m c 0 t) (iblk m c 1 t) (iblk m c 2 t) (iblk m c 3 t) (iblk m c 4 t) y = gradY (args m c) i := by
  pointwise [blkY, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, gradY, inner, cst, col, rowSum, rep, gate, th_at, half, x, ms, dg, rowF, rs, dx, args]
  simp only [add_assoc, Ideal.logistic]
  blk_point [iblk, V, idx t]

/-- The same of the gradient by the gate's product. -/
theorem pointP (c : Dev nD) (t : Fin cfg0.N) (y) (i : S4096x512.Idx) (h0 : (i 0 : ℕ) = t.val * 512 + y 0) (h1 : (i 1 : ℕ) = y 1) :
    blkP (iblk m c 0 t) (iblk m c 1 t) (iblk m c 2 t) (iblk m c 3 t) (iblk m c 4 t) y = gradP (args m c) i := by
  pointwise [blkP, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, gradP, cst, col, rowSum, rep, gate, th_at, half, x, ms, dg, rowF, rs, dx, args]
  simp only [add_assoc, Ideal.logistic]
  blk_point [iblk, V, idx t]

/-- The same of what each entry adds to the gradient by the gain. -/
theorem pointG (c : Dev nD) (t : Fin cfg0.N) (y) (i : S4096x512.Idx) (h0 : (i 0 : ℕ) = t.val * 512 + y 0) (h1 : (i 1 : ℕ) = y 1) :
    blkG (iblk m c 0 t) (iblk m c 1 t) (iblk m c 2 t) (iblk m c 3 t) y = gainAt (args m c) i := by
  pointwise [blkG, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, gainAt, cst, col, rowSum, rep, gate, th_at, half, x, ms, dg, rowF, rs, dx, args]
  simp only [add_assoc, Ideal.logistic]
  blk_point [iblk, V, idx t]

/-- The kernel's first result is the gradient by the recurrence's output. -/
theorem final_y (c : Dev nD) : (dats m 0 c).arrAt 5 (cfgs 0).N = gradY (args m c) := by
  refine (dats m 0 c).arrAt_eq_of_covers 5 _ (by decide +kernel) fun t _ y => ?_
  have key := pointY m c t y (((cfg0.win 5).blk t).view.emb y) (by blk_simp [idx t]) (by blk_simp [idx t])
  blk_simp
  rw [after0_5]
  by_cases h0 : t.val % 8 = 0
  · rw [outsAt0_A m c t h0]; frame_out; exact key
  · rw [outsAt0_B m c t h0]; frame_out; exact key

/-- The kernel's second result is the gradient by the gate's product. -/
theorem final_p (c : Dev nD) : (dats m 0 c).arrAt 6 (cfgs 0).N = gradPCast (args m c) := by
  refine (dats m 0 c).arrAt_eq_of_covers 6 _ (by decide +kernel) fun t _ y => ?_
  have key := pointP m c t y (((cfg0.win 6).blk t).view.emb y) (by blk_simp [idx t]) (by blk_simp [idx t])
  blk_simp
  rw [after0_6]
  by_cases h0 : t.val % 8 = 0
  · rw [outsAt0_A m c t h0]; frame_out; exact key
  · rw [outsAt0_B m c t h0]; frame_out; exact key

/-- The kernel's third result is the gradient by the bias. -/
theorem final_b (c : Dev nD) : (dats m 0 c).arrAt 7 (cfgs 0).N = gradB (args m c) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun p j => ∑ r : Fin 512, blkP (iblk m c 0 p) (iblk m c 1 p) (iblk m c 2 p) (iblk m c 3 p) (iblk m c 4 p) (ix2 r (j 1)))
    (fun t h j => by rw [outsAt0_A m c t h]; frame_out; rw [stepB_at, zeroB_at])
    (fun t h j => by rw [outsAt0_B m c t h]; frame_out; rw [stepB_at])
    (le_of_eq N_0) t0_7 rfl j, zero_add, gradB, colSum_at]
  refine Fin.sum_mul_add_congr fun t r hl => ?_
  exact pointP m c t (ix2 r (j 1)) (ix2 ⟨_, hl⟩ (j 1)) rfl rfl

/-- The kernel's fourth result is the gradient by the gain. -/
theorem final_g (c : Dev nD) : (dats m 0 c).arrAt 8 (cfgs 0).N = gradG (args m c) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun p j => ∑ r : Fin 512, blkG (iblk m c 0 p) (iblk m c 1 p) (iblk m c 2 p) (iblk m c 3 p) (ix2 r (j 1)))
    (fun t h j => by rw [outsAt0_A m c t h]; frame_out; rw [stepG_at, zeroG_at])
    (fun t h j => by rw [outsAt0_B m c t h]; frame_out; rw [stepG_at])
    (le_of_eq N_0) t0_7 rfl j, zero_add, gradG, colSum_at]
  refine Fin.sum_mul_add_congr fun t r hl => ?_
  exact pointG m c t (ix2 r (j 1)) (ix2 ⟨_, hl⟩ (j 1)) rfl rfl

end Cert.Glu

end
-- ==== Proof.Gelu.lean ====
/- The gradient through the gelu before the gate's product (`glu_gate_dx`): a product whose entries go through the
   gelu's derivative, onto the branch's other gradient. -/
module

public import proofs.«01_k».proof.Proof.Arith
public import proofs.«01_k».proof.Proof.Gen.KGeluIdeal.Frame
public import proofs.«01_k».proof.Proof.Gen.RGeluIdeal.Run
public import Idealize.ShloMosaic.Lib.Pipeline.ValueKit
public import Idealize.ShloMosaic.Lib.Pointwise

@[expose] public section

set_option maxRecDepth 16384

noncomputable section

namespace Cert.Gelu

open Idealize.ShloMosaic Idealize.ShloMosaic.TcCoe Idealize.SL.Sem Idealize.ShloMosaic.StableHlo

section Ref

open Cert.RGeluIdeal Cert.RGeluIdeal.Gen

/-- A constant at every entry. -/
def cst (b : BitVec 32) : FVec Ideal S4096x512 .f32 := broadcastInDim S4096x512 ![] bcast_S_S4096x512 (constant S_ .f32 b)

/-- The gradient that arrives at the gelu's value. -/
def dg (a : FVec Ideal S4096x512 .bf16) (w : FVec Ideal S512x512 .bf16) : FVec Ideal S4096x512 .f32 :=
  Host.dotGeneral dot_S4096x512_S512x512_S4096x512_1_1_0_0_n_n none (extf .f32 a bitsLt_bf16_f32) (extf .f32 w bitsLt_bf16_f32)

/-- The gelu's hyperbolic tangent. -/
def th (y : FVec Ideal S4096x512 .f32) : FVec Ideal S4096x512 .f32 :=
  Host.tanh (mulf (cst 0x3F4C422A#32) (addf y (mulf (cst 0x3D372713#32) (mulf (mulf y y) y))))

theorem th_at (y : FVec Ideal S4096x512 .f32) (i : S4096x512.Idx) :
    th y i = Ideal.tanh (Ideal.ofBits .f32 0x3F4C422A#32 * (y i + Ideal.ofBits .f32 0x3D372713#32 * (y i * (y i * y i)))) := by
  pointwise [th, cst]
  rw [mul_comm (y i * y i) (y i)]

/-- The gradient through the tangent's argument. -/
def inner (a : FVec Ideal S4096x512 .bf16) (w : FVec Ideal S512x512 .bf16) (y : FVec Ideal S4096x512 .f32) : FVec Ideal S4096x512 .f32 :=
  mulf (cst 0x3F4C422A#32) (mulf (mulf (cst 0x3F000000#32) (mulf y (dg a w))) (mulf (addf (cst 0x3F800000#32) (th y)) (subf (cst 0x3F800000#32) (th y))))

/-- The reference's gradient. -/
def ref (a : FVec Ideal S4096x512 .bf16) (w : FVec Ideal S512x512 .bf16) (y d : FVec Ideal S4096x512 .f32) : FVec Ideal S4096x512 .f32 :=
  addf (addf (addf d (mulf (dg a w) (mulf (cst 0x3F000000#32) (addf (cst 0x3F800000#32) (th y))))) (inner a w y))
    (mulf (mulf (cst 0x3D372713#32) (inner a w y)) (mulf (cst 0x40400000#32) (mulf y y)))

end Ref

open Cert.KGeluIdeal Cert.KGeluIdeal.Gen

theorem idx : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

variable (m : (ℓ : Loc nD τ sig) → Buf (Elt Ideal) ℓ)

/-- What one block of rows writes is the reference's gradient at these rows. -/
theorem point (c : Dev nD) (t : Fin cfg0.N) (y) (i : S4096x512.Idx) (h0 : (i 0 : ℕ) = t.val * 1024 + y 0) (h1 : (i 1 : ℕ) = y 1) :
    k0_pay1 (iblk m c 0 t) (iblk m c 1 t) (iblk m c 2 t) (iblk m c 3 t) y
      = ref (m ((c : Thread nD τ).loc main_arg0)) (m ((c : Thread nD τ).loc main_arg1))
          (m ((c : Thread nD τ).loc main_arg2)) (m ((c : Thread nD τ).loc main_arg3)) i := by
  pointwise [k0_pay1, ref, inner, th_at, dg, cst]
  simp only [add_assoc]
  blk_point [iblk, V, idx t]

/-- The kernel's result is the gradient. -/
theorem final (c : Dev nD) : (dats m 0 c).arrAt 4 (cfgs 0).N
    = ref (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  have key := point m c t y (((cfg0.win 4).blk t).view.emb y) (by blk_simp [idx t]) (by blk_simp [idx t])
  blk_simp
  rw [after0_4]
  frame_out
  exact key

end Cert.Gelu

end
-- ==== Proof.Zoh.lean ====
/- The gradient through the recurrence's discretisation (`ssm_prep_bwd`): `lam_bar = exp(lam dt)` and
   `b_bar = ((lam_bar - 1) / lam) b`, by real and imaginary parts, pulled back to `lam`, `log dt` and `b`. -/
module

public import proofs.«01_k».proof.Proof.Arith
public import proofs.«01_k».proof.Proof.Gen.KZohIdeal.Frame
public import proofs.«01_k».proof.Proof.Gen.RZohIdeal.Run
public import Idealize.ShloMosaic.Lib.Pipeline.ValueKit
public import Idealize.ShloMosaic.Lib.Pointwise

@[expose] public section

set_option maxRecDepth 16384

noncomputable section

namespace Cert.Zoh

open Idealize.ShloMosaic Idealize.ShloMosaic.TcCoe Idealize.SL.Sem Idealize.ShloMosaic.StableHlo

section Ref

open Cert.RZohIdeal Cert.RZohIdeal.Gen

/-- The arguments: `lam`, `log dt` and `b`, then the cotangents of `lam_bar` and `b_bar`. -/
structure Args where
  /-- `lam`'s real part. -/
  lr : FVec Ideal S32x64 .f32
  /-- `lam`'s imaginary part. -/
  li : FVec Ideal S32x64 .f32
  /-- `log dt`. -/
  ld : FVec Ideal S32 .f32
  /-- `b`'s real part. -/
  br : FVec Ideal S32x64x16 .f32
  /-- `b`'s imaginary part. -/
  bi : FVec Ideal S32x64x16 .f32
  /-- The cotangent of `lam_bar`'s real part. -/
  cr : FVec Ideal S32x64 .f32
  /-- The cotangent of `lam_bar`'s imaginary part. -/
  ci : FVec Ideal S32x64 .f32
  /-- The cotangent of `b_bar`'s real part. -/
  er : FVec Ideal S32x64x16 .f32
  /-- The cotangent of `b_bar`'s imaginary part. -/
  ei : FVec Ideal S32x64x16 .f32

variable (A : Args)

/-- The step at every entry. -/
def dt : FVec Ideal S32x64 .f32 :=
  broadcastInDim S32x64 ![0, 1] bcast_S32x1_S32x64_0_1 (broadcastInDim S32x1 ![0] bcast_S32_S32x1_0 (Host.exp A.ld))

/-- `lam_bar`'s magnitude. -/
def mag : FVec Ideal S32x64 .f32 := Host.exp (mulf A.lr (dt A))
/-- The cosine of `lam_bar`'s angle. -/
def co : FVec Ideal S32x64 .f32 := Host.cos (mulf A.li (dt A))
/-- The sine of `lam_bar`'s angle. -/
def si : FVec Ideal S32x64 .f32 := Host.sin (mulf A.li (dt A))

/-- One at every entry. -/
def one : FVec Ideal S32x64 .f32 := broadcastInDim S32x64 ![] bcast_S_S32x64 (constant S_ .f32 0x3F800000#32)

/-- `lam_bar - 1`, real part. -/
def barRe : FVec Ideal S32x64 .f32 := subf (mulf (mag A) (co A)) one
/-- `lam_bar`'s imaginary part. -/
def barIm : FVec Ideal S32x64 .f32 := mulf (mag A) (si A)
/-- `lam`'s square. -/
def nsq : FVec Ideal S32x64 .f32 := addf (mulf A.lr A.lr) (mulf A.li A.li)
/-- The factor's real part before its division. -/
def numRe : FVec Ideal S32x64 .f32 := addf (mulf (barRe A) A.lr) (mulf (barIm A) A.li)
/-- The factor's imaginary part before its division. -/
def numIm : FVec Ideal S32x64 .f32 := subf (mulf (barIm A) A.lr) (mulf (barRe A) A.li)

/-- The sum over the channels of a product. -/
def over (a b : FVec Ideal S32x64x16 .f32) : FVec Ideal S32x64x1 .f32 :=
  shapeCast _ (Host.reduceAdd (mulf a b) (constant S_ .f32 0x00000000#32) reducesTo_S32x64x16_S32x64_d2 h_S_) shapeCasts_S32x64_S32x64x1

/-- The same array, at its own shape. -/
def same (a : FVec Ideal S32x64x16 .f32) : FVec Ideal S32x64x16 .f32 := shapeCast _ a shapeCasts_S32x64x16_S32x64x16

/-- The sum over an axis of one entry. -/
def flat (a : FVec Ideal S32x64x1 .f32) : FVec Ideal S32x64 .f32 :=
  Host.reduceAdd a (constant S_ .f32 0x00000000#32) reducesTo_S32x64x1_S32x64_d2 h_S_

/-- The cotangent of the factor's imaginary part. -/
def ctIm : FVec Ideal S32x64 .f32 := flat (addf (over (same A.ei) A.br) (over (Host.negf A.er) A.bi))
/-- The cotangent of the factor's real part. -/
def ctRe : FVec Ideal S32x64 .f32 := flat (addf (over (same A.ei) A.bi) (over (same A.er) A.br))
/-- It, through the division. -/
def qIm : FVec Ideal S32x64 .f32 := Host.divf (ctIm A) (nsq A)
/-- It, through the division. -/
def qRe : FVec Ideal S32x64 .f32 := Host.divf (ctRe A) (nsq A)
/-- The cotangent of `lam`'s square. -/
def ctSq : FVec Ideal S32x64 .f32 :=
  addf (Host.negf (mulf (mulf (ctIm A) (Host.divf one (mulf (nsq A) (nsq A)))) (numIm A)))
    (Host.negf (mulf (mulf (ctRe A) (Host.divf one (mulf (nsq A) (nsq A)))) (numRe A)))
/-- The whole cotangent of `lam_bar`'s imaginary part. -/
def ctBarIm : FVec Ideal S32x64 .f32 := addf (addf A.ci (mulf (qIm A) A.lr)) (mulf (qRe A) A.li)
/-- The whole cotangent of `lam_bar`'s real part. -/
def ctBarRe : FVec Ideal S32x64 .f32 := addf (addf A.cr (mulf (Host.negf (qIm A)) A.li)) (mulf (qRe A) A.lr)
/-- The cotangent of the magnitude's exponent. -/
def ctExp : FVec Ideal S32x64 .f32 := mulf (addf (mulf (ctBarIm A) (si A)) (mulf (ctBarRe A) (co A))) (mag A)
/-- The cotangent of the angle, the sine's part. -/
def ctSin : FVec Ideal S32x64 .f32 := mulf (mulf (mag A) (ctBarIm A)) (co A)
/-- The cotangent of the angle, the cosine's part. -/
def ctCos : FVec Ideal S32x64 .f32 := mulf (Host.negf (mulf (mag A) (ctBarRe A))) (si A)

/-- The gradient of `lam`'s real part. -/
def gradRe : FVec Ideal S32x1x64 .f32 :=
  shapeCast _ (addf (addf (addf (addf (mulf (barIm A) (qIm A)) (mulf (barRe A) (qRe A))) (mulf A.lr (ctSq A)))
    (mulf (ctSq A) A.lr)) (mulf (ctExp A) (dt A))) shapeCasts_S32x64_S32x1x64

/-- The gradient of `lam`'s imaginary part. -/
def gradIm : FVec Ideal S32x1x64 .f32 :=
  shapeCast _ (addf (addf (addf (addf (addf (mulf (barRe A) (Host.negf (qIm A))) (mulf (barIm A) (qRe A))) (mulf A.li (ctSq A)))
    (mulf (ctSq A) A.li)) (mulf (ctSin A) (dt A))) (mulf (ctCos A) (dt A))) shapeCasts_S32x64_S32x1x64

/-- The sum over a group of a product. -/
def group (a b : FVec Ideal S32x64 .f32) : FVec Ideal S32x1 .f32 :=
  shapeCast _ (Host.reduceAdd (mulf a b) (constant S_ .f32 0x00000000#32) reducesTo_S32x64_S32_d1 h_S_) shapeCasts_S32_S32x1

/-- The gradient of `log dt`. -/
def gradLd : FVec Ideal S32x1x1 .f32 :=
  shapeCast _ (mulf (Host.reduceAdd (addf (addf (group A.li (ctSin A)) (group A.li (ctCos A))) (group A.lr (ctExp A)))
    (constant S_ .f32 0x00000000#32) reducesTo_S32x1_S32_d1 h_S_) (Host.exp A.ld)) shapeCasts_S32_S32x1x1

/-- A factor at every channel. -/
def chan (a : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 a)

/-- The gradient of `b`'s real part. -/
def gradBr : FVec Ideal S32x16x64 .f32 :=
  transpose S32x16x64 [0, 2, 1] (addf (mulf (chan (Host.divf (numIm A) (nsq A))) (same A.ei))
    (mulf (chan (Host.divf (numRe A) (nsq A))) (same A.er))) transposes_S32x64x16_S32x16x64_0_2_1

/-- The gradient of `b`'s imaginary part. -/
def gradBi : FVec Ideal S32x16x64 .f32 :=
  transpose S32x16x64 [0, 2, 1] (addf (mulf (chan (Host.divf (numRe A) (nsq A))) (same A.ei))
    (mulf (chan (Host.divf (numIm A) (nsq A))) (Host.negf A.er))) transposes_S32x64x16_S32x16x64_0_2_1

/-- The reference's run: each result is the gradient named above, the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v141) = gradRe ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
      ∧ r.2.mem ((c.tc : Thread nD τ).loc main_v142) = gradIm ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
      ∧ r.2.mem ((c.tc : Thread nD τ).loc main_v143) = gradLd ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
      ∧ r.2.mem ((c.tc : Thread nD τ).loc main_v144) = gradBr ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
      ∧ r.2.mem ((c.tc : Thread nD τ).loc main_v145) = gradBi ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1, (h c).2.1, (h c).2.2.1, (h c).2.2.2.1, (h c).2.2.2.2.1, (h c).2.2.2.2.2⟩) (Cert.RZohIdeal.Value.run (F := Ideal) m ρ)

end Ref

open Cert.KZohIdeal Cert.KZohIdeal.Gen

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0, 0] ∧ win0_10.index t = ![0, 0, 0]
    ∧ win0_11.index t = ![0, 0, 0] ∧ win0_12.index t = ![0, 0, 0] ∧ win0_13.index t = ![0, 0, 0] :=
  (by decide +kernel : ∀ t : Fin grid0.N, _)

variable (m : (ℓ : Loc nD τ sig) → Buf (Elt Ideal) ℓ)

/-- The kernel's arguments. -/
def args (c : Dev nD) : Args where
  lr := m ((c : Thread nD τ).loc main_arg0)
  li := m ((c : Thread nD τ).loc main_arg1)
  ld := m ((c : Thread nD τ).loc main_arg2)
  br := m ((c : Thread nD τ).loc main_arg3)
  bi := m ((c : Thread nD τ).loc main_arg4)
  cr := m ((c : Thread nD τ).loc main_arg5)
  ci := m ((c : Thread nD τ).loc main_arg6)
  er := m ((c : Thread nD τ).loc main_arg7)
  ei := m ((c : Thread nD τ).loc main_arg8)

theorem args_eq (c : Dev nD) : args m c = ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩ := rfl

/-- The kernel's gradient of `lam`'s real part. -/
theorem point9 (c : Dev nD) (t : Fin cfg0.N) (y) (i : S32x1x64.Idx) (h0 : (i 0 : ℕ) = y 0) (h1 : (i 1 : ℕ) = y 1) (h2 : (i 2 : ℕ) = y 2) :
    out0_9 (iblk m c 0 t) (iblk m c 1 t) (iblk m c 2 t) (iblk m c 3 t) (iblk m c 4 t) (iblk m c 5 t) (iblk m c 6 t) (iblk m c 7 t) (iblk m c 8 t) y
      = gradRe (args m c) i := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, gradRe, dt, mag, co, si, one, barRe, barIm, nsq, numRe, numIm, over, same, flat, ctIm, ctRe, qIm, qRe, ctSq, ctBarIm, ctBarRe, ctExp, ctSin, ctCos, group, chan, args]
  simp only [zero_sub, Finset.univ_unique, Finset.sum_singleton]
  blk_point [iblk, V, idx t]

/-- The kernel's result is this gradient. -/
theorem final9 (c : Dev nD) : (dats m 0 c).arrAt 9 (cfgs 0).N = gradRe (args m c) := by
  refine (dats m 0 c).arrAt_eq_of_covers 9 _ (by decide +kernel) fun t _ y => ?_
  have key := point9 m c t y (((cfg0.win 9).blk t).view.emb y) (by blk_simp [idx t]) (by blk_simp [idx t]) (by blk_simp [idx t])
  blk_simp
  rw [after0_9]
  exact key

/-- The kernel's gradient of `lam`'s imaginary part. -/
theorem point10 (c : Dev nD) (t : Fin cfg0.N) (y) (i : S32x1x64.Idx) (h0 : (i 0 : ℕ) = y 0) (h1 : (i 1 : ℕ) = y 1) (h2 : (i 2 : ℕ) = y 2) :
    out0_10 (iblk m c 0 t) (iblk m c 1 t) (iblk m c 2 t) (iblk m c 3 t) (iblk m c 4 t) (iblk m c 5 t) (iblk m c 6 t) (iblk m c 7 t) (iblk m c 8 t) y
      = gradIm (args m c) i := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, gradIm, dt, mag, co, si, one, barRe, barIm, nsq, numRe, numIm, over, same, flat, ctIm, ctRe, qIm, qRe, ctSq, ctBarIm, ctBarRe, ctExp, ctSin, ctCos, group, chan, args]
  simp only [zero_sub, Finset.univ_unique, Finset.sum_singleton]
  blk_point [iblk, V, idx t]

/-- The kernel's result is this gradient. -/
theorem final10 (c : Dev nD) : (dats m 0 c).arrAt 10 (cfgs 0).N = gradIm (args m c) := by
  refine (dats m 0 c).arrAt_eq_of_covers 10 _ (by decide +kernel) fun t _ y => ?_
  have key := point10 m c t y (((cfg0.win 10).blk t).view.emb y) (by blk_simp [idx t]) (by blk_simp [idx t]) (by blk_simp [idx t])
  blk_simp
  rw [after0_10]
  exact key

/-- The kernel's gradient of `log dt`. -/
theorem point11 (c : Dev nD) (t : Fin cfg0.N) (y) (i : S32x1x1.Idx) (h0 : (i 0 : ℕ) = y 0) (h1 : (i 1 : ℕ) = y 1) (h2 : (i 2 : ℕ) = y 2) :
    out0_11 (iblk m c 0 t) (iblk m c 1 t) (iblk m c 2 t) (iblk m c 3 t) (iblk m c 4 t) (iblk m c 5 t) (iblk m c 6 t) (iblk m c 7 t) (iblk m c 8 t) y
      = gradLd (args m c) i := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, gradLd, dt, mag, co, si, one, barRe, barIm, nsq, numRe, numIm, over, same, flat, ctIm, ctRe, qIm, qRe, ctSq, ctBarIm, ctBarRe, ctExp, ctSin, ctCos, group, chan, args]
  simp only [zero_sub, Finset.univ_unique, Finset.sum_singleton]
  blk_point [iblk, V, idx t]

/-- The kernel's result is this gradient. -/
theorem final11 (c : Dev nD) : (dats m 0 c).arrAt 11 (cfgs 0).N = gradLd (args m c) := by
  refine (dats m 0 c).arrAt_eq_of_covers 11 _ (by decide +kernel) fun t _ y => ?_
  have key := point11 m c t y (((cfg0.win 11).blk t).view.emb y) (by blk_simp [idx t]) (by blk_simp [idx t]) (by blk_simp [idx t])
  blk_simp
  rw [after0_11]
  exact key

/-- The kernel's gradient of `b`'s real part. -/
theorem point12 (c : Dev nD) (t : Fin cfg0.N) (y) (i : S32x16x64.Idx) (h0 : (i 0 : ℕ) = y 0) (h1 : (i 1 : ℕ) = y 1) (h2 : (i 2 : ℕ) = y 2) :
    out0_12 (iblk m c 0 t) (iblk m c 1 t) (iblk m c 2 t) (iblk m c 3 t) (iblk m c 4 t) (iblk m c 5 t) (iblk m c 6 t) (iblk m c 7 t) (iblk m c 8 t) y
      = gradBr (args m c) i := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, gradBr, dt, mag, co, si, one, barRe, barIm, nsq, numRe, numIm, over, same, flat, ctIm, ctRe, qIm, qRe, ctSq, ctBarIm, ctBarRe, ctExp, ctSin, ctCos, group, chan, args]
  blk_point [iblk, V, idx t]

/-- The kernel's result is this gradient. -/
theorem final12 (c : Dev nD) : (dats m 0 c).arrAt 12 (cfgs 0).N = gradBr (args m c) := by
  refine (dats m 0 c).arrAt_eq_of_covers 12 _ (by decide +kernel) fun t _ y => ?_
  have key := point12 m c t y (((cfg0.win 12).blk t).view.emb y) (by blk_simp [idx t]) (by blk_simp [idx t]) (by blk_simp [idx t])
  blk_simp
  rw [after0_12]
  exact key

/-- The kernel's gradient of `b`'s imaginary part. -/
theorem point13 (c : Dev nD) (t : Fin cfg0.N) (y) (i : S32x16x64.Idx) (h0 : (i 0 : ℕ) = y 0) (h1 : (i 1 : ℕ) = y 1) (h2 : (i 2 : ℕ) = y 2) :
    out0_13 (iblk m c 0 t) (iblk m c 1 t) (iblk m c 2 t) (iblk m c 3 t) (iblk m c 4 t) (iblk m c 5 t) (iblk m c 6 t) (iblk m c 7 t) (iblk m c 8 t) y
      = gradBi (args m c) i := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, gradBi, dt, mag, co, si, one, barRe, barIm, nsq, numRe, numIm, over, same, flat, ctIm, ctRe, qIm, qRe, ctSq, ctBarIm, ctBarRe, ctExp, ctSin, ctCos, group, chan, args]
  simp only [zero_sub, Finset.univ_unique, Finset.sum_singleton]
  blk_point [iblk, V, idx t]

/-- The kernel's result is this gradient. -/
theorem final13 (c : Dev nD) : (dats m 0 c).arrAt 13 (cfgs 0).N = gradBi (args m c) := by
  refine (dats m 0 c).arrAt_eq_of_covers 13 _ (by decide +kernel) fun t _ y => ?_
  have key := point13 m c t y (((cfg0.win 13).blk t).view.emb y) (by blk_simp [idx t]) (by blk_simp [idx t]) (by blk_simp [idx t])
  blk_simp
  rw [after0_13]
  exact key

end Cert.Zoh

end
-- ==== Proof.MlpIn.lean ====
/- The squared relu of the MLP (`mlp_in`), fused with the product before it. -/
module

public import proofs.«01_k».proof.Proof.Gen.KMlpInIdeal.Frame
public import proofs.«01_k».proof.Proof.Gen.RMlpInIdeal.Run
public import Idealize.ShloMosaic.Lib.Pipeline.ValueKit
public import Idealize.ShloMosaic.Lib.Pointwise

@[expose] public section

set_option maxRecDepth 16384

noncomputable section

namespace Cert.MlpIn

open Idealize.ShloMosaic Idealize.ShloMosaic.TcCoe Idealize.SL.Sem Idealize.ShloMosaic.StableHlo

section Ref

open Cert.RMlpInIdeal Cert.RMlpInIdeal.Gen

/-- The product before the relu. -/
def pre (a : FVec Ideal S4096x1024 .bf16) (w : FVec Ideal S1024x4096 .bf16) : FVec Ideal S4096x4096 .f32 :=
  Host.dotGeneral dot_S4096x1024_S1024x4096_S4096x4096_1_0_0_1_n_n none (extf .f32 a bitsLt_bf16_f32) (extf .f32 w bitsLt_bf16_f32)

/-- Its relu. -/
def relu (a : FVec Ideal S4096x1024 .bf16) (w : FVec Ideal S1024x4096 .bf16) : FVec Ideal S4096x4096 .f32 :=
  maximumf (pre a w) (broadcastInDim S4096x4096 ![] bcast_S_S4096x4096 (constant S_ .f32 0x00000000#32))

/-- The reference's activation. -/
def act (a : FVec Ideal S4096x1024 .bf16) (w : FVec Ideal S1024x4096 .bf16) : FVec Ideal S4096x4096 .bf16 :=
  truncf .bf16 (mulf (relu a w) (relu a w)) bitsLt_bf16_f32

/-- The product, kept for the backward pass. -/
def preCast (a : FVec Ideal S4096x1024 .bf16) (w : FVec Ideal S1024x4096 .bf16) : FVec Ideal S4096x4096 .bf16 :=
  truncf .bf16 (pre a w) bitsLt_bf16_f32

end Ref

open Cert.KMlpInIdeal Cert.KMlpInIdeal.Gen

theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ)

/-- One block of the kernel's activation is the reference's. -/
theorem point_act (c : Dev nD) (t : Fin cfg0.N) (y) (i : S4096x4096.Idx) (h0 : (i 0 : ℕ) = t.val / 2 * 1024 + y 0) (h1 : (i 1 : ℕ) = t.val % 2 * 2048 + y 1) :
    k0_pay2 (iblk m c 0 t) (iblk m c 1 t) y = act (m ((c : Thread nD τ).loc main_arg0)) (m ((c : Thread nD τ).loc main_arg1)) i := by
  pointwise [k0_pay2, k0_pay1, act, relu, pre]
  blk_point [iblk, V, idx t]

/-- One block of the kernel's product is the reference's. -/
theorem point_pre (c : Dev nD) (t : Fin cfg0.N) (y) (i : S4096x4096.Idx) (h0 : (i 0 : ℕ) = t.val / 2 * 1024 + y 0) (h1 : (i 1 : ℕ) = t.val % 2 * 2048 + y 1) :
    k0_pay3 (iblk m c 0 t) (iblk m c 1 t) y = preCast (m ((c : Thread nD τ).loc main_arg0)) (m ((c : Thread nD τ).loc main_arg1)) i := by
  pointwise [k0_pay3, k0_pay1, preCast, pre]
  blk_point [iblk, V, idx t]

/-- The kernel's first result is the activation. -/
theorem final_act (c : Dev nD) : (dats m 0 c).arrAt 2 (cfgs 0).N
    = act (m ((c : Thread nD τ).loc main_arg0)) (m ((c : Thread nD τ).loc main_arg1)) := by
  refine (dats m 0 c).arrAt_eq_of_covers 2 _ (by decide +kernel) fun t _ y => ?_
  have key := point_act m c t y (((cfg0.win 2).blk t).view.emb y) (by blk_simp [idx t]) (by blk_simp [idx t])
  blk_simp
  rw [after0_2]; frame_out
  exact key

/-- Its second result is the product. -/
theorem final_pre (c : Dev nD) : (dats m 0 c).arrAt 3 (cfgs 0).N
    = preCast (m ((c : Thread nD τ).loc main_arg0)) (m ((c : Thread nD τ).loc main_arg1)) := by
  refine (dats m 0 c).arrAt_eq_of_covers 3 _ (by decide +kernel) fun t _ y => ?_
  have key := point_pre m c t y (((cfg0.win 3).blk t).view.emb y) (by blk_simp [idx t]) (by blk_simp [idx t])
  blk_simp
  rw [after0_3]; frame_out
  exact key

end Cert.MlpIn

end
-- ==== Proof.OutProj.lean ====
/- The residual stream after the mixers and its norm (`out_proj`), fused with the product before them. -/
module

public import proofs.«01_k».proof.Proof.Gen.KOutProjIdeal.Frame
public import proofs.«01_k».proof.Proof.Gen.ROutProjIdeal.Run
public import Idealize.ShloMosaic.Lib.Pipeline.ValueKit
public import Idealize.ShloMosaic.Lib.Pointwise

@[expose] public section

set_option maxRecDepth 16384

noncomputable section

namespace Cert.OutProj

open Idealize.ShloMosaic Idealize.ShloMosaic.TcCoe Idealize.SL.Sem Idealize.ShloMosaic.StableHlo

section Ref

open Cert.ROutProjIdeal Cert.ROutProjIdeal.Gen

/-- The residual stream. -/
def strm (a : FVec Ideal S4096x1024 .bf16) (w : FVec Ideal S1024x1024 .bf16) (x : FVec Ideal S4096x1024 .f32) : FVec Ideal S4096x1024 .f32 :=
  addf x (Host.dotGeneral dot_S4096x1024_S1024x1024_S4096x1024_1_0_0_1_n_n none (extf .f32 a bitsLt_bf16_f32) (extf .f32 w bitsLt_bf16_f32))

/-- A row's mean square, with the norm's ε. -/
def ms (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The reference's normed stream. -/
def normed (a : FVec Ideal S4096x1024 .bf16) (w : FVec Ideal S1024x1024 .bf16) (x : FVec Ideal S4096x1024 .f32) (g : FVec Ideal S1x1024 .f32) : FVec Ideal S4096x1024 .bf16 :=
  truncf .bf16 (mulf (mulf (strm a w x) (broadcastInDim S4096x1024 ![0, 1] bcast_S4096x1_S4096x1024_0_1 (Host.rsqrt (ms (strm a w x))))) (broadcastInDim S4096x1024 ![0, 1] bcast_S1x1024_S4096x1024_0_1 g)) bitsLt_bf16_f32

end Ref

open Cert.KOutProjIdeal Cert.KOutProjIdeal.Gen

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

/-- One block of rows of the kernel's stream is the reference's. -/
theorem point_strm (c : Dev nD) (t : Fin cfg0.N) (y) (i : S4096x1024.Idx) (h0 : (i 0 : ℕ) = t.val * 1024 + y 0) (h1 : (i 1 : ℕ) = y 1) :
    k0_pay1 (iblk m c 0 t) (iblk m c 1 t) (iblk m c 2 t) y
      = strm (m ((c : Thread nD τ).loc main_arg0)) (m ((c : Thread nD τ).loc main_arg1)) (m ((c : Thread nD τ).loc main_arg2)) i := by
  pointwise [k0_pay1, strm]
  rw [add_comm]
  blk_point [iblk, V, idx t]

/-- One block of rows of the kernel's normed stream is the reference's. -/
theorem point_normed (c : Dev nD) (t : Fin cfg0.N) (y) (i : S4096x1024.Idx) (h0 : (i 0 : ℕ) = t.val * 1024 + y 0) (h1 : (i 1 : ℕ) = y 1) :
    k0_pay2 (iblk m c 0 t) (iblk m c 1 t) (iblk m c 2 t) (iblk m c 3 t) y
      = normed (m ((c : Thread nD τ).loc main_arg0)) (m ((c : Thread nD τ).loc main_arg1)) (m ((c : Thread nD τ).loc main_arg2)) (m ((c : Thread nD τ).loc main_arg3)) i := by
  have hs := fun y i h0 h1 => point_strm m c t y i h0 h1
  pointwise [k0_pay2, normed, ms]
  have e : ∀ l : Fin 1024, k0_pay1 (iblk m c 0 t) (iblk m c 1 t) (iblk m c 2 t) (ix2 (y 0) l)
      = strm (m ((c : Thread nD τ).loc main_arg0)) (m ((c : Thread nD τ).loc main_arg1)) (m ((c : Thread nD τ).loc main_arg2)) (ix2 (i 0) l) :=
    fun l => hs (ix2 (y 0) l) (ix2 (i 0) l) h0 rfl
  simp only [e, hs y i h0 h1]
  blk_point [iblk, V, idx t]

/-- The kernel's first result is the stream. -/
theorem final_strm (c : Dev nD) : (dats m 0 c).arrAt 4 (cfgs 0).N
    = strm (m ((c : Thread nD τ).loc main_arg0)) (m ((c : Thread nD τ).loc main_arg1)) (m ((c : Thread nD τ).loc main_arg2)) := by
  refine (dats m 0 c).arrAt_eq_of_covers 4 _ (by decide +kernel) fun t _ y => ?_
  have key := point_strm m c t y (((cfg0.win 4).blk t).view.emb y) (by blk_simp [idx t]) (by blk_simp [idx t])
  blk_simp
  rw [after0_4]; frame_out
  exact key

/-- Its second result is the normed stream. -/
theorem final_normed (c : Dev nD) : (dats m 0 c).arrAt 5 (cfgs 0).N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have key := point_normed m c t y (((cfg0.win 5).blk t).view.emb y) (by blk_simp [idx t]) (by blk_simp [idx t])
  blk_simp
  rw [after0_5]; frame_out
  exact key

end Cert.OutProj

end
-- ==== Proof.GluGate.lean ====
/- The gate and the norm of the recurrence's output (`glu_gate`), fused with the gate's product. -/
module

public import proofs.«01_k».proof.Proof.Gen.KGluGateIdeal.Frame
public import proofs.«01_k».proof.Proof.Gen.RGluGateIdeal.Run
public import Idealize.ShloMosaic.Lib.Pipeline.ValueKit
public import Idealize.ShloMosaic.Lib.Pointwise

@[expose] public section

set_option maxRecDepth 16384

noncomputable section

namespace Cert.GluGate

open Idealize.ShloMosaic Idealize.ShloMosaic.TcCoe Idealize.SL.Sem Idealize.ShloMosaic.StableHlo

section Ref

open Cert.RGluGateIdeal Cert.RGluGateIdeal.Gen

/-- A constant at every entry. -/
def cst (b : BitVec 32) : FVec Ideal S4096x512 .f32 := broadcastInDim S4096x512 ![] bcast_S_S4096x512 (constant S_ .f32 b)

/-- The gelu of the recurrence's output. -/
def gel (y : FVec Ideal S4096x512 .f32) : FVec Ideal S4096x512 .f32 :=
  mulf y (mulf (cst 0x3F000000#32) (addf (cst 0x3F800000#32) (Host.tanh (mulf (cst 0x3F4C422A#32) (addf y (mulf (cst 0x3D372713#32) (mulf (mulf y y) y)))))))

/-- The gate's product. -/
def pre (y : FVec Ideal S4096x512 .f32) (w : FVec Ideal S512x512 .bf16) : FVec Ideal S4096x512 .f32 :=
  Host.dotGeneral dot_S4096x512_S512x512_S4096x512_1_0_0_1_n_n none (gel y) (extf .f32 w bitsLt_bf16_f32)

/-- The gated output. -/
def gated (y : FVec Ideal S4096x512 .f32) (w : FVec Ideal S512x512 .bf16) (b : FVec Ideal S1x512 .f32) : FVec Ideal S4096x512 .f32 :=
  mulf (gel y) (Host.divf (cst 0x3F800000#32) (addf (cst 0x3F800000#32) (Host.exp (Host.negf (addf (pre y w) (broadcastInDim S4096x512 ![0, 1] bcast_S1x512_S4096x512_0_1 b))))))

/-- A row's mean square, with the norm's ε. -/
def ms (h : FVec Ideal S4096x512 .f32) : FVec Ideal S4096x1 .f32 :=
  addf (Host.divf (broadcastInDim S4096x1 ![0] bcast_S4096_S4096x1_0 (Host.reduceAdd (mulf h h) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32))

/-- The reference's normed output. -/
def normed (y : FVec Ideal S4096x512 .f32) (w : FVec Ideal S512x512 .bf16) (b g : FVec Ideal S1x512 .f32) : FVec Ideal S4096x512 .bf16 :=
  truncf .bf16 (mulf (mulf (gated y w b) (broadcastInDim S4096x512 ![0, 1] bcast_S4096x1_S4096x512_0_1 (Host.rsqrt (ms (gated y w b))))) (broadcastInDim S4096x512 ![0, 1] bcast_S1x512_S4096x512_0_1 g)) bitsLt_bf16_f32

end Ref

open Cert.KGluGateIdeal Cert.KGluGateIdeal.Gen

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

variable (m : (ℓ : Loc nD τ sig) → Buf (Elt Ideal) ℓ)

/-- The product's left operand, in bf16: over the reals, the gelu. -/
theorem host_gel (c : Dev nD) :
    V m c main_v13 = truncf .bf16 (gel (m ((c : Thread nD τ).loc main_arg0))) bitsLt_bf16_f32 := by
  simp only [V, hostOps0, List.flatten_cons, List.flatten_nil, List.append_nil, List.cons_append, List.nil_append,
    TRef.binary, TRef.nullary, TRef.ternary, TRef.unary, TRef.toBuf, TRef.ofBuf, cast_eq]
  after_results_simp <;> rfl

theorem gel_at (c : Dev nD) (i) : V m c main_v13 i = gel (m ((c : Thread nD τ).loc main_arg0)) i := by
  rw [host_gel]; rfl

/-- One block of rows of the kernel's product is the reference's. -/
theorem point_pre (c : Dev nD) (t : Fin cfg0.N) (y) (i : S4096x512.Idx) (h0 : (i 0 : ℕ) = t.val * 1024 + y 0) (h1 : (i 1 : ℕ) = y 1) :
    k0_pay2 (iblk m c 0 t) (iblk m c 1 t) y
      = pre (m ((c : Thread nD τ).loc main_arg0)) (m ((c : Thread nD τ).loc main_arg1)) i := by
  pointwise [k0_pay2, pre]
  blk_point [iblk, gel_at m c, V, idx t]

/-- One block of rows of the kernel's normed output is the reference's. -/
theorem point_normed (c : Dev nD) (t : Fin cfg0.N) (y) (i : S4096x512.Idx) (h0 : (i 0 : ℕ) = t.val * 1024 + y 0) (h1 : (i 1 : ℕ) = y 1) :
    k0_pay1 (k0_pay3 (iblk m c 0 t) (iblk m c 1 t) (iblk m c 2 t) (iblk m c 3 t) (iblk m c 4 t)) y
      = normed (m ((c : Thread nD τ).loc main_arg0)) (m ((c : Thread nD τ).loc main_arg1)) (m ((c : Thread nD τ).loc main_arg2)) (m ((c : Thread nD τ).loc main_arg3)) i := by
  pointwise [k0_pay1, k0_pay3, normed, ms, gated, gel, cst]
  have e : ∀ l : Fin 512, k0_pay2 (iblk m c 0 t) (iblk m c 1 t) (ix2 (y 0) l)
      = pre (m ((c : Thread nD τ).loc main_arg0)) (m ((c : Thread nD τ).loc main_arg1)) (ix2 (i 0) l) :=
    fun l => point_pre m c t (ix2 (y 0) l) (ix2 (i 0) l) h0 rfl
  simp only [e, point_pre m c t y i h0 h1, Ideal.logistic, mul_assoc]
  blk_point [iblk, V, idx t]

/-- The kernel's first result is the gate's product. -/
theorem final_pre (c : Dev nD) : (dats m 0 c).arrAt 5 (cfgs 0).N
    = pre (m ((c : Thread nD τ).loc main_arg0)) (m ((c : Thread nD τ).loc main_arg1)) := by
  refine (dats m 0 c).arrAt_eq_of_covers 5 _ (by decide +kernel) fun t _ y => ?_
  have key := point_pre m c t y (((cfg0.win 5).blk t).view.emb y) (by blk_simp [idx t]) (by blk_simp [idx t])
  blk_simp
  rw [after0_5]; frame_out
  exact key

/-- Its second result is the normed output. -/
theorem final_normed (c : Dev nD) : (dats m 0 c).arrAt 6 (cfgs 0).N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have key := point_normed m c t y (((cfg0.win 6).blk t).view.emb y) (by blk_simp [idx t]) (by blk_simp [idx t])
  blk_simp
  rw [after0_6]; frame_out
  exact key

end Cert.GluGate

end
-- ==== Proof.Mix.lean ====
/- The two mixers' outputs side by side (`attn_out_norm`): the attention's, normed, and the recurrence's, taken out of the scan's order of rows. -/
module

public import proofs.«01_k».proof.Proof.Gen.KMixIdeal.Frame
public import proofs.«01_k».proof.Proof.Gen.RMixIdeal.Run
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.SL.Sem Idealize.ShloMosaic.StableHlo

section Ref

open Cert.RMixIdeal Cert.RMixIdeal.Gen

/-- A row's mean square, with the norm's ε. -/
def ms (h : FVec Ideal S4096x512 .f32) : FVec Ideal S4096x1 .f32 :=
  addf (Host.divf (broadcastInDim S4096x1 ![0] bcast_S4096_S4096x1_0 (Host.reduceAdd (mulf h h) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32))

/-- The attention's output, normed. -/
def normed (s : FVec Ideal S4096x512 .f32) (g : FVec Ideal S1x512 .f32) : FVec Ideal S4096x512 .f32 :=
  mulf (mulf s (broadcastInDim S4096x512 ![0, 1] bcast_S4096x1_S4096x512_0_1 (Host.rsqrt (ms s)))) (broadcastInDim S4096x512 ![0, 1] bcast_S1x512_S4096x512_0_1 g)

/-- The reference's result. -/
def mixed (s : FVec Ideal S4096x512 .f32) (n : FVec Ideal S4096x512 .bf16) (g : FVec Ideal S1x512 .f32) : FVec Ideal S4096x1024 .bf16 :=
  truncf .bf16 (concatenate S4096x1024 1 [⟨S4096x512, normed s g⟩, ⟨S4096x512, extf .f32 n bitsLt_bf16_f32⟩] concatenates_S4096x512_S4096x512_S4096x1024_d1) bitsLt_bf16_f32

end Ref

open Cert.KMixIdeal Cert.KMixIdeal.Gen

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

variable (m : (ℓ : Loc nD τ sig) → Buf (Elt Ideal) ℓ)

/-- The rows go into the scan's order and back: where the kernel reads them they stand as they came. -/
theorem host_rows (c : Dev nD) (i : S4096x512.Idx) : V m c main_v7 i = m ((c : Thread nD τ).loc main_arg1) i := by
  simp only [V, hostOps0, List.flatten_cons, List.flatten_nil, List.append_nil, List.cons_append, List.nil_append,
    TRef.binary, TRef.nullary, TRef.ternary, TRef.unary, TRef.toBuf, TRef.ofBuf, cast_eq]
  after_results_simp
  pointwise []

/-- One block of rows of the kernel's result is the reference's. -/
theorem point (c : Dev nD) (t : Fin cfg0.N) (y) (i : S4096x1024.Idx) (h0 : (i 0 : ℕ) = t.val * 512 + y 0) (h1 : (i 1 : ℕ) = y 1) :
    k0_pay1 (iblk m c 0 t) (iblk m c 1 t) (iblk m c 2 t) y
      = mixed (m ((c : Thread nD τ).loc main_arg0)) (m ((c : Thread nD τ).loc main_arg1)) (m ((c : Thread nD τ).loc main_arg2)) i := by
  rcases Nat.lt_or_ge (i 1 : ℕ) 512 with h | h
  · pointwise [k0_pay1, mixed, normed, ms]
    rw [dif_pos (h1 ▸ h), dif_pos h]
    blk_point [iblk, V, idx t]
  · pointwise [k0_pay1, mixed, normed, ms]
    rw [dif_neg (by omega), dif_neg (by omega)]
    blk_point [iblk, host_rows m c, V, idx t]

/-- The kernel's result is the reference's. -/
theorem final (c : Dev nD) : (dats m 0 c).arrAt 3 (cfgs 0).N
    = mixed (m ((c : Thread nD τ).loc main_arg0)) (m ((c : Thread nD τ).loc main_arg1)) (m ((c : Thread nD τ).loc main_arg2)) := by
  refine (dats m 0 c).arrAt_eq_of_covers 3 _ (by decide +kernel) fun t _ y => ?_
  have key := point m c t y (((cfg0.win 3).blk t).view.emb y) (by blk_simp [idx t]) (by blk_simp [idx t])
  blk_simp
  rw [after0_3]; frame_out
  exact key

end Cert.Mix

end
-- ==== Proof.Prep.lean ====
/- The discretisation of the recurrence (`ssm_prep`): `lam_bar = exp(lam dt)` and `b_bar = ((lam_bar - 1) / lam) b`, by
   real and imaginary parts. -/
module

public import proofs.«01_k».proof.Proof.Gen.KPrepIdeal.Frame
public import proofs.«01_k».proof.Proof.Gen.RPrepIdeal.Run
public import Idealize.ShloMosaic.Lib.Pipeline.ValueKit
public import Idealize.ShloMosaic.Lib.Pointwise

@[expose] public section

set_option maxRecDepth 16384

noncomputable section

namespace Cert.Prep

open Idealize.ShloMosaic Idealize.ShloMosaic.TcCoe Idealize.SL.Sem Idealize.ShloMosaic.StableHlo

section Ref

open Cert.RPrepIdeal Cert.RPrepIdeal.Gen

/-- The four arguments, the discretisation's parameters. -/
structure Args where
  /-- `lam`'s real part. -/
  lr : FVec Ideal S32x64 .f32
  /-- `lam`'s imaginary part. -/
  li : FVec Ideal S32x64 .f32
  /-- `log dt`. -/
  ld : FVec Ideal S32 .f32
  /-- `b`'s real part. -/
  br : FVec Ideal S32x64x16 .f32
  /-- `b`'s imaginary part. -/
  bi : FVec Ideal S32x64x16 .f32

variable (A : Args)

/-- The step at every entry. -/
def dt : FVec Ideal S32x64 .f32 :=
  broadcastInDim S32x64 ![0, 1] bcast_S32x1_S32x64_0_1 (broadcastInDim S32x1 ![0] bcast_S32_S32x1_0 (Host.exp A.ld))
/-- `lam_bar`'s real part. -/
def barRe : FVec Ideal S32x64 .f32 := mulf (Host.exp (mulf A.lr (dt A))) (Host.cos (mulf A.li (dt A)))
/-- `lam_bar`'s imaginary part. -/
def barIm : FVec Ideal S32x64 .f32 := mulf (Host.exp (mulf A.lr (dt A))) (Host.sin (mulf A.li (dt A)))
/-- `lam_bar - 1`, real part. -/
def less : FVec Ideal S32x64 .f32 := subf (barRe A) (broadcastInDim S32x64 ![] bcast_S_S32x64 (constant S_ .f32 0x3F800000#32))
/-- `lam`'s square. -/
def nsq : FVec Ideal S32x64 .f32 := addf (mulf A.lr A.lr) (mulf A.li A.li)
/-- The factor's real part. -/
def facRe : FVec Ideal S32x64 .f32 := Host.divf (addf (mulf (less A) A.lr) (mulf (barIm A) A.li)) (nsq A)
/-- The factor's imaginary part. -/
def facIm : FVec Ideal S32x64 .f32 := Host.divf (subf (mulf (barIm A) A.lr) (mulf (less A) A.li)) (nsq A)
/-- A factor at every channel. -/
def chan (a : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 a)

/-- The reference's first result. -/
def lamRe : FVec Ideal S32x1x64 .f32 := shapeCast _ (barRe A) shapeCasts_S32x64_S32x1x64
/-- The reference's second result. -/
def lamIm : FVec Ideal S32x1x64 .f32 := shapeCast _ (barIm A) shapeCasts_S32x64_S32x1x64
/-- The reference's third result, `b_bar`'s real part. -/
def bRe : FVec Ideal S32x16x64 .f32 :=
  transpose S32x16x64 [0, 2, 1] (subf (mulf (chan (facRe A)) A.br) (mulf (chan (facIm A)) A.bi)) transposes_S32x64x16_S32x16x64_0_2_1
/-- The reference's fourth result, `b_bar`'s imaginary part. -/
def bIm : FVec Ideal S32x16x64 .f32 :=
  transpose S32x16x64 [0, 2, 1] (addf (mulf (chan (facRe A)) A.bi) (mulf (chan (facIm A)) A.br)) transposes_S32x64x16_S32x16x64_0_2_1

end Ref

open Cert.KPrepIdeal Cert.KPrepIdeal.Gen

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] :=
  (by decide +kernel : ∀ t : Fin grid0.N, _)

variable (m : (ℓ : Loc nD τ sig) → Buf (Elt Ideal) ℓ)

/-- The kernel's arguments. -/
def args (c : Dev nD) : Args where
  lr := m ((c : Thread nD τ).loc main_arg0)
  li := m ((c : Thread nD τ).loc main_arg1)
  ld := m ((c : Thread nD τ).loc main_arg2)
  br := m ((c : Thread nD τ).loc main_arg3)
  bi := m ((c : Thread nD τ).loc main_arg4)

/-- The kernel's first result is `lam_bar`'s real part. -/
theorem final5 (c : Dev nD) : (dats m 0 c).arrAt 5 (cfgs 0).N = lamRe (args m c) := by
  refine (dats m 0 c).arrAt_eq_of_covers 5 _ (by decide +kernel) fun t _ y => ?_
  have key : ∀ i : S32x1x64.Idx, (i 0 : ℕ) = y 0 → (i 1 : ℕ) = y 1 → (i 2 : ℕ) = y 2 →
      out0_5 (iblk m c 0 t) (iblk m c 1 t) (iblk m c 2 t) (iblk m c 3 t) (iblk m c 4 t) y = lamRe (args m c) i := fun i h0 h1 h2 => by
    frame_out
    pointwise [k0_pay2, k0_pay3, k0_pay6, k0_pay7, k0_pay8, lamRe, barRe, dt, args]
    blk_point [iblk, V, idx t]
  have key := key (((cfg0.win 5).blk t).view.emb y) (by blk_simp [idx t]) (by blk_simp [idx t]) (by blk_simp [idx t])
  blk_simp
  rw [after0_5]
  exact key

/-- The kernel's second result is `lam_bar`'s imaginary part. -/
theorem final6 (c : Dev nD) : (dats m 0 c).arrAt 6 (cfgs 0).N = lamIm (args m c) := by
  refine (dats m 0 c).arrAt_eq_of_covers 6 _ (by decide +kernel) fun t _ y => ?_
  have key : ∀ i : S32x1x64.Idx, (i 0 : ℕ) = y 0 → (i 1 : ℕ) = y 1 → (i 2 : ℕ) = y 2 →
      out0_6 (iblk m c 0 t) (iblk m c 1 t) (iblk m c 2 t) (iblk m c 3 t) (iblk m c 4 t) y = lamIm (args m c) i := fun i h0 h1 h2 => by
    frame_out
    pointwise [k0_pay2, k0_pay3, k0_pay6, k0_pay7, k0_pay9, lamIm, barIm, dt, args]
    blk_point [iblk, V, idx t]
  have key := key (((cfg0.win 6).blk t).view.emb y) (by blk_simp [idx t]) (by blk_simp [idx t]) (by blk_simp [idx t])
  blk_simp
  rw [after0_6]
  exact key

/-- The kernel's third result is `b_bar`'s real part. -/
theorem final7 (c : Dev nD) : (dats m 0 c).arrAt 7 (cfgs 0).N = bRe (args m c) := by
  refine (dats m 0 c).arrAt_eq_of_covers 7 _ (by decide +kernel) fun t _ y => ?_
  have key : ∀ i : S32x16x64.Idx, (i 0 : ℕ) = y 0 → (i 1 : ℕ) = y 1 → (i 2 : ℕ) = y 2 →
      out0_7 (iblk m c 0 t) (iblk m c 1 t) (iblk m c 2 t) (iblk m c 3 t) (iblk m c 4 t) y = bRe (args m c) i := fun i h0 h1 h2 => by
    frame_out
    pointwise [k0_pay2, k0_pay3, k0_pay4, k0_pay5, k0_pay6, k0_pay7, k0_pay8, k0_pay9, k0_pay10, k0_pay11, k0_pay12, k0_pay13, k0_pay14, bRe, chan, facRe, facIm, less, nsq, barRe, barIm, dt, args]
    blk_point [iblk, V, idx t]
  have key := key (((cfg0.win 7).blk t).view.emb y) (by blk_simp [idx t]) (by blk_simp [idx t]) (by blk_simp [idx t])
  blk_simp
  rw [after0_7]
  exact key

/-- The kernel's fourth result is `b_bar`'s imaginary part. -/
theorem final8 (c : Dev nD) : (dats m 0 c).arrAt 8 (cfgs 0).N = bIm (args m c) := by
  refine (dats m 0 c).arrAt_eq_of_covers 8 _ (by decide +kernel) fun t _ y => ?_
  have key : ∀ i : S32x16x64.Idx, (i 0 : ℕ) = y 0 → (i 1 : ℕ) = y 1 → (i 2 : ℕ) = y 2 →
      out0_8 (iblk m c 0 t) (iblk m c 1 t) (iblk m c 2 t) (iblk m c 3 t) (iblk m c 4 t) y = bIm (args m c) i := fun i h0 h1 h2 => by
    frame_out
    pointwise [k0_pay1, k0_pay2, k0_pay3, k0_pay4, k0_pay5, k0_pay6, k0_pay7, k0_pay8, k0_pay9, k0_pay10, k0_pay11, k0_pay12, k0_pay13, k0_pay15, k0_pay16, bIm, chan, facRe, facIm, less, nsq, barRe, barIm, dt, args]
    blk_point [iblk, V, idx t]
  have key := key (((cfg0.win 8).blk t).view.emb y) (by blk_simp [idx t]) (by blk_simp [idx t]) (by blk_simp [idx t])
  blk_simp
  rw [after0_8]
  exact key

end Cert.Prep

end
-- ==== Proof.Proj.lean ====
/- The input projection (`in_proj`): the first norm, the product, and the norms of the query's and the key's heads. -/
module

public import proofs.«01_k».proof.Proof.Gen.KProjIdeal.Frame
public import proofs.«01_k».proof.Proof.Gen.RProjIdeal.Run
public import proofs.«01_k».proof.Proof.Arith
public import proofs.«01_k».proof.Pre_finite
public import Idealize.ShloMosaic.Lib.Pipeline.ValueKit
public import Idealize.ShloMosaic.Lib.Pointwise
public import Idealize.ShloMosaic.Lib.ReduceAll

@[expose] public section

set_option maxRecDepth 16384

noncomputable section

namespace Cert.Proj

open Idealize.ShloMosaic Idealize.ShloMosaic.TcCoe Idealize.SL.Sem Idealize.ShloMosaic.StableHlo

section Ref

open Cert.RProjIdeal Cert.RProjIdeal.Gen

/-- A row's mean square, with the norm's ε. -/
def ms (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normed rows. -/
def xn (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (ms x)))) (broadcastInDim S4096x1024 ![0, 1] bcast_S1x1024_S4096x1024_0_1 g)

/-- The normed rows as the reference returns them. -/
def xnCast (x : FVec Ideal S4096x1024 .f32) (g : FVec Ideal S1x1024 .f32) : FVec Ideal S4096x1024 .bf16 :=
  truncf .bf16 (xn x g) bitsLt_bf16_f32

/-- The projection. -/
def proj (x : FVec Ideal S4096x1024 .f32) (w : FVec Ideal S1024x2048 .bf16) (g : FVec Ideal S1x1024 .f32) : FVec Ideal S4096x2048 .f32 :=
  Host.dotGeneral dot_S4096x1024_S1024x2048_S4096x2048_1_0_0_1_n_n none (xn x g) (extf .f32 w bitsLt_bf16_f32)

/-- A row's heads. -/
def heads (x : FVec Ideal S4096x512 .f32) : FVec Ideal S4096x8x64 .f32 := shapeCast S4096x8x64 x shapeCasts_S4096x512_S4096x8x64

/-- The mean square of a head, with the norm's ε. -/
def msHead (x : FVec Ideal S4096x8x64 .f32) : FVec Ideal S4096x8x1 .f32 :=
  addf (Host.divf (broadcastInDim S4096x8x1 ![0, 1] bcast_S4096x8_S4096x8x1_0_1 (Host.reduceAdd (mulf x x) (constant S_ .f32 0x00000000#32) reducesTo_S4096x8x64_S4096x8_d2 h_S_)) (broadcastInDim S4096x8x1 ![] bcast_S_S4096x8x1 (constant S_ .f32 0x42800000#32))) (broadcastInDim S4096x8x1 ![] bcast_S_S4096x8x1 (constant S_ .f32 0x358637BD#32))

/-- The normed heads. -/
def normHead (x : FVec Ideal S4096x8x64 .f32) (g : FVec Ideal S1x64 .f32) : FVec Ideal S4096x8x64 .f32 :=
  mulf (mulf x (broadcastInDim S4096x8x64 ![0, 1, 2] bcast_S4096x8x1_S4096x8x64_0_1_2 (Host.rsqrt (msHead x)))) (broadcastInDim S4096x8x64 ![0, 1, 2] bcast_S1x1x64_S4096x8x64_0_1_2 (broadcastInDim S1x1x64 ![1, 2] bcast_S1x64_S1x1x64_1_2 g))

/-- The query's columns of the projection, those of the key and those of the value. -/
def qCols (p : FVec Ideal S4096x2048 .f32) : FVec Ideal S4096x512 .f32 := extractStridedSlice S4096x512 ![0, 0] p slices_S4096x2048_S4096x512_0_0
def kCols (p : FVec Ideal S4096x2048 .f32) : FVec Ideal S4096x512 .f32 := extractStridedSlice S4096x512 ![0, 512] p slices_S4096x2048_S4096x512_0_512
def vCols (p : FVec Ideal S4096x2048 .f32) : FVec Ideal S4096x512 .f32 := extractStridedSlice S4096x512 ![0, 1024] p slices_S4096x2048_S4096x512_0_1024

/-- The normed query, scaled. -/
def query (x : FVec Ideal S4096x1024 .f32) (w : FVec Ideal S1024x2048 .bf16) (g : FVec Ideal S1x1024 .f32) (gq : FVec Ideal S1x64 .f32) : FVec Ideal S4096x512 .bf16 :=
  truncf .bf16 (shapeCast S4096x512 (mulf (normHead (heads (qCols (proj x w g))) gq) (broadcastInDim S4096x8x64 ![] bcast_S_S4096x8x64 (constant S_ .f32 0x3E000000#32))) shapeCasts_S4096x8x64_S4096x512) bitsLt_bf16_f32

/-- The normed key. -/
def keys (x : FVec Ideal S4096x1024 .f32) (w : FVec Ideal S1024x2048 .bf16) (g : FVec Ideal S1x1024 .f32) (gk : FVec Ideal S1x64 .f32) : FVec Ideal S4096x512 .bf16 :=
  truncf .bf16 (shapeCast S4096x512 (normHead (heads (kCols (proj x w g))) gk) shapeCasts_S4096x8x64_S4096x512) bitsLt_bf16_f32

/-- The value's columns. -/
def vals (x : FVec Ideal S4096x1024 .f32) (w : FVec Ideal S1024x2048 .bf16) (g : FVec Ideal S1x1024 .f32) : FVec Ideal S4096x512 .bf16 :=
  truncf .bf16 (vCols (proj x w g)) bitsLt_bf16_f32

/-- A gain's entry. -/
def entry (g : FVec Ideal S1x64 .f32) (d : Fin 64) : EReal := g (ix2 0 d)

end Ref

open Cert.KProjIdeal Cert.KProjIdeal.Gen

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

variable (m : (ℓ : Loc nD τ sig) → Buf (Elt Ideal) ℓ)

/-- One block of the kernel's normed rows is the reference's. -/
theorem point_xn (c : Dev nD) (t : Fin cfg0.N) (y) (i : S4096x1024.Idx) (h0 : (i 0 : ℕ) = t.val * 512 + y 0) (h1 : (i 1 : ℕ) = y 1) :
    k0_pay4 (iblk m c 0 t) (iblk m c 2 t) y = xn (m ((c : Thread nD τ).loc main_arg0)) (m ((c : Thread nD τ).loc main_arg2)) i := by
  pointwise [k0_pay4, xn, ms]
  blk_point [iblk, V, idx t]

/-- One block of the kernel's projection is the reference's. -/
theorem point_p (c : Dev nD) (t : Fin cfg0.N) (y) (i : S4096x2048.Idx) (h0 : (i 0 : ℕ) = t.val * 512 + y 0) (h1 : (i 1 : ℕ) = y 1) :
    k0_pay5 (iblk m c 0 t) (iblk m c 2 t) (iblk m c 1 t) y
      = proj (m ((c : Thread nD τ).loc main_arg0)) (m ((c : Thread nD τ).loc main_arg1)) (m ((c : Thread nD τ).loc main_arg2)) i := by
  pointwise [k0_pay5, proj]
  have e : ∀ l : Fin 1024, k0_pay4 (iblk m c 0 t) (iblk m c 2 t) (ix2 (y 0) l)
      = xn (m ((c : Thread nD τ).loc main_arg0)) (m ((c : Thread nD τ).loc main_arg2)) (ix2 (i 0) l) :=
    fun l => point_xn m c t (ix2 (y 0) l) (ix2 (i 0) l) h0 rfl
  simp only [e]
  blk_point [iblk, V, idx t]

/-- One block of the kernel's value columns is the reference's. -/
theorem point_v (c : Dev nD) (t : Fin cfg0.N) (y) (i : S4096x512.Idx) (h0 : (i 0 : ℕ) = t.val * 512 + y 0) (h1 : (i 1 : ℕ) = y 1) :
    k0_pay3 (k0_pay10 (iblk m c 0 t) (iblk m c 2 t) (iblk m c 1 t)) y
      = vals (m ((c : Thread nD τ).loc main_arg0)) (m ((c : Thread nD τ).loc main_arg1)) (m ((c : Thread nD τ).loc main_arg2)) i := by
  pointwise [k0_pay3, k0_pay10, vals, vCols]
  exact point_p m c t _ _ (by simpa using h0) (by simpa using h1)

/-- The kernel's first result is the projection. -/
theorem final_p (c : Dev nD) : (dats m 0 c).arrAt 4 (cfgs 0).N
    = proj (m ((c : Thread nD τ).loc main_arg0)) (m ((c : Thread nD τ).loc main_arg1)) (m ((c : Thread nD τ).loc main_arg2)) := by
  refine (dats m 0 c).arrAt_eq_of_covers 4 _ (by decide +kernel) fun t _ y => ?_
  have key := point_p m c t y (((cfg0.win 4).blk t).view.emb y) (by blk_simp [idx t]) (by blk_simp [idx t])
  blk_simp
  rw [after0_4]; frame_out
  exact key

/-- Its fourth result is the value's columns. -/
theorem final_v (c : Dev nD) : (dats m 0 c).arrAt 7 (cfgs 0).N
    = vals (m ((c : Thread nD τ).loc main_arg0)) (m ((c : Thread nD τ).loc main_arg1)) (m ((c : Thread nD τ).loc main_arg2)) := by
  refine (dats m 0 c).arrAt_eq_of_covers 7 _ (by decide +kernel) fun t _ y => ?_
  have key := point_v m c t y (((cfg0.win 7).blk t).view.emb y) (by blk_simp [idx t]) (by blk_simp [idx t])
  blk_simp
  rw [after0_7]; frame_out
  exact key

/-- Its fifth result is the normed rows. -/
theorem final_xn (c : Dev nD) : (dats m 0 c).arrAt 8 (cfgs 0).N
    = xnCast (m ((c : Thread nD τ).loc main_arg0)) (m ((c : Thread nD τ).loc main_arg2)) := by
  refine (dats m 0 c).arrAt_eq_of_covers 8 _ (by decide +kernel) fun t _ y => ?_
  have key := point_xn m c t y (((cfg0.win 8).blk t).view.emb y) (by blk_simp [idx t]) (by blk_simp [idx t])
  blk_simp
  rw [after0_8]; frame_out
  exact key

/-! ### The matrix that adds up a head -/

theorem word_head : ∀ l : Fin 512, IntOp.divsi .vector (BitVec.ofNat 32 l) 64#32 = BitVec.ofNat 32 (l / 64) := by decide +kernel

theorem ofNat_head (a b : Fin 512) : (BitVec.ofNat 32 (a / 64) = BitVec.ofNat 32 (b / 64)) ↔ (a : ℕ) / 64 = b / 64 := by
  refine ⟨fun h => ?_, fun h => by rw [h]⟩
  have := congrArg BitVec.toNat h
  rw [BitVec.toNat_ofNat, BitVec.toNat_ofNat] at this
  omega

/-- The kernel's matrix is one where row and column belong to one head, and zero elsewhere. -/
theorem seg_at (l j : Fin 512) : k0_pay7 (F := Ideal) (ix2 l j) = if (l : ℕ) / 64 = j / 64 then 1 else 0 := by
  pointwise [k0_pay7]
  rw [word_head, word_head]
  by_cases h : (l : ℕ) / 64 = j / 64
  · rw [if_pos h, h]; rw [IntOp.cmpi, beq_self_eq_true]
    show (((1#32 : BitVec 32).toInt : ℝ) : EReal) = 1
    norm_num [show (1#32 : BitVec 32).toInt = 1 by decide]
  · rw [if_neg h, IntOp.cmpi, beq_eq_false_iff_ne.2 (mt (ofNat_head l j).1 h)]
    show (((0#32 : BitVec 32).toInt : ℝ) : EReal) = 0
    norm_num [show (0#32 : BitVec 32).toInt = 0 by decide]

/-- So a sum with its weights is the sum over the head. -/
theorem sum_seg (f : Fin 512 → EReal) (n : Fin 8) (d : Fin 64) :
    ∑ l : Fin 512, f l * k0_pay7 (F := Ideal) (ix2 l ⟨n.val * 64 + d.val, by omega⟩) = ∑ e : Fin 64, f ⟨n.val * 64 + e.val, by omega⟩ := by
  simp only [seg_at, mul_ite, mul_one, mul_zero]
  rw [← Finset.sum_filter]
  refine Finset.sum_bij' (fun l _ => ⟨(l : ℕ) % 64, by omega⟩) (fun e _ => ⟨n.val * 64 + e.val, by omega⟩) ?_ ?_ ?_ ?_ ?_
  · intros; simp
  · intro e _; simp only [Finset.mem_filter, Finset.mem_univ, true_and]; omega
  · intro l h; simp only [Finset.mem_filter, Finset.mem_univ, true_and] at h; ext; simp only; omega
  · intro e _; ext; simp only; omega
  · intro l h; simp only [Finset.mem_filter, Finset.mem_univ, true_and] at h; congr 1; ext; simp only; omega

/-! ### Finite arguments -/

/-- An array of reals. -/
def Real {s : Shape} (x : s.Idx → EReal) : Prop := ∀ i, ∃ r : ℝ, x i = r

theorem eps : Ideal.ofBits .f32 0x358637BD#32 = ((8796093 / 8796093022208 : ℝ) : EReal) := by
  simp [Ideal.ofBits, Ideal.ieee]; rw [← EReal.coe_mul]; norm_num
theorem headWidth : Ideal.ofBits .f32 0x42800000#32 = ((64 : ℝ) : EReal) := by
  simp [Ideal.ofBits, Ideal.ieee]; rw [← EReal.coe_mul]; norm_num
theorem invHeadWidth : Ideal.ofBits .f32 0x3C800000#32 = ((1 / 64 : ℝ) : EReal) := by
  simp [Ideal.ofBits, Ideal.ieee]; rw [← EReal.coe_mul]; norm_num

/-- The root of a mean square is a real. -/
theorem rsqrt_real (r : ℝ) (h : 0 ≤ r) : ∃ s : ℝ, Ideal.rsqrt (Ideal.div (r : EReal) (Ideal.ofBits .f32 0x44800000#32) + Ideal.ofBits .f32 0x358637BD#32) = s := by
  rw [Arith.width, Ideal.div_coe (by norm_num), eps, ← EReal.coe_mul, ← EReal.coe_add, Ideal.rsqrt_coe]
  have : 0 < r * (1 / 1024 : ℝ) + 8796093 / 8796093022208 := by positivity
  exact ⟨_, by rw [if_neg this.not_gt, if_neg this.ne']⟩

/-- The normed rows of finite arguments are finite. -/
theorem xn_real (x : FVec Ideal S4096x1024 .f32) (g : FVec Ideal S1x1024 .f32) (hx : Real x) (hg : Real g) : Real (s := S4096x1024) (xn x g) := by
  choose a ha using hx
  choose b hb using hg
  intro i
  pointwise [xn, ms]
  simp only [ha, hb, ← EReal.coe_mul, Arith.coe_sum]
  obtain ⟨s, hs⟩ := rsqrt_real (∑ l, a (ix2 (i 0) l) * a (ix2 (i 0) l)) (Finset.sum_nonneg fun l _ => mul_self_nonneg _)
  rw [hs, ← EReal.coe_mul, ← EReal.coe_mul]
  exact ⟨_, rfl⟩

/-- So is their projection. -/
theorem proj_real (x : FVec Ideal S4096x1024 .f32) (w : FVec Ideal S1024x2048 .bf16) (g : FVec Ideal S1x1024 .f32) (hx : Real x) (hw : Real w) (hg : Real g) :
    Real (s := S4096x2048) (proj x w g) := by
  choose a ha using xn_real x g hx hg
  choose b hb using hw
  intro i
  pointwise [proj]
  simp only [ha, hb, ← EReal.coe_mul, Arith.coe_sum]
  exact ⟨_, rfl⟩

/-- A word of one bit that says that an absolute value is below infinity. -/
theorem real_of_lt (x : EReal) (h : Ideal.cmp .olt (max x (-x)) (Ideal.ofBits .f32 0x7F800000#32) = 1#1) : ∃ r : ℝ, x = r := by
  have t : Ideal.ofBits .f32 0x7F800000#32 = ⊤ := by simp [Ideal.ofBits, Ideal.ieee]
  rw [t] at h
  induction x with
  | bot => simp [Ideal.cmp] at h
  | top => simp [Ideal.cmp] at h
  | coe r => exact ⟨r, rfl⟩

/-- What the precondition says. -/
theorem pre_real [Cert.Pre_finite.Facts] (x : FVec Ideal S4096x1024 .f32) (w : FVec Ideal S1024x2048 .bf16) (g : FVec Ideal S1x1024 .f32)
    (a b : FVec Ideal S1x64 .f32) (h : Cert.Pre_finite.fn (F := Ideal) x w g a b = fun _ => 1#1) : Real x ∧ Real w ∧ Real g := by
  have h := congrFun h (fun k => k.elim0)
  simp only [Cert.Pre_finite.fn, andi] at h
  obtain ⟨h, hg⟩ := IntOp.andi_eq_one.1 h
  obtain ⟨hx, hw⟩ := IntOp.andi_eq_one.1 h
  have : Subsingleton Cert.Pre_finite.S_.Idx := ⟨fun a b => funext fun k => k.elim0⟩
  exact ⟨fun i => real_of_lt _ (Host.reduce_andi_all _ _ _ _ _ hx i), fun i => real_of_lt _ (Host.reduce_andi_all _ _ _ _ _ hw i),
    fun i => real_of_lt _ (Host.reduce_andi_all _ _ _ _ _ hg i)⟩

/-- The mean square of a head, from the kernel's two sums. -/
theorem mean_head (f : Fin 512 → EReal) (hf : ∀ l, ∃ r : ℝ, f l = r) (n : Fin 8) (d : Fin 64) :
    (∑ l : Fin 512, f l * f l * k0_pay7 (F := Ideal) (ix2 l ⟨n.val * 64 + d.val, by omega⟩)
      + ∑ l : Fin 512, (f l * f l - f l * f l) * k0_pay7 (F := Ideal) (ix2 l ⟨n.val * 64 + d.val, by omega⟩)) * Ideal.ofBits .f32 0x3C800000#32
      = Ideal.div (∑ e : Fin 64, f ⟨n.val * 64 + e.val, by omega⟩ * f ⟨n.val * 64 + e.val, by omega⟩) (Ideal.ofBits .f32 0x42800000#32) := by
  have z : ∀ l, f l * f l - f l * f l = 0 := fun l => by
    obtain ⟨r, hr⟩ := hf l
    rw [hr, ← EReal.coe_mul, ← EReal.coe_sub, sub_self, EReal.coe_zero]
  simp only [z, zero_mul, Finset.sum_const_zero, add_zero]
  rw [sum_seg (fun l => f l * f l), headWidth, invHeadWidth, Ideal.div_coe (by norm_num)]

/-! ### The reference's heads -/

theorem query_at (x : FVec Ideal S4096x1024 .f32) (w : FVec Ideal S1024x2048 .bf16) (g : FVec Ideal S1x1024 .f32) (gq : FVec Ideal S1x64 .f32)
    (a : Fin 4096) (n : Fin 8) (d : Fin 64) : query x w g gq (ix2 a ⟨n.val * 64 + d.val, by omega⟩)
      = proj x w g (ix2 a ⟨n.val * 64 + d.val, by omega⟩)
        * Ideal.rsqrt (Ideal.div (∑ e : Fin 64, proj x w g (ix2 a ⟨n.val * 64 + e.val, by omega⟩) * proj x w g (ix2 a ⟨n.val * 64 + e.val, by omega⟩)) (Ideal.ofBits .f32 0x42800000#32) + Ideal.ofBits .f32 0x358637BD#32)
        * entry gq d * Ideal.ofBits .f32 0x3E000000#32 := by
  pointwise [query, normHead, msHead, heads, qCols, entry]

theorem keys_at (x : FVec Ideal S4096x1024 .f32) (w : FVec Ideal S1024x2048 .bf16) (g : FVec Ideal S1x1024 .f32) (gk : FVec Ideal S1x64 .f32)
    (a : Fin 4096) (n : Fin 8) (d : Fin 64) : keys x w g gk (ix2 a ⟨n.val * 64 + d.val, by omega⟩)
      = proj x w g (ix2 a ⟨512 + (n.val * 64 + d.val), by omega⟩)
        * Ideal.rsqrt (Ideal.div (∑ e : Fin 64, proj x w g (ix2 a ⟨512 + (n.val * 64 + e.val), by omega⟩) * proj x w g (ix2 a ⟨512 + (n.val * 64 + e.val), by omega⟩)) (Ideal.ofBits .f32 0x42800000#32) + Ideal.ofBits .f32 0x358637BD#32)
        * entry gk d := by
  pointwise [keys, normHead, msHead, heads, kCols, entry]

/-! ### The gains, as the host lays them out -/

theorem gain_q (c : Dev nD) (j : Fin 512) : V m c main_v9 (ix2 0 ⟨j, by omega⟩)
    = entry (m ((c : Thread nD τ).loc main_arg3)) ⟨(j : ℕ) % 64, by omega⟩ * Ideal.ofBits .f32 0x3E000000#32 := by
  simp only [V, hostOps0, List.flatten_cons, List.flatten_nil, List.append_nil, List.cons_append, List.nil_append,
    TRef.binary, TRef.nullary, TRef.ternary, TRef.unary, TRef.toBuf, TRef.ofBuf, cast_eq]
  after_results_simp
  pointwise []
  after_results_simp
  pointwise [entry]

theorem gain_k (c : Dev nD) (j : Fin 512) : V m c main_v9 (ix2 0 ⟨512 + j, by omega⟩)
    = entry (m ((c : Thread nD τ).loc main_arg4)) ⟨(j : ℕ) % 64, by omega⟩ := by
  simp only [V, hostOps0, List.flatten_cons, List.flatten_nil, List.append_nil, List.cons_append, List.nil_append,
    TRef.binary, TRef.nullary, TRef.ternary, TRef.unary, TRef.toBuf, TRef.ofBuf, cast_eq]
  after_results_simp
  pointwise []
  after_results_simp
  pointwise [entry]

theorem blk_gain_q (c : Dev nD) (t : Fin cfg0.N) (n : Fin 8) (d : Fin 64) : iblk m c 3 t (ix2 0 ⟨n.val * 64 + d.val, by omega⟩)
    = entry (m ((c : Thread nD τ).loc main_arg3)) d * Ideal.ofBits .f32 0x3E000000#32 := by
  have h := gain_q m c ⟨n.val * 64 + d.val, by omega⟩
  simp only [show (n.val * 64 + d.val) % 64 = d.val by omega] at h
  rw [← h]
  blk_point [iblk, idx t]

theorem blk_gain_k (c : Dev nD) (t : Fin cfg0.N) (n : Fin 8) (d : Fin 64) : iblk m c 3 t (ix2 0 ⟨512 + (n.val * 64 + d.val), by omega⟩)
    = entry (m ((c : Thread nD τ).loc main_arg4)) d := by
  have h := gain_k m c ⟨n.val * 64 + d.val, by omega⟩
  simp only [show (n.val * 64 + d.val) % 64 = d.val by omega] at h
  rw [← h]
  blk_point [iblk, idx t]

/-! ### The query and the key -/

/-- One block of the kernel's query is the reference's, where the arguments are finite. -/
theorem point_q (c : Dev nD) (t : Fin cfg0.N) (hp : Real (s := S4096x2048) (proj (m ((c : Thread nD τ).loc main_arg0)) (m ((c : Thread nD τ).loc main_arg1)) (m ((c : Thread nD τ).loc main_arg2))))
    (r : Fin 512) (n : Fin 8) (d : Fin 64) (a : Fin 4096) (h0 : (a : ℕ) = t.val * 512 + r) :
    k0_pay1 (k0_pay6 (iblk m c 3 t)) (k0_pay7 (F := Ideal)) (k0_pay8 (iblk m c 0 t) (iblk m c 2 t) (iblk m c 1 t)) (k0_pay13 (iblk m c 0 t) (iblk m c 2 t) (iblk m c 1 t)) (k0_pay14 (iblk m c 0 t) (iblk m c 2 t) (iblk m c 1 t)) (ix2 r ⟨n.val * 64 + d.val, by omega⟩)
      = query (m ((c : Thread nD τ).loc main_arg0)) (m ((c : Thread nD τ).loc main_arg1)) (m ((c : Thread nD τ).loc main_arg2)) (m ((c : Thread nD τ).loc main_arg3)) (ix2 a ⟨n.val * 64 + d.val, by omega⟩) := by
  rw [query_at]
  pointwise [k0_pay1, k0_pay6, k0_pay8, k0_pay13, k0_pay14, k0_pay12, k0_pay11]
  have e : ∀ q, k0_pay5 (iblk m c 0 t) (iblk m c 2 t) (iblk m c 1 t) (ix2 r q) = proj (m ((c : Thread nD τ).loc main_arg0)) (m ((c : Thread nD τ).loc main_arg1)) (m ((c : Thread nD τ).loc main_arg2)) (ix2 a q) :=
    fun q => point_p m c t (ix2 r q) (ix2 a q) h0 rfl
  simp only [e]
  rw [mean_head (fun l => proj (m ((c : Thread nD τ).loc main_arg0)) (m ((c : Thread nD τ).loc main_arg1)) (m ((c : Thread nD τ).loc main_arg2)) (ix2 a ⟨l.val, by omega⟩)) (fun l => hp _) n d, blk_gain_q m c t n d, mul_assoc, mul_assoc, mul_assoc]

/-- One block of the kernel's key is the reference's, where the arguments are finite. -/
theorem point_k (c : Dev nD) (t : Fin cfg0.N) (hp : Real (s := S4096x2048) (proj (m ((c : Thread nD τ).loc main_arg0)) (m ((c : Thread nD τ).loc main_arg1)) (m ((c : Thread nD τ).loc main_arg2))))
    (r : Fin 512) (n : Fin 8) (d : Fin 64) (a : Fin 4096) (h0 : (a : ℕ) = t.val * 512 + r) :
    k0_pay2 (k0_pay6 (iblk m c 3 t)) (k0_pay7 (F := Ideal)) (k0_pay9 (iblk m c 0 t) (iblk m c 2 t) (iblk m c 1 t)) (ix2 r ⟨n.val * 64 + d.val, by omega⟩)
      = keys (m ((c : Thread nD τ).loc main_arg0)) (m ((c : Thread nD τ).loc main_arg1)) (m ((c : Thread nD τ).loc main_arg2)) (m ((c : Thread nD τ).loc main_arg4)) (ix2 a ⟨n.val * 64 + d.val, by omega⟩) := by
  rw [keys_at]
  pointwise [k0_pay2, k0_pay6, k0_pay9]
  have e : ∀ q, k0_pay5 (iblk m c 0 t) (iblk m c 2 t) (iblk m c 1 t) (ix2 r q) = proj (m ((c : Thread nD τ).loc main_arg0)) (m ((c : Thread nD τ).loc main_arg1)) (m ((c : Thread nD τ).loc main_arg2)) (ix2 a q) :=
    fun q => point_p m c t (ix2 r q) (ix2 a q) h0 rfl
  simp only [e]
  rw [mean_head (fun l => proj (m ((c : Thread nD τ).loc main_arg0)) (m ((c : Thread nD τ).loc main_arg1)) (m ((c : Thread nD τ).loc main_arg2)) (ix2 a ⟨512 + l.val, by omega⟩)) (fun l => hp _) n d, blk_gain_k m c t n d]

/-- Every index of a block is a row, a head and a column of the head. -/
theorem idx_head {a : ℕ} (y : (⟨2, ![a, 512]⟩ : Shape).Idx) : ∃ (r : Fin a) (n : Fin 8) (d : Fin 64), y = ix2 r ⟨n.val * 64 + d.val, by omega⟩ := by
  have h : (y 1 : ℕ) < 512 := (y 1).isLt
  refine ⟨y 0, ⟨(y 1 : ℕ) / 64, by omega⟩, ⟨(y 1 : ℕ) % 64, by omega⟩, ?_⟩
  funext k
  match k with
  | 0 => rfl
  | 1 => exact Fin.ext (by show (y 1 : ℕ) = (y 1 : ℕ) / 64 * 64 + (y 1 : ℕ) % 64; omega)

theorem ix2_of {a b : ℕ} (i : (⟨2, ![a, b]⟩ : Shape).Idx) (q : Fin b) (h : (i 1 : ℕ) = q) : i = ix2 (i 0) q := by
  funext k
  match k with
  | 0 => rfl
  | 1 => exact Fin.ext h

/-- The same, at an index of the array. -/
theorem at_q (c : Dev nD) (t : Fin cfg0.N) (hp : Real (s := S4096x2048) (proj (m ((c : Thread nD τ).loc main_arg0)) (m ((c : Thread nD τ).loc main_arg1)) (m ((c : Thread nD τ).loc main_arg2))))
    (y) (i : S4096x512.Idx) (h0 : (i 0 : ℕ) = t.val * 512 + y 0) (h1 : (i 1 : ℕ) = y 1) :
    k0_pay1 (k0_pay6 (iblk m c 3 t)) (k0_pay7 (F := Ideal)) (k0_pay8 (iblk m c 0 t) (iblk m c 2 t) (iblk m c 1 t)) (k0_pay13 (iblk m c 0 t) (iblk m c 2 t) (iblk m c 1 t)) (k0_pay14 (iblk m c 0 t) (iblk m c 2 t) (iblk m c 1 t)) y
      = query (m ((c : Thread nD τ).loc main_arg0)) (m ((c : Thread nD τ).loc main_arg1)) (m ((c : Thread nD τ).loc main_arg2)) (m ((c : Thread nD τ).loc main_arg3)) i := by
  obtain ⟨r, n, d, rfl⟩ := idx_head y
  exact (point_q m c t hp r n d (i 0) h0).trans (congrArg (query _ _ _ _) (ix2_of i ⟨n.val * 64 + d.val, by omega⟩ h1).symm)

/-- The same, at an index of the array. -/
theorem at_k (c : Dev nD) (t : Fin cfg0.N) (hp : Real (s := S4096x2048) (proj (m ((c : Thread nD τ).loc main_arg0)) (m ((c : Thread nD τ).loc main_arg1)) (m ((c : Thread nD τ).loc main_arg2))))
    (y) (i : S4096x512.Idx) (h0 : (i 0 : ℕ) = t.val * 512 + y 0) (h1 : (i 1 : ℕ) = y 1) :
    k0_pay2 (k0_pay6 (iblk m c 3 t)) (k0_pay7 (F := Ideal)) (k0_pay9 (iblk m c 0 t) (iblk m c 2 t) (iblk m c 1 t)) y
      = keys (m ((c : Thread nD τ).loc main_arg0)) (m ((c : Thread nD τ).loc main_arg1)) (m ((c : Thread nD τ).loc main_arg2)) (m ((c : Thread nD τ).loc main_arg4)) i := by
  obtain ⟨r, n, d, rfl⟩ := idx_head y
  exact (point_k m c t hp r n d (i 0) h0).trans (congrArg (keys _ _ _ _) (ix2_of i ⟨n.val * 64 + d.val, by omega⟩ h1).symm)

/-- The kernel's second result is the query, where the arguments are finite. -/
theorem final_q (c : Dev nD) (hp : Real (s := S4096x2048) (proj (m ((c : Thread nD τ).loc main_arg0)) (m ((c : Thread nD τ).loc main_arg1)) (m ((c : Thread nD τ).loc main_arg2)))) :
    (dats m 0 c).arrAt 5 (cfgs 0).N
      = query (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have key := at_q m c t hp y (((cfg0.win 5).blk t).view.emb y) (by blk_simp [idx t]) (by blk_simp [idx t])
  blk_simp
  rw [after0_5]; unfold_out out0_5; frame_out
  exact key

/-- Its third result is the key, where the arguments are finite. -/
theorem final_k (c : Dev nD) (hp : Real (s := S4096x2048) (proj (m ((c : Thread nD τ).loc main_arg0)) (m ((c : Thread nD τ).loc main_arg1)) (m ((c : Thread nD τ).loc main_arg2)))) :
    (dats m 0 c).arrAt 6 (cfgs 0).N
      = keys (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t _ y => ?_
  have key := at_k m c t hp y (((cfg0.win 6).blk t).view.emb y) (by blk_simp [idx t]) (by blk_simp [idx t])
  blk_simp
  rw [after0_6]; unfold_out out0_6; frame_out
  exact key

end Cert.Proj

end
-- ==== Proof.Weight.lean ====
/- The gradient of a weight as one plain product, `mlp_out_dw`: in float32, and rounded to bfloat16. -/
module

public import proofs.«01_k».proof.Proof.Gen.KWeightIdeal.Frame
public import proofs.«01_k».proof.Proof.Gen.RWeightIdeal.Run
public import Idealize.ShloMosaic.Lib.Pipeline.ValueKit
public import Idealize.ShloMosaic.Lib.Pointwise

@[expose] public section

set_option maxRecDepth 16384

noncomputable section

namespace Cert.Weight

open Idealize.ShloMosaic Idealize.ShloMosaic.TcCoe Idealize.SL.Sem Idealize.ShloMosaic.StableHlo

section Ref

open Cert.RWeightIdeal Cert.RWeightIdeal.Gen

/-- The reference's gradient: of `act @ w` by `w`, at the cotangent `ct`. -/
def grad (act : FVec Ideal S4096x4096 .bf16) (ct : FVec Ideal S4096x1024 .bf16) : FVec Ideal S4096x1024 .f32 :=
  transpose S4096x1024 [1, 0] (Host.dotGeneral dot_S4096x1024_S4096x4096_S1024x4096_0_0_1_1_n_n none (extf .f32 ct bitsLt_bf16_f32) (extf .f32 act bitsLt_bf16_f32)) transposes_S1024x4096_S4096x1024_1_0

/-- The same, rounded. -/
def gradB (act : FVec Ideal S4096x4096 .bf16) (ct : FVec Ideal S4096x1024 .bf16) : FVec Ideal S4096x1024 .bf16 :=
  truncf .bf16 (grad act ct) bitsLt_bf16_f32

theorem grad_at (act : FVec Ideal S4096x4096 .bf16) (ct : FVec Ideal S4096x1024 .bf16) (i : S4096x1024.Idx) :
    grad act ct i = ∑ k : Fin 4096, act (ix2 k (i 0)) * ct (ix2 k (i 1)) := by
  pointwise [grad]
  exact Finset.sum_congr rfl fun k _ => mul_comm _ _

end Ref

open Cert.KWeightIdeal Cert.KWeightIdeal.Gen

theorem idx : ∀ t : Fin cfg0.N, win0_0.index t = ![0, t.val / 2] ∧ win0_1.index t = ![0, t.val % 2]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ)

/-- One block of the kernel's product is the reference's gradient there. -/
theorem point (c : Dev nD) (t : Fin cfg0.N) (y) (i : S4096x1024.Idx) (h0 : (i 0 : ℕ) = t.val / 2 * 1024 + y 0) (h1 : (i 1 : ℕ) = t.val % 2 * 512 + y 1) :
    k0_pay1 (iblk m c 0 t) (iblk m c 1 t) y = grad (m ((c : Thread nD τ).loc main_arg0)) (m ((c : Thread nD τ).loc main_arg1)) i := by
  rw [grad_at]
  pointwise [k0_pay1]
  blk_point [iblk, V, idx t]

/-- The first result is the gradient. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  have key := point m c t y (((cfg0.win 2).blk t).view.emb y) (by blk_simp [idx t]) (by blk_simp [idx t])
  blk_simp
  rw [after0_2]; frame_out
  exact key

/-- The second is the same, rounded. -/
theorem finalB (c : Dev nD) : (dats m 0 c).arrAt 3 (cfgs 0).N = gradB (m ((c : Thread nD τ).loc main_arg0)) (m ((c : Thread nD τ).loc main_arg1)) := by
  refine (dats m 0 c).arrAt_eq_of_covers 3 _ (by decide +kernel) fun t _ y => ?_
  have key := point m c t y (((cfg0.win 3).blk t).view.emb y) (by blk_simp [idx t]) (by blk_simp [idx t])
  blk_simp
  rw [after0_3]; frame_out
  pointwise [k0_pay2, gradB]
  exact key

end Cert.Weight

end
-- ==== Proof.Small.lean ====
/- The optimiser of the small weights, `adamw_small`: the sum of the devices' gradients, and one step with it. -/
module

public import proofs.«01_k».proof.Proof.Gen.KSmallIdeal.Frame
public import proofs.«01_k».proof.Proof.Gen.RSmallIdeal.Run
public import Idealize.ShloMosaic.Lib.Pipeline.ValueKit
public import Idealize.ShloMosaic.Lib.Pointwise

@[expose] public section

set_option maxRecDepth 16384

noncomputable section

namespace Cert.Small

open Idealize.ShloMosaic Idealize.ShloMosaic.TcCoe Idealize.SL.Sem Idealize.ShloMosaic.StableHlo

section Ref

open Cert.RSmallIdeal Cert.RSmallIdeal.Gen

abbrev Arr := FVec Ideal S144x1024 .f32
/-- A number, as an array of it. -/
abbrev const (x : BitVec 32) : Arr := broadcastInDim S144x1024 ![] bcast_S_S144x1024 (constant S_ .f32 x)

/-- The gradient: the sum over the devices. -/
def grad (p : FVec Ideal S8x144x1024 .f32) : Arr := Host.reduceAdd p (constant S_ .f32 0x00000000#32) reducesTo_S8x144x1024_S144x1024_d0 h_S_
/-- The first moment after the step. -/
def mom (p : FVec Ideal S8x144x1024 .f32) (mo : Arr) : Arr := addf (mulf (const 0x3F666666#32) mo) (mulf (const 0x3DCCCCCD#32) (grad p))
/-- The second moment after the step. -/
def var (p : FVec Ideal S8x144x1024 .f32) (v : Arr) : Arr := addf (mulf (const 0x3F7FBE77#32) v) (mulf (const 0x3A83126F#32) (mulf (grad p) (grad p)))
/-- What the step adds to the weights. -/
def delta (p : FVec Ideal S8x144x1024 .f32) (w mo v : Arr) : Arr :=
  mulf (const 0xBA83126F#32) (addf (Host.divf (Host.divf (mom p mo) (const 0x3F26BD02#32)) (addf (Host.sqrt (Host.divf (var p v) (const 0x3C231ACC#32))) (const 0x322BCC77#32))) (mulf (const 0x3C23D70A#32) w))

end Ref

open Cert.KSmallIdeal Cert.KSmallIdeal.Gen

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradients, the weights and the moments, as launched. -/
abbrev P (c : Dev nD) : FVec Ideal S8x144x1024 .f32 := m ((c : Thread nD τ).loc main_arg0)
abbrev W (c : Dev nD) : Arr := m ((c : Thread nD τ).loc main_arg1)
abbrev M (c : Dev nD) : Arr := m ((c : Thread nD τ).loc main_arg2)
abbrev U (c : Dev nD) : Arr := m ((c : Thread nD τ).loc main_arg3)

/-- One block of the kernel's sum over the devices is the reference's. -/
theorem point_grad (c : Dev nD) (t : Fin cfg0.N) (y) (i : S144x1024.Idx) (h0 : (i 0 : ℕ) = t.val * 8 + y 0) (h1 : (i 1 : ℕ) = y 1) :
    k0_pay6 (iblk m c 0 t) (iblk m c 1 t) (iblk m c 2 t) (iblk m c 3 t) y = grad (P m c) i := by
  pointwise [k0_pay6, k0_pay4, grad]
  rw [Fin.sum_univ_eight]
  blk_point [iblk, V, idx t]

/-- One block of the kernel's first moment. -/
theorem point_mom (c : Dev nD) (t : Fin cfg0.N) (y) (i : S144x1024.Idx) (h0 : (i 0 : ℕ) = t.val * 8 + y 0) (h1 : (i 1 : ℕ) = y 1) :
    k0_pay1 (k0_pay6 (iblk m c 0 t) (iblk m c 1 t) (iblk m c 2 t) (iblk m c 3 t)) (k0_pay7 (iblk m c 0 t) (iblk m c 1 t) (iblk m c 2 t) (iblk m c 3 t)) y = mom (P m c) (M m c) i := by
  pointwise [k0_pay1, k0_pay7, k0_pay5, mom]
  rw [point_grad m c t y i h0 h1]
  blk_point [iblk, V, idx t]

/-- One block of the kernel's second moment. -/
theorem point_var (c : Dev nD) (t : Fin cfg0.N) (y) (i : S144x1024.Idx) (h0 : (i 0 : ℕ) = t.val * 8 + y 0) (h1 : (i 1 : ℕ) = y 1) :
    k0_pay2 (k0_pay6 (iblk m c 0 t) (iblk m c 1 t) (iblk m c 2 t) (iblk m c 3 t)) (iblk m c 3 t) y = var (P m c) (U m c) i := by
  pointwise [k0_pay2, var]
  rw [point_grad m c t y i h0 h1]
  blk_point [iblk, V, idx t]

/-- One block of what the kernel adds to the weights. -/
theorem point_delta (c : Dev nD) (t : Fin cfg0.N) (y) (i : S144x1024.Idx) (h0 : (i 0 : ℕ) = t.val * 8 + y 0) (h1 : (i 1 : ℕ) = y 1) :
    k0_pay3 (k0_pay6 (iblk m c 0 t) (iblk m c 1 t) (iblk m c 2 t) (iblk m c 3 t)) (iblk m c 1 t) (iblk m c 3 t) (k0_pay7 (iblk m c 0 t) (iblk m c 1 t) (iblk m c 2 t) (iblk m c 3 t)) y
      = delta (P m c) (W m c) (M m c) (U m c) i := by
  pointwise [k0_pay3, delta]
  rw [point_mom m c t y i h0 h1, point_var m c t y i h0 h1]
  blk_point [iblk, V, idx t]

/-- The first result is the sum of the gradients. -/
theorem final_grad (c : Dev nD) : (dats m 0 c).arrAt 4 (cfgs 0).N = grad (P m c) := by
  refine (dats m 0 c).arrAt_eq_of_covers 4 _ (by decide +kernel) fun t _ y => ?_
  have key := point_grad m c t y (((cfg0.win 4).blk t).view.emb y) (by blk_simp [idx t]) (by blk_simp [idx t])
  blk_simp
  rw [after0_4]; unfold out0_4; frame_out
  exact key

/-- The second is what the step adds. -/
theorem final_delta (c : Dev nD) : (dats m 0 c).arrAt 5 (cfgs 0).N = delta (P m c) (W m c) (M m c) (U m c) := by
  refine (dats m 0 c).arrAt_eq_of_covers 5 _ (by decide +kernel) fun t _ y => ?_
  have key := point_delta m c t y (((cfg0.win 5).blk t).view.emb y) (by blk_simp [idx t]) (by blk_simp [idx t])
  blk_simp
  rw [after0_5]; unfold out0_5; frame_out
  exact key

/-- The third is the first moment. -/
theorem final_mom (c : Dev nD) : (dats m 0 c).arrAt 6 (cfgs 0).N = mom (P m c) (M m c) := by
  refine (dats m 0 c).arrAt_eq_of_covers 6 _ (by decide +kernel) fun t _ y => ?_
  have key := point_mom m c t y (((cfg0.win 6).blk t).view.emb y) (by blk_simp [idx t]) (by blk_simp [idx t])
  blk_simp
  rw [after0_6]; unfold out0_6; frame_out
  exact key

/-- The fourth is the second moment. -/
theorem final_var (c : Dev nD) : (dats m 0 c).arrAt 7 (cfgs 0).N = var (P m c) (U m c) := by
  refine (dats m 0 c).arrAt_eq_of_covers 7 _ (by decide +kernel) fun t _ y => ?_
  have key := point_var m c t y (((cfg0.win 7).blk t).view.emb y) (by blk_simp [idx t]) (by blk_simp [idx t])
  blk_simp
  rw [after0_7]; unfold out0_7; frame_out
  exact key

end Cert.Small

end
-- ==== Proof.SsmBody.lean ====
/- One grid point of the scan's gradient: first the pass over the states that gives the chunks' boundary gradients, then
   the pass that sums the results; of the results, what the gradient of the skip weight holds is stated. -/
module

public import proofs.«01_k».proof.Proof.Gen.KSsmIdeal.Loops
public import proofs.«01_k».proof.Proof.Gen.KSsmIdeal.Frame
public import Idealize.ShloMosaic.Lib.VecWindow

@[expose] public section
set_option maxRecDepth 16384

noncomputable section

namespace Cert.Ssm

open Cert.KSsmIdeal Cert.KSsmIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The sixteen staging buffers of a grid point: the cotangent, `u`, the states and what goes with them, then the results. -/
structure Wins where
  a4 : Memref sig .tc .vmem S1x2048x128 .f32
  h4 : a4.IsWhole
  a5 : Memref sig .tc .vmem S1x2048x128 .f32
  h5 : a5.IsWhole
  a6 : Memref sig .tc .vmem S1x2048x1024 .f32
  h6 : a6.IsWhole
  a7 : Memref sig .tc .vmem S1x1x8x1024 .f32
  h7 : a7.IsWhole
  a8 : Memref sig .tc .vmem S1x1x8x1024 .f32
  h8 : a8.IsWhole
  a9 : Memref sig .tc .vmem S1x1024x128 .f32
  h9 : a9.IsWhole
  a10 : Memref sig .tc .vmem S1x8x512 .f32
  h10 : a10.IsWhole
  a11 : Memref sig .tc .vmem S1x8x512 .f32
  h11 : a11.IsWhole
  a12 : Memref sig .tc .vmem S1x128x1024 .f32
  h12 : a12.IsWhole
  a13 : Memref sig .tc .vmem S1x128 .f32
  h13 : a13.IsWhole
  a14 : Memref sig .tc .vmem S1x2048x128 .bf16
  h14 : a14.IsWhole
  a15 : Memref sig .tc .vmem S1x128x1024 .f32
  h15 : a15.IsWhole
  a16 : Memref sig .tc .vmem S1x1024x128 .f32
  h16 : a16.IsWhole
  a17 : Memref sig .tc .vmem S1x1x512 .f32
  h17 : a17.IsWhole
  a18 : Memref sig .tc .vmem S1x1x512 .f32
  h18 : a18.IsWhole
  a19 : Memref sig .tc .vmem S1x128 .f32
  h19 : a19.IsWhole

section Body

variable (c : Dev nD) (i : grid0.Coords) (S : Wins)

/-- A whole buffer at the contents `f`; at some contents. -/
abbrev atP {sp : Space} {s : Shape} {e : EltTy} (M : Memref sig .tc sp s e) (f : Buf (Elt F) (M.view.loc (c : Thread nD τ))) : sProp 𝕄 :=
  M.view.loc (c : Thread nD τ) ↦[M.view.set]{fullShare} f
abbrev someP {sp : Space} {s : Shape} {e : EltTy} (M : Memref sig .tc sp s e) : sProp 𝕄 := iprop(∃ f, atP (F := F) c M f)

abbrev gM : Memref sig .tc .vmem S1x2048x1024 .f32 := Memref.whole cc0_scratch0
abbrev lM : Memref sig .tc .vmem S2048x1024 .f32 := Memref.whole cc0_scratch1
abbrev xM : Memref sig .tc .vmem S8x1024 .f32 := Memref.whole cc0_scratch2
abbrev mM : Memref sig .tc .vmem S8x1024 .f32 := Memref.whole cc0_scratch3

/-- The inputs' buffers at their contents. -/
structure Ins where
  f4 : Buf (Elt F) (S.a4.view.loc (c : Thread nD τ))
  f5 : Buf (Elt F) (S.a5.view.loc (c : Thread nD τ))
  f6 : Buf (Elt F) (S.a6.view.loc (c : Thread nD τ))
  f7 : Buf (Elt F) (S.a7.view.loc (c : Thread nD τ))
  f8 : Buf (Elt F) (S.a8.view.loc (c : Thread nD τ))
  f9 : Buf (Elt F) (S.a9.view.loc (c : Thread nD τ))
  f10 : Buf (Elt F) (S.a10.view.loc (c : Thread nD τ))
  f11 : Buf (Elt F) (S.a11.view.loc (c : Thread nD τ))
  f12 : Buf (Elt F) (S.a12.view.loc (c : Thread nD τ))
  f13 : Buf (Elt F) (S.a13.view.loc (c : Thread nD τ))

abbrev atIns (I : Ins (F := F) c S) : sProp 𝕄 := iprop(atP c S.a4 I.f4 ∗ atP c S.a5 I.f5 ∗ atP c S.a6 I.f6 ∗ atP c S.a7 I.f7 ∗ atP c S.a8 I.f8 ∗ atP c S.a9 I.f9 ∗ atP c S.a10 I.f10 ∗ atP c S.a11 I.f11 ∗ atP c S.a12 I.f12 ∗ atP c S.a13 I.f13)
/-- The other results' buffers and the scratch buffers, at anything. -/
abbrev rest : sProp 𝕄 :=
  iprop(someP (F := F) c S.a14 ∗ someP (F := F) c S.a15 ∗ someP (F := F) c S.a16 ∗ someP (F := F) c S.a17 ∗ someP (F := F) c S.a18 ∗ someP (F := F) c gM ∗ someP (F := F) c lM ∗ someP (F := F) c xM ∗ someP (F := F) c mM)

/-- A buffer whose contents read `X`. -/
abbrev holds {sp : Space} {s : Shape} {e : EltTy} (M : Memref sig .tc sp s e) (X : s.Idx → Elt F e) : sProp 𝕄 :=
  iprop(∃ f, atP c M f ∗ ⌜M.view.read (Elt F) f = X⌝)
/-- A point's step of the skip weight's gradient: the rows' products are added. -/
abbrev step (dy u : Vec F S1x2048x128 .f32) (X : Vec F S1x128 .f32) : FVec F S1x128 .f32 := k0_pay64 (k0_pay58 dy) (k0_pay59 u) X

abbrev runs {α : Type} (p : Prog (TpuEff nD τ sig (Elt F) Λ₀ .tc) α) (Q : α → sProp 𝕄) : sProp 𝕄 :=
  wp frame (wpE (defs₀ (F := F)) Variants.none (c : Thread nD τ) none) Set.univ p Q

theorem part1_run (v2 v6 : FVec F S8x512 .f32) (L : Buf (Elt F) (lM.view.loc (c : Thread nD τ))) (X : Buf (Elt F) (xM.view.loc (c : Thread nD τ))) :
    iprop(atP c lM L ∗ atP c xM X) ⊢ wp frame (wpE (defs₀ (F := F)) Variants.none (c : Thread nD τ) none) Set.univ (k0_part1 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v2 v6)
      (fun _ => iprop(someP (F := F) c lM ∗ atP c xM X)) := by
  iintro ⟨HL, HX⟩
  simp only [k0_part1_eq_skeleton]; unfold k0_part1_skel
  sl_exec
  sl_step
  isplitl [HL]; · iexists _; iexact HL
  iexact HX

theorem part2_run (v87 v90 : FVec F S1x512 .f32) (L : Buf (Elt F) (lM.view.loc (c : Thread nD τ))) (X : Buf (Elt F) (xM.view.loc (c : Thread nD τ))) :
    iprop(atP c lM L ∗ atP c xM X) ⊢ wp frame (wpE (defs₀ (F := F)) Variants.none (c : Thread nD τ) none) Set.univ (k0_part2 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90)
      (fun _ => iprop(someP (F := F) c lM ∗ atP c xM X)) := by
  iintro ⟨HL, HX⟩
  simp only [k0_part2_eq_skeleton]; unfold k0_part2_skel
  sl_exec
  sl_step
  isplitl [HL]; · iexists _; iexact HL
  iexact HX

theorem part3_run (v87 v90 v127 : FVec F S1x512 .f32) (L : Buf (Elt F) (lM.view.loc (c : Thread nD τ))) (X : Buf (Elt F) (xM.view.loc (c : Thread nD τ))) :
    iprop(atP c lM L ∗ atP c xM X) ⊢ wp frame (wpE (defs₀ (F := F)) Variants.none (c : Thread nD τ) none) Set.univ (k0_part3 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90 v127)
      (fun _ => iprop(someP (F := F) c lM ∗ atP c xM X)) := by
  iintro ⟨HL, HX⟩
  simp only [k0_part3_eq_skeleton]; unfold k0_part3_skel
  sl_exec
  sl_step
  isplitl [HL]; · iexists _; iexact HL
  iexact HX

theorem part4_run (v87 v90 v163 : FVec F S1x512 .f32) (L : Buf (Elt F) (lM.view.loc (c : Thread nD τ))) (X : Buf (Elt F) (xM.view.loc (c : Thread nD τ))) :
    iprop(atP c lM L ∗ atP c xM X) ⊢ wp frame (wpE (defs₀ (F := F)) Variants.none (c : Thread nD τ) none) Set.univ (k0_part4 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90 v163)
      (fun _ => iprop(someP (F := F) c lM ∗ atP c xM X)) := by
  iintro ⟨HL, HX⟩
  simp only [k0_part4_eq_skeleton]; unfold k0_part4_skel
  sl_exec
  sl_step
  isplitl [HL]; · iexists _; iexact HL
  iexact HX

/-- The first phase's conditions: of the step over the states, not of the sums. -/
structure PhaseA : Prop where
  h2 : Scalar.cmpi .ne (Scalar.extui (Scalar.andi (Scalar.cmpi .eq (BitVec.ofNat 32 (i 2).val) 0#32) (Scalar.cmpi .eq (BitVec.ofNat 32 (i 3).val) 0#32)) : BitVec 32) 0#32 = 1#1
  h3 : k0_cond3 i = 1#1
  h4 : k0_cond4 i = 1#1
  h5 : Scalar.cmpi .ne (Scalar.extui (Scalar.cmpi .eq (BitVec.ofNat 32 (i 3).val) 0#32) : BitVec 32) 0#32 = 1#1
  h6 : ¬ k0_cond6 i = 1#1
/-- The second phase's. -/
structure PhaseB : Prop where
  h1 : ¬ k0_cond1 i = 1#1
  h2 : ¬ Scalar.cmpi .ne (Scalar.extui (Scalar.andi (Scalar.cmpi .eq (BitVec.ofNat 32 (i 2).val) 0#32) (Scalar.cmpi .eq (BitVec.ofNat 32 (i 3).val) 0#32)) : BitVec 32) 0#32 = 1#1
  h3 : ¬ k0_cond3 i = 1#1
  h4 : ¬ k0_cond4 i = 1#1
  h6 : k0_cond6 i = 1#1

set_option maxHeartbeats 2000000 in
/-- The first phase of the first batch: the sums are set to zero. -/
theorem first_run (h1 : k0_cond1 i = 1#1) (h : PhaseA i) (I : Ins (F := F) c S) (g : Buf (Elt F) (S.a19.view.loc (c : Thread nD τ))) :
    iprop(atIns c S I ∗ atP c S.a19 g ∗ rest c S)
      ⊢ wp frame (wpE (defs₀ (F := F)) Variants.none (c : Thread nD τ) none) Set.univ (cc0_ssm_bwd (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _))
        (fun _ => iprop(atIns c S I ∗ holds c S.a19 (k0_pay7 (F := F)) ∗ rest c S)) := by
  have hcut1 : ∀ (v2 v6 : FVec F S8x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part1 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v2 v6)
      (fun _ => iprop(someP (F := F) c lM ∗ atP c xM X)) := part1_run c i S
  have hcut2 : ∀ (v87 v90 : FVec F S1x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part2 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90)
      (fun _ => iprop(someP (F := F) c lM ∗ atP c xM X)) := part2_run c i S
  have hcut3 : ∀ (v87 v90 v127 : FVec F S1x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part3 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90 v127)
      (fun _ => iprop(someP (F := F) c lM ∗ atP c xM X)) := part3_run c i S
  have hcut4 : ∀ (v87 v90 v163 : FVec F S1x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part4 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90 v163)
      (fun _ => iprop(someP (F := F) c lM ∗ atP c xM X)) := part4_run c i S
  iintro ⟨⟨H4, H5, H6, H7, H8, H9, H10, H11, H12, H13⟩, H19, ⟨%f14, H14⟩, ⟨%f15, H15⟩, ⟨%f16, H16⟩, ⟨%f17, H17⟩, ⟨%f18, H18⟩, ⟨%fg, Hg⟩, ⟨%fl, Hl⟩, ⟨%fx, Hx⟩, ⟨%fm, Hm⟩⟩
  simp only [cc0_ssm_bwd_eq_skeleton]; unfold cc0_ssm_bwd_skel
  sl_exec (disch := first | sl_exact h1 | sl_exact h.h2 | sl_exact h.h3 | sl_exact h.h4 | sl_exact h.h5 | sl_exact h.h6)
  sl_step
  isplitl [H4 H5 H6 H7 H8 H9 H10 H11 H12 H13]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H19]
  · iexists _; isplitl [H19]; · iexact H19
    ipureintro; exact View.read_writes_full _ _ _ _ _
  isplitl [H14]; · iexists _; iexact H14
  isplitl [H15]; · iexists _; iexact H15
  isplitl [H16]; · iexists _; iexact H16
  isplitl [H17]; · iexists _; iexact H17
  isplitl [H18]; · iexists _; iexact H18
  isplitl [Hg]; · iexists _; iexact Hg
  isplitl [Hk0_part4_0]; · iexists _; iexact Hk0_part4_0
  isplitl [Hk0_part4_1]; · iexists _; iexact Hk0_part4_1
  iexists _; iexact Hm

set_option maxHeartbeats 2000000 in
/-- The first phase of the second batch: the sums stay. -/
theorem next_run (h1 : ¬ k0_cond1 i = 1#1) (h : PhaseA i) (I : Ins (F := F) c S) (g : Buf (Elt F) (S.a19.view.loc (c : Thread nD τ))) :
    iprop(atIns c S I ∗ atP c S.a19 g ∗ rest c S)
      ⊢ wp frame (wpE (defs₀ (F := F)) Variants.none (c : Thread nD τ) none) Set.univ (cc0_ssm_bwd (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _))
        (fun _ => iprop(atIns c S I ∗ holds c S.a19 (S.a19.view.read (Elt F) g) ∗ rest c S)) := by
  have hcut1 : ∀ (v2 v6 : FVec F S8x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part1 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v2 v6)
      (fun _ => iprop(someP (F := F) c lM ∗ atP c xM X)) := part1_run c i S
  have hcut2 : ∀ (v87 v90 : FVec F S1x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part2 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90)
      (fun _ => iprop(someP (F := F) c lM ∗ atP c xM X)) := part2_run c i S
  have hcut3 : ∀ (v87 v90 v127 : FVec F S1x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part3 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90 v127)
      (fun _ => iprop(someP (F := F) c lM ∗ atP c xM X)) := part3_run c i S
  have hcut4 : ∀ (v87 v90 v163 : FVec F S1x512 .f32) (L : Buf (Elt F) (lM.view.loc (c : Thread nD τ))) (X : Buf (Elt F) (xM.view.loc (c : Thread nD τ))), iprop(atP c lM L ∗ atP c xM X) ⊢ wp frame (wpE (defs₀ (F := F)) Variants.none (c : Thread nD τ) none) Set.univ (k0_part4 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v87 v90 v163)
      (fun _ => iprop(someP (F := F) c lM ∗ atP c xM X)) := part4_run c i S
  iintro ⟨⟨H4, H5, H6, H7, H8, H9, H10, H11, H12, H13⟩, H19, ⟨%f14, H14⟩, ⟨%f15, H15⟩, ⟨%f16, H16⟩, ⟨%f17, H17⟩, ⟨%f18, H18⟩, ⟨%fg, Hg⟩, ⟨%fl, Hl⟩, ⟨%fx, Hx⟩, ⟨%fm, Hm⟩⟩
  simp only [cc0_ssm_bwd_eq_skeleton]; unfold cc0_ssm_bwd_skel
  sl_exec (disch := first | sl_exact h1 | sl_exact h.h2 | sl_exact h.h3 | sl_exact h.h4 | sl_exact h.h5 | sl_exact h.h6)
  sl_step
  isplitl [H4 H5 H6 H7 H8 H9 H10 H11 H12 H13]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H19]
  · iexists _; isplitl [H19]; · iexact H19
    ipureintro; rfl
  isplitl [H14]; · iexists _; iexact H14
  isplitl [H15]; · iexists _; iexact H15
  isplitl [H16]; · iexists _; iexact H16
  isplitl [H17]; · iexists _; iexact H17
  isplitl [H18]; · iexists _; iexact H18
  isplitl [Hg]; · iexists _; iexact Hg
  isplitl [Hk0_part4_0]; · iexists _; iexact Hk0_part4_0
  isplitl [Hk0_part4_1]; · iexists _; iexact Hk0_part4_1
  iexists _; iexact Hm

end Body

end Cert.Ssm

end
-- ==== Proof.SsmSum.lean ====
/- The second phase of a grid point of the scan's gradient: the sums over the rows. -/
module

public import proofs.«01_k».proof.Proof.SsmBody

@[expose] public section
set_option maxRecDepth 16384

noncomputable section

namespace Cert.Ssm

open Cert.KSsmIdeal Cert.KSsmIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords) (S : Wins)

/-- The loop that joins the chunks, and what is read for the sums. -/
theorem part5_run (a : BitVec 32) (v2 v6 : FVec F S8x512 .f32) (h6 : k0_cond6 i = 1#1) (f4 : Buf (Elt F) (S.a4.view.loc (c : Thread nD τ))) (f5 : Buf (Elt F) (S.a5.view.loc (c : Thread nD τ))) (f9 : Buf (Elt F) (S.a9.view.loc (c : Thread nD τ))) (f13 : Buf (Elt F) (S.a13.view.loc (c : Thread nD τ))) (f14 : Buf (Elt F) (S.a14.view.loc (c : Thread nD τ)))
    (G : Buf (Elt F) (gM.view.loc (c : Thread nD τ))) (L : Buf (Elt F) (lM.view.loc (c : Thread nD τ))) (X : Buf (Elt F) (xM.view.loc (c : Thread nD τ))) :
    iprop(atP c S.a4 f4 ∗ atP c S.a5 f5 ∗ atP c S.a9 f9 ∗ atP c S.a13 f13 ∗ atP c S.a14 f14 ∗ atP c gM G ∗ atP c lM L ∗ atP c xM X)
      ⊢ wp frame (wpE (defs₀ (F := F)) Variants.none (c : Thread nD τ) none) Set.univ (k0_part5 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) a v2 v6 h6)
        (fun r => iprop(⌜r.1 = k0_pay58 (S.a4.view.read (Elt F) f4) ∧ r.2.1 = k0_pay59 (S.a5.view.read (Elt F) f5)⌝ ∗ atP c S.a4 f4 ∗ atP c S.a5 f5 ∗ atP c S.a9 f9 ∗ atP c S.a13 f13 ∗ atP c S.a14 f14 ∗ atP c gM G ∗ someP (F := F) c lM ∗ someP (F := F) c xM)) := by
  iintro ⟨H4, H5, H9, H13, H14, Hg, Hl, Hx⟩
  simp only [k0_part5_eq_skeleton]; unfold k0_part5_skel
  sl_exec
  sl_step
  isplitr
  · ipureintro; refine ⟨?_, ?_⟩ <;> dsimp only
    · exact congrArg (k0_pay58 (F := F)) (View.readAt_full _ _ _)
    · exact congrArg (k0_pay59 (F := F)) (View.readAt_full _ _ _)
  isplitl [H4]; · iexact H4
  isplitl [H5]; · iexact H5
  isplitl [H9]; · iexact H9
  isplitl [H13]; · iexact H13
  isplitl [H14]; · iexact H14
  isplitl [Hg]; · iexact Hg
  isplitl [Hl]; · iexists _; iexact Hl
  iexists _; iexact Hx

/-- The sums over the rows. -/
theorem part6_run (v0 : BitVec 32) (v39 v41 : FVec F S2048x128 .f32) (v43 : FVec F S2048x1024 .bf16) (v56 : FVec F S1x2048x128 .bf16) (f6 : Buf (Elt F) (S.a6.view.loc (c : Thread nD τ))) (f8 : Buf (Elt F) (S.a8.view.loc (c : Thread nD τ))) (f14 : Buf (Elt F) (S.a14.view.loc (c : Thread nD τ))) (f15 : Buf (Elt F) (S.a15.view.loc (c : Thread nD τ))) (f16 : Buf (Elt F) (S.a16.view.loc (c : Thread nD τ))) (f19 : Buf (Elt F) (S.a19.view.loc (c : Thread nD τ))) :
    iprop(atP c S.a6 f6 ∗ atP c S.a8 f8 ∗ atP c S.a14 f14 ∗ atP c S.a15 f15 ∗ atP c S.a16 f16 ∗ atP c S.a19 f19)
      ⊢ wp frame (wpE (defs₀ (F := F)) Variants.none (c : Thread nD τ) none) Set.univ (k0_part6 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v0 v39 v41 v43 v56)
        (fun _ => iprop(atP c S.a6 f6 ∗ atP c S.a8 f8 ∗ someP (F := F) c S.a14 ∗ someP (F := F) c S.a15 ∗ someP (F := F) c S.a16 ∗ holds c S.a19 (k0_pay64 v39 v41 (S.a19.view.read (Elt F) f19)))) := by
  iintro ⟨H6, H8, H14, H15, H16, H19⟩
  simp only [k0_part6_eq_skeleton]; unfold k0_part6_skel
  sl_exec
  sl_step
  isplitl [H6]; · iexact H6
  isplitl [H8]; · iexact H8
  isplitl [H14]; · iexists _; iexact H14
  isplitl [H15]; · iexists _; iexact H15
  isplitl [H16]; · iexists _; iexact H16
  iexists _; isplitl [H19]; · iexact H19
  ipureintro; exact (View.read_writes_full _ _ _ _ _).trans (congrArg (k0_pay64 (F := F) v39 v41) (View.readAt_full _ _ _))

/-- The second phase's work. -/
theorem part7_run (a b v0 : BitVec 32) (v2 v6 : FVec F S8x512 .f32) (h6 : k0_cond6 i = 1#1) (f4 : Buf (Elt F) (S.a4.view.loc (c : Thread nD τ))) (f5 : Buf (Elt F) (S.a5.view.loc (c : Thread nD τ))) (f6 : Buf (Elt F) (S.a6.view.loc (c : Thread nD τ))) (f7 : Buf (Elt F) (S.a7.view.loc (c : Thread nD τ))) (f8 : Buf (Elt F) (S.a8.view.loc (c : Thread nD τ))) (f9 : Buf (Elt F) (S.a9.view.loc (c : Thread nD τ))) (f13 : Buf (Elt F) (S.a13.view.loc (c : Thread nD τ))) (f14 : Buf (Elt F) (S.a14.view.loc (c : Thread nD τ))) (f15 : Buf (Elt F) (S.a15.view.loc (c : Thread nD τ))) (f16 : Buf (Elt F) (S.a16.view.loc (c : Thread nD τ))) (f17 : Buf (Elt F) (S.a17.view.loc (c : Thread nD τ))) (f18 : Buf (Elt F) (S.a18.view.loc (c : Thread nD τ))) (f19 : Buf (Elt F) (S.a19.view.loc (c : Thread nD τ)))
    (G : Buf (Elt F) (gM.view.loc (c : Thread nD τ))) (L : Buf (Elt F) (lM.view.loc (c : Thread nD τ))) (X : Buf (Elt F) (xM.view.loc (c : Thread nD τ))) (Y : Buf (Elt F) (mM.view.loc (c : Thread nD τ))) :
    iprop(atP c S.a4 f4 ∗ atP c S.a5 f5 ∗ atP c S.a6 f6 ∗ atP c S.a7 f7 ∗ atP c S.a8 f8 ∗ atP c S.a9 f9 ∗ atP c S.a13 f13 ∗ atP c S.a14 f14 ∗ atP c S.a15 f15 ∗ atP c S.a16 f16 ∗ atP c S.a17 f17 ∗ atP c S.a18 f18 ∗ atP c S.a19 f19 ∗ atP c gM G ∗ atP c lM L ∗ atP c xM X ∗ atP c mM Y)
      ⊢ wp frame (wpE (defs₀ (F := F)) Variants.none (c : Thread nD τ) none) Set.univ (k0_part7 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) a b v0 v2 v6 h6)
        (fun _ => iprop(atP c S.a4 f4 ∗ atP c S.a5 f5 ∗ atP c S.a6 f6 ∗ atP c S.a7 f7 ∗ atP c S.a8 f8 ∗ atP c S.a9 f9 ∗ atP c S.a13 f13 ∗ someP (F := F) c S.a14 ∗ someP (F := F) c S.a15 ∗ someP (F := F) c S.a16 ∗ someP (F := F) c S.a17 ∗ someP (F := F) c S.a18 ∗ holds c S.a19 (step (S.a4.view.read (Elt F) f4) (S.a5.view.read (Elt F) f5) (S.a19.view.read (Elt F) f19)) ∗ atP c gM G ∗ someP (F := F) c lM ∗ someP (F := F) c xM ∗ someP (F := F) c mM)) := by
  have hcut5 : ∀ (a : BitVec 32) (v2 v6 : FVec F S8x512 .f32) (h6 : k0_cond6 i = 1#1) (f4 : Buf (Elt F) (S.a4.view.loc (c : Thread nD τ))) (f5 : Buf (Elt F) (S.a5.view.loc (c : Thread nD τ))) (f9 : Buf (Elt F) (S.a9.view.loc (c : Thread nD τ))) (f13 : Buf (Elt F) (S.a13.view.loc (c : Thread nD τ))) (f14 : Buf (Elt F) (S.a14.view.loc (c : Thread nD τ)))
    (G : Buf (Elt F) (gM.view.loc (c : Thread nD τ))) (L : Buf (Elt F) (lM.view.loc (c : Thread nD τ))) (X : Buf (Elt F) (xM.view.loc (c : Thread nD τ))), iprop(atP c S.a4 f4 ∗ atP c S.a5 f5 ∗ atP c S.a9 f9 ∗ atP c S.a13 f13 ∗ atP c S.a14 f14 ∗ atP c gM G ∗ atP c lM L ∗ atP c xM X)
      ⊢ wp frame (wpE (defs₀ (F := F)) Variants.none (c : Thread nD τ) none) Set.univ (k0_part5 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) a v2 v6 h6)
        (fun r => iprop(⌜r.1 = k0_pay58 (S.a4.view.read (Elt F) f4) ∧ r.2.1 = k0_pay59 (S.a5.view.read (Elt F) f5)⌝ ∗ atP c S.a4 f4 ∗ atP c S.a5 f5 ∗ atP c S.a9 f9 ∗ atP c S.a13 f13 ∗ atP c S.a14 f14 ∗ atP c gM G ∗ someP (F := F) c lM ∗ someP (F := F) c xM)) := part5_run c i S
  have hcut6 : ∀ (v0 : BitVec 32) (v39 v41 : FVec F S2048x128 .f32) (v43 : FVec F S2048x1024 .bf16) (v56 : FVec F S1x2048x128 .bf16) (f6 : Buf (Elt F) (S.a6.view.loc (c : Thread nD τ))) (f8 : Buf (Elt F) (S.a8.view.loc (c : Thread nD τ))) (f14 : Buf (Elt F) (S.a14.view.loc (c : Thread nD τ))) (f15 : Buf (Elt F) (S.a15.view.loc (c : Thread nD τ))) (f16 : Buf (Elt F) (S.a16.view.loc (c : Thread nD τ))) (f19 : Buf (Elt F) (S.a19.view.loc (c : Thread nD τ))), iprop(atP c S.a6 f6 ∗ atP c S.a8 f8 ∗ atP c S.a14 f14 ∗ atP c S.a15 f15 ∗ atP c S.a16 f16 ∗ atP c S.a19 f19)
      ⊢ wp frame (wpE (defs₀ (F := F)) Variants.none (c : Thread nD τ) none) Set.univ (k0_part6 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) v0 v39 v41 v43 v56)
        (fun _ => iprop(atP c S.a6 f6 ∗ atP c S.a8 f8 ∗ someP (F := F) c S.a14 ∗ someP (F := F) c S.a15 ∗ someP (F := F) c S.a16 ∗ holds c S.a19 (k0_pay64 v39 v41 (S.a19.view.read (Elt F) f19)))) := part6_run c i S
  iintro ⟨H4, H5, H6, H7, H8, H9, H13, H14, H15, H16, H17, H18, H19, Hg, Hl, Hx, Hm⟩
  simp only [k0_part7_eq_skeleton]; unfold k0_part7_skel
  by_cases h7 : k0_cond7 i = 1#1
  · sl_exec (disch := sl_exact h7)
    sl_step
    obtain ⟨e1, e2⟩ := hk0_part5_0
    isplitl [Hk0_part5_1]; · iexact Hk0_part5_1
    isplitl [Hk0_part5_2]; · iexact Hk0_part5_2
    isplitl [Hk0_part6_0]; · iexact Hk0_part6_0
    isplitl [H7]; · iexact H7
    isplitl [Hk0_part6_1]; · iexact Hk0_part6_1
    isplitl [Hk0_part5_3]; · iexact Hk0_part5_3
    isplitl [Hk0_part5_4]; · iexact Hk0_part5_4
    isplitl [Hk0_part6_2]; · iexists _; iexact Hk0_part6_2
    isplitl [Hk0_part6_3]; · iexists _; iexact Hk0_part6_3
    isplitl [Hk0_part6_4]; · iexists _; iexact Hk0_part6_4
    isplitl [H17]; · iexists _; iexact H17
    isplitl [H18]; · iexists _; iexact H18
    isplitl [Hk0_part6_5]
    · iexists _; isplitl [Hk0_part6_5]; · iexact Hk0_part6_5
      ipureintro; dsimp only at e1 e2; rw [hk0_part6_6, e1, e2]
    isplitl [Hk0_part5_6]; · iexact Hk0_part5_6
    isplitl [Hk0_part5_7]; · iexists _; iexact Hk0_part5_7
    isplitl [Hk0_part5_8]; · iexists _; iexact Hk0_part5_8
    iexists _; iexact Hm
  · sl_exec (disch := sl_exact h7)
    sl_step
    obtain ⟨e1, e2⟩ := hk0_part5_0
    isplitl [Hk0_part5_1]; · iexact Hk0_part5_1
    isplitl [Hk0_part5_2]; · iexact Hk0_part5_2
    isplitl [Hk0_part6_0]; · iexact Hk0_part6_0
    isplitl [H7]; · iexact H7
    isplitl [Hk0_part6_1]; · iexact Hk0_part6_1
    isplitl [Hk0_part5_3]; · iexact Hk0_part5_3
    isplitl [Hk0_part5_4]; · iexact Hk0_part5_4
    isplitl [Hk0_part6_2]; · iexists _; iexact Hk0_part6_2
    isplitl [Hk0_part6_3]; · iexists _; iexact Hk0_part6_3
    isplitl [Hk0_part6_4]; · iexists _; iexact Hk0_part6_4
    isplitl [H17]; · iexists _; iexact H17
    isplitl [H18]; · iexists _; iexact H18
    isplitl [Hk0_part6_5]
    · iexists _; isplitl [Hk0_part6_5]; · iexact Hk0_part6_5
      ipureintro; dsimp only at e1 e2; rw [hk0_part6_6, e1, e2]
    isplitl [Hk0_part5_6]; · iexact Hk0_part5_6
    isplitl [Hk0_part5_7]; · iexists _; iexact Hk0_part5_7
    isplitl [Hk0_part5_8]; · iexists _; iexact Hk0_part5_8
    iexists _; iexact Hm

set_option maxHeartbeats 2000000 in
/-- The second phase: the products of the rows of the cotangent and of `u` are added to the sum. -/
theorem sum_run (h : PhaseB i) (I : Ins (F := F) c S) (g : Buf (Elt F) (S.a19.view.loc (c : Thread nD τ))) :
    iprop(atIns c S I ∗ atP c S.a19 g ∗ rest c S)
      ⊢ wp frame (wpE (defs₀ (F := F)) Variants.none (c : Thread nD τ) none) Set.univ (cc0_ssm_bwd (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _))
        (fun _ => iprop(atIns c S I ∗ holds c S.a19 (step (S.a4.view.read (Elt F) I.f4) (S.a5.view.read (Elt F) I.f5) (S.a19.view.read (Elt F) g)) ∗ rest c S)) := by
  have hcut7 : ∀ (a b v0 : BitVec 32) (v2 v6 : FVec F S8x512 .f32) (h6 : k0_cond6 i = 1#1) (f4 : Buf (Elt F) (S.a4.view.loc (c : Thread nD τ))) (f5 : Buf (Elt F) (S.a5.view.loc (c : Thread nD τ))) (f6 : Buf (Elt F) (S.a6.view.loc (c : Thread nD τ))) (f7 : Buf (Elt F) (S.a7.view.loc (c : Thread nD τ))) (f8 : Buf (Elt F) (S.a8.view.loc (c : Thread nD τ))) (f9 : Buf (Elt F) (S.a9.view.loc (c : Thread nD τ))) (f13 : Buf (Elt F) (S.a13.view.loc (c : Thread nD τ))) (f14 : Buf (Elt F) (S.a14.view.loc (c : Thread nD τ))) (f15 : Buf (Elt F) (S.a15.view.loc (c : Thread nD τ))) (f16 : Buf (Elt F) (S.a16.view.loc (c : Thread nD τ))) (f17 : Buf (Elt F) (S.a17.view.loc (c : Thread nD τ))) (f18 : Buf (Elt F) (S.a18.view.loc (c : Thread nD τ))) (f19 : Buf (Elt F) (S.a19.view.loc (c : Thread nD τ)))
    (G : Buf (Elt F) (gM.view.loc (c : Thread nD τ))) (L : Buf (Elt F) (lM.view.loc (c : Thread nD τ))) (X : Buf (Elt F) (xM.view.loc (c : Thread nD τ))) (Y : Buf (Elt F) (mM.view.loc (c : Thread nD τ))), iprop(atP c S.a4 f4 ∗ atP c S.a5 f5 ∗ atP c S.a6 f6 ∗ atP c S.a7 f7 ∗ atP c S.a8 f8 ∗ atP c S.a9 f9 ∗ atP c S.a13 f13 ∗ atP c S.a14 f14 ∗ atP c S.a15 f15 ∗ atP c S.a16 f16 ∗ atP c S.a17 f17 ∗ atP c S.a18 f18 ∗ atP c S.a19 f19 ∗ atP c gM G ∗ atP c lM L ∗ atP c xM X ∗ atP c mM Y)
      ⊢ wp frame (wpE (defs₀ (F := F)) Variants.none (c : Thread nD τ) none) Set.univ (k0_part7 (F := F) i S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 (Memref.whole cc0_scratch0) (Memref.isWhole_whole _) (Memref.whole cc0_scratch1) (Memref.isWhole_whole _) (Memref.whole cc0_scratch2) (Memref.isWhole_whole _) (Memref.whole cc0_scratch3) (Memref.isWhole_whole _) a b v0 v2 v6 h6)
        (fun _ => iprop(atP c S.a4 f4 ∗ atP c S.a5 f5 ∗ atP c S.a6 f6 ∗ atP c S.a7 f7 ∗ atP c S.a8 f8 ∗ atP c S.a9 f9 ∗ atP c S.a13 f13 ∗ someP (F := F) c S.a14 ∗ someP (F := F) c S.a15 ∗ someP (F := F) c S.a16 ∗ someP (F := F) c S.a17 ∗ someP (F := F) c S.a18 ∗ holds c S.a19 (step (S.a4.view.read (Elt F) f4) (S.a5.view.read (Elt F) f5) (S.a19.view.read (Elt F) f19)) ∗ atP c gM G ∗ someP (F := F) c lM ∗ someP (F := F) c xM ∗ someP (F := F) c mM)) := part7_run c i S
  iintro ⟨⟨H4, H5, H6, H7, H8, H9, H10, H11, H12, H13⟩, H19, ⟨%f14, H14⟩, ⟨%f15, H15⟩, ⟨%f16, H16⟩, ⟨%f17, H17⟩, ⟨%f18, H18⟩, ⟨%fg, Hg⟩, ⟨%fl, Hl⟩, ⟨%fx, Hx⟩, ⟨%fm, Hm⟩⟩
  simp only [cc0_ssm_bwd_eq_skeleton]; unfold cc0_ssm_bwd_skel
  sl_exec (disch := first | sl_exact h.h1 | sl_exact h.h2 | sl_exact h.h3 | sl_exact h.h4 | sl_exact h.h6)
  sl_step
  isplitl [Hk0_part7_0 Hk0_part7_1 Hk0_part7_2 Hk0_part7_3 Hk0_part7_4 Hk0_part7_5 H10 H11 H12 Hk0_part7_6]
  · isplitl [Hk0_part7_0]; · iexact Hk0_part7_0
    isplitl [Hk0_part7_1]; · iexact Hk0_part7_1
    isplitl [Hk0_part7_2]; · iexact Hk0_part7_2
    isplitl [Hk0_part7_3]; · iexact Hk0_part7_3
    isplitl [Hk0_part7_4]; · iexact Hk0_part7_4
    isplitl [Hk0_part7_5]; · iexact Hk0_part7_5
    isplitl [H10]; · iexact H10
    isplitl [H11]; · iexact H11
    isplitl [H12]; · iexact H12
    iexact Hk0_part7_6
  isplitl [Hk0_part7_12]
  · iexists _; isplitl [Hk0_part7_12]; · iexact Hk0_part7_12
    ipureintro; exact hk0_part7_13
  isplitl [Hk0_part7_7]; · iexists _; iexact Hk0_part7_7
  isplitl [Hk0_part7_8]; · iexists _; iexact Hk0_part7_8
  isplitl [Hk0_part7_9]; · iexists _; iexact Hk0_part7_9
  isplitl [Hk0_part7_10]; · iexists _; iexact Hk0_part7_10
  isplitl [Hk0_part7_11]; · iexists _; iexact Hk0_part7_11
  isplitl [Hk0_part7_14]; · iexists _; iexact Hk0_part7_14
  isplitl [Hk0_part7_15]; · iexists _; iexact Hk0_part7_15
  isplitl [Hk0_part7_16]; · iexists _; iexact Hk0_part7_16
  iexists _; iexact Hk0_part7_17

end Body

end Cert.Ssm

end
-- ==== Proof.SsmLaunch.lean ====
/- The scan's gradient over the grid: the frame, and what the gradient of the skip weight holds. -/
module

public import proofs.«01_k».proof.Proof.SsmSum
public import Idealize.ShloMosaic.Lib.Pipeline.TableIdle

@[expose] public section
set_option maxRecDepth 16384

noncomputable section

namespace Cert.Ssm

open Cert.KSsmIdeal Cert.KSsmIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a grid point -/

theorem cond1_iff : ∀ t : Fin grid0.N, k0_cond1 (grid0.coords t) = 1#1 ↔ t.val % 4 = 0 := by decide +kernel
theorem cond2_iff : ∀ t : Fin grid0.N, Scalar.cmpi .ne (Scalar.extui (Scalar.andi (Scalar.cmpi .eq (BitVec.ofNat 32 ((grid0.coords t) 2).val) 0#32) (Scalar.cmpi .eq (BitVec.ofNat 32 ((grid0.coords t) 3).val) 0#32)) : BitVec 32) 0#32 = 1#1 ↔ t.val % 2 = 0 := by decide +kernel
theorem cond3_iff : ∀ t : Fin grid0.N, k0_cond3 (grid0.coords t) = 1#1 ↔ t.val % 2 = 0 := by decide +kernel
theorem cond4_iff : ∀ t : Fin grid0.N, k0_cond4 (grid0.coords t) = 1#1 ↔ t.val % 2 = 0 := by decide +kernel
theorem cond5_of : ∀ t : Fin grid0.N, Scalar.cmpi .ne (Scalar.extui (Scalar.cmpi .eq (BitVec.ofNat 32 ((grid0.coords t) 3).val) 0#32) : BitVec 32) 0#32 = 1#1 := by decide +kernel
theorem cond6_iff : ∀ t : Fin grid0.N, k0_cond6 (grid0.coords t) = 1#1 ↔ t.val % 2 = 1 := by decide +kernel
theorem idle_iff : ∀ t : Fin grid0.N, cfg0.idle 15 (grid0.coords t) = true ↔ t.val % 4 = 2 := by decide +kernel
theorem fresh_iff : ∀ t : Fin grid0.N, cfg0.fresh 15 t.val = true ↔ t.val % 4 = 0 := by decide +kernel

theorem phaseA (t : Fin cfg0.N) (h : t.val % 2 = 0) : PhaseA (grid0.coords t) :=
  ⟨(cond2_iff t).mpr h, (cond3_iff t).mpr h, (cond4_iff t).mpr h, cond5_of t, fun e => by have := (cond6_iff t).mp e; omega⟩
theorem phaseB (t : Fin cfg0.N) (h : t.val % 2 = 1) : PhaseB (grid0.coords t) :=
  ⟨fun e => by have := (cond1_iff t).mp e; omega, fun e => by have := (cond2_iff t).mp e; omega, fun e => by have := (cond3_iff t).mp e; omega,
    fun e => by have := (cond4_iff t).mp e; omega, (cond6_iff t).mpr h⟩

/-- The staging buffers at point `t`. -/
abbrev winsAt (t : Fin cfg0.N) : Wins :=
  ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    win0_10.stage (cfg0.slots t 10), hstage0_10 ((cfg0.slots t 10).cast nbuf0_10),
    win0_11.stage (cfg0.slots t 11), hstage0_11 ((cfg0.slots t 11).cast nbuf0_11),
    win0_12.stage (cfg0.slots t 12), hstage0_12 ((cfg0.slots t 12).cast nbuf0_12),
    win0_13.stage (cfg0.slots t 13), hstage0_13 ((cfg0.slots t 13).cast nbuf0_13),
    win0_14.stage (cfg0.slots t 14), hstage0_14 ((cfg0.slots t 14).cast nbuf0_14),
    win0_15.stage (cfg0.slots t 15), hstage0_15 ((cfg0.slots t 15).cast nbuf0_15)⟩

/-- What a point makes of the sum: zero, the sum itself, or the sum with the rows' products added. -/
def next (t : ℕ) (dy u : Vec F S1x2048x128 .f32) (X : Vec F S1x128 .f32) : Vec F S1x128 .f32 :=
  if t % 4 = 0 then k0_pay7 (F := F) else if t % 4 = 2 then X else step dy u X

theorem body_run (c : Dev nD) (t : Fin cfg0.N) (I : Ins (F := F) c (winsAt t)) (g : Buf (Elt F) ((winsAt t).a19.view.loc (c : Thread nD τ))) :
    iprop(atIns c (winsAt t) I ∗ atP c (winsAt t).a19 g ∗ rest c (winsAt t))
      ⊢ wp frame (wpE (defs₀ (F := F)) Variants.none (c : Thread nD τ) none) Set.univ (bodyAt0 t)
        (fun _ => iprop(atIns c (winsAt t) I ∗ holds c (winsAt t).a19 (next t.val ((winsAt t).a4.view.read (Elt F) I.f4) ((winsAt t).a5.view.read (Elt F) I.f5) ((winsAt t).a19.view.read (Elt F) g)) ∗ rest c (winsAt t))) := by
  unfold next
  by_cases h0 : t.val % 4 = 0
  · rw [if_pos h0]
    exact first_run c (grid0.coords t) (winsAt t) ((cond1_iff t).mpr h0) (phaseA t (by omega)) I g
  · rw [if_neg h0]
    by_cases h2 : t.val % 4 = 2
    · rw [if_pos h2]
      exact next_run c (grid0.coords t) (winsAt t) (fun e => h0 ((cond1_iff t).mp e)) (phaseA t (by omega)) I g
    · rw [if_neg h2]
      exact sum_run c (grid0.coords t) (winsAt t) (phaseB t (by omega)) I g

/-- The sum after each point. -/
def ddN (c : Dev nD) : ℕ → Vec F S1x128 .f32
  | 0 => k0_pay7 (F := F)
  | n + 1 => if h : n + 1 < cfg0.N then next (n + 1) (iblk m c 0 ⟨n + 1, h⟩) (iblk m c 1 ⟨n + 1, h⟩) (ddN c n) else k0_pay7 (F := F)

theorem ddN_pos (c : Dev nD) (t : Fin cfg0.N) (h : t.val ≠ 0) :
    ddN m c t.val = next t.val (iblk m c 0 t) (iblk m c 1 t) (ddN m c (t.val - 1)) := by
  obtain ⟨n, hn⟩ := t
  obtain _ | n := n
  · exact absurd rfl h
  · exact dif_pos hn
theorem ddN_zero (c : Dev nD) (t : Fin cfg0.N) (h : t.val % 4 = 0) : ddN m c t.val = k0_pay7 (F := F) := by
  by_cases h0 : t.val = 0
  · rw [h0]; rfl
  · rw [ddN_pos m c t h0, next, if_pos h]

/-- The results whose contents are not stated. -/
def fgt : Fin cfg0.W → Bool := ![false, false, false, false, false, false, false, false, false, false, true, true, true, true, true, false]

def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => ddN m c t.val
    | ⟨n + 16, h⟩ => absurd h (Nat.not_lt.2 (Nat.le_add_left 16 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- An input's staging buffer holds the point's block before the body as after it. -/
theorem before_in (c : Dev nD) (t : Fin cfg0.N) : ∀ w : Fin cfg0.W, (cfg0.win w).isOut = false → ∀ d, (dats m 0 c).before w t d = (dats m 0 c).after w t := by
  intro w
  fin_cases w <;> intro hw d <;> first
    | exact absurd hw (by decide)
    | exact ((dats m 0 c).before_in_eq_fetched _ hw (fun _ => rfl) (fun _ _ _ => rfl) (fun t => by unfold Pipeline.Dat.blockOf; dsimp only [dats]; rfl) t d).trans
        (by unfold Pipeline.Dat.fetched Pipeline.Dat.blockOf; dsimp only [dats]; rfl)

theorem after15 (c : Dev nD) (t : Fin cfg0.N) : (dats m 0 c).after 15 t = ddN m c t.val := by dsimp only [dats]

/-- The sum's buffer holds what the point before left. -/
theorem before15 (c : Dev nD) (t : Fin cfg0.N) (h : t.val % 4 ≠ 0) (d) : (dats m 0 c).before 15 t d = ddN m c (t.val - 1) := by
  rw [(dats m 0 c).before_out_traj 15 rfl (fun _ _ => rfl) (fun t h0 hi _ => by
    have h2 := (idle_iff t).mp hi
    rw [after15, after15, ddN_pos m c t h0, next, if_neg (by omega), if_pos h2]) t.val t rfl d,
    if_neg (fun e => h ((fresh_iff t).mp e)), after15]

theorem leaves15 (c : Dev nD) (t : Fin cfg0.N) : owns (c : Thread nD τ) (st0_15 t) fullShare ((dats m 0 c).after 15 t) ⊢ ((dats m 0 c).leaves 15 t : sProp 𝕄) := by
  by_cases h : t.val % 4 = 2
  · rw [(dats m 0 c).leaves_idle 15 t ((idle_iff t).mpr h) (by
      cases e : (cfg0.win 15).flush t
      · rfl
      · have := (flush0_15 t).mp e; omega)]
    iintro H
    iexists (dats m 0 c).after 15 t
    rw [before15 m c t (by omega), after15, ddN_pos m c t (by omega), next, if_neg (by omega), if_pos h]
    iexact H
  · have hi : cfg0.idle 15 (grid0.coords t) = false := by
      cases e : cfg0.idle 15 (grid0.coords t)
      · rfl
      · exact absurd ((idle_iff t).mp e) h
    unfold Pipeline.Dat.leaves
    rw [hi]

theorem Phi_eq (c : Dev nD) (t) : (dats m 0 c).Φ t = Pipeline.ΦA spec0 c := by dsimp only [dats]

/-- Between points: the scratch buffers at anything. -/
theorem scratch_iff (c : Dev nD) : (Pipeline.ΦA spec0 c : sProp 𝕄)
    = iprop((someP (F := F) c gM ∗ someP (F := F) c lM ∗ someP (F := F) c xM ∗ someP (F := F) c mM) ∗ ∃ r, prngReg c r) := by
  unfold Pipeline.ΦA
  rw [scopedRest0_eq]
  simp only [someP, atP, Memref.view_whole, View.set_whole]
  try rfl

/-- The point's sum, from what its buffers held. -/
theorem next_eq (c : Dev nD) (t : Fin cfg0.N) (d X) (h : X = (dats m 0 c).before 15 t d) :
    next t.val (iblk m c 0 t) (iblk m c 1 t) X = (dats m 0 c).after 15 t := by
  rw [after15]
  by_cases h4 : t.val % 4 = 0
  · rw [ddN_zero m c t h4, next, if_pos h4]
  · rw [ddN_pos m c t (fun e => h4 (by rw [e])), h, before15 m c t h4 d]

set_option maxHeartbeats 4000000 in
/-- The body at a point, from the point's resources to the next one's. -/
theorem sound_body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (∃ d, owns (c : Thread nD τ) (st0_15 t) fullShare ((dats m 0 c).before 15 t d)))
      ⊢ wp frame (wpE (defs₀ (F := F)) Variants.none (c : Thread nD τ) none) Set.univ (bodyAt0 t) fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (dats m 0 c).leaves 15 t) := by
  rw [Phi_eq, Phi_eq, scratch_iff]
  have hleave := leaves15 m c t
  unfold owns at hleave ⊢
  iintro ⟨⟨⟨Hg, Hl, Hx, Hm⟩, Hr⟩, HW, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩⟩
  have e0 := h0.trans (before_in m c t 0 rfl d0)
  have e1 := h1.trans (before_in m c t 1 rfl d1)
  ihave H := (body_run c t ⟨f0, f1, f2, f3, f4, f5, f6, f7, f8, f9⟩ f15) $$ [H0 H1 H2 H3 H4 H5 H6 H7 H8 H9 H10 H11 H12 H13 H14 H15 Hg Hl Hx Hm]
  · isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H15]; · iexact H15
    isplitl [H10]; · iexists f10; iexact H10
    isplitl [H11]; · iexists f11; iexact H11
    isplitl [H12]; · iexists f12; iexact H12
    isplitl [H13]; · iexists f13; iexact H13
    isplitl [H14]; · iexists f14; iexact H14
    isplitl [Hg]; · iexact Hg
    isplitl [Hl]; · iexact Hl
    isplitl [Hx]; · iexact Hx
    iexact Hm
  iapply (wp_wand_r)
  isplitl [H]; · iexact H
  iintro %u ⟨⟨H0, H1, H2, H3, H4, H5, H6, H7, H8, H9⟩, ⟨%g15, H15, %hg⟩, ⟨%g10, H10⟩, ⟨%g11, H11⟩, ⟨%g12, H12⟩, ⟨%g13, H13⟩, ⟨%g14, H14⟩, Hg, Hl, Hx, Hm⟩
  isplitl [Hg Hl Hx Hm Hr]
  · isplitl [Hg Hl Hx Hm]
    · isplitl [Hg]; · iexact Hg
      isplitl [Hl]; · iexact Hl
      isplitl [Hx]; · iexact Hx
      iexact Hm
    iexact Hr
  isplitl [HW]; · iexact HW
  isplitl [H0]
  · iexists f0; isplitr; · ipureintro; exact h0.trans (before_in m c t 0 rfl d0)
    iexact H0
  isplitl [H1]
  · iexists f1; isplitr; · ipureintro; exact h1.trans (before_in m c t 1 rfl d1)
    iexact H1
  isplitl [H2]
  · iexists f2; isplitr; · ipureintro; exact h2.trans (before_in m c t 2 rfl d2)
    iexact H2
  isplitl [H3]
  · iexists f3; isplitr; · ipureintro; exact h3.trans (before_in m c t 3 rfl d3)
    iexact H3
  isplitl [H4]
  · iexists f4; isplitr; · ipureintro; exact h4.trans (before_in m c t 4 rfl d4)
    iexact H4
  isplitl [H5]
  · iexists f5; isplitr; · ipureintro; exact h5.trans (before_in m c t 5 rfl d5)
    iexact H5
  isplitl [H6]
  · iexists f6; isplitr; · ipureintro; exact h6.trans (before_in m c t 6 rfl d6)
    iexact H6
  isplitl [H7]
  · iexists f7; isplitr; · ipureintro; exact h7.trans (before_in m c t 7 rfl d7)
    iexact H7
  isplitl [H8]
  · iexists f8; isplitr; · ipureintro; exact h8.trans (before_in m c t 8 rfl d8)
    iexact H8
  isplitl [H9]
  · iexists f9; isplitr; · ipureintro; exact h9.trans (before_in m c t 9 rfl d9)
    iexact H9
  isplitl [H10]
  · iexists _; iexists g10; isplitr; · ipureintro; rfl
    iexact H10
  isplitl [H11]
  · iexists _; iexists g11; isplitr; · ipureintro; rfl
    iexact H11
  isplitl [H12]
  · iexists _; iexists g12; isplitr; · ipureintro; rfl
    iexact H12
  isplitl [H13]
  · iexists _; iexists g13; isplitr; · ipureintro; rfl
    iexact H13
  isplitl [H14]
  · iexists _; iexists g14; isplitr; · ipureintro; rfl
    iexact H14
  iapply hleave
  iexists g15; isplitr
  · ipureintro
    exact hg.trans ((congr (congrArg₂ (next t.val) e0 e1) rfl).trans (next_eq m c t d15 _ h15))
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

/-- What a run leaves: the windows' arrays as the proof data say, every other array as the region found it, the semaphores at zero. -/
abbrev Post (r : PUnit × MemSt nD τ sig (Elt F)) : Prop :=
  Pipeline.RDat.FramePost cfg0 (fun c => (dats m 0 c).toRForget fgt) (V m) r ∧ r.2.sem = fun _ => 0

set_option backward.isDefEq.respectTransparency.types false in
theorem run_main : θ_run defs (onTc (τ := τ) (main (F := F))) (s₀ m ρ) (Post m) :=
  Pipeline.θ_run_frame_forget_shared (Q' := Post m) cfgs (dats m) (0 : Fin 1) launch0.to₀ defs₀ Variants.none fgt m ρ main
    (hbody := fun c => body_obligation m c) (hq := fun _ _ _ => rfl)
    (howed := fun _ _ => rfl) (V := V m) (hmain := hmain m Variants.none) (hA := A_eq m)
    (hΦ := fun c t => Phi_eq m c t) (hQ' := fun _ h => h)

theorem args_of (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩

/-- The result holds what the write-backs of the points' sums leave. -/
theorem dd_of (r : PUnit × MemSt nD τ sig (Elt F)) (h : Post m r) (c : Dev nD) :
    r.2.mem ((c.tc : Thread nD τ).loc (Pipeline.arrRef spec0 15)) = (dats m 0 c).arrAt 15 cfg0.N :=
  (Pipeline.Dat.toRForget_arrAt_iff (dats m 0 c) (fgt := fgt) (w := 15) rfl cfg0.N _).mp ((h.1 c).1 15)

end Cert.Ssm

end
-- ==== Proof.Ssm.lean ====
/- The gradient of the skip weight: the kernel's sums over the scan's order of rows are the reference's sum over all rows. -/
module

public import proofs.«01_k».proof.Defs
public import proofs.«01_k».proof.Proof.SsmLaunch
public import proofs.«01_k».proof.Proof.Gen.KSsm
public import proofs.«01_k».proof.Proof.Gen.RSsmIdeal.Run
public import Idealize.ShloMosaic.Lib.Pipeline.ValueKit
public import Idealize.ShloMosaic.Lib.Pointwise
public import Idealize.ShloMosaic.Lib.Claim

@[expose] public section

set_option maxRecDepth 16384

noncomputable section

namespace Cert.Ssm

open Idealize.ShloMosaic Idealize.ShloMosaic.TcCoe Idealize.ShloMosaic.Tactic Idealize.SL.Sem Idealize.ShloMosaic.StableHlo

section Ref

open Cert.RSsmIdeal Cert.RSsmIdeal.Gen

/-- The reference's gradient: the cotangent times the input, summed over all rows. -/
def grad (u dy : FVec Ideal S4096x512 .f32) : FVec Ideal S1x512 .f32 :=
  shapeCast _ (Host.reduceAdd (shapeCast _ (Host.reduceAdd (mulf (shapeCast _ dy shapeCasts_S4096x512_S2x2048x32x16) (shapeCast _ u shapeCasts_S4096x512_S2x2048x32x16)) (constant S_ .f32 0x00000000#32) reducesTo_S2x2048x32x16_S32x16_d0_1 h_S_) shapeCasts_S32x16_S1x1x32x16) (constant S_ .f32 0x00000000#32) reducesTo_S1x1x32x16_S32x16_d0_1 h_S_) shapeCasts_S32x16_S1x512

/-- A sum over the first two axes of four. -/
theorem sum_first {a b : ℕ} (h : (⟨4, ![a, b, 32, 16]⟩ : Shape).ReducesTo [0, 1] S32x16) (v : (⟨4, ![a, b, 32, 16]⟩ : Shape).Idx → EReal)
    (g : Fin 32) (k : Fin 16) : Ideal.hostReduceAdd h v 0 (ix2 g k) = ∑ x : Fin a, ∑ y : Fin b, v (ix4 x y g k) := by
  unfold Ideal.hostReduceAdd
  rw [zero_add, ← Fintype.sum_prod_type']
  symm
  refine Finset.sum_nbij' (fun p => ix4 p.1 p.2 g k) (fun i => (i 0, i 1)) (fun p _ => ?_) (fun _ _ => Finset.mem_univ _) (fun _ _ => rfl) (fun i hi => ?_) (fun _ _ => rfl)
  · refine Finset.mem_filter.mpr ⟨Finset.mem_univ _, ?_⟩
    funext d; apply Fin.ext
    fin_cases d <;> rfl
  · have e := (Finset.mem_filter.mp hi).2
    funext d; apply Fin.ext
    match d with
    | ⟨0, _⟩ => rfl
    | ⟨1, _⟩ => rfl
    | ⟨2, _⟩ => exact (congrArg Fin.val (congrFun e 0)).symm
    | ⟨3, _⟩ => exact (congrArg Fin.val (congrFun e 1)).symm

/-- One row's product. -/
def rowTerm (u dy : FVec Ideal S4096x512 .f32) (q : Fin 512) (b : Fin 2) (l : Fin 2048) : EReal :=
  dy (ix2 ⟨b.val * 2048 + l.val, by omega⟩ q) * u (ix2 ⟨b.val * 2048 + l.val, by omega⟩ q)

theorem grad_apply (u dy : FVec Ideal S4096x512 .f32) (q : Fin 512) :
    grad u dy (ix2 0 q) = ∑ l : Fin 2048, rowTerm u dy q 0 l + ∑ l : Fin 2048, rowTerm u dy q 1 l := by
  pointwise [grad]
  rw [sum_first]
  simp only [Fin.sum_univ_one]
  pointwise []
  rw [sum_first, Fin.sum_univ_two]
  refine congrArg₂ (· + ·) (Finset.sum_congr rfl fun l _ => ?_) (Finset.sum_congr rfl fun l _ => ?_) <;> unfold rowTerm <;> pointwise []

end Ref

open Cert.KSsmIdeal Cert.KSsmIdeal.Gen

theorem step_apply (dy u : FVec Ideal S1x2048x128 .f32) (X : FVec Ideal S1x128 .f32) (j : Fin 128) :
    step (F := Ideal) dy u X (ix2 0 j) = X (ix2 0 j) + ∑ r : Fin 2048, dy (ix3 0 r j) * u (ix3 0 r j) := by
  pointwise [step, k0_pay58, k0_pay59, k0_pay64]

theorem zero_apply (j : Fin 128) : k0_pay7 (F := Ideal) (ix2 0 j) = 0 := by
  pointwise [k0_pay7]

theorem idx : ∀ t : Fin cfg0.N, win0_0.index t = ![t.val / 2 % 2, 0, t.val / 4] ∧ win0_1.index t = ![t.val / 2 % 2, 0, t.val / 4] ∧ win0_15.index t = ![0, t.val / 4] := by
  decide +kernel

variable (m : (ℓ : Loc nD τ sig) → Buf (Elt Ideal) ℓ)

/-- The host operations before the last ones. -/
abbrev early (c : Dev nD) : Valuation τ sig (Elt Ideal) := after ((hostOps0 (F := Ideal)).take 360) (fun b => m (c, b))

theorem V_tail (c : Dev nD) (b : Ref sig .tc) : V m c b = after main_part6_ops0 (early m c) b := by
  have h : hostOps0 (F := Ideal) = hostOps0.take 360 ++ main_part6_ops0 := (List.take_append_drop 360 _).symm
  show after hostOps0 _ _ = _
  rw [h, after_append]

theorem early_dy (c : Dev nD) : early m c main_arg8 = m ((c : Thread nD τ).loc main_arg8) := by
  refine Eq.trans ?_ (V_main_arg8 m c)
  rw [V_tail]
  after_results_simp

theorem early_u (c : Dev nD) : early m c main_arg0 = m ((c : Thread nD τ).loc main_arg0) := by
  refine Eq.trans ?_ (V_main_arg0 m c)
  rw [V_tail]
  after_results_simp

/-- A row in the scan's order. -/
def perm (r : Fin 2048) : Fin 2048 := ⟨r.val % 8 * 256 + r.val / 8, by omega⟩

/-- The kernel finds the cotangent's rows in the scan's order. -/
theorem host_dy (c : Dev nD) (b : Fin 2) (r : Fin 2048) (q : Fin 512) : (V m c main_v332 : FVec Ideal S2x2048x512 .f32) (ix3 b r q)
    = (m ((c : Thread nD τ).loc main_arg8) : FVec Ideal S4096x512 .f32) (ix2 ⟨b.val * 2048 + (perm r).val, by have := (perm r).isLt; omega⟩ q) := by
  rw [V_tail]
  have e := early_dy m c
  revert e
  generalize early m c = W
  intro e
  after_results_simp
  rw [e]
  pointwise [perm]
  simp only [Nat.add_assoc]

/-- The kernel finds the input's rows in the scan's order. -/
theorem host_u (c : Dev nD) (b : Fin 2) (r : Fin 2048) (q : Fin 512) : (V m c main_v335 : FVec Ideal S2x2048x512 .f32) (ix3 b r q)
    = (m ((c : Thread nD τ).loc main_arg0) : FVec Ideal S4096x512 .f32) (ix2 ⟨b.val * 2048 + (perm r).val, by have := (perm r).isLt; omega⟩ q) := by
  rw [V_tail]
  have e := early_u m c
  revert e
  generalize early m c = W
  intro e
  after_results_simp
  rw [e]
  pointwise [perm]
  simp only [Nat.add_assoc]

/-- A point's batch, and its columns. -/
def batch (t : Fin cfg0.N) : Fin 2 := ⟨t.val / 2 % 2, by omega⟩
def col (t : Fin cfg0.N) (j : Fin 128) : Fin 512 := ⟨t.val / 4 * 128 + j.val, by have : t.val < 16 := t.isLt; omega⟩

theorem dy_blk (t : Fin cfg0.N) (A : FVec Ideal S2x2048x512 .f32) (r : Fin 2048) (j : Fin 128) :
    ((cfg0.win 0).blk t).view.read (Elt Ideal) A (ix3 0 r j) = A (ix3 (batch t) r (col t j)) := by
  show A (((cfg0.win 0).blk t).view.emb (ix3 0 r j)) = _
  refine congrArg A ?_
  have e0 : ((((cfg0.win 0).blk t).view.emb (ix3 0 r j)) 0).val = (batch t).val := by
    blk_simp [idx t, batch]
    rfl
  have e1 : ((((cfg0.win 0).blk t).view.emb (ix3 0 r j)) 1).val = r.val := by blk_simp [idx t]
  have e2 : ((((cfg0.win 0).blk t).view.emb (ix3 0 r j)) 2).val = (col t j).val := by blk_simp [idx t, col]
  funext d; apply Fin.ext
  fin_cases d
  · exact e0
  · exact e1
  · exact e2

theorem u_blk (t : Fin cfg0.N) (A : FVec Ideal S2x2048x512 .f32) (r : Fin 2048) (j : Fin 128) :
    ((cfg0.win 1).blk t).view.read (Elt Ideal) A (ix3 0 r j) = A (ix3 (batch t) r (col t j)) := by
  show A (((cfg0.win 1).blk t).view.emb (ix3 0 r j)) = _
  refine congrArg A ?_
  have e0 : ((((cfg0.win 1).blk t).view.emb (ix3 0 r j)) 0).val = (batch t).val := by
    blk_simp [idx t, batch]
    rfl
  have e1 : ((((cfg0.win 1).blk t).view.emb (ix3 0 r j)) 1).val = r.val := by blk_simp [idx t]
  have e2 : ((((cfg0.win 1).blk t).view.emb (ix3 0 r j)) 2).val = (col t j).val := by blk_simp [idx t, col]
  funext d; apply Fin.ext
  fin_cases d
  · exact e0
  · exact e1
  · exact e2

theorem dy_apply (c : Dev nD) (t : Fin cfg0.N) (r : Fin 2048) (j : Fin 128) : iblk m c 0 t (ix3 0 r j)
    = (m ((c : Thread nD τ).loc main_arg8) : FVec Ideal S4096x512 .f32) (ix2 ⟨(batch t).val * 2048 + (perm r).val, by have := (batch t).isLt; have := (perm r).isLt; omega⟩ (col t j)) := by
  unfold iblk
  exact (dy_blk t _ r j).trans (host_dy m c (batch t) r (col t j))

theorem u_apply (c : Dev nD) (t : Fin cfg0.N) (r : Fin 2048) (j : Fin 128) : iblk m c 1 t (ix3 0 r j)
    = (m ((c : Thread nD τ).loc main_arg0) : FVec Ideal S4096x512 .f32) (ix2 ⟨(batch t).val * 2048 + (perm r).val, by have := (batch t).isLt; have := (perm r).isLt; omega⟩ (col t j)) := by
  unfold iblk
  exact (u_blk t _ r j).trans (host_u m c (batch t) r (col t j))

/-- A sum over the rows in the scan's order is the sum over the rows. -/
theorem sum_perm (f : Fin 2048 → EReal) : ∑ r, f (perm r) = ∑ l, f l := by
  rw [← (finProdFinEquiv (m := 256) (n := 8)).sum_comp fun r => f (perm r), ← (finProdFinEquiv (m := 8) (n := 256)).sum_comp f,
    Fintype.sum_prod_type, Fintype.sum_prod_type, Finset.sum_comm]
  refine Finset.sum_congr rfl fun n _ => Finset.sum_congr rfl fun q _ => congrArg f (Fin.ext ?_)
  show (n.val + 8 * q.val) % 8 * 256 + (n.val + 8 * q.val) / 8 = q.val + 256 * n.val
  omega

/-- The reference's function of the kernel's arguments. -/
def want (c : Dev nD) : FVec Ideal S1x512 .f32 := grad (m ((c : Thread nD τ).loc main_arg0)) (m ((c : Thread nD τ).loc main_arg8))

/-- A point adds its batch's rows. -/
theorem step_blk (c : Dev nD) (t : Fin cfg0.N) (X : FVec Ideal S1x128 .f32) (j : Fin 128) :
    step (F := Ideal) (iblk m c 0 t) (iblk m c 1 t) X (ix2 0 j)
      = X (ix2 0 j) + ∑ l, rowTerm (m ((c : Thread nD τ).loc main_arg0)) (m ((c : Thread nD τ).loc main_arg8)) (col t j) (batch t) l := by
  refine (step_apply (iblk m c 0 t) (iblk m c 1 t) X j).trans (congrArg (X (ix2 0 j) + ·) ?_)
  refine Eq.trans ?_ (sum_perm _)
  refine Finset.sum_congr rfl fun r _ => ?_
  rw [dy_apply, u_apply]
  rfl

/-- The sum after a block of columns' last point is the reference's gradient there. -/
theorem dd_apply (c : Dev nD) (t : Fin cfg0.N) (h : t.val % 4 = 3) (j : Fin 128) : ddN m c t.val (ix2 0 j) = want m c (ix2 0 (col t j)) := by
  have hN : t.val < 16 := t.isLt
  let t2 : Fin cfg0.N := ⟨t.val - 1, by show _ < 16; omega⟩
  let t1 : Fin cfg0.N := ⟨t.val - 1 - 1, by show _ < 16; omega⟩
  let t0 : Fin cfg0.N := ⟨t.val - 1 - 1 - 1, by show _ < 16; omega⟩
  have e2 : ddN m c (t.val - 1) = ddN m c (t.val - 1 - 1) := by
    refine (ddN_pos m c t2 (by show t.val - 1 ≠ 0; omega)).trans ?_
    rw [next, if_neg (by show ¬ (t.val - 1) % 4 = 0; omega), if_pos (by show (t.val - 1) % 4 = 2; omega)]
  have e1 : ddN m c (t.val - 1 - 1) = step (iblk m c 0 t1) (iblk m c 1 t1) (k0_pay7 (F := Ideal)) := by
    refine (ddN_pos m c t1 (by show t.val - 1 - 1 ≠ 0; omega)).trans ?_
    rw [next, if_neg (by show ¬ (t.val - 1 - 1) % 4 = 0; omega), if_neg (by show ¬ (t.val - 1 - 1) % 4 = 2; omega)]
    exact congrArg _ (ddN_zero m c t0 (by show (t.val - 1 - 1 - 1) % 4 = 0; omega))
  have hc : col t1 j = col t j := Fin.ext (by show (t.val - 1 - 1) / 4 * 128 + j.val = t.val / 4 * 128 + j.val; omega)
  have hb1 : batch t1 = 0 := Fin.ext (by show (t.val - 1 - 1) / 2 % 2 = 0; omega)
  have hb : batch t = 1 := Fin.ext (by show t.val / 2 % 2 = 1; omega)
  rw [ddN_pos m c t (by omega), next, if_neg (by omega), if_neg (by omega), step_blk, e2, e1, step_blk, zero_apply, zero_add, hc, hb1, hb]
  exact (grad_apply _ _ _).symm

/-- The kernel's gradient of the skip weight is the reference's. -/
theorem final (c : Dev nD) : (dats m 0 c).arrAt 15 (cfgs 0).N = want m c := by
  refine (dats m 0 c).arrAt_eq_of_covers 15 _ (by decide +kernel) fun t hf y => ?_
  have h0 : (y 0).val < 1 := (y 0).isLt
  have h1 : (y 1).val < 128 := (y 1).isLt
  have key := dd_apply m c t ((flush0_15 t).mp hf) ⟨(y 1).val, h1⟩
  have ey : (ix2 0 ⟨(y 1).val, h1⟩ : S1x128.Idx) = y := by
    funext d; apply Fin.ext; fin_cases d
    · show 0 = (y 0).val; omega
    · rfl
  have ei : (ix2 0 (col t ⟨(y 1).val, h1⟩) : S1x512.Idx) = ((cfg0.win 15).blk t).view.emb y := by
    have e0 : ((((cfg0.win 15).blk t).view.emb y) 0).val = (y 0).val := by blk_simp [idx t]
    have e1 : ((((cfg0.win 15).blk t).view.emb y) 1).val = t.val / 4 * 128 + (y 1).val := by blk_simp [idx t]
    funext d; apply Fin.ext; fin_cases d
    · refine Eq.trans ?_ e0.symm; show 0 = _; omega
    · exact e1.symm
  rw [ey, ei] at key
  refine Eq.trans ?_ key
  exact congrFun (after15 m c t) y

/-- The frame of the ideal program's text, over any floats. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨args_of m r h, h.2⟩) (run_main m ρ)

/-- That frame over words. -/
theorem frame_words (m : (ℓ : Loc nD τ sig) → Buf (Elt Bits) ℓ) (ρ : Dev nD → PrngReg) (_ : True) : type_of% (frame (F := Bits) m ρ) := frame (F := Bits) m ρ

/-- The kernel's program is the ideal one's text, so that this is the claim of its frame. -/
theorem frame_same : (type_of% frame_words) = Cert.quiescent_KSsm := by sl_kernel_rfl

/-- The kernel's frame. -/
theorem frame_kernel : Cert.quiescent_KSsm := Eq.mp frame_same frame_words

/-- The reference's frame. -/
theorem frame_reference : Cert.quiescent_RSsmIdeal := fun m ρ _ =>
  (θ_run Cert.RSsmIdeal.defs _ _).mono (fun r h => ⟨fun c => (h c).2, sem_eq_zero_of_no_sems (by decide) r.2⟩)
    (Cert.RSsmIdeal.Value.run (F := Ideal) m ρ)

/-- Kernel and reference compute the same gradient of the skip weight. -/
theorem algebraic : Cert.algebraic_KSsmIdeal_RSsmIdeal := by
  intro m g m' g' _ hagree
  refine ⟨fun c => want m c, ?_, ?_⟩
  · exact (θ_run defs _ _).mono (fun r h c => ⟨(dd_of m r h c).trans (final m c), args_of m r h c⟩) (run_main m g)
  · refine (θ_run Cert.RSsmIdeal.defs _ _).mono (fun r h c => ?_) (Cert.RSsmIdeal.Value.run (F := Ideal) m' g')
    obtain ⟨h1, hargs⟩ := h c
    obtain ⟨e0, e1, e2, e3, e4, e5, e6, e7, e8⟩ := hagree c
    refine ⟨Eq.trans (h1.trans (?_ : _ = grad (m' ((c : Thread Cert.RSsmIdeal.nD Cert.RSsmIdeal.τ).loc Cert.RSsmIdeal.main_arg0)) (m' ((c : Thread Cert.RSsmIdeal.nD Cert.RSsmIdeal.τ).loc Cert.RSsmIdeal.main_arg8)))) ?_, hargs⟩
    · rfl
    · unfold want
      rw [e0, e8]

end Cert.Ssm

end
-- ==== Proof.lean ====
/- The certificate: every claim of the statement, from the runs of the programs and the values that the modules beside
   this one compute. -/
module

public import proofs.«01_k».proof.Defs
public import proofs.«01_k».proof.Proof.Gen.KAttn
public import proofs.«01_k».proof.Proof.Gen.KAttnIdeal.Loops
public import proofs.«01_k».proof.Proof.Gen.KAttnIdeal.Frame
public import proofs.«01_k».proof.Proof.Gen.RAttnIdeal.Run
public import proofs.«01_k».proof.Proof.Attn
public import proofs.«01_k».proof.Proof.Gen.KRelu
public import proofs.«01_k».proof.Proof.Gen.KRelu.Frame
public import proofs.«01_k».proof.Proof.Gen.KReluIdeal.Frame
public import proofs.«01_k».proof.Proof.Gen.RReluIdeal.Run
public import proofs.«01_k».proof.Proof.Relu
public import proofs.«01_k».proof.Proof.Gen.KLoss
public import proofs.«01_k».proof.Proof.Gen.KLoss.Frame
public import proofs.«01_k».proof.Proof.Gen.KLossIdeal.Frame
public import proofs.«01_k».proof.Proof.Gen.RLossIdeal.Run
public import proofs.«01_k».proof.Proof.Loss
public import proofs.«01_k».proof.Proof.Gen.KAttnNorm
public import proofs.«01_k».proof.Proof.Gen.KAttnNorm.Frame
public import proofs.«01_k».proof.Proof.Gen.KAttnNormIdeal.Frame
public import proofs.«01_k».proof.Proof.Gen.RAttnNormIdeal.Run
public import proofs.«01_k».proof.Proof.AttnNorm
public import proofs.«01_k».proof.Proof.Gen.KNormOne
public import proofs.«01_k».proof.Proof.Gen.KNormOne.Frame
public import proofs.«01_k».proof.Proof.Gen.KNormOneIdeal.Frame
public import proofs.«01_k».proof.Proof.Gen.RNormOneIdeal.Run
public import proofs.«01_k».proof.Proof.NormOne
public import proofs.«01_k».proof.Proof.Gen.KNormTwo
public import proofs.«01_k».proof.Proof.Gen.KNormTwo.Frame
public import proofs.«01_k».proof.Proof.Gen.KNormTwoIdeal.Frame
public import proofs.«01_k».proof.Proof.Gen.RNormTwoIdeal.Run
public import proofs.«01_k».proof.Proof.NormTwo
public import proofs.«01_k».proof.Proof.Gen.KGlu
public import proofs.«01_k».proof.Proof.Gen.KGlu.Frame
public import proofs.«01_k».proof.Proof.Gen.KGluIdeal.Frame
public import proofs.«01_k».proof.Proof.Gen.RGluIdeal.Run
public import proofs.«01_k».proof.Proof.Glu
public import proofs.«01_k».proof.Proof.Gen.KGelu
public import proofs.«01_k».proof.Proof.Gen.KGelu.Frame
public import proofs.«01_k».proof.Proof.Gen.KGeluIdeal.Frame
public import proofs.«01_k».proof.Proof.Gen.RGeluIdeal.Run
public import proofs.«01_k».proof.Proof.Gelu
public import proofs.«01_k».proof.Proof.Gen.KZoh
public import proofs.«01_k».proof.Proof.Gen.KZoh.Frame
public import proofs.«01_k».proof.Proof.Gen.KZohIdeal.Frame
public import proofs.«01_k».proof.Proof.Gen.RZohIdeal.Run
public import proofs.«01_k».proof.Proof.Zoh
public import proofs.«01_k».proof.Proof.Gen.KMlpIn
public import proofs.«01_k».proof.Proof.Gen.KMlpIn.Frame
public import proofs.«01_k».proof.Proof.Gen.KMlpInIdeal.Frame
public import proofs.«01_k».proof.Proof.Gen.RMlpInIdeal.Run
public import proofs.«01_k».proof.Proof.MlpIn
public import proofs.«01_k».proof.Proof.Gen.KOutProj
public import proofs.«01_k».proof.Proof.Gen.KOutProj.Frame
public import proofs.«01_k».proof.Proof.Gen.KOutProjIdeal.Frame
public import proofs.«01_k».proof.Proof.Gen.ROutProjIdeal.Run
public import proofs.«01_k».proof.Proof.OutProj
public import proofs.«01_k».proof.Proof.Gen.KGluGate
public import proofs.«01_k».proof.Proof.Gen.KGluGate.Frame
public import proofs.«01_k».proof.Proof.Gen.KGluGateIdeal.Frame
public import proofs.«01_k».proof.Proof.Gen.RGluGateIdeal.Run
public import proofs.«01_k».proof.Proof.GluGate
public import proofs.«01_k».proof.Proof.Gen.KMix
public import proofs.«01_k».proof.Proof.Gen.KMix.Frame
public import proofs.«01_k».proof.Proof.Gen.KMixIdeal.Frame
public import proofs.«01_k».proof.Proof.Gen.RMixIdeal.Run
public import proofs.«01_k».proof.Proof.Mix
public import proofs.«01_k».proof.Proof.Gen.KPrep
public import proofs.«01_k».proof.Proof.Gen.KPrep.Frame
public import proofs.«01_k».proof.Proof.Gen.KPrepIdeal.Frame
public import proofs.«01_k».proof.Proof.Gen.RPrepIdeal.Run
public import proofs.«01_k».proof.Proof.Prep
public import proofs.«01_k».proof.Proof.Gen.KProj
public import proofs.«01_k».proof.Proof.Gen.KProj.Frame
public import proofs.«01_k».proof.Proof.Gen.KProjIdeal.Frame
public import proofs.«01_k».proof.Proof.Gen.RProjIdeal.Run
public import proofs.«01_k».proof.Proof.Gen.Pre_finite
public import proofs.«01_k».proof.Proof.Proj
public import proofs.«01_k».proof.Proof.Gen.KWeight
public import proofs.«01_k».proof.Proof.Gen.KWeight.Frame
public import proofs.«01_k».proof.Proof.Gen.KWeightIdeal.Frame
public import proofs.«01_k».proof.Proof.Gen.RWeightIdeal.Run
public import proofs.«01_k».proof.Proof.Weight
public import proofs.«01_k».proof.Proof.Gen.KSmall
public import proofs.«01_k».proof.Proof.Gen.KSmall.Frame
public import proofs.«01_k».proof.Proof.Gen.KSmallIdeal.Frame
public import proofs.«01_k».proof.Proof.Gen.RSmallIdeal.Run
public import proofs.«01_k».proof.Proof.Small
public import proofs.«01_k».proof.Proof.Gen.KSsm
public import proofs.«01_k».proof.Proof.Gen.KSsmIdeal.Loops
public import proofs.«01_k».proof.Proof.Gen.KSsmIdeal.Frame
public import proofs.«01_k».proof.Proof.Gen.RSsmIdeal.Run
public import proofs.«01_k».proof.Proof.Ssm

@[expose] public section

set_option maxRecDepth 16384

noncomputable section

namespace Cert.Proof

open Idealize.ShloMosaic Idealize.SL.Sem

theorem frame_RRelu : Cert.quiescent_RReluIdeal := fun m ρ _ =>
  (θ_run Cert.RReluIdeal.defs _ _).mono (fun r h => ⟨fun c => (h c).2, sem_eq_zero_of_no_sems (by decide) r.2⟩)
    (Cert.RReluIdeal.Value.run (F := Ideal) m ρ)

theorem frame_RLoss : Cert.quiescent_RLossIdeal := fun m ρ _ =>
  (θ_run Cert.RLossIdeal.defs _ _).mono (fun r h => ⟨fun c => (h c).2.2.2, sem_eq_zero_of_no_sems (by decide) r.2⟩)
    (Cert.RLossIdeal.Value.run (F := Ideal) m ρ)

theorem frame_RAttnNorm : Cert.quiescent_RAttnNormIdeal := fun m ρ _ =>
  (θ_run Cert.RAttnNormIdeal.defs _ _).mono (fun r h => ⟨fun c => (h c).2.2, sem_eq_zero_of_no_sems (by decide) r.2⟩)
    (Cert.RAttnNormIdeal.Value.run (F := Ideal) m ρ)

theorem frame_RNormOne : Cert.quiescent_RNormOneIdeal := fun m ρ _ =>
  (θ_run Cert.RNormOneIdeal.defs _ _).mono (fun r h => ⟨fun c => (h c).2.2, sem_eq_zero_of_no_sems (by decide) r.2⟩)
    (Cert.RNormOneIdeal.Value.run (F := Ideal) m ρ)

theorem frame_RNormTwo : Cert.quiescent_RNormTwoIdeal := fun m ρ _ =>
  (θ_run Cert.RNormTwoIdeal.defs _ _).mono (fun r h => ⟨fun c => (h c).2.2.2, sem_eq_zero_of_no_sems (by decide) r.2⟩)
    (Cert.RNormTwoIdeal.Value.run (F := Ideal) m ρ)

theorem frame_RGlu : Cert.quiescent_RGluIdeal := fun m ρ _ =>
  (θ_run Cert.RGluIdeal.defs _ _).mono (fun r h => ⟨fun c => (h c).2.2.2.2, sem_eq_zero_of_no_sems (by decide) r.2⟩)
    (Cert.RGluIdeal.Value.run (F := Ideal) m ρ)

theorem frame_RGelu : Cert.quiescent_RGeluIdeal := fun m ρ _ =>
  (θ_run Cert.RGeluIdeal.defs _ _).mono (fun r h => ⟨fun c => (h c).2, sem_eq_zero_of_no_sems (by decide) r.2⟩)
    (Cert.RGeluIdeal.Value.run (F := Ideal) m ρ)

theorem frame_RZoh : Cert.quiescent_RZohIdeal := fun m ρ _ =>
  (θ_run Cert.RZohIdeal.defs _ _).mono (fun r h => ⟨fun c => (h c).2.2.2.2.2, sem_eq_zero_of_no_sems (by decide) r.2⟩)
    (Cert.RZohIdeal.Value.run (F := Ideal) m ρ)

theorem frame_RMlpIn : Cert.quiescent_RMlpInIdeal := fun m ρ _ =>
  (θ_run Cert.RMlpInIdeal.defs _ _).mono (fun r h => ⟨fun c => (h c).2.2, sem_eq_zero_of_no_sems (by decide) r.2⟩)
    (Cert.RMlpInIdeal.Value.run (F := Ideal) m ρ)

theorem frame_ROutProj : Cert.quiescent_ROutProjIdeal := fun m ρ _ =>
  (θ_run Cert.ROutProjIdeal.defs _ _).mono (fun r h => ⟨fun c => (h c).2.2, sem_eq_zero_of_no_sems (by decide) r.2⟩)
    (Cert.ROutProjIdeal.Value.run (F := Ideal) m ρ)

theorem frame_RGluGate : Cert.quiescent_RGluGateIdeal := fun m ρ _ =>
  (θ_run Cert.RGluGateIdeal.defs _ _).mono (fun r h => ⟨fun c => (h c).2.2, sem_eq_zero_of_no_sems (by decide) r.2⟩)
    (Cert.RGluGateIdeal.Value.run (F := Ideal) m ρ)

theorem frame_RMix : Cert.quiescent_RMixIdeal := fun m ρ _ =>
  (θ_run Cert.RMixIdeal.defs _ _).mono (fun r h => ⟨fun c => (h c).2, sem_eq_zero_of_no_sems (by decide) r.2⟩)
    (Cert.RMixIdeal.Value.run (F := Ideal) m ρ)

theorem frame_RPrep : Cert.quiescent_RPrepIdeal := fun m ρ _ =>
  (θ_run Cert.RPrepIdeal.defs _ _).mono (fun r h => ⟨fun c => (h c).2.2.2.2, sem_eq_zero_of_no_sems (by decide) r.2⟩)
    (Cert.RPrepIdeal.Value.run (F := Ideal) m ρ)

theorem frame_RWeight : Cert.quiescent_RWeightIdeal := fun m ρ _ =>
  (θ_run Cert.RWeightIdeal.defs _ _).mono (fun r h => ⟨fun c => (h c).2.2, sem_eq_zero_of_no_sems (by decide) r.2⟩)
    (Cert.RWeightIdeal.Value.run (F := Ideal) m ρ)

theorem frame_RSmall : Cert.quiescent_RSmallIdeal := fun m ρ _ =>
  (θ_run Cert.RSmallIdeal.defs _ _).mono (fun r h => ⟨fun c => (h c).2.2.2.2, sem_eq_zero_of_no_sems (by decide) r.2⟩)
    (Cert.RSmallIdeal.Value.run (F := Ideal) m ρ)

/-- The attention's gradient of `v`. -/
theorem attn : Cert.algebraic_KAttnIdeal_RAttnIdeal := Cert.Attn.algebraic

/-- The gradient through the squared relu. -/
theorem relu : Cert.algebraic_KReluIdeal_RReluIdeal := by
  pair_intro
  · run_from Cert.KReluIdeal.Gen.run_main m g
  · run_from Cert.RReluIdeal.Value.run m' g'
    exact (Cert.Relu.final m c).symm

/-- The loss and its gradient. -/
theorem loss : Cert.algebraic_KLossIdeal_RLossIdeal := by
  pair_intro
  · run_from Cert.KLossIdeal.Gen.run_main m g
  · run_from Cert.RLossIdeal.Value.run m' g'
    · exact (Cert.Loss.final_grad m c).symm
    · exact (Cert.Loss.final_grad_cast m c).symm
    · exact (Cert.Loss.final_loss m c).symm

/-- The gradient of the attention's output norm. -/
theorem attnNorm : Cert.algebraic_KAttnNormIdeal_RAttnNormIdeal := by
  pair_intro
  · run_from Cert.KAttnNormIdeal.Gen.run_main m g
  · refine θ_run_mono (Cert.AttnNorm.run_ref m' g') fun r h c => ?_
    obtain ⟨h1, h2, hargs⟩ := h c
    simp only [hagree c] at h1 h2
    exact ⟨h1.trans (Cert.AttnNorm.final_dx m c).symm, h2.trans (Cert.AttnNorm.final_dg m c).symm, hargs⟩

/-- The first norm's gradient, with the product before it. -/
theorem normOne : Cert.algebraic_KNormOneIdeal_RNormOneIdeal := by
  pair_intro
  · run_from Cert.KNormOneIdeal.Gen.run_main m g
  · refine θ_run_mono (Cert.NormOne.run_ref m' g') fun r h c => ?_
    obtain ⟨h1, h2, hargs⟩ := h c
    simp only [hagree c] at h1 h2
    exact ⟨h1.trans (Cert.NormOne.final_dh m c).symm, h2.trans (Cert.NormOne.final_dg m c).symm, hargs⟩

/-- The second norm's gradient, with the product before it. -/
theorem normTwo : Cert.algebraic_KNormTwoIdeal_RNormTwoIdeal := by
  pair_intro
  · run_from Cert.KNormTwoIdeal.Gen.run_main m g
  · refine θ_run_mono (Cert.NormTwo.run_ref m' g') fun r h c => ?_
    obtain ⟨h1, h2, h3, hargs⟩ := h c
    simp only [hagree c] at h1 h2 h3
    exact ⟨h1.trans (Cert.NormTwo.final_dh m c).symm, h2.trans (Cert.NormTwo.final_dhCast m c).symm, h3.trans (Cert.NormTwo.final_dg m c).symm, hargs⟩

/-- The gradient of the gate and of the recurrence's output norm. -/
theorem glu : Cert.algebraic_KGluIdeal_RGluIdeal := by
  pair_intro
  · run_from Cert.KGluIdeal.Gen.run_main m g
  · refine θ_run_mono (Cert.Glu.run_ref m' g') fun r h c => ?_
    obtain ⟨h1, h2, h3, h4, hargs⟩ := h c
    simp only [hagree c] at h1 h2 h3 h4
    exact ⟨h1.trans (Cert.Glu.final_y m c).symm, h2.trans (Cert.Glu.final_p m c).symm, h3.trans (Cert.Glu.final_b m c).symm, h4.trans (Cert.Glu.final_g m c).symm, hargs⟩

/-- The gelu's gradient, with the product before it. -/
theorem gelu : Cert.algebraic_KGeluIdeal_RGeluIdeal := by
  pair_intro
  · run_from Cert.KGeluIdeal.Gen.run_main m g
  · run_from Cert.RGeluIdeal.Value.run m' g'
    exact (Cert.Gelu.final m c).symm

set_option maxHeartbeats 1000000 in
/-- The gradient of the recurrence's discretisation. -/
theorem zoh : Cert.algebraic_KZohIdeal_RZohIdeal := by
  pair_intro
  · run_from Cert.KZohIdeal.Gen.run_main m g
  · refine θ_run_mono (Cert.Zoh.run_ref m' g') fun r h c => ?_
    obtain ⟨h1, h2, h3, h4, h5, hargs⟩ := h c
    simp only [hagree c] at h1 h2 h3 h4 h5
    exact ⟨by rw [h1, Cert.Zoh.final9, Cert.Zoh.args_eq], by rw [h2, Cert.Zoh.final10, Cert.Zoh.args_eq], by rw [h3, Cert.Zoh.final11, Cert.Zoh.args_eq], by rw [h4, Cert.Zoh.final12, Cert.Zoh.args_eq], by rw [h5, Cert.Zoh.final13, Cert.Zoh.args_eq], hargs⟩

/-- The product into the wide layer, with the squared relu. -/
theorem mlpIn : Cert.algebraic_KMlpInIdeal_RMlpInIdeal := by
  pair_intro
  · run_from Cert.KMlpInIdeal.Gen.run_main m g
  · run_from Cert.RMlpInIdeal.Value.run m' g'
    · exact (Cert.MlpIn.final_act m c).symm
    · exact (Cert.MlpIn.final_pre m c).symm

/-- The product after the mixers, with the residual and the second norm. -/
theorem outProj : Cert.algebraic_KOutProjIdeal_ROutProjIdeal := by
  pair_intro
  · run_from Cert.KOutProjIdeal.Gen.run_main m g
  · run_from Cert.ROutProjIdeal.Value.run m' g'
    · exact (Cert.OutProj.final_strm m c).symm
    · exact (Cert.OutProj.final_normed m c).symm

/-- The recurrence's gate, with the norm of its output. -/
theorem gluGate : Cert.algebraic_KGluGateIdeal_RGluGateIdeal := by
  pair_intro
  · run_from Cert.KGluGateIdeal.Gen.run_main m g
  · refine θ_run_mono (Cert.RGluGateIdeal.Value.run (F := Ideal) m' g') fun r h c => ?_
    obtain ⟨h1, h2, hargs⟩ := h c
    replace h1 : r.2.mem ((c.tc : Thread _ _).loc Cert.RGluGateIdeal.main_v14) = Cert.GluGate.pre (m' ((c.tc : Thread _ _).loc Cert.RGluGateIdeal.main_arg0)) (m' ((c.tc : Thread _ _).loc Cert.RGluGateIdeal.main_arg1)) := h1
    replace h2 : r.2.mem ((c.tc : Thread _ _).loc Cert.RGluGateIdeal.main_v36) = Cert.GluGate.normed (m' ((c.tc : Thread _ _).loc Cert.RGluGateIdeal.main_arg0)) (m' ((c.tc : Thread _ _).loc Cert.RGluGateIdeal.main_arg1)) (m' ((c.tc : Thread _ _).loc Cert.RGluGateIdeal.main_arg2)) (m' ((c.tc : Thread _ _).loc Cert.RGluGateIdeal.main_arg3)) := h2
    simp only [hagree c] at h1 h2
    exact ⟨h1.trans (Cert.GluGate.final_pre m c).symm, h2.trans (Cert.GluGate.final_normed m c).symm, hargs⟩

/-- The mean of the two mixers, with the norm of the attention's output. -/
theorem mix : Cert.algebraic_KMixIdeal_RMixIdeal := by
  pair_intro
  · run_from Cert.KMixIdeal.Gen.run_main m g
  · refine θ_run_mono (Cert.RMixIdeal.Value.run (F := Ideal) m' g') fun r h c => ?_
    obtain ⟨h1, hargs⟩ := h c
    replace h1 : r.2.mem ((c.tc : Thread _ _).loc Cert.RMixIdeal.main_v14) = Cert.Mix.mixed (m' ((c.tc : Thread _ _).loc Cert.RMixIdeal.main_arg0)) (m' ((c.tc : Thread _ _).loc Cert.RMixIdeal.main_arg1)) (m' ((c.tc : Thread _ _).loc Cert.RMixIdeal.main_arg2)) := h1
    simp only [hagree c] at h1
    exact ⟨h1.trans (Cert.Mix.final m c).symm, hargs⟩

/-- The recurrence's discretisation. -/
theorem prep : Cert.algebraic_KPrepIdeal_RPrepIdeal := by
  pair_intro
  · run_from Cert.KPrepIdeal.Gen.run_main m g
  · run_from Cert.RPrepIdeal.Value.run m' g'
    · exact (Cert.Prep.final5 m c).symm
    · exact (Cert.Prep.final6 m c).symm
    · exact (Cert.Prep.final7 m c).symm
    · exact (Cert.Prep.final8 m c).symm

theorem frame_RProj : Cert.quiescent_RProjIdeal := fun m ρ _ =>
  (θ_run Cert.RProjIdeal.defs _ _).mono (fun r h => ⟨fun c => (h c).2.2.2.2.2, sem_eq_zero_of_no_sems (by decide) r.2⟩)
    (Cert.RProjIdeal.Value.run (F := Ideal) m ρ)

set_option maxHeartbeats 1000000 in
/-- The input projection, with the norms of its query and key, where rows, weights and the first norm's gain are finite. -/
theorem proj : Cert.algebraic_KProjIdeal_RProjIdeal_pre_finite := by
  intro m g m' g' hpre hagree
  have hp : ∀ c, _ := fun c => by
    obtain ⟨hx, hw, hg⟩ := Cert.Proj.pre_real _ _ _ _ _ (hpre c)
    exact Cert.Proj.proj_real _ _ _ hx hw hg
  repeat' (refine Exists.intro ?_ ?_)
  rotate_right
  refine And.intro ?_ ?_
  · run_from Cert.KProjIdeal.Gen.run_main m g
  · refine θ_run_mono (Cert.RProjIdeal.Value.run (F := Ideal) m' g') fun r h c => ?_
    obtain ⟨h1, h2, h3, h4, h5, hargs⟩ := h c
    replace h1 : r.2.mem ((c.tc : Thread _ _).loc Cert.RProjIdeal.main_v13) = Cert.Proj.proj (m' ((c.tc : Thread _ _).loc Cert.RProjIdeal.main_arg0)) (m' ((c.tc : Thread _ _).loc Cert.RProjIdeal.main_arg1)) (m' ((c.tc : Thread _ _).loc Cert.RProjIdeal.main_arg2)) := h1
    replace h2 : r.2.mem ((c.tc : Thread _ _).loc Cert.RProjIdeal.main_v48) = Cert.Proj.query (m' ((c.tc : Thread _ _).loc Cert.RProjIdeal.main_arg0)) (m' ((c.tc : Thread _ _).loc Cert.RProjIdeal.main_arg1)) (m' ((c.tc : Thread _ _).loc Cert.RProjIdeal.main_arg2)) (m' ((c.tc : Thread _ _).loc Cert.RProjIdeal.main_arg3)) := h2
    replace h3 : r.2.mem ((c.tc : Thread _ _).loc Cert.RProjIdeal.main_v50) = Cert.Proj.keys (m' ((c.tc : Thread _ _).loc Cert.RProjIdeal.main_arg0)) (m' ((c.tc : Thread _ _).loc Cert.RProjIdeal.main_arg1)) (m' ((c.tc : Thread _ _).loc Cert.RProjIdeal.main_arg2)) (m' ((c.tc : Thread _ _).loc Cert.RProjIdeal.main_arg4)) := h3
    replace h4 : r.2.mem ((c.tc : Thread _ _).loc Cert.RProjIdeal.main_v51) = Cert.Proj.vals (m' ((c.tc : Thread _ _).loc Cert.RProjIdeal.main_arg0)) (m' ((c.tc : Thread _ _).loc Cert.RProjIdeal.main_arg1)) (m' ((c.tc : Thread _ _).loc Cert.RProjIdeal.main_arg2)) := h4
    replace h5 : r.2.mem ((c.tc : Thread _ _).loc Cert.RProjIdeal.main_v52) = Cert.Proj.xnCast (m' ((c.tc : Thread _ _).loc Cert.RProjIdeal.main_arg0)) (m' ((c.tc : Thread _ _).loc Cert.RProjIdeal.main_arg2)) := h5
    simp only [hagree c] at h1 h2 h3 h4 h5
    exact ⟨h1.trans (Cert.Proj.final_p m c).symm, h2.trans (Cert.Proj.final_q m c (hp c)).symm, h3.trans (Cert.Proj.final_k m c (hp c)).symm,
      h4.trans (Cert.Proj.final_v m c).symm, h5.trans (Cert.Proj.final_xn m c).symm, hargs⟩

/-- A weight's gradient, one plain product. -/
theorem weight : Cert.algebraic_KWeightIdeal_RWeightIdeal := by
  pair_intro
  · run_from Cert.KWeightIdeal.Gen.run_main m g
  · run_from Cert.RWeightIdeal.Value.run m' g'
    · exact (Cert.Weight.final m c).symm
    · exact (Cert.Weight.finalB m c).symm

/-- The optimiser of the small weights. -/
theorem small : Cert.algebraic_KSmallIdeal_RSmallIdeal := by
  pair_intro
  · run_from Cert.KSmallIdeal.Gen.run_main m g
  · refine θ_run_mono (Cert.RSmallIdeal.Value.run (F := Ideal) m' g') fun r h c => ?_
    obtain ⟨h1, h2, h3, h4, hargs⟩ := h c
    replace h1 : r.2.mem ((c.tc : Thread _ _).loc Cert.RSmallIdeal.main_v0) = Cert.Small.grad (m' ((c.tc : Thread _ _).loc Cert.RSmallIdeal.main_arg0)) := h1
    replace h2 : r.2.mem ((c.tc : Thread _ _).loc Cert.RSmallIdeal.main_v24) = Cert.Small.delta (m' ((c.tc : Thread _ _).loc Cert.RSmallIdeal.main_arg0)) (m' ((c.tc : Thread _ _).loc Cert.RSmallIdeal.main_arg1)) (m' ((c.tc : Thread _ _).loc Cert.RSmallIdeal.main_arg2)) (m' ((c.tc : Thread _ _).loc Cert.RSmallIdeal.main_arg3)) := h2
    replace h3 : r.2.mem ((c.tc : Thread _ _).loc Cert.RSmallIdeal.main_v5) = Cert.Small.mom (m' ((c.tc : Thread _ _).loc Cert.RSmallIdeal.main_arg0)) (m' ((c.tc : Thread _ _).loc Cert.RSmallIdeal.main_arg2)) := h3
    replace h4 : r.2.mem ((c.tc : Thread _ _).loc Cert.RSmallIdeal.main_v11) = Cert.Small.var (m' ((c.tc : Thread _ _).loc Cert.RSmallIdeal.main_arg0)) (m' ((c.tc : Thread _ _).loc Cert.RSmallIdeal.main_arg3)) := h4
    simp only [hagree c] at h1 h2 h3 h4
    exact ⟨h1.trans (Cert.Small.final_grad m c).symm, h2.trans (Cert.Small.final_delta m c).symm, h3.trans (Cert.Small.final_mom m c).symm, h4.trans (Cert.Small.final_var m c).symm, hargs⟩

/-- The scan's gradient of the skip weight. -/
theorem ssm : Cert.algebraic_KSsmIdeal_RSsmIdeal := Cert.Ssm.algebraic

theorem claim : Cert.Claim :=
  ⟨Cert.KAttn.Gen.facts, Cert.KAttnIdeal.Gen.facts, Cert.RAttnIdeal.Gen.facts,
    Cert.KRelu.Gen.facts, Cert.KReluIdeal.Gen.facts, Cert.RReluIdeal.Gen.facts,
    Cert.KLoss.Gen.facts, Cert.KLossIdeal.Gen.facts, Cert.RLossIdeal.Gen.facts,
    Cert.KAttnNorm.Gen.facts, Cert.KAttnNormIdeal.Gen.facts, Cert.RAttnNormIdeal.Gen.facts,
    Cert.KNormOne.Gen.facts, Cert.KNormOneIdeal.Gen.facts, Cert.RNormOneIdeal.Gen.facts,
    Cert.KNormTwo.Gen.facts, Cert.KNormTwoIdeal.Gen.facts, Cert.RNormTwoIdeal.Gen.facts,
    Cert.KGlu.Gen.facts, Cert.KGluIdeal.Gen.facts, Cert.RGluIdeal.Gen.facts,
    Cert.KGelu.Gen.facts, Cert.KGeluIdeal.Gen.facts, Cert.RGeluIdeal.Gen.facts,
    Cert.KZoh.Gen.facts, Cert.KZohIdeal.Gen.facts, Cert.RZohIdeal.Gen.facts,
    Cert.KMlpIn.Gen.facts, Cert.KMlpInIdeal.Gen.facts, Cert.RMlpInIdeal.Gen.facts,
    Cert.KOutProj.Gen.facts, Cert.KOutProjIdeal.Gen.facts, Cert.ROutProjIdeal.Gen.facts,
    Cert.KGluGate.Gen.facts, Cert.KGluGateIdeal.Gen.facts, Cert.RGluGateIdeal.Gen.facts,
    Cert.KMix.Gen.facts, Cert.KMixIdeal.Gen.facts, Cert.RMixIdeal.Gen.facts,
    Cert.KPrep.Gen.facts, Cert.KPrepIdeal.Gen.facts, Cert.RPrepIdeal.Gen.facts,
    Cert.KProj.Gen.facts, Cert.KProjIdeal.Gen.facts, Cert.RProjIdeal.Gen.facts,
    Cert.KWeight.Gen.facts, Cert.KWeightIdeal.Gen.facts, Cert.RWeightIdeal.Gen.facts,
    Cert.KSmall.Gen.facts, Cert.KSmallIdeal.Gen.facts, Cert.RSmallIdeal.Gen.facts,
    Cert.KSsm.Gen.facts, Cert.KSsmIdeal.Gen.facts, Cert.RSsmIdeal.Gen.facts,
    Cert.Pre_finite.Gen.facts,
    Cert.Attn.frame_kernel, fun m ρ _ => Cert.Attn.frame m ρ, Cert.Attn.frame_reference,
    fun m ρ _ => Cert.KRelu.Gen.frame m ρ, fun m ρ _ => Cert.KReluIdeal.Gen.frame m ρ, frame_RRelu,
    fun m ρ _ => Cert.KLoss.Gen.frame m ρ, fun m ρ _ => Cert.KLossIdeal.Gen.frame m ρ, frame_RLoss,
    fun m ρ _ => Cert.KAttnNorm.Gen.frame m ρ, fun m ρ _ => Cert.KAttnNormIdeal.Gen.frame m ρ, frame_RAttnNorm,
    fun m ρ _ => Cert.KNormOne.Gen.frame m ρ, fun m ρ _ => Cert.KNormOneIdeal.Gen.frame m ρ, frame_RNormOne,
    fun m ρ _ => Cert.KNormTwo.Gen.frame m ρ, fun m ρ _ => Cert.KNormTwoIdeal.Gen.frame m ρ, frame_RNormTwo,
    fun m ρ _ => Cert.KGlu.Gen.frame m ρ, fun m ρ _ => Cert.KGluIdeal.Gen.frame m ρ, frame_RGlu,
    fun m ρ _ => Cert.KGelu.Gen.frame m ρ, fun m ρ _ => Cert.KGeluIdeal.Gen.frame m ρ, frame_RGelu,
    fun m ρ _ => Cert.KZoh.Gen.frame m ρ, fun m ρ _ => Cert.KZohIdeal.Gen.frame m ρ, frame_RZoh,
    fun m ρ _ => Cert.KMlpIn.Gen.frame m ρ, fun m ρ _ => Cert.KMlpInIdeal.Gen.frame m ρ, frame_RMlpIn,
    fun m ρ _ => Cert.KOutProj.Gen.frame m ρ, fun m ρ _ => Cert.KOutProjIdeal.Gen.frame m ρ, frame_ROutProj,
    fun m ρ _ => Cert.KGluGate.Gen.frame m ρ, fun m ρ _ => Cert.KGluGateIdeal.Gen.frame m ρ, frame_RGluGate,
    fun m ρ _ => Cert.KMix.Gen.frame m ρ, fun m ρ _ => Cert.KMixIdeal.Gen.frame m ρ, frame_RMix,
    fun m ρ _ => Cert.KPrep.Gen.frame m ρ, fun m ρ _ => Cert.KPrepIdeal.Gen.frame m ρ, frame_RPrep,
    fun m ρ _ => Cert.KProj.Gen.frame m ρ, fun m ρ _ => Cert.KProjIdeal.Gen.frame m ρ, fun m ρ _ => Cert.KProjIdeal.Gen.frame m ρ, frame_RProj, fun m ρ _ => frame_RProj m ρ trivial,
    fun m ρ _ => Cert.KWeight.Gen.frame m ρ, fun m ρ _ => Cert.KWeightIdeal.Gen.frame m ρ, frame_RWeight,
    fun m ρ _ => Cert.KSmall.Gen.frame m ρ, fun m ρ _ => Cert.KSmallIdeal.Gen.frame m ρ, frame_RSmall,
    Cert.Ssm.frame_kernel, fun m ρ _ => Cert.Ssm.frame m ρ, Cert.Ssm.frame_reference,
    trivial, attn,
    trivial, relu,
    trivial, loss,
    trivial, attnNorm,
    trivial, normOne,
    trivial, normTwo,
    trivial, glu,
    trivial, gelu,
    trivial, zoh,
    trivial, mlpIn,
    trivial, outProj,
    trivial, gluGate,
    trivial, mix,
    trivial, prep,
    trivial, proj,
    trivial, weight,
    trivial, small,
    trivial, ssm⟩

end Cert.Proof

end
